-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_idx_in_range : Cert.Pre_idx_in_range.Facts) (hPre_inputs_ok : Cert.Pre_inputs_ok.Facts),
    quiescent_Kernel (hKernel := hKernel) (hPre_idx_in_range := hPre_idx_in_range)
    ∧ quiescent_KernelIdeal (hKernelIdeal := hKernelIdeal) (hPre_idx_in_range := hPre_idx_in_range)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_idx_in_range.lean ====
abbrev S4x64x2048 : Shape := ⟨3, ![4, 64, 2048]⟩
abbrev S4x2048x16 : Shape := ⟨3, ![4, 2048, 16]⟩
abbrev S4x1x2048 : Shape := ⟨3, ![4, 1, 2048]⟩
abbrev S64x64 : Shape := ⟨2, ![64, 64]⟩
abbrev S64 : Shape := ⟨1, ![64]⟩
abbrev S_ : Shape := ⟨0, ![]⟩

class Facts : Prop where
  bcast_S_S4x2048x16 : S_.BroadcastsInDim S4x2048x16 (![] : Fin 0 → Fin S4x2048x16.rank)

variable [Facts]

def fn {F : FTy → Type} [FloatOps F] (main_arg0 : FVec F S4x64x2048 .f32) (main_arg1 : IVec S4x2048x16 32) (main_arg2 : IVec S4x1x2048 1) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) : IVec S4x2048x16 1 :=
  let main_c : IVec S_ 32 := constantI S_ 32 0#32
  let main_v0 : IVec S4x2048x16 32 := broadcastInDim S4x2048x16 ![] bcast_S_S4x2048x16 main_c
  let main_v1 : IVec S4x2048x16 1 := cmpi .sge main_arg1 main_v0
  let main_c_0 : IVec S_ 32 := constantI S_ 32 2048#32
  let main_v2 : IVec S4x2048x16 32 := broadcastInDim S4x2048x16 ![] bcast_S_S4x2048x16 main_c_0
  let main_v3 : IVec S4x2048x16 1 := cmpi .slt main_arg1 main_v2
  let main_v4 : IVec S4x2048x16 1 := andi main_v1 main_v3
  main_v4
-- ==== Pre_inputs_ok.lean ====
abbrev S4x64x2048 : Shape := ⟨3, ![4, 64, 2048]⟩
abbrev S4x2048x16 : Shape := ⟨3, ![4, 2048, 16]⟩
abbrev S4x1x2048 : Shape := ⟨3, ![4, 1, 2048]⟩
abbrev S64x64 : Shape := ⟨2, ![64, 64]⟩
abbrev S64 : Shape := ⟨1, ![64]⟩
abbrev S_ : Shape := ⟨0, ![]⟩

class Facts : Prop where
  bcast_S_S4x2048x16 : S_.BroadcastsInDim S4x2048x16 (![] : Fin 0 → Fin S4x2048x16.rank)
  reducesTo_S4x2048x16_S_d0_1_2 : S4x2048x16.ReducesTo [0, 1, 2] S_
  h_S_ : 0 < S_.numel
  reducesTo_S4x1x2048_S_d0_1_2 : S4x1x2048.ReducesTo [0, 1, 2] S_
  bcast_S_S64 : S_.BroadcastsInDim S64 (![] : Fin 0 → Fin S64.rank)
  reducesTo_S64_S_d0 : S64.ReducesTo [0] S_
  bcast_S_S4x64x2048 : S_.BroadcastsInDim S4x64x2048 (![] : Fin 0 → Fin S4x64x2048.rank)
  reducesTo_S4x64x2048_S_d0_1_2 : S4x64x2048.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v66 : IVec S_ 1) (main_v67 : FVec F S64 .f32) : IVec S_ 1 :=
  let main_cst_26 : FVec F S_ .f32 := constant S_ .f32 0x7F800000#32
  let main_v68 : FVec F S64 .f32 := broadcastInDim S64 ![] bcast_S_S64 main_cst_26
  let main_v69 : IVec S64 1 := cmpf .olt main_v67 main_v68
  let main_c_27 : IVec S_ 1 := constantI S_ 1 1#1
  let main_v70 : IVec S_ 1 := (fun x v => Host.reduce IntOp.andi x v reducesTo_S64_S_d0 h_S_) main_v69 main_c_27
  let main_v71 : IVec S_ 1 := andi main_v66 main_v70
  main_v71

def fn_part3 {F : FTy → Type} [FloatOps F] (main_arg10 : FVec F S64 .f32) (main_arg11 : FVec F S64x64 .f32) (main_arg12 : FVec F S64 .f32) (main_arg13 : FVec F S64 .f32) (main_v46 : IVec S_ 1) (main_v49 : IVec S64 1) (main_c_19 : IVec S_ 1) : IVec S_ 1 :=
  let main_v50 : IVec S_ 1 := (fun x v => Host.reduce IntOp.andi x v reducesTo_S64_S_d0 h_S_) main_v49 main_c_19
  let main_v51 : IVec S_ 1 := andi main_v46 main_v50
  let main_v52 : FVec F S64 .f32 := Host.absf main_arg10
  let main_cst_20 : FVec F S_ .f32 := constant S_ .f32 0x7F800000#32
  let main_v53 : FVec F S64 .f32 := broadcastInDim S64 ![] bcast_S_S64 main_cst_20
  let main_v54 : IVec S64 1 := cmpf .olt main_v52 main_v53
  let main_c_21 : IVec S_ 1 := constantI S_ 1 1#1
  let main_v55 : IVec S_ 1 := (fun x v => Host.reduce IntOp.andi x v reducesTo_S64_S_d0 h_S_) main_v54 main_c_21
  let main_v56 : IVec S_ 1 := andi main_v51 main_v55
  let main_v57 : FVec F S64x64 .f32 := Host.absf main_arg11
  let main_cst_22 : FVec F S_ .f32 := constant S_ .f32 0x7F800000#32
  let main_v58 : FVec F S64x64 .f32 := broadcastInDim S64x64 ![] bcast_S_S64x64 main_cst_22
  let main_v59 : IVec S64x64 1 := cmpf .olt main_v57 main_v58
  let main_c_23 : IVec S_ 1 := constantI S_ 1 1#1
  let main_v60 : IVec S_ 1 := (fun x v => Host.reduce IntOp.andi x v reducesTo_S64x64_S_d0_1 h_S_) main_v59 main_c_23
  let main_v61 : IVec S_ 1 := andi main_v56 main_v60
  let main_v62 : FVec F S64 .f32 := Host.absf main_arg12
  let main_cst_24 : FVec F S_ .f32 := constant S_ .f32 0x7F800000#32
  let main_v63 : FVec F S64 .f32 := broadcastInDim S64 ![] bcast_S_S64 main_cst_24
  let main_v64 : IVec S64 1 := cmpf .olt main_v62 main_v63
  let main_c_25 : IVec S_ 1 := constantI S_ 1 1#1
  let main_v65 : IVec S_ 1 := (fun x v => Host.reduce IntOp.andi x v reducesTo_S64_S_d0 h_S_) main_v64 main_c_25
  let main_v66 : IVec S_ 1 := andi main_v61 main_v65
  let main_v67 : FVec F S64 .f32 := Host.absf main_arg13
  fn_part4 (F := F) main_v66 main_v67

def fn_part2 {F : FTy → Type} [FloatOps F] (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_v31 : IVec S_ 1) (main_v32 : FVec F S64 .f32) (main_cst_12 : FVec F S_ .f32) : IVec S_ 1 :=
  let main_v33 : FVec F S64 .f32 := broadcastInDim S64 ![] bcast_S_S64 main_cst_12
  let main_v34 : IVec S64 1 := cmpf .olt main_v32 main_v33
  let main_c_13 : IVec S_ 1 := constantI S_ 1 1#1
  let main_v35 : IVec S_ 1 := (fun x v => Host.reduce IntOp.andi x v reducesTo_S64_S_d0 h_S_) main_v34 main_c_13
  let main_v36 : IVec S_ 1 := andi main_v31 main_v35
  let main_v37 : FVec F S64x64 .f32 := Host.absf main_arg7
  let main_cst_14 : FVec F S_ .f32 := constant S_ .f32 0x7F800000#32
  let main_v38 : FVec F S64x64 .f32 := broadcastInDim S64x64 ![] bcast_S_S64x64 main_cst_14
  let main_v39 : IVec S64x64 1 := cmpf .olt main_v37 main_v38
  let main_c_15 : IVec S_ 1 := constantI S_ 1 1#1
  let main_v40 : IVec S_ 1 := (fun x v => Host.reduce IntOp.andi x v reducesTo_S64x64_S_d0_1 h_S_) main_v39 main_c_15
  let main_v41 : IVec S_ 1 := andi main_v36 main_v40
  let main_v42 : FVec F S64 .f32 := Host.absf main_arg8
  let main_cst_16 : FVec F S_ .f32 := constant S_ .f32 0x7F800000#32
  let main_v43 : FVec F S64 .f32 := broadcastInDim S64 ![] bcast_S_S64 main_cst_16
  let main_v44 : IVec S64 1 := cmpf .olt main_v42 main_v43
  let main_c_17 : IVec S_ 1 := constantI S_ 1 1#1
  let main_v45 : IVec S_ 1 := (fun x v => Host.reduce IntOp.andi x v reducesTo_S64_S_d0 h_S_) main_v44 main_c_17
  let main_v46 : IVec S_ 1 := andi main_v41 main_v45
  let main_v47 : FVec F S64 .f32 := Host.absf main_arg9
  let main_cst_18 : FVec F S_ .f32 := constant S_ .f32 0x7F800000#32
  let main_v48 : FVec F S64 .f32 := broadcastInDim S64 ![] bcast_S_S64 main_cst_18
  let main_v49 : IVec S64 1 := cmpf .olt main_v47 main_v48
  let main_c_19 : IVec S_ 1 := constantI S_ 1 1#1
  fn_part3 (F := F) main_arg10 main_arg11 main_arg12 main_arg13 main_v46 main_v49 main_c_19

def fn_part1 {F : FTy → Type} [FloatOps F] (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_v11 : IVec S_ 1) (main_v15 : IVec S_ 1) : IVec S_ 1 :=
  let main_v16 : IVec S_ 1 := andi main_v11 main_v15
  let main_v17 : FVec F S64x64 .f32 := Host.absf main_arg3
  let main_cst_6 : FVec F S_ .f32 := constant S_ .f32 0x7F800000#32
  let main_v18 : FVec F S64x64 .f32 := broadcastInDim S64x64 ![] bcast_S_S64x64 main_cst_6
  let main_v19 : IVec S64x64 1 := cmpf .olt main_v17 main_v18
  let main_c_7 : IVec S_ 1 := constantI S_ 1 1#1
  let main_v20 : IVec S_ 1 := (fun x v => Host.reduce IntOp.andi x v reducesTo_S64x64_S_d0_1 h_S_) main_v19 main_c_7
  let main_v21 : IVec S_ 1 := andi main_v16 main_v20
  let main_v22 : FVec F S64 .f32 := Host.absf main_arg4
  let main_cst_8 : FVec F S_ .f32 := constant S_ .f32 0x7F800000#32
  let main_v23 : FVec F S64 .f32 := broadcastInDim S64 ![] bcast_S_S64 main_cst_8
  let main_v24 : IVec S64 1 := cmpf .olt main_v22 main_v23
  let main_c_9 : IVec S_ 1 := constantI S_ 1 1#1
  let main_v25 : IVec S_ 1 := (fun x v => Host.reduce IntOp.andi x v reducesTo_S64_S_d0 h_S_) main_v24 main_c_9
  let main_v26 : IVec S_ 1 := andi main_v21 main_v25
  let main_v27 : FVec F S64 .f32 := Host.absf main_arg5
  let main_cst_10 : FVec F S_ .f32 := constant S_ .f32 0x7F800000#32
  let main_v28 : FVec F S64 .f32 := broadcastInDim S64 ![] bcast_S_S64 main_cst_10
  let main_v29 : IVec S64 1 := cmpf .olt main_v27 main_v28
  let main_c_11 : IVec S_ 1 := constantI S_ 1 1#1
  let main_v30 : IVec S_ 1 := (fun x v => Host.reduce IntOp.andi x v reducesTo_S64_S_d0 h_S_) main_v29 main_c_11
  let main_v31 : IVec S_ 1 := andi main_v26 main_v30
  let main_v32 : FVec F S64 .f32 := Host.absf main_arg6
  let main_cst_12 : FVec F S_ .f32 := constant S_ .f32 0x7F800000#32
  fn_part2 (F := F) main_arg7 main_arg8 main_arg9 main_arg10 main_arg11 main_arg12 main_arg13 main_v31 main_v32 main_cst_12

def fn {F : FTy → Type} [FloatOps F] (main_arg0 : FVec F S4x64x2048 .f32) (main_arg1 : IVec S4x2048x16 32) (main_arg2 : IVec S4x1x2048 1) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) : IVec S_ 1 :=
  let main_c : IVec S_ 32 := constantI S_ 32 0#32
  let main_v0 : IVec S4x2048x16 32 := broadcastInDim S4x2048x16 ![] bcast_S_S4x2048x16 main_c
  let main_v1 : IVec S4x2048x16 1 := cmpi .sge main_arg1 main_v0
  let main_c_0 : IVec S_ 32 := constantI S_ 32 2048#32
  let main_v2 : IVec S4x2048x16 32 := broadcastInDim S4x2048x16 ![] bcast_S_S4x2048x16 main_c_0
  let main_v3 : IVec S4x2048x16 1 := cmpi .slt main_arg1 main_v2
  let main_v4 : IVec S4x2048x16 1 := andi main_v1 main_v3
  let main_c_1 : IVec S_ 1 := constantI S_ 1 1#1
  let main_v5 : IVec S_ 1 := (fun x v => Host.reduce IntOp.andi x v reducesTo_S4x2048x16_S_d0_1_2 h_S_) main_v4 main_c_1
  let main_c_2 : IVec S_ 1 := constantI S_ 1 1#1
  let main_v6 : IVec S_ 1 := (fun x v => Host.reduce IntOp.andi x v reducesTo_S4x1x2048_S_d0_1_2 h_S_) main_arg2 main_c_2
  let main_v7 : IVec S_ 1 := andi main_v5 main_v6
  let main_cst : FVec F S_ .f32 := constant S_ .f32 0x00000000#32
  let main_v8 : FVec F S64 .f32 := broadcastInDim S64 ![] bcast_S_S64 main_cst
  let main_v9 : IVec S64 1 := cmpf .oge main_arg9 main_v8
  let main_c_3 : IVec S_ 1 := constantI S_ 1 1#1
  let main_v10 : IVec S_ 1 := (fun x v => Host.reduce IntOp.andi x v reducesTo_S64_S_d0 h_S_) main_v9 main_c_3
  let main_v11 : IVec S_ 1 := andi main_v7 main_v10
  let main_v12 : FVec F S4x64x2048 .f32 := Host.absf main_arg0
  let main_cst_4 : FVec F S_ .f32 := constant S_ .f32 0x7F800000#32
  let main_v13 : FVec F S4x64x2048 .f32 := broadcastInDim S4x64x2048 ![] bcast_S_S4x64x2048 main_cst_4
  let main_v14 : IVec S4x64x2048 1 := cmpf .olt main_v12 main_v13
  let main_c_5 : IVec S_ 1 := constantI S_ 1 1#1
  let main_v15 : IVec S_ 1 := (fun x v => Host.reduce IntOp.andi x v reducesTo_S4x64x2048_S_d0_1_2 h_S_) main_v14 main_c_5
  fn_part1 (F := F) main_arg3 main_arg4 main_arg5 main_arg6 main_arg7 main_arg8 main_arg9 main_arg10 main_arg11 main_arg12 main_arg13 main_v11 main_v15
-- ==== Kernel.lean ====
abbrev S4x64x2048 : Shape := ⟨3, ![4, 64, 2048]⟩
abbrev S4x2048x16 : Shape := ⟨3, ![4, 2048, 16]⟩
abbrev S4x1x2048 : Shape := ⟨3, ![4, 1, 2048]⟩
abbrev S64x64 : Shape := ⟨2, ![64, 64]⟩
abbrev S64 : Shape := ⟨1, ![64]⟩
abbrev S4x2048x64 : Shape := ⟨3, ![4, 2048, 64]⟩
abbrev S4x2048x128 : Shape := ⟨3, ![4, 2048, 128]⟩
abbrev S8x64 : Shape := ⟨2, ![8, 64]⟩
abbrev S1x2048x64 : Shape := ⟨3, ![1, 2048, 64]⟩
abbrev S1x2048x128 : Shape := ⟨3, ![1, 2048, 128]⟩
abbrev S2048x64 : Shape := ⟨2, ![2048, 64]⟩
abbrev S2048x128 : Shape := ⟨2, ![2048, 128]⟩
abbrev S1x64 : Shape := ⟨2, ![1, 64]⟩
abbrev S8192x128 : Shape := ⟨2, ![8192, 128]⟩
abbrev S4 : Shape := ⟨1, ![4]⟩
abbrev S_ : Shape := ⟨0, ![]⟩
abbrev S4x1x1 : Shape := ⟨3, ![4, 1, 1]⟩
abbrev S16x4x2048 : Shape := ⟨3, ![16, 4, 2048]⟩
abbrev S1x131072 : Shape := ⟨2, ![1, 131072]⟩
abbrev S1x65536 : Shape := ⟨2, ![1, 65536]⟩
abbrev S65536x128 : Shape := ⟨2, ![65536, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S1x256x128 : Shape := ⟨3, ![1, 256, 128]⟩
abbrev S256x128 : Shape := ⟨2, ![256, 128]⟩
abbrev S256 : Shape := ⟨1, ![256]⟩
abbrev S2x128 : Shape := ⟨2, ![2, 128]⟩
abbrev S8x8192x64 : Shape := ⟨3, ![8, 8192, 64]⟩
abbrev S1x8192x64 : Shape := ⟨3, ![1, 8192, 64]⟩
abbrev S1x128 : Shape := ⟨2, ![1, 128]⟩
abbrev S128 : Shape := ⟨1, ![128]⟩
abbrev S8192x64 : Shape := ⟨2, ![8192, 64]⟩
abbrev S8x128 : Shape := ⟨2, ![8, 128]⟩
abbrev S128x64 : Shape := ⟨2, ![128, 64]⟩
abbrev S16x8192x64 : Shape := ⟨3, ![16, 8192, 64]⟩
abbrev S2x64 : Shape := ⟨2, ![2, 64]⟩
abbrev S1x8192 : Shape := ⟨2, ![1, 8192]⟩
abbrev S16x512x64 : Shape := ⟨3, ![16, 512, 64]⟩
abbrev S8x512x64 : Shape := ⟨3, ![8, 512, 64]⟩
abbrev S1x64x512 : Shape := ⟨3, ![1, 64, 512]⟩
abbrev S512x64 : Shape := ⟨2, ![512, 64]⟩
abbrev S1x512x64 : Shape := ⟨3, ![1, 512, 64]⟩
abbrev S1x1x64 : Shape := ⟨3, ![1, 1, 64]⟩
abbrev S64x512 : Shape := ⟨2, ![64, 512]⟩

abbrev nBuf : Table → Nat
  | .hbm => 60
  | .local .tc .vmem => 48
  | .local .scVector .vmem => 4
  | _ => 0

abbrev bufTy : (tb : Table) → Fin (nBuf tb) → BufTy
  | .hbm, ⟨0, _⟩ => ⟨S4x64x2048, .f32⟩
  | .hbm, ⟨1, _⟩ => ⟨S4x2048x16, .i32⟩
  | .hbm, ⟨2, _⟩ => ⟨S4x1x2048, .i1⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S4x2048x64, .f32⟩
  | .hbm, ⟨15, _⟩ => ⟨S64x64, .f32⟩
  | .hbm, ⟨16, _⟩ => ⟨S64x64, .f32⟩
  | .hbm, ⟨17, _⟩ => ⟨S4x2048x128, .f32⟩
  | .hbm, ⟨18, _⟩ => ⟨S8x64, .f32⟩
  | .hbm, ⟨19, _⟩ => ⟨S8192x128, .f32⟩
  | .hbm, ⟨20, _⟩ => ⟨S4, .i32⟩
  | .hbm, ⟨21, _⟩ => ⟨S_, .i32⟩
  | .hbm, ⟨22, _⟩ => ⟨S4, .i32⟩
  | .hbm, ⟨23, _⟩ => ⟨S4, .i32⟩
  | .hbm, ⟨24, _⟩ => ⟨S4x1x1, .i32⟩
  | .hbm, ⟨25, _⟩ => ⟨S4x2048x16, .i32⟩
  | .hbm, ⟨26, _⟩ => ⟨S4x2048x16, .i32⟩
  | .hbm, ⟨27, _⟩ => ⟨S16x4x2048, .i32⟩
  | .hbm, ⟨28, _⟩ => ⟨S1x131072, .i32⟩
  | .hbm, ⟨29, _⟩ => ⟨S1x65536, .i32⟩
  | .hbm, ⟨30, _⟩ => ⟨S65536x128, .f32⟩
  | .hbm, ⟨31, _⟩ => ⟨S1x65536, .i32⟩
  | .hbm, ⟨32, _⟩ => ⟨S65536x128, .f32⟩
  | .hbm, ⟨33, _⟩ => ⟨S2x128, .f32⟩
  | .hbm, ⟨34, _⟩ => ⟨S8x8192x64, .bf16⟩
  | .hbm, ⟨35, _⟩ => ⟨S2x128, .f32⟩
  | .hbm, ⟨36, _⟩ => ⟨S8x8192x64, .bf16⟩
  | .hbm, ⟨37, _⟩ => ⟨S_, .f32⟩
  | .hbm, ⟨38, _⟩ => ⟨S64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S8x64, .f32⟩
  | .hbm, ⟨48, _⟩ => ⟨S8x128, .f32⟩
  | .hbm, ⟨49, _⟩ => ⟨S_, .f32⟩
  | .hbm, ⟨50, _⟩ => ⟨S128x64, .f32⟩
  | .hbm, ⟨51, _⟩ => ⟨S64x64, .f32⟩
  | .hbm, ⟨52, _⟩ => ⟨S_, .i32⟩
  | .hbm, ⟨53, _⟩ => ⟨S1, .i32⟩
  | .hbm, ⟨54, _⟩ => ⟨S128x64, .f32⟩
  | .hbm, ⟨55, _⟩ => ⟨S128x64, .bf16⟩
  | .hbm, ⟨56, _⟩ => ⟨S16x8192x64, .bf16⟩
  | .hbm, ⟨57, _⟩ => ⟨S8x64, .f32⟩
  | .hbm, ⟨58, _⟩ => ⟨S4x64x2048, .f32⟩
  | .hbm, ⟨59, _⟩ => ⟨S4x64x2048, .f32⟩
  | .local .tc .vmem, ⟨0, _⟩ => ⟨S1x2048x64, .f32⟩
  | .local .tc .vmem, ⟨1, _⟩ => ⟨S1x2048x64, .f32⟩
  | .local .tc .vmem, ⟨2, _⟩ => ⟨S64x64, .f32⟩
  | .local .tc .vmem, ⟨3, _⟩ => ⟨S64x64, .f32⟩
  | .local .tc .vmem, ⟨4, _⟩ => ⟨S1x2048x128, .f32⟩
  | .local .tc .vmem, ⟨5, _⟩ => ⟨S1x2048x128, .f32⟩
  | .local .tc .vmem, ⟨6, _⟩ => ⟨S8x64, .f32⟩
  | .local .tc .vmem, ⟨7, _⟩ => ⟨S8192x128, .f32⟩
  | .local .tc .vmem, ⟨8, _⟩ => ⟨S8192x128, .f32⟩
  | .local .tc .vmem, ⟨9, _⟩ => ⟨S8192x128, .f32⟩
  | .local .tc .vmem, ⟨10, _⟩ => ⟨S2x128, .f32⟩
  | .local .tc .vmem, ⟨11, _⟩ => ⟨S1x8192x64, .bf16⟩
  | .local .tc .vmem, ⟨12, _⟩ => ⟨S1x8192x64, .bf16⟩
  | .local .tc .vmem, ⟨13, _⟩ => ⟨S2x128, .f32⟩
  | .local .tc .vmem, ⟨14, _⟩ => ⟨S8192x128, .f32⟩
  | .local .tc .vmem, ⟨15, _⟩ => ⟨S8192x128, .f32⟩
  | .local .tc .vmem, ⟨16, _⟩ => ⟨S8192x128, .f32⟩
  | .local .tc .vmem, ⟨17, _⟩ => ⟨S2x128, .f32⟩
  | .local .tc .vmem, ⟨18, _⟩ => ⟨S1x8192x64, .bf16⟩
  | .local .tc .vmem, ⟨19, _⟩ => ⟨S1x8192x64, .bf16⟩
  | .local .tc .vmem, ⟨20, _⟩ => ⟨S2x128, .f32⟩
  | .local .tc .vmem, ⟨21, _⟩ => ⟨S8192x128, .f32⟩
  | .local .tc .vmem, ⟨22, _⟩ => ⟨S8192x128, .f32⟩
  | .local .tc .vmem, ⟨23, _⟩ => ⟨S8192x128, .f32⟩
  | .local .tc .vmem, ⟨24, _⟩ => ⟨S8192x128, .f32⟩
  | .local .tc .vmem, ⟨25, _⟩ => ⟨S8192x128, .f32⟩
  | .local .tc .vmem, ⟨26, _⟩ => ⟨S2x128, .f32⟩
  | .local .tc .vmem, ⟨27, _⟩ => ⟨S2x128, .f32⟩
  | .local .tc .vmem, ⟨28, _⟩ => ⟨S8x128, .f32⟩
  | .local .tc .vmem, ⟨29, _⟩ => ⟨S128x64, .bf16⟩
  | .local .tc .vmem, ⟨30, _⟩ => ⟨S1x8192x64, .bf16⟩
  | .local .tc .vmem, ⟨31, _⟩ => ⟨S1x8192x64, .bf16⟩
  | .local .tc .vmem, ⟨32, _⟩ => ⟨S8x64, .f32⟩
  | .local .tc .vmem, ⟨33, _⟩ => ⟨S2x128, .f32⟩
  | .local .tc .vmem, ⟨34, _⟩ => ⟨S2x64, .f32⟩
  | .local .tc .vmem, ⟨35, _⟩ => ⟨S16x512x64, .bf16⟩
  | .local .tc .vmem, ⟨36, _⟩ => ⟨S16x512x64, .bf16⟩
  | .local .tc .vmem, ⟨37, _⟩ => ⟨S8x512x64, .bf16⟩
  | .local .tc .vmem, ⟨38, _⟩ => ⟨S8x512x64, .bf16⟩
  | .local .tc .vmem, ⟨39, _⟩ => ⟨S8x512x64, .bf16⟩
  | .local .tc .vmem, ⟨40, _⟩ => ⟨S8x512x64, .bf16⟩
  | .local .tc .vmem, ⟨41, _⟩ => ⟨S8x64, .f32⟩
  | .local .tc .vmem, ⟨42, _⟩ => ⟨S8x64, .f32⟩
  | .local .tc .vmem, ⟨43, _⟩ => ⟨S8x128, .f32⟩
  | .local .tc .vmem, ⟨44, _⟩ => ⟨S1x64x512, .f32⟩
  | .local .tc .vmem, ⟨45, _⟩ => ⟨S1x64x512, .f32⟩
  | .local .tc .vmem, ⟨46, _⟩ => ⟨S1x64x512, .f32⟩
  | .local .tc .vmem, ⟨47, _⟩ => ⟨S1x64x512, .f32⟩
  | .local .scVector .vmem, ⟨0, _⟩ => ⟨S2x1x256, .i32⟩
  | .local .scVector .vmem, ⟨1, _⟩ => ⟨S2x256x128, .f32⟩
  | .local .scVector .vmem, ⟨2, _⟩ => ⟨S2x1x256, .i32⟩
  | .local .scVector .vmem, ⟨3, _⟩ => ⟨S2x256x128, .f32⟩
  | _, _ => ⟨S4x64x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTables nBuf rfl bufTy 4 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v18_0 : Ref sig .tc := ⟨.hbm, 35, rfl⟩
abbrev main_v18_1 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_0 : Ref sig .tc := ⟨.hbm, 49, rfl⟩
abbrev main_v30 : Ref sig .tc := ⟨.hbm, 50, rfl⟩
abbrev main_v31 : Ref sig .tc := ⟨.hbm, 51, rfl⟩
abbrev main_c_1 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35_0 : Ref sig .tc := ⟨.hbm, 56, rfl⟩
abbrev main_v35_1 : Ref sig .tc := ⟨.hbm, 57, rfl⟩
abbrev main_v36_0 : Ref sig .tc := ⟨.hbm, 58, rfl⟩
abbrev main_v36_1 : Ref sig .tc := ⟨.hbm, 59, rfl⟩
abbrev main_v4_scv : Ref sig .scVector := ⟨.hbm, 19, rfl⟩
abbrev main_v13_scv : Ref sig .scVector := ⟨.hbm, 29, rfl⟩
abbrev main_v14_scv : Ref sig .scVector := ⟨.hbm, 30, rfl⟩
abbrev main_v15_scv : Ref sig .scVector := ⟨.hbm, 31, rfl⟩
abbrev main_v16_scv : Ref sig .scVector := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc3_stg0_0 : Ref sig .tc := ⟨.vmem, 7, rfl⟩
abbrev cc3_stg0_1 : Ref sig .tc := ⟨.vmem, 8, rfl⟩
abbrev cc3_stg1_0 : Ref sig .tc := ⟨.vmem, 9, rfl⟩
abbrev cc3_stg2_0 : Ref sig .tc := ⟨.vmem, 10, rfl⟩
abbrev cc3_stg3_0 : Ref sig .tc := ⟨.vmem, 11, rfl⟩
abbrev cc3_stg3_1 : Ref sig .tc := ⟨.vmem, 12, rfl⟩
abbrev cc3_scratch0 : Ref sig .tc := ⟨.vmem, 13, rfl⟩
abbrev cc4_stg0_0 : Ref sig .tc := ⟨.vmem, 14, rfl⟩
abbrev cc4_stg0_1 : Ref sig .tc := ⟨.vmem, 15, rfl⟩
abbrev cc4_stg1_0 : Ref sig .tc := ⟨.vmem, 16, rfl⟩
abbrev cc4_stg2_0 : Ref sig .tc := ⟨.vmem, 17, rfl⟩
abbrev cc4_stg3_0 : Ref sig .tc := ⟨.vmem, 18, rfl⟩
abbrev cc4_stg3_1 : Ref sig .tc := ⟨.vmem, 19, rfl⟩
abbrev cc4_scratch0 : Ref sig .tc := ⟨.vmem, 20, rfl⟩
abbrev cc5_stg0_0 : Ref sig .tc := ⟨.vmem, 21, rfl⟩
abbrev cc5_stg0_1 : Ref sig .tc := ⟨.vmem, 22, rfl⟩
abbrev cc5_stg1_0 : Ref sig .tc := ⟨.vmem, 23, rfl⟩
abbrev cc5_stg1_1 : Ref sig .tc := ⟨.vmem, 24, rfl⟩
abbrev cc5_stg2_0 : Ref sig .tc := ⟨.vmem, 25, rfl⟩
abbrev cc5_stg3_0 : Ref sig .tc := ⟨.vmem, 26, rfl⟩
abbrev cc5_stg4_0 : Ref sig .tc := ⟨.vmem, 27, rfl⟩
abbrev cc5_stg5_0 : Ref sig .tc := ⟨.vmem, 28, rfl⟩
abbrev cc5_stg6_0 : Ref sig .tc := ⟨.vmem, 29, rfl⟩
abbrev cc5_stg7_0 : Ref sig .tc := ⟨.vmem, 30, rfl⟩
abbrev cc5_stg7_1 : Ref sig .tc := ⟨.vmem, 31, rfl⟩
abbrev cc5_stg8_0 : Ref sig .tc := ⟨.vmem, 32, rfl⟩
abbrev cc5_scratch0 : Ref sig .tc := ⟨.vmem, 33, rfl⟩
abbrev cc5_scratch1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg2_1 : Ref sig .tc := ⟨.vmem, 40, rfl⟩
abbrev cc6_stg3_0 : Ref sig .tc := ⟨.vmem, 41, rfl⟩
abbrev cc6_stg4_0 : Ref sig .tc := ⟨.vmem, 42, rfl⟩
abbrev cc6_stg5_0 : Ref sig .tc := ⟨.vmem, 43, rfl⟩
abbrev cc6_stg6_0 : Ref sig .tc := ⟨.vmem, 44, rfl⟩
abbrev cc6_stg6_1 : Ref sig .tc := ⟨.vmem, 45, rfl⟩
abbrev cc6_stg7_0 : Ref sig .tc := ⟨.vmem, 46, rfl⟩
abbrev cc6_stg7_1 : Ref sig .tc := ⟨.vmem, 47, rfl⟩
abbrev cc1_scoped0 : Ref sig .scVector := ⟨.vmem, 0, rfl⟩
abbrev cc1_scoped2 : Ref sig .scVector := ⟨.vmem, 1, rfl⟩
abbrev cc2_scoped0 : Ref sig .scVector := ⟨.vmem, 2, rfl⟩
abbrev cc2_scoped2 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem4_0 : DmaSem sig := 35
abbrev cc5_sem5_0 : DmaSem sig := 36
abbrev cc5_sem6_0 : DmaSem sig := 37
abbrev cc5_sem7_0 : DmaSem sig := 38
abbrev cc5_sem7_1 : DmaSem sig := 39
abbrev cc5_sem8_0 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc6_sem3_0 : DmaSem sig := 47
abbrev cc6_sem4_0 : DmaSem sig := 48
abbrev cc6_sem5_0 : DmaSem sig := 49
abbrev cc6_sem6_0 : DmaSem sig := 50
abbrev cc6_sem6_1 : DmaSem sig := 51
abbrev cc6_sem7_0 : DmaSem sig := 52
abbrev cc6_sem7_1 : DmaSem sig := 53
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c256_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c256_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c256_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x256x128.size a ≤ S2x256x128.size a)
theorem k1_off10_inb : ∀ (arg8_r0 : BitVec 32) (k1_hw2 : k1_chk2 arg8_r0), ∀ a, (k1_off10 arg8_r0) a + S1x256x128.size a ≤ S2x256x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x256.size a ≤ S2x1x256.size a)
theorem k1_off11_inb : ∀ (arg7_r0 : BitVec 32) (k1_hw3 : k1_chk3 arg7_r0), ∀ a, (k1_off11 arg7_r0) a + S1x1x256.size a ≤ S2x1x256.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c256_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x256.size a ≤ S2x1x256.size a) ∧
  (∀ (k1_h1 : k1_cond1 i k1_t1 arg10_r0 = 1#1), ∀ a, (k1_off5 i arg10_r0) a + S1x256.size a ≤ S1x65536.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x256.size a ≤ S2x1x256.size a) ∧
  (∀ (k1_h2 : k1_cond2 i k1_t1 arg10_r0 = 1#1), ∀ a, (k1_off8 i arg10_r0) a + S1x256.size a ≤ S1x65536.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x256x128.size a ≤ S2x256x128.size a) ∧
  (∀ (k1_h5 : k1_cond5 i k1_t1 arg10_r0 = 1#1), ∀ a, (k1_off13 i arg10_r0) a + S256x128.size a ≤ S65536x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x256x128.size a ≤ S2x256x128.size a) ∧
  (∀ (k1_h7 : k1_cond7 i k1_t1 arg10_r0 = 1#1), ∀ a, (k1_off16 i arg10_r0) a + S256x128.size a ≤ S65536x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x256.size a ≤ S2x1x256.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x256.size a ≤ S1x65536.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x256.size a ≤ S2x1x256.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x256.size a ≤ S1x65536.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x256x128.size a ≤ S2x256x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S256x128.size a ≤ S65536x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x256x128.size a ≤ S2x256x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S256x128.size a ≤ S65536x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c256_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S256x128.size a ≤ S65536x128.size a)
theorem k1_off19_inb : ∀ (i : grid1.Coords) (v33_4_r0 : BitVec 32) (k1_hw5 : k1_chk5 i v33_4_r0), ∀ a, (k1_off19 i v33_4_r0) a + S256x128.size a ≤ S65536x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x256x128.size a ≤ S2x256x128.size a) ∧
  (∀ a, (k1_off20 v33_3_r0) a + S1.size a ≤ S2.size a) ∧
  (∀ a, (k1_off21 v33_3_r0) a + S1x256x128.size a ≤ S2x256x128.size a)
theorem k1_off18_inb : ∀ (v33_3_r0 : BitVec 32) (k1_hw4 : k1_chk4 v33_3_r0), ∀ a, (k1_off18 v33_3_r0) a + S1x256x128.size a ≤ S2x256x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x256x128.size a ≤ S2x256x128.size a := fun v33_3_r0 k1_hw4 => k1_hw4.2.2

abbrev grid2 : Pipeline.Grid := ⟨2, ![2, 16], ![false, false]⟩

def k2_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k2_off2 (i : grid2.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c256_i32_r0 v7_r0
  ![0, v22_r0.toNat]
def k2_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k2_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k2_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k2_cond1 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k2_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k2_off5 (i : grid2.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c256_i32_100_r0 v76_r0
  ![0, v145_r0.toNat]
def k2_off6 (arg6_r0 : BitVec 32) : Fin 1 → Nat :=
  let c2_i32_99_r0 : BitVec 32 := 2#32
  let v144_r0 : BitVec 32 := Scalar.remui arg6_r0 c2_i32_99_r0
  ![v144_r0.toNat]
def k2_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k2_cond2 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k2_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k2_off8 (i : grid2.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c256_i32_99_r0 v66_r0
  ![0, v144_r0.toNat]
def k2_off9 (arg7_r0 : BitVec 32) : Fin 1 → Nat :=
  let c2_i32_100_r0 : BitVec 32 := 2#32
  let v145_r0 : BitVec 32 := Scalar.remui arg7_r0 c2_i32_100_r0
  ![v145_r0.toNat]
def k2_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k2_chk2 (arg8_r0 : BitVec 32) : Prop :=
  (∀ a, (k2_off10 arg8_r0) a + S1x256x128.size a ≤ S2x256x128.size a)
theorem k2_off10_inb : ∀ (arg8_r0 : BitVec 32) (k2_hw2 : k2_chk2 arg8_r0), ∀ a, (k2_off10 arg8_r0) a + S1x256x128.size a ≤ S2x256x128.size a := fun arg8_r0 k2_hw2 => k2_hw2

def k2_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k2_chk3 (arg7_r0 : BitVec 32) : Prop :=
  (∀ a, (k2_off11 arg7_r0) a + S1x1x256.size a ≤ S2x1x256.size a)
theorem k2_off11_inb : ∀ (arg7_r0 : BitVec 32) (k2_hw3 : k2_chk3 arg7_r0), ∀ a, (k2_off11 arg7_r0) a + S1x1x256.size a ≤ S2x1x256.size a := fun arg7_r0 k2_hw3 => k2_hw3

def k2_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k2_cond5 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k2_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k2_off13 (i : grid2.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k2_off14 (arg8_r0 : BitVec 32) : Fin 1 → Nat :=
  let c2_i32_99_r0 : BitVec 32 := 2#32
  let v144_r0 : BitVec 32 := Scalar.remui arg8_r0 c2_i32_99_r0
  ![v144_r0.toNat]
def k2_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k2_cond7 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k2_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k2_off16 (i : grid2.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c256_i32_100_r0 v71_r0
  let c0_i32_103_r0 : BitVec 32 := 0#32
  ![v145_r0.toNat, 0]
def k2_off17 (arg9_r0 : BitVec 32) : Fin 1 → Nat :=
  let c2_i32_99_r0 : BitVec 32 := 2#32
  let v144_r0 : BitVec 32 := Scalar.remui arg9_r0 c2_i32_99_r0
  ![v144_r0.toNat]

def k2_chk1 (i : grid2.Coords) (k2_t1 : Fin k2_t1_loop.trips) (arg6_r0 : BitVec 32) (arg7_r0 : BitVec 32) (arg8_r0 : BitVec 32) (arg9_r0 : BitVec 32) (arg10_r0 : BitVec 32) : Prop :=
  (∀ (k2_h1 : k2_cond1 i k2_t1 arg10_r0 = 1#1), ∀ a, (k2_off4 arg6_r0) a + S1x1x256.size a ≤ S2x1x256.size a) ∧
  (∀ (k2_h1 : k2_cond1 i k2_t1 arg10_r0 = 1#1), ∀ a, (k2_off5 i arg10_r0) a + S1x256.size a ≤ S1x65536.size a) ∧
  (∀ (k2_h1 : k2_cond1 i k2_t1 arg10_r0 = 1#1), ∀ a, (k2_off6 arg6_r0) a + S1.size a ≤ S2.size a) ∧
  (∀ (k2_h2 : k2_cond2 i k2_t1 arg10_r0 = 1#1), ∀ a, (k2_off7 arg7_r0) a + S1x1x256.size a ≤ S2x1x256.size a) ∧
  (∀ (k2_h2 : k2_cond2 i k2_t1 arg10_r0 = 1#1), ∀ a, (k2_off8 i arg10_r0) a + S1x256.size a ≤ S1x65536.size a) ∧
  (∀ (k2_h2 : k2_cond2 i k2_t1 arg10_r0 = 1#1), ∀ a, (k2_off9 arg7_r0) a + S1.size a ≤ S2.size a) ∧
  (∀ (k2_h5 : k2_cond5 i k2_t1 arg10_r0 = 1#1), ∀ a, (k2_off12 arg8_r0) a + S1x256x128.size a ≤ S2x256x128.size a) ∧
  (∀ (k2_h5 : k2_cond5 i k2_t1 arg10_r0 = 1#1), ∀ a, (k2_off13 i arg10_r0) a + S256x128.size a ≤ S65536x128.size a) ∧
  (∀ (k2_h5 : k2_cond5 i k2_t1 arg10_r0 = 1#1), ∀ a, (k2_off14 arg8_r0) a + S1.size a ≤ S2.size a) ∧
  (∀ (k2_h7 : k2_cond7 i k2_t1 arg10_r0 = 1#1), ∀ a, (k2_off15 arg9_r0) a + S1x256x128.size a ≤ S2x256x128.size a) ∧
  (∀ (k2_h7 : k2_cond7 i k2_t1 arg10_r0 = 1#1), ∀ a, (k2_off16 i arg10_r0) a + S256x128.size a ≤ S65536x128.size a) ∧
  (∀ (k2_h7 : k2_cond7 i k2_t1 arg10_r0 = 1#1), ∀ a, (k2_off17 arg9_r0) a + S1.size a ≤ S2.size a)
theorem k2_off4_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off4 arg6_r0) a + S1x1x256.size a ≤ S2x1x256.size a := fun i k2_t1 arg6_r0 arg7_r0 arg8_r0 arg9_r0 arg10_r0 k2_hw1 k2_h1 => k2_hw1.1 k2_h1
theorem k2_off5_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off5 i arg10_r0) a + S1x256.size a ≤ S1x65536.size a := fun i k2_t1 arg6_r0 arg7_r0 arg8_r0 arg9_r0 arg10_r0 k2_hw1 k2_h1 => k2_hw1.2.1 k2_h1
theorem k2_off6_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off6 arg6_r0) a + S1.size a ≤ S2.size a := fun i k2_t1 arg6_r0 arg7_r0 arg8_r0 arg9_r0 arg10_r0 k2_hw1 k2_h1 => k2_hw1.2.2.1 k2_h1
theorem k2_off7_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off7 arg7_r0) a + S1x1x256.size a ≤ S2x1x256.size a := fun i k2_t1 arg6_r0 arg7_r0 arg8_r0 arg9_r0 arg10_r0 k2_hw1 k2_h2 => k2_hw1.2.2.2.1 k2_h2
theorem k2_off8_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off8 i arg10_r0) a + S1x256.size a ≤ S1x65536.size a := fun i k2_t1 arg6_r0 arg7_r0 arg8_r0 arg9_r0 arg10_r0 k2_hw1 k2_h2 => k2_hw1.2.2.2.2.1 k2_h2
theorem k2_off9_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off9 arg7_r0) a + S1.size a ≤ S2.size a := fun i k2_t1 arg6_r0 arg7_r0 arg8_r0 arg9_r0 arg10_r0 k2_hw1 k2_h2 => k2_hw1.2.2.2.2.2.1 k2_h2
theorem k2_off12_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off12 arg8_r0) a + S1x256x128.size a ≤ S2x256x128.size a := fun i k2_t1 arg6_r0 arg7_r0 arg8_r0 arg9_r0 arg10_r0 k2_hw1 k2_h5 => k2_hw1.2.2.2.2.2.2.1 k2_h5
theorem k2_off13_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off13 i arg10_r0) a + S256x128.size a ≤ S65536x128.size a := fun i k2_t1 arg6_r0 arg7_r0 arg8_r0 arg9_r0 arg10_r0 k2_hw1 k2_h5 => k2_hw1.2.2.2.2.2.2.2.1 k2_h5
theorem k2_off14_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off14 arg8_r0) a + S1.size a ≤ S2.size a := fun i k2_t1 arg6_r0 arg7_r0 arg8_r0 arg9_r0 arg10_r0 k2_hw1 k2_h5 => k2_hw1.2.2.2.2.2.2.2.2.1 k2_h5
theorem k2_off15_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off15 arg9_r0) a + S1x256x128.size a ≤ S2x256x128.size a := fun i k2_t1 arg6_r0 arg7_r0 arg8_r0 arg9_r0 arg10_r0 k2_hw1 k2_h7 => k2_hw1.2.2.2.2.2.2.2.2.2.1 k2_h7
theorem k2_off16_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off16 i arg10_r0) a + S256x128.size a ≤ S65536x128.size a := fun i k2_t1 arg6_r0 arg7_r0 arg8_r0 arg9_r0 arg10_r0 k2_hw1 k2_h7 => k2_hw1.2.2.2.2.2.2.2.2.2.2.1 k2_h7
theorem k2_off17_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off17 arg9_r0) a + S1.size a ≤ S2.size a := fun i k2_t1 arg6_r0 arg7_r0 arg8_r0 arg9_r0 arg10_r0 k2_hw1 k2_h7 => k2_hw1.2.2.2.2.2.2.2.2.2.2.2 k2_h7

def k2_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k2_off19 (i : grid2.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c256_i32_47_r0 v38_r0
  let c0_i32_50_r0 : BitVec 32 := 0#32
  ![v55_r0.toNat, 0]

def k2_chk5 (i : grid2.Coords) (v33_4_r0 : BitVec 32) : Prop :=
  (∀ a, (k2_off19 i v33_4_r0) a + S256x128.size a ≤ S65536x128.size a)
theorem k2_off19_inb : ∀ (i : grid2.Coords) (v33_4_r0 : BitVec 32) (k2_hw5 : k2_chk5 i v33_4_r0), ∀ a, (k2_off19 i v33_4_r0) a + S256x128.size a ≤ S65536x128.size a := fun i v33_4_r0 k2_hw5 => k2_hw5

def k2_off20 (v33_3_r0 : BitVec 32) : Fin 1 → Nat :=
  let c2_i32_46_r0 : BitVec 32 := 2#32
  let v54_r0 : BitVec 32 := Scalar.remui v33_3_r0 c2_i32_46_r0
  ![v54_r0.toNat]
def k2_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k2_chk4 (v33_3_r0 : BitVec 32) : Prop :=
  (∀ a, (k2_off18 v33_3_r0) a + S1x256x128.size a ≤ S2x256x128.size a) ∧
  (∀ a, (k2_off20 v33_3_r0) a + S1.size a ≤ S2.size a) ∧
  (∀ a, (k2_off21 v33_3_r0) a + S1x256x128.size a ≤ S2x256x128.size a)
theorem k2_off18_inb : ∀ (v33_3_r0 : BitVec 32) (k2_hw4 : k2_chk4 v33_3_r0), ∀ a, (k2_off18 v33_3_r0) a + S1x256x128.size a ≤ S2x256x128.size a := fun v33_3_r0 k2_hw4 => k2_hw4.1
theorem k2_off20_inb : ∀ (v33_3_r0 : BitVec 32) (k2_hw4 : k2_chk4 v33_3_r0), ∀ a, (k2_off20 v33_3_r0) a + S1.size a ≤ S2.size a := fun v33_3_r0 k2_hw4 => k2_hw4.2.1
theorem k2_off21_inb : ∀ (v33_3_r0 : BitVec 32) (k2_hw4 : k2_chk4 v33_3_r0), ∀ a, (k2_off21 v33_3_r0) a + S1x256x128.size a ≤ S2x256x128.size a := fun v33_3_r0 k2_hw4 => k2_hw4.2.2

abbrev grid3 : Pipeline.Grid := ⟨1, ![8], ![false]⟩

def k3_cond2 (i : grid3.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_15 : BitVec 32 := 0#32
  let v30 : BitVec 1 := Scalar.cmpi .ne v29 c0_i32_15
  v30

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x8192x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def k4_cond2 (i : grid4.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_15 : BitVec 32 := 0#32
  let v30 : BitVec 1 := Scalar.cmpi .ne v29 c0_i32_15
  v30

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x8192x64 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![2, 8], ![false, false]⟩

def k5_cond2 (i : grid5.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k5_cond3 (i : grid5.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let v1 : BitVec 32 := Scalar.extui v0
  let v2 : BitVec 32 := Scalar.muli v1 arg1
  let c0_i32_0 : BitVec 32 := 0#32
  let c0_i32_1 : BitVec 32 := 0#32
  ![v2.toNat, c0_i32_0.toNat]

def cc5_transform_1 (i : grid5.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let v1 : BitVec 32 := Scalar.extui v0
  let v2 : BitVec 32 := Scalar.muli v1 arg1
  let c0_i32 : BitVec 32 := 0#32
  let c0_i32_0 : BitVec 32 := 0#32
  ![v2.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S8192x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S8192x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S8192x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S2x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S2x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S8x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S128x64 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 2 → Memref sig .tc .vmem S1x8192x64 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev stage5_8 : Fin 1 → Memref sig .tc .vmem S8x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false, false]

abbrev grid6 : Pipeline.Grid := ⟨1, ![16], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc6_transform_7 (i : grid6.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage6_0 : Fin 2 → Memref sig .tc .vmem S16x512x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8x512x64 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8x512x64 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S8x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S8x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S8x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S1x64x512 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S1x64x512 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4x64x2048 : Shape := ⟨3, ![4, 64, 2048]⟩
abbrev S4x2048x16 : Shape := ⟨3, ![4, 2048, 16]⟩
abbrev S4x1x2048 : Shape := ⟨3, ![4, 1, 2048]⟩
abbrev S64x64 : Shape := ⟨2, ![64, 64]⟩
abbrev S64 : Shape := ⟨1, ![64]⟩
abbrev S4x1x32768 : Shape := ⟨3, ![4, 1, 32768]⟩
abbrev S4x64x32768 : Shape := ⟨3, ![4, 64, 32768]⟩
abbrev S_ : Shape := ⟨0, ![]⟩
abbrev S4x64x32768x1 : Shape := ⟨4, ![4, 64, 32768, 1]⟩
abbrev S1 : Shape := ⟨1, ![1]⟩
abbrev S1x1x1x1 : Shape := ⟨4, ![1, 1, 1, 1]⟩
abbrev S4x64x2048x16 : Shape := ⟨4, ![4, 64, 2048, 16]⟩
abbrev S4x64x2048x1 : Shape := ⟨4, ![4, 64, 2048, 1]⟩
abbrev S4x2048x16x64 : Shape := ⟨4, ![4, 2048, 16, 64]⟩
abbrev S1x64x1x1 : Shape := ⟨4, ![1, 64, 1, 1]⟩
abbrev S4x32768x1 : Shape := ⟨3, ![4, 32768, 1]⟩
abbrev S1x1x1 : Shape := ⟨3, ![1, 1, 1]⟩
abbrev S4x32768 : Shape := ⟨2, ![4, 32768]⟩
abbrev S4x1x2048x16 : Shape := ⟨4, ![4, 1, 2048, 16]⟩
abbrev S4x2048x64 : Shape := ⟨3, ![4, 2048, 64]⟩
abbrev S1x64x1 : Shape := ⟨3, ![1, 64, 1]⟩

abbrev nBuf : Space → Nat
  | .hbm => 311
  | .vmem => 0
  | .smem => 0
  | _ => 0

abbrev hbmTy0_0 (i : Nat) : BufTy := match i % 128 with
  | 0 => ⟨S4x64x2048, .f32⟩
  | 1 => ⟨S4x2048x16, .i32⟩
  | 2 => ⟨S4x1x2048, .i1⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S4x1x32768, .i32⟩
  | 15 => ⟨S4x64x32768, .i32⟩
  | 16 => ⟨S_, .i32⟩
  | 17 => ⟨S4x64x32768, .i32⟩
  | 18 => ⟨S4x64x32768, .i1⟩
  | 19 => ⟨S_, .i32⟩
  | 20 => ⟨S4x64x32768, .i32⟩
  | 21 => ⟨S4x64x32768, .i32⟩
  | 22 => ⟨S4x64x32768, .i32⟩
  | 23 => ⟨S4x64x32768x1, .i32⟩
  | 24 => ⟨S1, .i32⟩
  | 25 => ⟨S_, .i32⟩
  | 26 => ⟨S4x64x32768x1, .i32⟩
  | 27 => ⟨S4x64x32768x1, .i1⟩
  | 28 => ⟨S1x1x1x1, .i32⟩
  | 29 => ⟨S4x64x32768x1, .i32⟩
  | 30 => ⟨S4x64x32768x1, .i1⟩
  | 31 => ⟨S4x64x32768x1, .i1⟩
  | 32 => ⟨S_, .i1⟩
  | 33 => ⟨S4x64x32768, .i1⟩
  | 34 => ⟨S4x64x32768, .f32⟩
  | 35 => ⟨S_, .f32⟩
  | 36 => ⟨S4x64x32768, .f32⟩
  | 37 => ⟨S4x64x32768, .f32⟩
  | 38 => ⟨S4x64x2048x16, .f32⟩
  | 39 => ⟨S4x64x2048x1, .f32⟩
  | 40 => ⟨S4x64x2048x16, .f32⟩
  | 41 => ⟨S4x64x2048x16, .f32⟩
  | 42 => ⟨S4x2048x16x64, .f32⟩
  | 43 => ⟨S4x64x2048x16, .f32⟩
  | 44 => ⟨S1x64x1x1, .f32⟩
  | 45 => ⟨S4x64x2048x16, .f32⟩
  | 46 => ⟨S4x64x2048x16, .f32⟩
  | 47 => ⟨S_, .f32⟩
  | 48 => ⟨S64, .f32⟩
  | 49 => ⟨S1x64x1x1, .f32⟩
  | 50 => ⟨S_, .f32⟩
  | 51 => ⟨S1x64x1x1, .f32⟩
  | 52 => ⟨S1x64x1x1, .f32⟩
  | 53 => ⟨S_, .i32⟩
  | 54 => ⟨S_, .f32⟩
  | 55 => ⟨S64, .f32⟩
  | 56 => ⟨S1x64x1x1, .f32⟩
  | 57 => ⟨S_, .f32⟩
  | 58 => ⟨S1x64x1x1, .f32⟩
  | 59 => ⟨S1x64x1x1, .f32⟩
  | 60 => ⟨S4x64x2048x16, .f32⟩
  | 61 => ⟨S4x64x2048x16, .f32⟩
  | 62 => ⟨S4x64x2048x16, .f32⟩
  | 63 => ⟨S_, .f32⟩
  | 64 => ⟨S_, .f32⟩
  | 65 => ⟨S_, .f32⟩
  | 66 => ⟨S_, .f32⟩
  | 67 => ⟨S64, .f32⟩
  | 68 => ⟨S1x64x1x1, .f32⟩
  | 69 => ⟨S1x64x1x1, .f32⟩
  | 70 => ⟨S1x64x1x1, .f32⟩
  | 71 => ⟨S_, .f32⟩
  | 72 => ⟨S_, .i1⟩
  | 73 => ⟨S_, .f32⟩
  | 74 => ⟨S_, .f32⟩
  | 75 => ⟨S1x64x1x1, .f32⟩
  | 76 => ⟨S1x64x1x1, .f32⟩
  | 77 => ⟨S4x64x2048x16, .f32⟩
  | 78 => ⟨S4x64x2048x16, .f32⟩
  | 79 => ⟨S_, .f32⟩
  | 80 => ⟨S1x64x1x1, .f32⟩
  | 81 => ⟨S1x64x1x1, .f32⟩
  | 82 => ⟨S1x64x1x1, .f32⟩
  | 83 => ⟨S4x64x2048x16, .f32⟩
  | 84 => ⟨S4x64x2048x16, .f32⟩
  | 85 => ⟨S1x64x1x1, .f32⟩
  | 86 => ⟨S4x64x2048x16, .f32⟩
  | 87 => ⟨S4x64x2048x16, .f32⟩
  | 88 => ⟨S1x64x1x1, .f32⟩
  | 89 => ⟨S4x64x2048x16, .f32⟩
  | 90 => ⟨S4x64x2048x16, .f32⟩
  | 91 => ⟨S_, .f32⟩
  | 92 => ⟨S4x64x2048x16, .f32⟩
  | 93 => ⟨S4x64x2048x16, .i1⟩
  | 94 => ⟨S_, .f32⟩
  | 95 => ⟨S4x64x2048x16, .f32⟩
  | 96 => ⟨S4x64x2048x16, .f32⟩
  | 97 => ⟨S4x64x2048x16, .f32⟩
  | 98 => ⟨S4x2048x16x64, .f32⟩
  | 99 => ⟨S4x64x2048x16, .f32⟩
  | 100 => ⟨S1x64x1x1, .f32⟩
  | 101 => ⟨S4x64x2048x16, .f32⟩
  | 102 => ⟨S4x64x2048x16, .f32⟩
  | 103 => ⟨S_, .f32⟩
  | 104 => ⟨S64, .f32⟩
  | 105 => ⟨S1x64x1x1, .f32⟩
  | 106 => ⟨S_, .f32⟩
  | 107 => ⟨S1x64x1x1, .f32⟩
  | 108 => ⟨S1x64x1x1, .f32⟩
  | 109 => ⟨S_, .i32⟩
  | 110 => ⟨S_, .f32⟩
  | 111 => ⟨S64, .f32⟩
  | 112 => ⟨S1x64x1x1, .f32⟩
  | 113 => ⟨S_, .f32⟩
  | 114 => ⟨S1x64x1x1, .f32⟩
  | 115 => ⟨S1x64x1x1, .f32⟩
  | 116 => ⟨S4x64x2048x16, .f32⟩
  | 117 => ⟨S4x64x2048x16, .f32⟩
  | 118 => ⟨S4x64x2048x16, .f32⟩
  | 119 => ⟨S_, .f32⟩
  | 120 => ⟨S_, .f32⟩
  | 121 => ⟨S_, .f32⟩
  | 122 => ⟨S_, .f32⟩
  | 123 => ⟨S64, .f32⟩
  | 124 => ⟨S1x64x1x1, .f32⟩
  | 125 => ⟨S1x64x1x1, .f32⟩
  | 126 => ⟨S1x64x1x1, .f32⟩
  | 127 => ⟨S_, .f32⟩
  | _ => ⟨S4x64x2048, .f32⟩

abbrev hbmTy0_1 (i : Nat) : BufTy := match i % 128 with
  | 0 => ⟨S_, .i1⟩
  | 1 => ⟨S_, .f32⟩
  | 2 => ⟨S_, .f32⟩
  | 3 => ⟨S1x64x1x1, .f32⟩
  | 4 => ⟨S1x64x1x1, .f32⟩
  | 5 => ⟨S4x64x2048x16, .f32⟩
  | 6 => ⟨S4x64x2048x16, .f32⟩
  | 7 => ⟨S_, .f32⟩
  | 8 => ⟨S1x64x1x1, .f32⟩
  | 9 => ⟨S1x64x1x1, .f32⟩
  | 10 => ⟨S1x64x1x1, .f32⟩
  | 11 => ⟨S4x64x2048x16, .f32⟩
  | 12 => ⟨S4x64x2048x16, .f32⟩
  | 13 => ⟨S1x64x1x1, .f32⟩
  | 14 => ⟨S4x64x2048x16, .f32⟩
  | 15 => ⟨S4x64x2048x16, .f32⟩
  | 16 => ⟨S1x64x1x1, .f32⟩
  | 17 => ⟨S4x64x2048x16, .f32⟩
  | 18 => ⟨S4x64x2048x16, .f32⟩
  | 19 => ⟨S4x1x2048, .f32⟩
  | 20 => ⟨S4x1x32768, .i32⟩
  | 21 => ⟨S_, .i32⟩
  | 22 => ⟨S4x1x32768, .i32⟩
  | 23 => ⟨S4x1x32768, .i1⟩
  | 24 => ⟨S_, .i32⟩
  | 25 => ⟨S4x1x32768, .i32⟩
  | 26 => ⟨S4x1x32768, .i32⟩
  | 27 => ⟨S4x1x32768, .i32⟩
  | 28 => ⟨S4x32768x1, .i32⟩
  | 29 => ⟨S1, .i32⟩
  | 30 => ⟨S_, .i32⟩
  | 31 => ⟨S4x32768x1, .i32⟩
  | 32 => ⟨S4x32768x1, .i1⟩
  | 33 => ⟨S1x1x1, .i32⟩
  | 34 => ⟨S4x32768x1, .i32⟩
  | 35 => ⟨S4x32768x1, .i1⟩
  | 36 => ⟨S4x32768x1, .i1⟩
  | 37 => ⟨S_, .i1⟩
  | 38 => ⟨S4x32768, .i1⟩
  | 39 => ⟨S4x1x32768, .f32⟩
  | 40 => ⟨S4x1x32768, .i1⟩
  | 41 => ⟨S_, .f32⟩
  | 42 => ⟨S4x1x32768, .f32⟩
  | 43 => ⟨S4x1x32768, .f32⟩
  | 44 => ⟨S4x1x2048x16, .f32⟩
  | 45 => ⟨S_, .f32⟩
  | 46 => ⟨S4x1x2048x16, .f32⟩
  | 47 => ⟨S4x1x2048x16, .i1⟩
  | 48 => ⟨S_, .f32⟩
  | 49 => ⟨S_, .f32⟩
  | 50 => ⟨S4x64x2048x16, .i1⟩
  | 51 => ⟨S4x64x2048x16, .f32⟩
  | 52 => ⟨S4x64x2048x16, .f32⟩
  | 53 => ⟨S_, .f32⟩
  | 54 => ⟨S4x64x2048, .f32⟩
  | 55 => ⟨S_, .f32⟩
  | 56 => ⟨S4x64x2048, .f32⟩
  | 57 => ⟨S4x64x2048, .f32⟩
  | 58 => ⟨S4x64x2048x1, .f32⟩
  | 59 => ⟨S4x64x2048x16, .f32⟩
  | 60 => ⟨S4x64x2048x16, .f32⟩
  | 61 => ⟨S4x64x2048x16, .f32⟩
  | 62 => ⟨S_, .f32⟩
  | 63 => ⟨S4x64x2048, .f32⟩
  | 64 => ⟨S4x64x2048x1, .f32⟩
  | 65 => ⟨S4x64x2048x16, .f32⟩
  | 66 => ⟨S4x64x2048x16, .f32⟩
  | 67 => ⟨S_, .f32⟩
  | 68 => ⟨S4x64x2048x16, .i1⟩
  | 69 => ⟨S_, .f32⟩
  | 70 => ⟨S4x64x2048x16, .f32⟩
  | 71 => ⟨S4x64x2048x16, .f32⟩
  | 72 => ⟨S_, .f32⟩
  | 73 => ⟨S4x64x2048x16, .f32⟩
  | 74 => ⟨S4x64x2048x16, .i1⟩
  | 75 => ⟨S_, .f32⟩
  | 76 => ⟨S4x64x2048x16, .f32⟩
  | 77 => ⟨S4x64x2048x16, .f32⟩
  | 78 => ⟨S_, .f32⟩
  | 79 => ⟨S4x64x2048x16, .f32⟩
  | 80 => ⟨S4x64x2048x16, .i1⟩
  | 81 => ⟨S_, .f32⟩
  | 82 => ⟨S4x64x2048x16, .f32⟩
  | 83 => ⟨S4x64x2048x16, .f32⟩
  | 84 => ⟨S4x2048x64, .f32⟩
  | 85 => ⟨S4x64x2048, .f32⟩
  | 86 => ⟨S_, .f32⟩
  | 87 => ⟨S64, .f32⟩
  | 88 => ⟨S1x64x1, .f32⟩
  | 89 => ⟨S_, .f32⟩
  | 90 => ⟨S1x64x1, .f32⟩
  | 91 => ⟨S1x64x1, .f32⟩
  | 92 => ⟨S_, .i32⟩
  | 93 => ⟨S_, .f32⟩
  | 94 => ⟨S64, .f32⟩
  | 95 => ⟨S1x64x1, .f32⟩
  | 96 => ⟨S_, .f32⟩
  | 97 => ⟨S1x64x1, .f32⟩
  | 98 => ⟨S1x64x1, .f32⟩
  | 99 => ⟨S4x64x2048, .f32⟩
  | 100 => ⟨S4x64x2048, .f32⟩
  | 101 => ⟨S4x64x2048, .f32⟩
  | 102 => ⟨S_, .f32⟩
  | 103 => ⟨S_, .f32⟩
  | 104 => ⟨S_, .f32⟩
  | 105 => ⟨S_, .f32⟩
  | 106 => ⟨S64, .f32⟩
  | 107 => ⟨S1x64x1, .f32⟩
  | 108 => ⟨S1x64x1, .f32⟩
  | 109 => ⟨S1x64x1, .f32⟩
  | 110 => ⟨S_, .f32⟩
  | 111 => ⟨S_, .i1⟩
  | 112 => ⟨S_, .f32⟩
  | 113 => ⟨S_, .f32⟩
  | 114 => ⟨S1x64x1, .f32⟩
  | 115 => ⟨S1x64x1, .f32⟩
  | 116 => ⟨S4x64x2048, .f32⟩
  | 117 => ⟨S4x64x2048, .f32⟩
  | 118 => ⟨S_, .f32⟩
  | 119 => ⟨S1x64x1, .f32⟩
  | 120 => ⟨S1x64x1, .f32⟩
  | 121 => ⟨S1x64x1, .f32⟩
  | 122 => ⟨S4x64x2048, .f32⟩
  | 123 => ⟨S4x64x2048, .f32⟩
  | 124 => ⟨S1x64x1, .f32⟩
  | 125 => ⟨S4x64x2048, .f32⟩
  | 126 => ⟨S4x64x2048, .f32⟩
  | 127 => ⟨S1x64x1, .f32⟩
  | _ => ⟨S4x64x2048, .f32⟩

abbrev hbmTy0_2 (i : Nat) : BufTy := match i % 128 with
  | 0 => ⟨S4x64x2048, .f32⟩
  | 1 => ⟨S4x64x2048, .f32⟩
  | 2 => ⟨S4x1x32768, .i32⟩
  | 3 => ⟨S4x64x32768, .i32⟩
  | 4 => ⟨S_, .i32⟩
  | 5 => ⟨S4x64x32768, .i32⟩
  | 6 => ⟨S4x64x32768, .i1⟩
  | 7 => ⟨S_, .i32⟩
  | 8 => ⟨S4x64x32768, .i32⟩
  | 9 => ⟨S4x64x32768, .i32⟩
  | 10 => ⟨S4x64x32768, .i32⟩
  | 11 => ⟨S4x64x32768x1, .i32⟩
  | 12 => ⟨S1, .i32⟩
  | 13 => ⟨S_, .i32⟩
  | 14 => ⟨S4x64x32768x1, .i32⟩
  | 15 => ⟨S4x64x32768x1, .i1⟩
  | 16 => ⟨S1x1x1x1, .i32⟩
  | 17 => ⟨S4x64x32768x1, .i32⟩
  | 18 => ⟨S4x64x32768x1, .i1⟩
  | 19 => ⟨S4x64x32768x1, .i1⟩
  | 20 => ⟨S_, .i1⟩
  | 21 => ⟨S4x64x32768, .i1⟩
  | 22 => ⟨S4x64x32768, .f32⟩
  | 23 => ⟨S_, .f32⟩
  | 24 => ⟨S4x64x32768, .f32⟩
  | 25 => ⟨S4x64x32768, .f32⟩
  | 26 => ⟨S4x64x2048x16, .f32⟩
  | 27 => ⟨S4x64x2048x16, .f32⟩
  | 28 => ⟨S_, .f32⟩
  | 29 => ⟨S4x64x2048, .f32⟩
  | 30 => ⟨S_, .f32⟩
  | 31 => ⟨S4x64x2048, .f32⟩
  | 32 => ⟨S4x64x2048, .f32⟩
  | 33 => ⟨S_, .f32⟩
  | 34 => ⟨S4x1x2048x16, .f32⟩
  | 35 => ⟨S4x1x2048x16, .i1⟩
  | 36 => ⟨S_, .f32⟩
  | 37 => ⟨S_, .f32⟩
  | 38 => ⟨S4x64x2048x16, .i1⟩
  | 39 => ⟨S4x64x2048x16, .f32⟩
  | 40 => ⟨S4x64x2048x16, .f32⟩
  | 41 => ⟨S_, .f32⟩
  | 42 => ⟨S4x64x2048, .f32⟩
  | 43 => ⟨S_, .f32⟩
  | 44 => ⟨S4x64x2048, .f32⟩
  | 45 => ⟨S4x64x2048, .i1⟩
  | 46 => ⟨S_, .f32⟩
  | 47 => ⟨S_, .f32⟩
  | 48 => ⟨S4x64x2048, .f32⟩
  | 49 => ⟨S4x64x2048, .f32⟩
  | 50 => ⟨S4x1x2048, .f32⟩
  | 51 => ⟨S4x64x2048, .f32⟩
  | 52 => ⟨S4x64x2048, .f32⟩
  | 53 => ⟨S4x64x2048, .f32⟩
  | 54 => ⟨S4x64x2048, .f32⟩
  | _ => ⟨S4x64x2048, .f32⟩

abbrev hbmTy (i : Nat) : BufTy := match i / 128 with
  | 0 => hbmTy0_0 i
  | 1 => hbmTy0_1 i
  | 2 => hbmTy0_2 i
  | _ => ⟨S4x64x2048, .f32⟩

abbrev bufTy : (tb : Table) → Fin (tcTables nBuf tb) → BufTy
  | .hbm, ⟨i, _⟩ => hbmTy i
  | _, _ => ⟨S4x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst : Ref sig .tc := ⟨.hbm, 47, rfl⟩
abbrev main_v12 : Ref sig .tc := ⟨.hbm, 48, rfl⟩
abbrev main_v13 : Ref sig .tc := ⟨.hbm, 49, rfl⟩
abbrev main_cst_0 : Ref sig .tc := ⟨.hbm, 50, rfl⟩
abbrev main_v14 : Ref sig .tc := ⟨.hbm, 51, rfl⟩
abbrev main_v15 : Ref sig .tc := ⟨.hbm, 52, rfl⟩
abbrev main_c : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_cst_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_cst_1 : Ref sig .tc := ⟨.hbm, 64, rfl⟩
abbrev main_call1_v8 : Ref sig .tc := ⟨.hbm, 65, rfl⟩
abbrev main_call1_cst_2 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_cst_3 : Ref sig .tc := ⟨.hbm, 71, rfl⟩
abbrev main_call1_v13 : Ref sig .tc := ⟨.hbm, 72, rfl⟩
abbrev main_call1_cst_4 : Ref sig .tc := ⟨.hbm, 73, rfl⟩
abbrev main_call1_call0_v0 : Ref sig .tc := ⟨.hbm, 74, rfl⟩
abbrev main_call1_call0_v1 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_cst_1 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_cst_2 : Ref sig .tc := ⟨.hbm, 91, rfl⟩
abbrev main_v30 : Ref sig .tc := ⟨.hbm, 92, rfl⟩
abbrev main_v31 : Ref sig .tc := ⟨.hbm, 93, rfl⟩
abbrev main_cst_3 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_4 : Ref sig .tc := ⟨.hbm, 103, rfl⟩
abbrev main_v40 : Ref sig .tc := ⟨.hbm, 104, rfl⟩
abbrev main_v41 : Ref sig .tc := ⟨.hbm, 105, rfl⟩
abbrev main_cst_5 : Ref sig .tc := ⟨.hbm, 106, rfl⟩
abbrev main_v42 : Ref sig .tc := ⟨.hbm, 107, rfl⟩
abbrev main_v43 : Ref sig .tc := ⟨.hbm, 108, rfl⟩
abbrev main_c_6 : Ref sig .tc := ⟨.hbm, 109, rfl⟩
abbrev main_call3_cst : Ref sig .tc := ⟨.hbm, 110, rfl⟩
abbrev main_call3_v0 : Ref sig .tc := ⟨.hbm, 111, rfl⟩
abbrev main_call3_v1 : Ref sig .tc := ⟨.hbm, 112, rfl⟩
abbrev main_call3_cst_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_v6 : Ref sig .tc := ⟨.hbm, 118, rfl⟩
abbrev main_call3_v7 : Ref sig .tc := ⟨.hbm, 119, rfl⟩
abbrev main_call3_cst_1 : Ref sig .tc := ⟨.hbm, 120, rfl⟩
abbrev main_call3_v8 : Ref sig .tc := ⟨.hbm, 121, rfl⟩
abbrev main_call3_cst_2 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_v12 : Ref sig .tc := ⟨.hbm, 126, rfl⟩
abbrev main_call3_cst_3 : Ref sig .tc := ⟨.hbm, 127, rfl⟩
abbrev main_call3_v13 : Ref sig .tc := ⟨.hbm, 128, rfl⟩
abbrev main_call3_cst_4 : Ref sig .tc := ⟨.hbm, 129, rfl⟩
abbrev main_call3_call0_v0 : Ref sig .tc := ⟨.hbm, 130, rfl⟩
abbrev main_call3_call0_v1 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_cst_7 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_call4_c : Ref sig .tc := ⟨.hbm, 149, rfl⟩
abbrev main_call4_v0 : Ref sig .tc := ⟨.hbm, 150, rfl⟩
abbrev main_call4_v1 : Ref sig .tc := ⟨.hbm, 151, rfl⟩
abbrev main_call4_c_0 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_c_1 : Ref sig .tc := ⟨.hbm, 157, rfl⟩
abbrev main_call4_c_2 : Ref sig .tc := ⟨.hbm, 158, rfl⟩
abbrev main_call4_v6 : Ref sig .tc := ⟨.hbm, 159, rfl⟩
abbrev main_call4_v7 : Ref sig .tc := ⟨.hbm, 160, rfl⟩
abbrev main_call4_v8 : Ref sig .tc := ⟨.hbm, 161, rfl⟩
abbrev main_call4_v9 : Ref sig .tc := ⟨.hbm, 162, rfl⟩
abbrev main_call4_v10 : Ref sig .tc := ⟨.hbm, 163, rfl⟩
abbrev main_call4_v11 : Ref sig .tc := ⟨.hbm, 164, rfl⟩
abbrev main_call4_c_3 : Ref sig .tc := ⟨.hbm, 165, rfl⟩
abbrev main_call4_v12 : Ref sig .tc := ⟨.hbm, 166, rfl⟩
abbrev main_call4_v13 : Ref sig .tc := ⟨.hbm, 167, rfl⟩
abbrev main_call4_v14 : Ref sig .tc := ⟨.hbm, 168, rfl⟩
abbrev main_call4_cst : Ref sig .tc := ⟨.hbm, 169, rfl⟩
abbrev main_call4_v15 : Ref sig .tc := ⟨.hbm, 170, rfl⟩
abbrev main_v60 : Ref sig .tc := ⟨.hbm, 171, rfl⟩
abbrev main_v61 : Ref sig .tc := ⟨.hbm, 172, rfl⟩
abbrev main_cst_8 : Ref sig .tc := ⟨.hbm, 173, rfl⟩
abbrev main_v62 : Ref sig .tc := ⟨.hbm, 174, rfl⟩
abbrev main_v63 : Ref sig .tc := ⟨.hbm, 175, rfl⟩
abbrev main_cst_9 : Ref sig .tc := ⟨.hbm, 176, rfl⟩
abbrev main_call5_v0 : Ref sig .tc := ⟨.hbm, 177, rfl⟩
abbrev main_call5_v1 : Ref sig .tc := ⟨.hbm, 178, rfl⟩
abbrev main_call5_v2 : Ref sig .tc := ⟨.hbm, 179, rfl⟩
abbrev main_v64 : Ref sig .tc := ⟨.hbm, 180, rfl⟩
abbrev main_cst_10 : Ref sig .tc := ⟨.hbm, 181, rfl⟩
abbrev main_v65 : Ref sig .tc := ⟨.hbm, 182, rfl⟩
abbrev main_cst_11 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_v69 : Ref sig .tc := ⟨.hbm, 187, rfl⟩
abbrev main_v70 : Ref sig .tc := ⟨.hbm, 188, rfl⟩
abbrev main_v71 : Ref sig .tc := ⟨.hbm, 189, rfl⟩
abbrev main_cst_12 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_cst_13 : Ref sig .tc := ⟨.hbm, 195, rfl⟩
abbrev main_call6_v0 : Ref sig .tc := ⟨.hbm, 196, rfl⟩
abbrev main_call6_v1 : Ref sig .tc := ⟨.hbm, 197, rfl⟩
abbrev main_call6_call0_v0 : Ref sig .tc := ⟨.hbm, 198, rfl⟩
abbrev main_call6_v2 : Ref sig .tc := ⟨.hbm, 199, rfl⟩
abbrev main_call6_cst : Ref sig .tc := ⟨.hbm, 200, rfl⟩
abbrev main_call6_v3 : Ref sig .tc := ⟨.hbm, 201, rfl⟩
abbrev main_call6_v4 : Ref sig .tc := ⟨.hbm, 202, rfl⟩
abbrev main_call6_cst_0 : Ref sig .tc := ⟨.hbm, 203, rfl⟩
abbrev main_call6_call1_v0 : Ref sig .tc := ⟨.hbm, 204, rfl⟩
abbrev main_call6_v5 : Ref sig .tc := ⟨.hbm, 205, rfl⟩
abbrev main_call6_cst_1 : Ref sig .tc := ⟨.hbm, 206, rfl⟩
abbrev main_call6_v6 : Ref sig .tc := ⟨.hbm, 207, rfl⟩
abbrev main_call6_v7 : Ref sig .tc := ⟨.hbm, 208, rfl⟩
abbrev main_call6_cst_2 : Ref sig .tc := ⟨.hbm, 209, rfl⟩
abbrev main_call6_call2_v0 : Ref sig .tc := ⟨.hbm, 210, rfl⟩
abbrev main_v76 : Ref sig .tc := ⟨.hbm, 211, rfl⟩
abbrev main_v77 : Ref sig .tc := ⟨.hbm, 212, rfl⟩
abbrev main_v78 : Ref sig .tc := ⟨.hbm, 213, rfl⟩
abbrev main_cst_14 : Ref sig .tc := ⟨.hbm, 214, rfl⟩
abbrev main_v79 : Ref sig .tc := ⟨.hbm, 215, rfl⟩
abbrev main_v80 : Ref sig .tc := ⟨.hbm, 216, rfl⟩
abbrev main_cst_15 : Ref sig .tc := ⟨.hbm, 217, rfl⟩
abbrev main_v81 : Ref sig .tc := ⟨.hbm, 218, rfl⟩
abbrev main_v82 : Ref sig .tc := ⟨.hbm, 219, rfl⟩
abbrev main_c_16 : Ref sig .tc := ⟨.hbm, 220, rfl⟩
abbrev main_call7_cst : Ref sig .tc := ⟨.hbm, 221, rfl⟩
abbrev main_call7_v0 : Ref sig .tc := ⟨.hbm, 222, rfl⟩
abbrev main_call7_v1 : Ref sig .tc := ⟨.hbm, 223, rfl⟩
abbrev main_call7_cst_0 : Ref sig .tc := ⟨.hbm, 224, rfl⟩
abbrev main_call7_v2 : Ref sig .tc := ⟨.hbm, 225, rfl⟩
abbrev main_call7_v3 : Ref sig .tc := ⟨.hbm, 226, rfl⟩
abbrev main_call7_v4 : Ref sig .tc := ⟨.hbm, 227, rfl⟩
abbrev main_call7_v5 : Ref sig .tc := ⟨.hbm, 228, rfl⟩
abbrev main_call7_v6 : Ref sig .tc := ⟨.hbm, 229, rfl⟩
abbrev main_call7_v7 : Ref sig .tc := ⟨.hbm, 230, rfl⟩
abbrev main_call7_cst_1 : Ref sig .tc := ⟨.hbm, 231, rfl⟩
abbrev main_call7_v8 : Ref sig .tc := ⟨.hbm, 232, rfl⟩
abbrev main_call7_cst_2 : Ref sig .tc := ⟨.hbm, 233, rfl⟩
abbrev main_call7_v9 : Ref sig .tc := ⟨.hbm, 234, rfl⟩
abbrev main_call7_v10 : Ref sig .tc := ⟨.hbm, 235, rfl⟩
abbrev main_call7_v11 : Ref sig .tc := ⟨.hbm, 236, rfl⟩
abbrev main_call7_v12 : Ref sig .tc := ⟨.hbm, 237, rfl⟩
abbrev main_call7_cst_3 : Ref sig .tc := ⟨.hbm, 238, rfl⟩
abbrev main_call7_v13 : Ref sig .tc := ⟨.hbm, 239, rfl⟩
abbrev main_call7_cst_4 : Ref sig .tc := ⟨.hbm, 240, rfl⟩
abbrev main_call7_call0_v0 : Ref sig .tc := ⟨.hbm, 241, rfl⟩
abbrev main_call7_call0_v1 : Ref sig .tc := ⟨.hbm, 242, rfl⟩
abbrev main_v83 : Ref sig .tc := ⟨.hbm, 243, rfl⟩
abbrev main_v84 : Ref sig .tc := ⟨.hbm, 244, rfl⟩
abbrev main_v85 : Ref sig .tc := ⟨.hbm, 245, rfl⟩
abbrev main_cst_17 : Ref sig .tc := ⟨.hbm, 246, rfl⟩
abbrev main_v86 : Ref sig .tc := ⟨.hbm, 247, rfl⟩
abbrev main_v87 : Ref sig .tc := ⟨.hbm, 248, rfl⟩
abbrev main_v88 : Ref sig .tc := ⟨.hbm, 249, rfl⟩
abbrev main_v89 : Ref sig .tc := ⟨.hbm, 250, rfl⟩
abbrev main_v90 : Ref sig .tc := ⟨.hbm, 251, rfl⟩
abbrev main_v91 : Ref sig .tc := ⟨.hbm, 252, rfl⟩
abbrev main_v92 : Ref sig .tc := ⟨.hbm, 253, rfl⟩
abbrev main_v93 : Ref sig .tc := ⟨.hbm, 254, rfl⟩
abbrev main_v94 : Ref sig .tc := ⟨.hbm, 255, rfl⟩
abbrev main_v95 : Ref sig .tc := ⟨.hbm, 256, rfl⟩
abbrev main_v96 : Ref sig .tc := ⟨.hbm, 257, rfl⟩
abbrev main_v97 : Ref sig .tc := ⟨.hbm, 258, rfl⟩
abbrev main_v98 : Ref sig .tc := ⟨.hbm, 259, rfl⟩
abbrev main_call8_c : Ref sig .tc := ⟨.hbm, 260, rfl⟩
abbrev main_call8_v0 : Ref sig .tc := ⟨.hbm, 261, rfl⟩
abbrev main_call8_v1 : Ref sig .tc := ⟨.hbm, 262, rfl⟩
abbrev main_call8_c_0 : Ref sig .tc := ⟨.hbm, 263, rfl⟩
abbrev main_call8_v2 : Ref sig .tc := ⟨.hbm, 264, rfl⟩
abbrev main_call8_v3 : Ref sig .tc := ⟨.hbm, 265, rfl⟩
abbrev main_call8_v4 : Ref sig .tc := ⟨.hbm, 266, rfl⟩
abbrev main_call8_v5 : Ref sig .tc := ⟨.hbm, 267, rfl⟩
abbrev main_call8_c_1 : Ref sig .tc := ⟨.hbm, 268, rfl⟩
abbrev main_call8_c_2 : Ref sig .tc := ⟨.hbm, 269, rfl⟩
abbrev main_call8_v6 : Ref sig .tc := ⟨.hbm, 270, rfl⟩
abbrev main_call8_v7 : Ref sig .tc := ⟨.hbm, 271, rfl⟩
abbrev main_call8_v8 : Ref sig .tc := ⟨.hbm, 272, rfl⟩
abbrev main_call8_v9 : Ref sig .tc := ⟨.hbm, 273, rfl⟩
abbrev main_call8_v10 : Ref sig .tc := ⟨.hbm, 274, rfl⟩
abbrev main_call8_v11 : Ref sig .tc := ⟨.hbm, 275, rfl⟩
abbrev main_call8_c_3 : Ref sig .tc := ⟨.hbm, 276, rfl⟩
abbrev main_call8_v12 : Ref sig .tc := ⟨.hbm, 277, rfl⟩
abbrev main_call8_v13 : Ref sig .tc := ⟨.hbm, 278, rfl⟩
abbrev main_call8_cst : Ref sig .tc := ⟨.hbm, 279, rfl⟩
abbrev main_call8_v14 : Ref sig .tc := ⟨.hbm, 280, rfl⟩
abbrev main_v99 : Ref sig .tc := ⟨.hbm, 281, rfl⟩
abbrev main_v100 : Ref sig .tc := ⟨.hbm, 282, rfl⟩
abbrev main_v101 : Ref sig .tc := ⟨.hbm, 283, rfl⟩
abbrev main_cst_18 : Ref sig .tc := ⟨.hbm, 284, rfl⟩
abbrev main_v102 : Ref sig .tc := ⟨.hbm, 285, rfl⟩
abbrev main_call9_cst : Ref sig .tc := ⟨.hbm, 286, rfl⟩
abbrev main_call9_v0 : Ref sig .tc := ⟨.hbm, 287, rfl⟩
abbrev main_v103 : Ref sig .tc := ⟨.hbm, 288, rfl⟩
abbrev main_cst_19 : Ref sig .tc := ⟨.hbm, 289, rfl⟩
abbrev main_v104 : Ref sig .tc := ⟨.hbm, 290, rfl⟩
abbrev main_v105 : Ref sig .tc := ⟨.hbm, 291, rfl⟩
abbrev main_cst_20 : Ref sig .tc := ⟨.hbm, 292, rfl⟩
abbrev main_call10_v0 : Ref sig .tc := ⟨.hbm, 293, rfl⟩
abbrev main_call10_v1 : Ref sig .tc := ⟨.hbm, 294, rfl⟩
abbrev main_call10_v2 : Ref sig .tc := ⟨.hbm, 295, rfl⟩
abbrev main_v106 : Ref sig .tc := ⟨.hbm, 296, rfl⟩
abbrev main_cst_21 : Ref sig .tc := ⟨.hbm, 297, rfl⟩
abbrev main_v107 : Ref sig .tc := ⟨.hbm, 298, rfl⟩
abbrev main_cst_22 : Ref sig .tc := ⟨.hbm, 299, rfl⟩
abbrev main_v108 : Ref sig .tc := ⟨.hbm, 300, rfl⟩
abbrev main_v109 : Ref sig .tc := ⟨.hbm, 301, rfl⟩
abbrev main_cst_23 : Ref sig .tc := ⟨.hbm, 302, rfl⟩
abbrev main_call11_v0 : Ref sig .tc := ⟨.hbm, 303, rfl⟩
abbrev main_call11_v1 : Ref sig .tc := ⟨.hbm, 304, rfl⟩
abbrev main_v110 : Ref sig .tc := ⟨.hbm, 305, rfl⟩
abbrev main_v111 : Ref sig .tc := ⟨.hbm, 306, rfl⟩
abbrev main_v112 : Ref sig .tc := ⟨.hbm, 307, rfl⟩
abbrev main_v113 : Ref sig .tc := ⟨.hbm, 308, rfl⟩
abbrev main_v114 : Ref sig .tc := ⟨.hbm, 309, rfl⟩
abbrev main_v115 : Ref sig .tc := ⟨.hbm, 310, rfl⟩

abbrev nD : Nat := 1
abbrev τ : Topo := Topo.v7x

variable {F : FTy → Type} [FloatOps F]
-- ==== Proof.Kernel.Words.lean ====
/-
  The gather kernel's counted loop: its five carried words as functions of the trip, and what each window's offsets,
  each guard and each side condition are at those words. All of it integer arithmetic over 32 tiles and 8 trips.
-/
module

public import proofs.«01_k».proof.Proof.Gen.Kernel
public import proofs.«01_k».proof.Proof.Gen.Kernel.Skeleton

@[expose] public section

namespace Cert.Kernel.Gather

open Cert.Kernel Cert.Kernel.Gen Idealize.ShloMosaic Idealize.SL.Sem

/-- The loop runs eight times. -/
theorem trips_eq : k1_t1_loop.trips = 8 := by decide +kernel

/-- The first of the 256-row blocks the tile at `i` serves; it serves eight in a row. -/
def blk (i : grid1.Coords) : ℕ := 8 * (i 1).val + 128 * (i 0).val

theorem blk_le (i : grid1.Coords) : blk i + 8 ≤ 256 := by
  have h0 : (i 0).val < 2 := (i 0).isLt
  have h1 : (i 1).val < 16 := (i 1).isLt
  unfold blk; omega

/-- The carried words before trip `t`: index fetches issued, index fetches awaited, write-outs issued, write-outs
    awaited, and the position among the tile's blocks. -/
abbrev w6 (t : ℕ) : BitVec 32 := BitVec.ofNat 32 (min (t + 1) 8)
abbrev w7 (t : ℕ) : BitVec 32 := BitVec.ofNat 32 t
abbrev w9 (t : ℕ) : BitVec 32 := BitVec.ofNat 32 (t - 1)
abbrev w10 (t : ℕ) : BitVec 32 := BitVec.ofNat 32 (t % 8)

section Offsets
variable (i : grid1.Coords) (t : Fin k1_t1_loop.trips)

theorem cond1_iff : ∀ (i : grid1.Coords) (t : Fin k1_t1_loop.trips), k1_cond1 i t (w10 t) = 1#1 ↔ t.val < 7 := by decide +kernel
theorem cond2_true : ∀ (i : grid1.Coords) (t : Fin k1_t1_loop.trips), k1_cond2 i t (w10 t) = 1#1 := by decide +kernel
theorem cond5_true : ∀ (i : grid1.Coords) (t : Fin k1_t1_loop.trips), k1_cond5 i t (w10 t) = 1#1 := by decide +kernel
theorem cond7_iff : ∀ (i : grid1.Coords) (t : Fin k1_t1_loop.trips), k1_cond7 i t (w10 t) = 1#1 ↔ 0 < t.val := by decide +kernel

theorem off4_at : ∀ (t : Fin k1_t1_loop.trips), t.val < 7 → k1_off4 (w6 t) = ![(t.val + 1) % 2, 0, 0] := by decide +kernel
theorem off5_at : ∀ (i : grid1.Coords) (t : Fin k1_t1_loop.trips), t.val < 7 → k1_off5 i (w10 t) = ![0, 256 * (blk i + (t.val + 1))] := by decide +kernel
theorem off6_at : ∀ (t : Fin k1_t1_loop.trips), t.val < 7 → k1_off6 (w6 t) = ![(t.val + 1) % 2] := by decide +kernel
theorem off7_at : ∀ (t : Fin k1_t1_loop.trips), k1_off7 (w7 t) = ![t.val % 2, 0, 0] := by decide +kernel
theorem off8_at : ∀ (i : grid1.Coords) (t : Fin k1_t1_loop.trips), k1_off8 i (w10 t) = ![0, 256 * (blk i + t.val)] := by decide +kernel
theorem off9_at : ∀ (t : Fin k1_t1_loop.trips), k1_off9 (w7 t) = ![t.val % 2] := by decide +kernel
theorem off10_at : ∀ (t : Fin k1_t1_loop.trips), k1_off10 (w7 t) = ![t.val % 2, 0, 0] := by decide +kernel
theorem off11_at : ∀ (t : Fin k1_t1_loop.trips), k1_off11 (w7 t) = ![t.val % 2, 0, 0] := by decide +kernel
theorem off12_at : ∀ (t : Fin k1_t1_loop.trips), k1_off12 (w7 t) = ![t.val % 2, 0, 0] := by decide +kernel
theorem off13_at : ∀ (i : grid1.Coords) (t : Fin k1_t1_loop.trips), k1_off13 i (w10 t) = ![256 * (blk i + t.val), 0] := by decide +kernel
theorem off14_at : ∀ (t : Fin k1_t1_loop.trips), k1_off14 (w7 t) = ![t.val % 2] := by decide +kernel
theorem off15_at : ∀ (t : Fin k1_t1_loop.trips), 0 < t.val → k1_off15 (w9 t) = ![(t.val - 1) % 2, 0, 0] := by decide +kernel
theorem off16_at : ∀ (i : grid1.Coords) (t : Fin k1_t1_loop.trips), 0 < t.val → k1_off16 i (w10 t) = ![256 * (blk i + (t.val - 1)), 0] := by decide +kernel
theorem off17_at : ∀ (t : Fin k1_t1_loop.trips), 0 < t.val → k1_off17 (w9 t) = ![(t.val - 1) % 2] := by decide +kernel
theorem off19_at : ∀ (i : grid1.Coords), k1_off19 i (w10 8) = ![256 * (blk i + 7), 0] := by decide +kernel
theorem off20_at : k1_off20 (w9 8) = ![1] := by decide +kernel
theorem off21_at : k1_off21 (w9 8) = ![1, 0, 0] := by decide +kernel
theorem off2_at : ∀ (i : grid1.Coords), k1_off2 i = ![0, 256 * (blk i + 0)] := by decide +kernel

theorem chk1_at : ∀ (i : grid1.Coords) (t : Fin k1_t1_loop.trips), k1_chk1 i t (w6 t) (w7 t) (w7 t) (w9 t) (w10 t) := by decide +kernel
theorem chk2_at : ∀ (t : Fin k1_t1_loop.trips), k1_chk2 (w7 t) := by decide +kernel
theorem chk3_at : ∀ (t : Fin k1_t1_loop.trips), k1_chk3 (w7 t) := by decide +kernel
theorem chk4_at : k1_chk4 (w9 8) := by decide +kernel
theorem chk5_at : ∀ (i : grid1.Coords), k1_chk5 i (w10 8) := by decide +kernel

end Offsets

end Cert.Kernel.Gather
-- ==== Proof.Kernel.Copies.lean ====
/-
  One tile's copies, each as a step: the fetch of a block of row numbers, the gather of the rows they name, the block's
  write-out. Every statement is over the memrefs the kernel's body is given, so that one proof serves both calls.
-/
module

public import proofs.«01_k».proof.Proof.Kernel.Words
public import Idealize.ShloMosaic.Lib.SparseCore.Quiescent
public import Idealize.ShloMosaic.Lib.SparseCore.Ops
public import Idealize.ShloMosaic.Lib.SparseCore.Stream
public import Idealize.ShloMosaic.Lib.Tactic
public import Idealize.ShloMosaic.Lib.Pointwise.Index
public import Idealize.ShloMosaic.Lib.ValueLayout

@[expose] public section

noncomputable section

namespace Cert.Kernel.Gather

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
/-- The rounds of the five pipelined calls. -/
abbrev UP : Type := URounds (GSem nD τ sig) Unit
abbrev UU : Type := UH × (UP × Counters)

local notation "𝕄" => MT nD τ sig (HIx 2) (Elt F) ℕ UU ℕ

/-! ## The windows -/

theorem slot_inb3 {b : ℕ} (hb : b < 2) : ∀ a, (![b, 0, 0] : Fin 3 → ℕ) a + S1x1x256.size a ≤ S2x1x256.size a := by
  intro a; fin_cases a <;> simp <;> omega
theorem oslot_inb3 {b : ℕ} (hb : b < 2) : ∀ a, (![b, 0, 0] : Fin 3 → ℕ) a + S1x256x128.size a ≤ S2x256x128.size a := by
  intro a; fin_cases a <;> simp <;> omega
theorem iblk_inb {j : ℕ} (hj : j < 256) : ∀ a, (![0, 256 * j] : Fin 2 → ℕ) a + S1x256.size a ≤ S1x65536.size a := by
  intro a; fin_cases a <;> simp <;> omega
theorem oblk_inb {j : ℕ} (hj : j < 256) : ∀ a, (![256 * j, 0] : Fin 2 → ℕ) a + S256x128.size a ≤ S65536x128.size a := by
  intro a; fin_cases a <;> simp <;> omega
theorem sem_inb {b : ℕ} (hb : b < 2) : ∀ a, (![b] : Fin 1 → ℕ) a + S1.size a ≤ S2.size a := by
  intro a; fin_cases a; simp; omega

/-- Slot `b` of the two-slot index buffer. -/
abbrev islot (A : Memref sig .scVector .vmem S2x1x256 .i32) (b : ℕ) (hb : b < 2) : Memref sig .scVector .vmem S1x256 .i32 :=
  (A.slice (Rect.unit (s := S2x1x256) ![b, 0, 0] S1x1x256.size (slot_inb3 hb)) (fun _ => rfl)).squeeze S1x256 squeezes_S1x1x256_S1x256
/-- The same slot as the gather's list of 256 row numbers. -/
abbrev ilist (A : Memref sig .scVector .vmem S2x1x256 .i32) (b : ℕ) (hb : b < 2) : Memref sig .scVector .vmem S256 .i32 :=
  ((islot A b hb).slice (Rect.unit (s := S1x256) ![0, 0] S1x256.size inb_S1x256_S1x256_0_0) (fun _ => rfl)).squeeze S256 squeezes_S1x256_S256
/-- Slot `b` of the two-slot row buffer. -/
abbrev oslot (O : Memref sig .scVector .vmem S2x256x128 .f32) (b : ℕ) (hb : b < 2) : Memref sig .scVector .vmem S256x128 .f32 :=
  (O.slice (Rect.unit (s := S2x256x128) ![b, 0, 0] S1x256x128.size (oslot_inb3 hb)) (fun _ => rfl)).squeeze S256x128 squeezes_S1x256x128_S256x128
/-- Block `j` of the row numbers. -/
abbrev iblk (I : Memref sig .scVector .hbm S1x65536 .i32) (j : ℕ) (hj : j < 256) : Memref sig .scVector .hbm S1x256 .i32 :=
  I.slice (Rect.unit (s := S1x65536) ![0, 256 * j] S1x256.size (iblk_inb hj)) (fun _ => rfl)
/-- Block `j` of the gathered rows. -/
abbrev oblk (R : Memref sig .scVector .hbm S65536x128 .f32) (j : ℕ) (hj : j < 256) : Memref sig .scVector .hbm S256x128 .f32 :=
  R.slice (Rect.unit (s := S65536x128) ![256 * j, 0] S256x128.size (oblk_inb hj)) (fun _ => rfl)
/-- The table, as the gather names it. -/
abbrev tabv (X : Memref sig .scVector .hbm S8192x128 .f32) : Memref sig .scVector .hbm S8192x128 .f32 :=
  X.slice (Rect.unit (s := S8192x128) ![0, 0] S8192x128.size inb_S8192x128_S8192x128_0_0) (fun _ => rfl)
/-- Semaphore `b` of a pair. -/
abbrev sem2 (v : DmaSems sig S2) (b : ℕ) (hb : b < 2) : DmaSem sig :=
  ((v.slice (Rect.unit (s := S2) ![b] S1.size (sem_inb hb))).squeeze S_ squeezes_S1_S_).sem

/-! ## What the gathered rows are -/

/-- The table's row that a row number names (every row number in the claim is below 8192). -/
def rowAt (w : BitVec 32) : Fin 8192 := ⟨w.toNat % 8192, Nat.mod_lt _ (by decide)⟩

/-- The gathered rows: row `y` is the table's row at the `y`-th row number. -/
def gath (tab : S8192x128.Idx → Elt F .f32) (ix : S1x65536.Idx → Elt F .i32) : S65536x128.Idx → Elt F .f32 :=
  fun y => tab (ix2 (rowAt (ix (ix2 (0 : Fin 1) (y 0 : Fin 65536)))) (y 1 : Fin 128))

/-- Block `j` of them. -/
def gathBlk (tab : S8192x128.Idx → Elt F .f32) (ix : S1x65536.Idx → Elt F .i32) (j : ℕ) (hj : j < 256) : S256x128.Idx → Elt F .f32 :=
  fun x => gath tab ix (ix2 (n0 := 65536) (n1 := 128) ⟨256 * j + (x 0).val, by have : (x 0).val < 256 := (x 0).isLt; omega⟩ (x 1))

/-! ## The windows' elements -/

theorem full2_emb {n0 n1 : ℕ} (inb) (x) : (Rect.unit (s := ⟨2, ![n0, n1]⟩) ![0, 0] ![n0, n1] inb).emb x = x := by
  funext a; apply Fin.ext; rw [Rect.emb_apply]; fin_cases a <;> simp

theorem full2_set {n0 n1 : ℕ} (inb) : (Rect.unit (s := ⟨2, ![n0, n1]⟩) ![0, 0] ![n0, n1] inb).set = Finset.univ := by
  ext i; simp only [Rect.mem_set_unit, Finset.mem_univ, iff_true]
  intro a; have := (i a).isLt; fin_cases a <;> simpa using this

theorem tabv_set (X : Memref sig .scVector .hbm S8192x128 .f32) : (tabv X).view.set = X.view.set := by
  show (X.view.slice _).set = _
  rw [View.set_slice, full2_set]; rfl

theorem tabv_read (X : Memref sig .scVector .hbm S8192x128 .f32) (f : X.view.ty.Contents (Elt F)) :
    (tabv X).view.read (Elt F) f = X.view.read (Elt F) f := by
  funext x
  show X.view.read (Elt F) f ((Rect.unit (s := S8192x128) ![0, 0] S8192x128.size inb_S8192x128_S8192x128_0_0).emb x) = _
  exact congrArg _ (full2_emb _ x)

theorem ilist_set (A : Memref sig .scVector .vmem S2x1x256 .i32) (b : ℕ) (hb : b < 2) : (ilist A b hb).view.set = (islot A b hb).view.set := by
  show (((islot A b hb).view.slice _).reshape _ _).set = _
  rw [View.set_reshape, View.set_slice, full2_set]; rfl

theorem ilist_read (A : Memref sig .scVector .vmem S2x1x256 .i32) (b : ℕ) (hb : b < 2) (f : A.view.ty.Contents (Elt F)) (x : S256.Idx) :
    (ilist A b hb).view.read (Elt F) f x = (islot A b hb).view.read (Elt F) f (ix2 (0 : Fin 1) (x 0 : Fin 256)) := by
  show (islot A b hb).view.read (Elt F) f ((Rect.unit (s := S1x256) ![0, 0] S1x256.size inb_S1x256_S1x256_0_0).emb
    (Shape.reshapeEquiv _ x)) = _
  refine congrArg _ ((full2_emb _ _).trans ?_)
  refine Shape.reshapeEquiv_eq_of_rowMajor _ ?_
  rw [Shape.rowMajor_val_two, Shape.rowMajor_val_one]
  simp [ix2]

theorem iblk_read (I : Memref sig .scVector .hbm S1x65536 .i32) (j : ℕ) (hj : j < 256) (f : I.view.ty.Contents (Elt F)) (y : Fin 256) :
    (iblk I j hj).view.read (Elt F) f (ix2 (0 : Fin 1) y)
      = I.view.read (Elt F) f (ix2 (0 : Fin 1) (⟨256 * j + y.val, by omega⟩ : Fin 65536)) := by
  show I.view.read (Elt F) f ((Rect.unit (s := S1x65536) ![0, 256 * j] S1x256.size (iblk_inb hj)).emb _) = _
  refine congrArg _ ?_
  funext a; apply Fin.ext; rw [Rect.emb_apply]; fin_cases a <;> simp

/-- Every element of block `j`'s rows is one of the whole array's, at the block's place. -/
theorem oblk_emb (R : Memref sig .scVector .hbm S65536x128 .f32) (j : ℕ) (hj : j < 256) (x : S256x128.Idx) :
    (oblk R j hj).view.emb x
      = R.view.emb (ix2 (n0 := 65536) (n1 := 128) ⟨256 * j + (x 0).val, by have : (x 0).val < 256 := (x 0).isLt; omega⟩ (x 1)) := by
  show R.view.emb ((Rect.unit (s := S65536x128) ![256 * j, 0] S256x128.size (oblk_inb hj)).emb x) = _
  refine congrArg _ ?_
  funext a; apply Fin.ext; rw [Rect.emb_apply]; fin_cases a <;> simp

/-- Block `j` written into the result, on the block's elements, is the whole gather written there. -/
theorem oblk_write (R : Memref sig .scVector .hbm S65536x128 .f32) (j : ℕ) (hj : j < 256) (f f' : R.view.ty.Contents (Elt F))
    (g : S65536x128.Idx → Elt F .f32) (w : S256x128.Idx → Elt F .f32)
    (hw : w = fun x => g (ix2 (n0 := 65536) (n1 := 128) ⟨256 * j + (x 0).val, by have : (x 0).val < 256 := (x 0).isLt; omega⟩ (x 1))) :
    ∀ i ∈ (oblk R j hj).view.set, (oblk R j hj).view.write (Elt F) f w Finset.univ i = R.view.write (Elt F) f' g Finset.univ i := by
  intro i hi
  obtain ⟨x, -, rfl⟩ := Finset.mem_map.1 hi
  rw [View.write_emb_of_mem _ _ (Finset.mem_univ _), oblk_emb, View.write_emb_of_mem _ _ (Finset.mem_univ _), hw]

/-- A gather through a list holding block `j`'s row numbers, all in range, brings block `j` of the gathered rows. -/
theorem payload_eq (A : Memref sig .scVector .vmem S2x1x256 .i32) (b : ℕ) (hb : b < 2) (I : Memref sig .scVector .hbm S1x65536 .i32)
    (X : Memref sig .scVector .hbm S8192x128 .f32) (j : ℕ) (hj : j < 256) (fA : A.view.ty.Contents (Elt F)) (fi : I.view.ty.Contents (Elt F))
    (ft : X.view.ty.Contents (Elt F)) (h : (islot A b hb).view.read (Elt F) fA = (iblk I j hj).view.read (Elt F) fi)
    (hn : S256.numel = S256x128.size (gathers_S8192x128_S256x128).axis')
    (hin : ∀ x, ((ilist A b hb).view.read (Elt F) fA x).toNat < S8192x128.size (gathers_S8192x128_S256x128).axis) :
    SparseCore.gatherPayload gathers_S8192x128_S256x128 ((tabv X).view.read (Elt F) ft)
        (SparseCore.rows ((ilist A b hb).view.read (Elt F) fA) hn hin)
      = gathBlk (X.view.read (Elt F) ft) (I.view.read (Elt F) fi) j hj := by
  funext x
  have hr : ∀ k : Fin 256, (SparseCore.rows ((ilist A b hb).view.read (Elt F) fA) hn hin) k
      = rowAt (I.view.read (Elt F) fi (ix2 (0 : Fin 1) (⟨256 * j + k.val, by omega⟩ : Fin 65536))) := by
    intro k
    have e : (ilist A b hb).view.read (Elt F) fA (S256.rowMajor.symm (k.cast hn.symm))
        = I.view.read (Elt F) fi (ix2 (0 : Fin 1) (⟨256 * j + k.val, by omega⟩ : Fin 65536)) := by
      refine (ilist_read A b hb fA _).trans ((congrFun h _).trans ((iblk_read I j hj fi _).trans ?_))
      refine congrArg _ (congrArg _ (Fin.ext ?_))
      show 256 * j + ((S256.rowMajor.symm (k.cast hn.symm)) 0).val = 256 * j + k.val
      rw [← Shape.rowMajor_val_one, Equiv.apply_symm_apply]; rfl
    apply Fin.ext
    show ((ilist A b hb).view.read (Elt F) fA (S256.rowMajor.symm (k.cast hn.symm))).toNat = (rowAt _).val
    have := hin (S256.rowMajor.symm (k.cast hn.symm))
    rw [e] at this ⊢
    exact (Nat.mod_eq_of_lt this).symm
  unfold SparseCore.gatherPayload gathBlk gath
  rw [tabv_read]
  refine congrArg _ ?_
  funext a
  fin_cases a
  · refine (Shape.Gathers.idx_axis gathers_S8192x128_S256x128 _ x).trans ?_
    exact hr (x 0)
  · apply Fin.ext
    exact (Shape.Gathers.idx_of_ne gathers_S8192x128_S256x128 _ x 1 (by decide)).trans rfl

theorem iblk_subset (I : Memref sig .scVector .hbm S1x65536 .i32) (j : ℕ) (hj : j < 256) : (iblk I j hj).view.set ⊆ I.view.set :=
  View.set_slice_subset I.view _

/-! ## The copies' steps -/

section Steps

variable [FloatOps F] (d : Dev nD) (c : Fin τ.nSC) (s : Fin τ.nSub) {Λ : Labels} (defs : Defs nD τ sig (Elt F) Λ) (𝒱 : Variants) (bd : Option 𝒱.V)
variable (A : Memref sig .scVector .vmem S2x1x256 .i32) (O : Memref sig .scVector .vmem S2x256x128 .f32)
  (X : Memref sig .scVector .hbm S8192x128 .f32) (I : Memref sig .scVector .hbm S1x65536 .i32) (R : Memref sig .scVector .hbm S65536x128 .f32)
  (v5 v6 : DmaSems sig S2) (v144 : DmaSems sig S_)
  (ft : Buf (Elt F) (X.view.loc (V d c s))) (fi : Buf (Elt F) (I.view.loc (V d c s))) (fo : Buf (Elt F) (R.view.loc (V d c s)))
  (qt : PosShare TreeShare) (q : PosShare TreeShare)

/-- Slot `b` of the index buffer at rest: the slot, the share its fetches read through, its semaphore at zero. -/
def InIdle (b : ℕ) (hb : b < 2) : sProp 𝕄 :=
  iprop((∃ f, (islot A b hb).view.loc (V d c s) ↦[(islot A b hb).view.set]{fullShare} f) ∗ (I.view.loc (V d c s) ↦[I.view.set]{q} fi)
    ∗ semVal (V d c s, .dma (sem2 v5 b hb)) 0)

/-- Slot `b` holding block `j`'s row numbers, its semaphore at zero. -/
def InFull (b : ℕ) (hb : b < 2) (j : ℕ) (hj : j < 256) : sProp 𝕄 :=
  iprop((∃ f, ⌜(islot A b hb).view.read (Elt F) f = (iblk I j hj).view.read (Elt F) fi⌝
      ∗ (islot A b hb).view.loc (V d c s) ↦[(islot A b hb).view.set]{fullShare} f) ∗ (I.view.loc (V d c s) ↦[I.view.set]{q} fi)
    ∗ semVal (V d c s, .dma (sem2 v5 b hb)) 0)

/-- Slot `b` with the fetch of block `j` under way, and what of the row numbers' share the fetch does not hold. -/
def InFly (b : ℕ) (hb : b < 2) (j : ℕ) (hj : j < 256) : sProp 𝕄 :=
  iprop(Transfers.Flight countersEmb (V d c s) (.dma (sem2 v5 b hb)) (default : HIx 2) (islot A b hb).view.dmaCredit
      iprop((∃ f, ⌜(islot A b hb).view.read (Elt F) f = (iblk I j hj).view.read (Elt F) fi⌝
        ∗ (islot A b hb).view.loc (V d c s) ↦[(islot A b hb).view.set]{fullShare} f)
        ∗ (I.view.loc (V d c s) ↦[(iblk I j hj).view.set]{q} fi))
    ∗ (I.view.loc (V d c s) ↦[I.view.set \ (iblk I j hj).view.set]{q} fi))

/-- Slot `b` of the row buffer at rest. -/
def OutIdle (b : ℕ) (hb : b < 2) : sProp 𝕄 :=
  iprop((∃ f, (oslot O b hb).view.loc (V d c s) ↦[(oslot O b hb).view.set]{fullShare} f) ∗ semVal (V d c s, .dma (sem2 v6 b hb)) 0)

/-- The whole gather, as contents of the result's buffer. -/
def gathBuf : Buf (Elt F) (R.view.loc (V d c s)) :=
  R.view.write (Elt F) fo (gath (X.view.read (Elt F) ft) (I.view.read (Elt F) fi)) Finset.univ

/-- Slot `b` holding block `j`'s gathered rows. -/
def OutFull (b : ℕ) (hb : b < 2) (j : ℕ) (hj : j < 256) : sProp 𝕄 :=
  iprop((∃ f, ⌜(oslot O b hb).view.read (Elt F) f = gathBlk (X.view.read (Elt F) ft) (I.view.read (Elt F) fi) j hj⌝
      ∗ (oslot O b hb).view.loc (V d c s) ↦[(oslot O b hb).view.set]{fullShare} f) ∗ semVal (V d c s, .dma (sem2 v6 b hb)) 0)

/-- Slot `b`'s write-out to block `j` under way. -/
def OutFly (b : ℕ) (hb : b < 2) (j : ℕ) (hj : j < 256) : sProp 𝕄 :=
  Transfers.Flight countersEmb (V d c s) (.dma (sem2 v6 b hb)) (default : HIx 2) (oblk R j hj).view.dmaCredit
    iprop((R.view.loc (V d c s) ↦[(oblk R j hj).view.set]{fullShare} gathBuf d c s X I R ft fi fo)
      ∗ (∃ f, (oslot O b hb).view.loc (V d c s) ↦[(oslot O b hb).view.set]{fullShare} f))

variable {α : Type} {Q : α → sProp (MT nD τ sig (HIx 2) (Elt F) ℕ UU ℕ)}

/-- Issuing a fetch of block `j` into slot `b`. -/
theorem issueIn (b : ℕ) (hb : b < 2) (j : ℕ) (hj : j < 256) {hsrc hdst hsem}
    {k : PUnit → Prog (TpuEff nD τ sig (Elt F) Λ (.scVector c s)) α} :
    InIdle d c s A I v5 fi q b hb
      ⊢ iprop((InFly d c s A I v5 fi q b hb j hj -∗ wp frame (wpE defs 𝒱 (V d c s) bd) Set.univ (k ⟨⟩) Q)
        -∗ wp frame (wpE defs 𝒱 (V d c s) bd) Set.univ
            (.op (.enqueueDmaAs (iblk I j hj) (.here (islot A b hb)) .same (.dma (sem2 v5 b hb)) hsrc hdst hsem) k) Q) := by
  unfold InIdle InFly
  iintro ⟨⟨%f, Hs⟩, HI, Hv⟩ Hk
  ihave HI := (pointsTo_split_subset (iblk_subset I j hj)).1 $$ HI
  icases HI with ⟨HIb, HIr⟩
  iapply (Transfers.wp_dmaLocal (c := V d c s) countersEmb 𝒱 bd (default : HIx 2) (islot A b hb).view.dmaCredit rfl
    (View.dmaCredit_pos _ (by decide)) (Finset.Subset.refl _)) $$ [Hs HIb Hv]
  · isplitl [HIb]; · iexact HIb
    isplitl [Hs]; · iexact Hs
    iexact Hv
  iintro Hf
  iapply Hk
  isplitl [Hf]
  · iapply (Transfers.Flight_mono countersEmb (V d c s) ?_) $$ Hf
    iintro ⟨Hs, HI⟩
    isplitl [Hs]
    · iexists _
      isplitr; swap; · iexact Hs
      ipureintro
      exact View.read_write_univ _ _
    iexact HI
  iexact HIr

/-- Waiting for it: the slot now holds the block's row numbers. -/
theorem waitIn (b : ℕ) (hb : b < 2) (j : ℕ) (hj : j < 256) {hsrc hdst} {W : Waits sig (HIx 2)} {OB : CellTallies nD τ sig (HIx 2)}
    {k : PUnit → Prog (TpuEff nD τ sig (Elt F) Λ (.scVector c s)) α} :
    iprop(InFly d c s A I v5 fi q b hb j hj ∗ owes (V d c s) OB W ∗ MayWait (V d c s) (.dma (sem2 v5 b hb)) (default : HIx 2) OB)
      ⊢ iprop((iprop(InFull d c s A I v5 fi q b hb j hj ∗ owes (V d c s) OB (insert (SemLoc.dma (sem2 v5 b hb), default) W))
            -∗ wp frame (wpE defs 𝒱 (V d c s) bd) Set.univ (k ⟨⟩) Q)
        -∗ wp frame (wpE defs 𝒱 (V d c s) bd) Set.univ
            (.op (.waitDma2 (sem2 v5 b hb) (iblk I j hj) (islot A b hb) hsrc hdst) k) Q) := by
  unfold InFull InFly
  iintro ⟨⟨Hf, HIr⟩, HO, Hm⟩ Hk
  iapply (Transfers.wp_waitLocalO (c := V d c s) countersEmb 𝒱 bd (default : HIx 2) (N := (islot A b hb).view.dmaCredit) rfl) $$ [Hf HO Hm]
  · isplitl [Hf]; · iexact Hf
    isplitl [HO]; · iexact HO
    iexact Hm
  iintro ⟨⟨Hs, HIb⟩, Hv, HO⟩
  iapply Hk
  isplitr [HO]; swap; · iexact HO
  isplitl [Hs]; · iexact Hs
  isplitr [Hv]; swap; · iexact Hv
  iapply (pointsTo_split_subset (iblk_subset I j hj)).2
  isplitl [HIb]; · iexact HIb
  iexact HIr

/-- The gather of the rows that slot `b`'s row numbers name into the row buffer's slot `b'`, and its wait. -/
theorem gatherStep (b : ℕ) (hb : b < 2) (b' : ℕ) (hb' : b' < 2) (j : ℕ) (hj : j < 256) {hn hp hsrc he hsp hr hsrc' hdst'}
    {W : Waits sig (HIx 2)} {OB : CellTallies nD τ sig (HIx 2)}
    (hN : ∑ i, ((oslot O b' hb').slice (S256x128.rowRect (gathers_S8192x128_S256x128).axis' i)
      (S256x128.stride_rowRect (gathers_S8192x128_S256x128).axis' i)).view.dmaCredit = (oslot O b' hb').view.dmaCredit)
    (hin : ∀ x, (I.view.read (Elt F) fi x).toNat < 8192)
    {k : PUnit → Prog (TpuEff nD τ sig (Elt F) Λ (.scVector c s)) α} :
    iprop(InFull d c s A I v5 fi q b hb j hj ∗ OutIdle d c s O v6 b' hb' ∗ (X.view.loc (V d c s) ↦[X.view.set]{qt} ft)
        ∗ semVal (V d c s, .dma v144.sem) 0 ∗ owes (V d c s) OB W ∗ MayWait (V d c s) (.dma v144.sem) (default : HIx 2) OB)
      ⊢ iprop((iprop(InIdle d c s A I v5 fi q b hb ∗ OutFull d c s O X I v6 ft fi b' hb' j hj ∗ (X.view.loc (V d c s) ↦[X.view.set]{qt} ft)
            ∗ semVal (V d c s, .dma v144.sem) 0 ∗ owes (V d c s) OB (insert (SemLoc.dma v144.sem, default) W))
            -∗ wp frame (wpE defs 𝒱 (V d c s) bd) Set.univ (k ⟨⟩) Q)
        -∗ wp frame (wpE defs 𝒱 (V d c s) bd) Set.univ
            (SparseCore.enqueueIndirectGather hp (tabv X) (oslot O b' hb') gathers_S8192x128_S256x128 (ilist A b hb) hn v144.sem hsrc he hsp hr
              >>= fun _ => SparseCore.waitIndirectGather v144.sem (tabv X) (oslot O b' hb') hsrc' hdst' >>= k) Q) := by
  unfold InFull InIdle OutIdle OutFull
  iintro ⟨⟨⟨%f, %hf, Hs⟩, HI, Hv⟩, ⟨⟨%g, Ho⟩, Hw⟩, HX, Hg, HO, Hm⟩ Hk
  have hin' : ∀ x, ((ilist A b hb).view.read (Elt F) f x).toNat < S8192x128.size (gathers_S8192x128_S256x128).axis := by
    intro x
    have e := (ilist_read A b hb f x).trans ((congrFun hf _).trans (iblk_read I j hj fi _))
    rw [e]; exact hin _
  iapply (SparseCore.wp_indirectGatherLocal (c := V d c s) countersEmb 𝒱 bd (hg := gathers_S8192x128_S256x128) (src := tabv X)
    (dst := oslot O b' hb') (offs := ilist A b hb) (default : HIx 2) (oslot O b' hb').view.dmaCredit hN (by decide) hin') $$ [Hs Ho HX Hg]
  · isplitl [HX]; · rw [tabv_set]; iexact HX
    isplitl [Ho]; · iexact Ho
    isplitl [Hs]; · rw [ilist_set]; iexact Hs
    iexact Hg
  iintro Hf
  iapply (Transfers.wp_waitLocalO (c := V d c s) countersEmb 𝒱 bd (default : HIx 2) (N := (oslot O b' hb').view.dmaCredit) rfl) $$ [Hf HO Hm]
  · isplitl [Hf]; · iexact Hf
    isplitl [HO]; · iexact HO
    iexact Hm
  iintro ⟨⟨Ho, HX, Hs⟩, Hg, HO⟩
  iapply Hk
  isplitl [Hs HI Hv]
  · isplitl [Hs]; · iexists f; rw [ilist_set]; iexact Hs
    isplitl [HI]; · iexact HI
    iexact Hv
  isplitl [Ho Hw]
  · isplitl [Ho]
    · iexists _
      isplitr; swap; · iexact Ho
      ipureintro
      rw [View.read_write_univ]
      exact payload_eq A b hb I X j hj f fi ft hf _ _
    iexact Hw
  isplitl [HX]; · rw [tabv_set]; iexact HX
  isplitl [Hg]; · iexact Hg
  iexact HO

/-- Issuing the write-out of slot `b` to block `j` of the result. -/
theorem issueOut (b : ℕ) (hb : b < 2) (j : ℕ) (hj : j < 256) {hsrc hdst hsem} (f' : Buf (Elt F) (R.view.loc (V d c s)))
    {k : PUnit → Prog (TpuEff nD τ sig (Elt F) Λ (.scVector c s)) α} :
    iprop(OutFull d c s O X I v6 ft fi b hb j hj ∗ (R.view.loc (V d c s) ↦[(oblk R j hj).view.set]{fullShare} f'))
      ⊢ iprop((OutFly d c s O X I R v6 ft fi fo b hb j hj -∗ wp frame (wpE defs 𝒱 (V d c s) bd) Set.univ (k ⟨⟩) Q)
        -∗ wp frame (wpE defs 𝒱 (V d c s) bd) Set.univ
            (.op (.enqueueDmaAs (oslot O b hb) (.here (oblk R j hj)) .same (.dma (sem2 v6 b hb)) hsrc hdst hsem) k) Q) := by
  unfold OutFull OutFly
  iintro ⟨⟨⟨%f, %hf, Hs⟩, Hv⟩, HR⟩ Hk
  iapply (Transfers.wp_dmaLocal (c := V d c s) countersEmb 𝒱 bd (default : HIx 2) (oblk R j hj).view.dmaCredit rfl
    (View.dmaCredit_pos _ (by decide)) (Finset.Subset.refl _)) $$ [Hs HR Hv]
  · isplitl [Hs]; · iexact Hs
    isplitl [HR]; · iexact HR
    iexact Hv
  iintro Hf
  iapply Hk
  iapply (Transfers.Flight_mono countersEmb (V d c s) ?_) $$ Hf
  iintro ⟨HR, Hs⟩
  isplitl [HR]
  · have e := pointsTo_congr (Ix := HIx 2) (Name := ℕ) (U := UU) (Lvl := ℕ) (ℓ := R.view.loc (V d c s)) (q := fullShare) (oblk_write R j hj f' fo (gath (X.view.read (Elt F) ft) (I.view.read (Elt F) fi)) ((oslot O b hb).view.read (Elt F) f) hf)
    unfold gathBuf
    iapply (Entails.of_eq e) $$ HR
  iexists _; iexact Hs

/-- Waiting for it: the block of the result is the gather's, the slot is free. -/
theorem waitOut (b : ℕ) (hb : b < 2) (j : ℕ) (hj : j < 256) {hsrc hdst} {W : Waits sig (HIx 2)} {OB : CellTallies nD τ sig (HIx 2)}
    {k : PUnit → Prog (TpuEff nD τ sig (Elt F) Λ (.scVector c s)) α} :
    iprop(OutFly d c s O X I R v6 ft fi fo b hb j hj ∗ owes (V d c s) OB W ∗ MayWait (V d c s) (.dma (sem2 v6 b hb)) (default : HIx 2) OB)
      ⊢ iprop((iprop(OutIdle d c s O v6 b hb ∗ (R.view.loc (V d c s) ↦[(oblk R j hj).view.set]{fullShare} gathBuf d c s X I R ft fi fo)
              ∗ owes (V d c s) OB (insert (SemLoc.dma (sem2 v6 b hb), default) W))
            -∗ wp frame (wpE defs 𝒱 (V d c s) bd) Set.univ (k ⟨⟩) Q)
        -∗ wp frame (wpE defs 𝒱 (V d c s) bd) Set.univ
            (.op (.waitDma2 (sem2 v6 b hb) (oslot O b hb) (oblk R j hj) hsrc hdst) k) Q) := by
  unfold OutFly OutIdle
  iintro ⟨Hf, HO, Hm⟩ Hk
  iapply (Transfers.wp_waitLocalO (c := V d c s) countersEmb 𝒱 bd (default : HIx 2) (N := (oblk R j hj).view.dmaCredit) rfl) $$ [Hf HO Hm]
  · isplitl [Hf]; · iexact Hf
    isplitl [HO]; · iexact HO
    iexact Hm
  iintro ⟨⟨HR, Hs⟩, Hv, HO⟩
  iapply Hk
  isplitl [Hs Hv]
  · isplitl [Hs]; · iexact Hs
    iexact Hv
  isplitl [HR]; · iexact HR
  iexact HO

/-! The same steps with the offsets the body computes, equal to the windows'. -/

theorem issueIn' {b : ℕ} (hb : b < 2) {j : ℕ} (hj : j < 256) {o1 : Fin 3 → ℕ} {o2 : Fin 2 → ℕ} {o3 : Fin 1 → ℕ}
    (h1 : o1 = ![b, 0, 0]) (h2 : o2 = ![0, 256 * j]) (h3 : o3 = ![b]) {p1 p2 p3 hs1 hs2 hsrc hdst hsem}
    {k : PUnit → Prog (TpuEff nD τ sig (Elt F) Λ (.scVector c s)) α} :
    InIdle d c s A I v5 fi q b hb
      ⊢ iprop((InFly d c s A I v5 fi q b hb j hj -∗ wp frame (wpE defs 𝒱 (V d c s) bd) Set.univ (k ⟨⟩) Q)
        -∗ wp frame (wpE defs 𝒱 (V d c s) bd) Set.univ
            (.op (.enqueueDmaAs (I.slice (Rect.unit (s := S1x65536) o2 S1x256.size p2) hs2)
              (.here ((A.slice (Rect.unit (s := S2x1x256) o1 S1x1x256.size p1) hs1).squeeze S1x256 squeezes_S1x1x256_S1x256)) .same
              (.dma ((v5.slice (Rect.unit (s := S2) o3 S1.size p3)).squeeze S_ squeezes_S1_S_).sem) hsrc hdst hsem) k) Q) := by
  subst h1 h2 h3
  exact issueIn d c s defs 𝒱 bd A I v5 fi q b hb j hj

theorem waitIn' {b : ℕ} (hb : b < 2) {j : ℕ} (hj : j < 256) {o1 : Fin 3 → ℕ} {o2 : Fin 2 → ℕ} {o3 : Fin 1 → ℕ}
    (h1 : o1 = ![b, 0, 0]) (h2 : o2 = ![0, 256 * j]) (h3 : o3 = ![b]) {p1 p2 p3 hs1 hs2 hsrc hdst}
    {W : Waits sig (HIx 2)} {OB : CellTallies nD τ sig (HIx 2)}
    {k : PUnit → Prog (TpuEff nD τ sig (Elt F) Λ (.scVector c s)) α} :
    iprop(InFly d c s A I v5 fi q b hb j hj ∗ owes (V d c s) OB W ∗ Transfers.MayWaits (V d c s) (default : HIx 2) OB)
      ⊢ iprop((iprop(InFull d c s A I v5 fi q b hb j hj ∗ owes (V d c s) OB (insert (SemLoc.dma (sem2 v5 b hb), default) W))
            -∗ wp frame (wpE defs 𝒱 (V d c s) bd) Set.univ (k ⟨⟩) Q)
        -∗ wp frame (wpE defs 𝒱 (V d c s) bd) Set.univ
            (.op (.waitDma2 ((v5.slice (Rect.unit (s := S2) o3 S1.size p3)).squeeze S_ squeezes_S1_S_).sem
              (I.slice (Rect.unit (s := S1x65536) o2 S1x256.size p2) hs2)
              ((A.slice (Rect.unit (s := S2x1x256) o1 S1x1x256.size p1) hs1).squeeze S1x256 squeezes_S1x1x256_S1x256) hsrc hdst) k) Q) := by
  subst h1 h2 h3
  exact (sep_mono .rfl (sep_mono .rfl (Transfers.MayWaits.elim _))).trans (waitIn d c s defs 𝒱 bd A I v5 fi q b hb j hj)

theorem gatherStep' {b : ℕ} (hb : b < 2) {b' : ℕ} (hb' : b' < 2) {j : ℕ} (hj : j < 256) {o1 o2 : Fin 3 → ℕ}
    (h1 : o1 = ![b, 0, 0]) (h2 : o2 = ![b', 0, 0]) {p1 p2 p2' p3 p4 p4' hs1 hs2 hs2' hs3 hs4 hs4' hn hp hsrc he hsp hr hsrc' hdst'}
    {W : Waits sig (HIx 2)} {OB : CellTallies nD τ sig (HIx 2)}
    (hN : ∀ b' hb', ∑ i, ((oslot O b' hb').slice (S256x128.rowRect (gathers_S8192x128_S256x128).axis' i)
      (S256x128.stride_rowRect (gathers_S8192x128_S256x128).axis' i)).view.dmaCredit = (oslot O b' hb').view.dmaCredit)
    (hin : ∀ x, (I.view.read (Elt F) fi x).toNat < 8192)
    {k : PUnit → Prog (TpuEff nD τ sig (Elt F) Λ (.scVector c s)) α} :
    iprop(InFull d c s A I v5 fi q b hb j hj ∗ OutIdle d c s O v6 b' hb' ∗ (X.view.loc (V d c s) ↦[X.view.set]{qt} ft)
        ∗ semVal (V d c s, .dma v144.sem) 0 ∗ owes (V d c s) OB W ∗ Transfers.MayWaits (V d c s) (default : HIx 2) OB)
      ⊢ iprop((iprop(InIdle d c s A I v5 fi q b hb ∗ OutFull d c s O X I v6 ft fi b' hb' j hj ∗ (X.view.loc (V d c s) ↦[X.view.set]{qt} ft)
            ∗ semVal (V d c s, .dma v144.sem) 0 ∗ owes (V d c s) OB (insert (SemLoc.dma v144.sem, default) W))
            -∗ wp frame (wpE defs 𝒱 (V d c s) bd) Set.univ (k ⟨⟩) Q)
        -∗ wp frame (wpE defs 𝒱 (V d c s) bd) Set.univ
            (SparseCore.enqueueIndirectGather hp (X.slice (Rect.unit (s := S8192x128) ![0, 0] S8192x128.size p4) hs4)
              ((O.slice (Rect.unit (s := S2x256x128) o2 S1x256x128.size p2) hs2).squeeze S256x128 squeezes_S1x256x128_S256x128)
              gathers_S8192x128_S256x128
              ((((A.slice (Rect.unit (s := S2x1x256) o1 S1x1x256.size p1) hs1).squeeze S1x256 squeezes_S1x1x256_S1x256).slice
                (Rect.unit (s := S1x256) ![0, 0] S1x256.size p3) hs3).squeeze S256 squeezes_S1x256_S256) hn v144.sem hsrc he hsp hr
              >>= fun _ => SparseCore.waitIndirectGather v144.sem (X.slice (Rect.unit (s := S8192x128) ![0, 0] S8192x128.size p4') hs4')
                ((O.slice (Rect.unit (s := S2x256x128) o2 S1x256x128.size p2') hs2').squeeze S256x128 squeezes_S1x256x128_S256x128) hsrc' hdst' >>= k) Q) := by
  subst h1 h2
  exact (sep_mono .rfl (sep_mono .rfl (sep_mono .rfl (sep_mono .rfl (sep_mono .rfl (Transfers.MayWaits.elim _)))))).trans
    (gatherStep d c s defs 𝒱 bd A O X I v5 v6 v144 ft fi qt q b hb b' hb' j hj (hN b' hb') hin)

theorem issueOut' {b : ℕ} (hb : b < 2) {j : ℕ} (hj : j < 256) {o1 : Fin 3 → ℕ} {o2 : Fin 2 → ℕ} {o3 : Fin 1 → ℕ}
    (h1 : o1 = ![b, 0, 0]) (h2 : o2 = ![256 * j, 0]) (h3 : o3 = ![b]) {p1 p2 p3 hs1 hs2 hsrc hdst hsem} (f' : Buf (Elt F) (R.view.loc (V d c s)))
    {k : PUnit → Prog (TpuEff nD τ sig (Elt F) Λ (.scVector c s)) α} :
    iprop(OutFull d c s O X I v6 ft fi b hb j hj ∗ (R.view.loc (V d c s) ↦[(oblk R j hj).view.set]{fullShare} f'))
      ⊢ iprop((OutFly d c s O X I R v6 ft fi fo b hb j hj -∗ wp frame (wpE defs 𝒱 (V d c s) bd) Set.univ (k ⟨⟩) Q)
        -∗ wp frame (wpE defs 𝒱 (V d c s) bd) Set.univ
            (.op (.enqueueDmaAs ((O.slice (Rect.unit (s := S2x256x128) o1 S1x256x128.size p1) hs1).squeeze S256x128 squeezes_S1x256x128_S256x128)
              (.here (R.slice (Rect.unit (s := S65536x128) o2 S256x128.size p2) hs2)) .same
              (.dma ((v6.slice (Rect.unit (s := S2) o3 S1.size p3)).squeeze S_ squeezes_S1_S_).sem) hsrc hdst hsem) k) Q) := by
  subst h1 h2 h3
  exact issueOut d c s defs 𝒱 bd O X I R v6 ft fi fo b hb j hj f'

theorem waitOut' {b : ℕ} (hb : b < 2) {j : ℕ} (hj : j < 256) {o1 : Fin 3 → ℕ} {o2 : Fin 2 → ℕ} {o3 : Fin 1 → ℕ}
    (h1 : o1 = ![b, 0, 0]) (h2 : o2 = ![256 * j, 0]) (h3 : o3 = ![b]) {p1 p2 p3 hs1 hs2 hsrc hdst}
    {W : Waits sig (HIx 2)} {OB : CellTallies nD τ sig (HIx 2)}
    {k : PUnit → Prog (TpuEff nD τ sig (Elt F) Λ (.scVector c s)) α} :
    iprop(OutFly d c s O X I R v6 ft fi fo b hb j hj ∗ owes (V d c s) OB W ∗ Transfers.MayWaits (V d c s) (default : HIx 2) OB)
      ⊢ iprop((iprop(OutIdle d c s O v6 b hb ∗ (R.view.loc (V d c s) ↦[(oblk R j hj).view.set]{fullShare} gathBuf d c s X I R ft fi fo)
              ∗ owes (V d c s) OB (insert (SemLoc.dma (sem2 v6 b hb), default) W))
            -∗ wp frame (wpE defs 𝒱 (V d c s) bd) Set.univ (k ⟨⟩) Q)
        -∗ wp frame (wpE defs 𝒱 (V d c s) bd) Set.univ
            (.op (.waitDma2 ((v6.slice (Rect.unit (s := S2) o3 S1.size p3)).squeeze S_ squeezes_S1_S_).sem
              ((O.slice (Rect.unit (s := S2x256x128) o1 S1x256x128.size p1) hs1).squeeze S256x128 squeezes_S1x256x128_S256x128)
              (R.slice (Rect.unit (s := S65536x128) o2 S256x128.size p2) hs2) hsrc hdst) k) Q) := by
  subst h1 h2 h3
  exact (sep_mono .rfl (sep_mono .rfl (Transfers.MayWaits.elim _))).trans (waitOut d c s defs 𝒱 bd O X I R v6 ft fi fo b hb j hj)

/-- A guarded step: whichever way the guard falls, what runs next finds `B`. -/
theorem wp_maybe {β : Type} {P : Prop} [Decidable P] {f : P → Prog (TpuEff nD τ sig (Elt F) Λ (.scVector c s)) β}
    {g : ¬P → Prog (TpuEff nD τ sig (Elt F) Λ (.scVector c s)) β} {K : β → Prog (TpuEff nD τ sig (Elt F) Λ (.scVector c s)) α} {B C : sProp (MT nD τ sig (HIx 2) (Elt F) ℕ UU ℕ)}
    (r : β) (hg : ∀ h, g h = pure r)
    (hf : ∀ h : P, B ⊢ iprop((C -∗ wp frame (wpE defs 𝒱 (V d c s) bd) Set.univ (K r) Q) -∗ wp frame (wpE defs 𝒱 (V d c s) bd) Set.univ (f h >>= K) Q))
    (hn : ¬P → B ⊢ C) :
    B ⊢ iprop((C -∗ wp frame (wpE defs 𝒱 (V d c s) bd) Set.univ (K r) Q) -∗ wp frame (wpE defs 𝒱 (V d c s) bd) Set.univ (dite P f g >>= K) Q) := by
  by_cases h : P
  · rw [dif_pos h]; exact hf h
  · rw [dif_neg h, hg, pure_bind]
    iintro HB HK
    iapply HK
    iapply (hn h) $$ HB

/-- A finished step hands its result on. -/
theorem wp_step {β : Type} (u : β) (f : β → Prog (TpuEff nD τ sig (Elt F) Λ (.scVector c s)) α) :
    wp frame (wpE defs 𝒱 (V d c s) bd) Set.univ (f u) Q ⊢ wp frame (wpE defs 𝒱 (V d c s) bd) Set.univ ((Prog.ret u).bind f) Q := .rfl

/-- The same at the end of a program. -/
theorem wp_maybe_ret {P : Prop} [Decidable P] {f : P → Prog (TpuEff nD τ sig (Elt F) Λ (.scVector c s)) α}
    {g : ¬P → Prog (TpuEff nD τ sig (Elt F) Λ (.scVector c s)) α} {B C : sProp (MT nD τ sig (HIx 2) (Elt F) ℕ UU ℕ)}
    (r : α) (hg : ∀ h, g h = pure r)
    (hf : ∀ h : P, B ⊢ iprop((C -∗ wp frame (wpE defs 𝒱 (V d c s) bd) Set.univ (pure r) Q) -∗ wp frame (wpE defs 𝒱 (V d c s) bd) Set.univ (f h) Q))
    (hn : ¬P → B ⊢ C) :
    B ⊢ iprop((C -∗ wp frame (wpE defs 𝒱 (V d c s) bd) Set.univ (pure r) Q) -∗ wp frame (wpE defs 𝒱 (V d c s) bd) Set.univ (dite P f g) Q) := by
  by_cases h : P
  · rw [dif_pos h]; exact hf h
  · rw [dif_neg h, hg]
    iintro HB HK
    iapply HK
    iapply (hn h) $$ HB

theorem InIdle_congr {b b' : ℕ} (h : b = b') (hb hb') (q : ℕ → PosShare TreeShare) :
    (InIdle d c s A I v5 fi (q b) b hb : sProp 𝕄) = InIdle d c s A I v5 fi (q b') b' hb' := by subst h; rfl
theorem OutIdle_congr {b b' : ℕ} (h : b = b') (hb hb') : (OutIdle (F := F) d c s O v6 b hb : sProp 𝕄) = OutIdle d c s O v6 b' hb' := by subst h; rfl

end Steps

end Cert.Kernel.Gather
-- ==== Proof.Kernel.Trip.lean ====
/-
  One trip of the gather kernel's loop, and its invariant: before trip `t` the fetch of the tile's block `t` is under
  way and the other index slot is at rest, the write-out of block `t − 1` is under way and the other row slot is at
  rest, the blocks before that are written, the blocks from `t` on are not.
-/
module

public import proofs.«01_k».proof.Proof.Kernel.Copies

@[expose] public section

noncomputable section

namespace Cert.Kernel.Gather

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

theorem par_lt (t : ℕ) : t % 2 < 2 := Nat.mod_lt _ (by decide)

/-- The result's rows from `a` up to `b`. -/
def rowsIn (a b : ℕ) : Finset S65536x128.Idx := Finset.univ.filter fun x => a ≤ (x 0).val ∧ (x 0).val < b

theorem oblk_set (R : Memref sig .scVector .hbm S65536x128 .f32) (j : ℕ) (hj : j < 256) :
    (oblk R j hj).view.set = R.view.setOn (rowsIn (256 * j) (256 * (j + 1))) := by
  show (R.view.slice _).set = _
  rw [View.set_slice]
  refine congrArg (fun M => Finset.map R.view.emb M) ?_
  ext x
  rw [Rect.mem_set_unit]
  simp only [rowsIn, Finset.mem_filter, Finset.mem_univ, true_and]
  have h1 : (x 1).val < 128 := (x 1).isLt
  constructor
  · intro h; have := h 0; simp at this; omega
  · intro h a; fin_cases a
    · simp; omega
    · simpa using h1

theorem rowsIn_union {a b c : ℕ} (h : a ≤ b) (h' : b ≤ c) : rowsIn a c = rowsIn a b ∪ rowsIn b c := by
  ext x; simp only [rowsIn, Finset.mem_union, Finset.mem_filter, Finset.mem_univ, true_and]; omega

theorem rowsIn_disj (a b c : ℕ) : Disjoint (rowsIn a b) (rowsIn b c) := by
  rw [Finset.disjoint_left]; intro x hx hx'
  simp only [rowsIn, Finset.mem_filter, Finset.mem_univ, true_and] at hx hx'; omega

section
variable (d : Dev nD) (c : Fin τ.nSC) (s : Fin τ.nSub) (R : Memref sig .scVector .hbm S65536x128 .f32)

/-- A run of rows held is its first part and its second. -/
theorem rows_split {a b e : ℕ} (h : a ≤ b) (h' : b ≤ e) (f : Buf (Elt F) (R.view.loc (V d c s))) :
    (R.view.loc (V d c s) ↦[R.view.setOn (rowsIn a e)]{fullShare} f : sProp 𝕄)
      ⊣⊢ iprop((R.view.loc (V d c s) ↦[R.view.setOn (rowsIn a b)]{fullShare} f) ∗ (R.view.loc (V d c s) ↦[R.view.setOn (rowsIn b e)]{fullShare} f)) := by
  have e1 : R.view.setOn (rowsIn a e) = R.view.setOn (rowsIn a b) ∪ R.view.setOn (rowsIn b e) := by
    rw [rowsIn_union h h']; exact Finset.map_union _ _
  rw [e1]
  exact pointsTo_union ((Finset.disjoint_map _).2 (rowsIn_disj a b e))

end

/-! ## The carried words of the next trip -/

/-- The first of the tile's blocks, as the body computes it. -/
abbrev v4w (i : grid1.Coords) : BitVec 32 :=
  Scalar.muli (Scalar.addi (Scalar.addi 0#32 (Scalar.muli (BitVec.ofNat 32 (i 1).val) 1#32)) (Scalar.muli (BitVec.ofNat 32 (i 0).val) 16#32)) 8#32

abbrev ivw (t : Fin k1_t1_loop.trips) : BitVec 32 := Scf.iv 0#32 1#32 t
abbrev posw (i : grid1.Coords) (t : ℕ) : BitVec 32 := Scalar.addi (w10 t) (v4w i)
abbrev nextPos (t : ℕ) : BitVec 32 :=
  Scalar.select (Scalar.cmpi .eq (Scalar.select 1#1 (Scalar.addi (w10 t) 1#32) (w10 t)) 8#32) 0#32 (Scalar.select 1#1 (Scalar.addi (w10 t) 1#32) (w10 t))
abbrev prevPos (t : ℕ) : BitVec 32 :=
  Scalar.select (Scalar.cmpi .eq (Scalar.select 1#1 (Scalar.subi (w10 t) 1#32) (w10 t)) 4294967295#32) 7#32 (Scalar.select 1#1 (Scalar.subi (w10 t) 1#32) (w10 t))

theorem next6 : ∀ (i : grid1.Coords) (t : Fin k1_t1_loop.trips),
    Scalar.select (Scalar.andi (Scalar.andi (Scalar.cmpi .ne (posw i t) (Scalar.addi (nextPos t) (v4w i))) (Scalar.xori (Scalar.cmpi .sge (ivw t) 7#32) 1#1)) 1#1)
      (Scalar.addi (w6 t) 1#32) (w6 t) = w6 (t.val + 1) := by decide +kernel
theorem next7 : ∀ (i : grid1.Coords) (t : Fin k1_t1_loop.trips),
    Scalar.select (Scalar.ori (Scalar.cmpi .ne (posw i t) (Scalar.addi (nextPos t) (v4w i))) (Scalar.cmpi .eq (ivw t) 7#32))
      (Scalar.addi (w7 t) 1#32) (w7 t) = w7 (t.val + 1) := by decide +kernel
theorem next8 : ∀ (i : grid1.Coords) (t : Fin k1_t1_loop.trips),
    Scalar.select (Scalar.andi (Scalar.ori (Scalar.cmpi .ne (posw i t) (Scalar.addi (nextPos t) (v4w i))) (Scalar.cmpi .eq (ivw t) 7#32)) 1#1)
      (Scalar.addi (w7 t) 1#32) (w7 t) = w7 (t.val + 1) := by decide +kernel
theorem next9 : ∀ (i : grid1.Coords) (t : Fin k1_t1_loop.trips),
    Scalar.select (Scalar.andi (Scalar.andi (Scalar.cmpi .ne (posw i t) (Scalar.addi (prevPos t) (v4w i))) (Scalar.xori (Scalar.cmpi .eq (ivw t) 0#32) 1#1)) 1#1)
      (Scalar.addi (w9 t) 1#32) (w9 t) = w9 (t.val + 1) := by decide +kernel
theorem next10 : ∀ (t : Fin k1_t1_loop.trips), nextPos t = w10 (t.val + 1) := by decide +kernel

section Trip

variable [FloatOps F] (d : Dev nD) (i : grid1.Coords)

/-- The tile the coordinates name. -/
abbrev cT (i : grid1.Coords) : Fin τ.nSC := (i 0).castLE hcore1
abbrev sT (i : grid1.Coords) : Fin τ.nSub := (i 1).castLE hsub1
abbrev thr : Thread nD τ := V d (cT i) (sT i)

variable (X : Memref sig .scVector .hbm S8192x128 .f32) (hX : X.IsWhole) (I : Memref sig .scVector .hbm S1x65536 .i32) (hI : I.IsWhole)
  (R : Memref sig .scVector .hbm S65536x128 .f32) (hR : R.IsWhole)
  (A : Memref sig .scVector .vmem S2x1x256 .i32) (hA : A.IsWhole) (v5 : DmaSems sig S2)
  (O : Memref sig .scVector .vmem S2x256x128 .f32) (hO : O.IsWhole) (v6 : DmaSems sig S2) (v144 : DmaSems sig S_)
  (ft : Buf (Elt F) (X.view.loc (thr d i))) (fi : Buf (Elt F) (I.view.loc (thr d i))) (fo : Buf (Elt F) (R.view.loc (thr d i)))
  (qt : PosShare TreeShare) (q : ℕ → PosShare TreeShare)

/-- The index side before trip `t`. -/
def InSide (t : ℕ) : sProp 𝕄 :=
  iprop((if h : t < 8 then InFly d (cT i) (sT i) A I v5 fi (q (t % 2)) (t % 2) (par_lt t) (blk i + t) (by have := blk_le i; omega)
      else InIdle d (cT i) (sT i) A I v5 fi (q (t % 2)) (t % 2) (par_lt t))
    ∗ InIdle d (cT i) (sT i) A I v5 fi (q ((t + 1) % 2)) ((t + 1) % 2) (par_lt _))

/-- The row side before trip `t`. -/
def OutSide (t : ℕ) : sProp 𝕄 :=
  iprop(OutIdle d (cT i) (sT i) O v6 (t % 2) (par_lt t)
    ∗ (if h : 0 < t ∧ t ≤ 8 then OutFly d (cT i) (sT i) O X I R v6 ft fi fo ((t - 1) % 2) (par_lt _) (blk i + (t - 1)) (by have := blk_le i; omega)
      else OutIdle d (cT i) (sT i) O v6 ((t + 1) % 2) (par_lt _)))

/-- The result's rows before trip `t`: those of the blocks written back hold the gather, those to come are as they were. -/
def Rows (t : ℕ) : sProp 𝕄 :=
  iprop((R.view.loc (thr d i) ↦[R.view.setOn (rowsIn (256 * blk i) (256 * (blk i + (t - 1))))]{fullShare} gathBuf d (cT i) (sT i) X I R ft fi fo)
    ∗ (R.view.loc (thr d i) ↦[R.view.setOn (rowsIn (256 * (blk i + t)) (256 * (blk i + 8)))]{fullShare} fo))

variable (OB : CellTallies nD τ sig (HIx 2)) (W : Waits sig (HIx 2))

/-- The loop's invariant. -/
def Inv (t : ℕ) (acc : BitVec 32 × BitVec 32 × BitVec 32 × BitVec 32 × BitVec 32) : sProp 𝕄 :=
  iprop(⌜acc = (w6 t, w7 t, w7 t, w9 t, w10 t)⌝ ∗ InSide d i I A v5 fi q t ∗ OutSide d i X I R O v6 ft fi fo t ∗ Rows d i X I R ft fi fo t
    ∗ (X.view.loc (thr d i) ↦[X.view.set]{qt} ft) ∗ semVal (thr d i, .dma v144.sem) 0
    ∗ ∃ W', ⌜∀ p ∈ W', p ∈ W ∨ p.2 = none⌝ ∗ owes (thr d i) OB W')

variable (defs : Defs nD τ sig (Elt F) Λ₀) (𝒱 : Variants) (bd : Option 𝒱.V)

/-- The gather's credit is the slot's: each of its 256 rows credits its share. -/
theorem credit_eq (b : ℕ) (hb : b < 2) :
    ∑ j, ((oslot O b hb).slice (S256x128.rowRect (gathers_S8192x128_S256x128).axis' j)
      (S256x128.stride_rowRect (gathers_S8192x128_S256x128).axis' j)).view.dmaCredit = (oslot O b hb).view.dmaCredit :=
  SparseCore.sum_rowCredit_eq_dmaCredit _ _ fun _ => rfl

/-- The carried words of the next trip, together. -/
theorem words_next (i : grid1.Coords) (t : Fin k1_t1_loop.trips) :
    (Scalar.select (Scalar.andi (Scalar.andi (Scalar.cmpi .ne (posw i t) (Scalar.addi (nextPos t) (v4w i))) (Scalar.xori (Scalar.cmpi .sge (ivw t) 7#32) 1#1)) 1#1)
        (Scalar.addi (w6 t) 1#32) (w6 t),
      Scalar.select (Scalar.ori (Scalar.cmpi .ne (posw i t) (Scalar.addi (nextPos t) (v4w i))) (Scalar.cmpi .eq (ivw t) 7#32))
        (Scalar.addi (w7 t) 1#32) (w7 t),
      Scalar.select (Scalar.andi (Scalar.ori (Scalar.cmpi .ne (posw i t) (Scalar.addi (nextPos t) (v4w i))) (Scalar.cmpi .eq (ivw t) 7#32)) 1#1)
        (Scalar.addi (w7 t) 1#32) (w7 t),
      Scalar.select (Scalar.andi (Scalar.andi (Scalar.cmpi .ne (posw i t) (Scalar.addi (prevPos t) (v4w i))) (Scalar.xori (Scalar.cmpi .eq (ivw t) 0#32) 1#1)) 1#1)
        (Scalar.addi (w9 t) 1#32) (w9 t),
      nextPos t) = (w6 (t.val + 1), w7 (t.val + 1), w7 (t.val + 1), w9 (t.val + 1), w10 (t.val + 1)) := by
  rw [next6, next7, next8, next9, next10]

set_option maxHeartbeats 1600000 in
/-- One trip keeps the invariant. -/
theorem trip (t : Fin k1_t1_loop.trips) (hin : ∀ x, (I.view.read (Elt F) fi x).toNat < 8192) :
    iprop(Transfers.MayWaits (thr d i) (default : HIx 2) OB ∗ Inv d i X I R A v5 O v6 v144 ft fi fo qt q OB W t.val (w6 t, w7 t, w7 t, w9 t, w10 t))
      ⊢ wp frame (wpE defs 𝒱 (thr d i) bd) Set.univ
        (k1_t1_body (F := F) i X hX I hI R hR A hA v5 O hO v6 v144 (v4w i) t (w6 t, w7 t, w7 t, w9 t, w10 t))
        (Inv d i X I R A v5 O v6 v144 ft fi fo qt q OB W (t.val + 1)) := by
  have ht : t.val < 8 := trips_eq ▸ t.isLt
  have hb := blk_le i
  iintro ⟨#Hmw, Hinv⟩
  simp only [k1_t1_body, k1_part1_eq_skeleton, k1_part2_eq_skeleton, k1_part1_skel, k1_part2_skel, ite_self, cond2_true, cond5_true, dite_true,
    bind_assoc, pure_bind]
  unfold Inv InSide OutSide Rows
  rw [dif_pos ht]
  icases Hinv with ⟨-, ⟨Hin, Hidle⟩, ⟨Hfree, Hprev⟩, ⟨Hdone, Htodo⟩, HX, Hg, %W', %hW, HO⟩
  iapply (wp_assume _ _ _ _ (chk3_at t))
  iapply (wp_assume _ _ _ _ (chk2_at t))
  iapply (wp_assume _ _ _ _ (chk1_at i t))
  -- the next block's fetch
  iapply (wp_maybe d (cT i) (sT i) defs 𝒱 bd (C := iprop(if h : t.val + 1 < 8 then InFly d (cT i) (sT i) A I v5 fi (q ((t.val + 1) % 2)) ((t.val + 1) % 2) (par_lt _) (blk i + (t.val + 1)) (by have := blk_le i; omega)
      else InIdle d (cT i) (sT i) A I v5 fi (q ((t.val + 1) % 2)) ((t.val + 1) % 2) (par_lt _))) _ (fun _ => rfl) ?_ ?_) $$ Hidle
  · intro h
    have ht7 := (cond1_iff i t).1 h
    rw [dif_pos (show t.val + 1 < 8 by omega)]
    iintro H HK
    iapply (issueIn' d (cT i) (sT i) defs 𝒱 bd A I v5 fi _ _ _ (off4_at t ht7) (off5_at i t ht7) (off6_at t ht7)) $$ H
    iintro H
    iapply HK $$ H
  · intro h
    have ht7 : ¬ t.val < 7 := fun h' => h ((cond1_iff i t).2 h')
    rw [dif_neg (show ¬ t.val + 1 < 8 by omega)]
  iintro Hnext
  -- this block's row numbers, and the rows they name
  iapply (waitIn' d (cT i) (sT i) defs 𝒱 bd A I v5 fi _ (par_lt _) _ (off7_at t) (off8_at i t) (off9_at t)) $$ [Hin HO]
  · isplitl [Hin]; · iexact Hin
    isplitl [HO]; · iexact HO
    iexact Hmw
  iintro ⟨Hfull, HO⟩
  iapply wp_step
  iapply (gatherStep' d (cT i) (sT i) defs 𝒱 bd A O X I v5 v6 v144 ft fi qt _ (par_lt _) (par_lt _) _ (off11_at t) (off10_at t) (credit_eq O) hin) $$ [Hfull Hfree HX Hg HO]
  · isplitl [Hfull]; · iexact Hfull
    isplitl [Hfree]; · iexact Hfree
    isplitl [HX]; · iexact HX
    isplitl [Hg]; · iexact Hg
    isplitl [HO]; · iexact HO
    iexact Hmw
  iintro ⟨Hidle, Hof, HX, Hg, HO⟩
  -- their write-out
  ihave Htodo := (rows_split d (cT i) (sT i) R (a := 256 * (blk i + t.val)) (b := 256 * (blk i + (t.val + 1))) (e := 256 * (blk i + 8))
    (by omega) (by omega) fo).1 $$ Htodo
  icases Htodo with ⟨Hblk, Htodo⟩
  iapply (issueOut' d (cT i) (sT i) defs 𝒱 bd O X I R v6 ft fi fo (par_lt _) (show blk i + t.val < 256 by omega) (off12_at t) (off13_at i t) (off14_at t) fo) $$ [Hof Hblk]
  · isplitl [Hof]; · iexact Hof
    rw [oblk_set]; iexact Hblk
  iintro Hfly
  -- the write-out before it
  iapply (wp_maybe_ret d (cT i) (sT i) defs 𝒱 bd
    (B := iprop((R.view.loc (thr d i) ↦[R.view.setOn (rowsIn (256 * blk i) (256 * (blk i + (t.val - 1))))]{fullShare} gathBuf d (cT i) (sT i) X I R ft fi fo)
      ∗ (if h : 0 < t.val ∧ t.val ≤ 8 then OutFly d (cT i) (sT i) O X I R v6 ft fi fo ((t.val - 1) % 2) (par_lt _) (blk i + (t.val - 1)) (by have := blk_le i; omega)
        else OutIdle d (cT i) (sT i) O v6 ((t.val + 1) % 2) (par_lt _))
      ∗ Transfers.MayWaits (thr d i) (default : HIx 2) OB
      ∗ ∃ W', ⌜∀ p ∈ W', p ∈ W ∨ p.2 = none⌝ ∗ owes (thr d i) OB W'))
    (C := iprop((R.view.loc (thr d i) ↦[R.view.setOn (rowsIn (256 * blk i) (256 * (blk i + (t.val + 1 - 1))))]{fullShare} gathBuf d (cT i) (sT i) X I R ft fi fo)
      ∗ OutIdle d (cT i) (sT i) O v6 ((t.val + 1) % 2) (par_lt _) ∗ ∃ W', ⌜∀ p ∈ W', p ∈ W ∨ p.2 = none⌝ ∗ owes (thr d i) OB W')) _ (fun _ => rfl) ?_ ?_) $$ [Hdone Hprev HO]
  · intro h
    have h0 := (cond7_iff i t).1 h
    rw [dif_pos (show 0 < t.val ∧ t.val ≤ 8 by omega)]
    iintro ⟨Hdone, Hprev, #Hmw, %W1, %hW1, HO⟩ HK
    iapply (waitOut' d (cT i) (sT i) defs 𝒱 bd O X I R v6 ft fi fo (par_lt _) (show blk i + (t.val - 1) < 256 by omega) (off15_at t h0) (off16_at i t h0) (off17_at t h0)) $$ [Hprev HO]
    · isplitl [Hprev]; · iexact Hprev
      isplitl [HO]; · iexact HO
      iexact Hmw
    iintro ⟨Hfree, Hblk, HO⟩
    iapply HK
    isplitl [Hdone Hblk]
    · iapply (rows_split d (cT i) (sT i) R (a := 256 * blk i) (b := 256 * (blk i + (t.val - 1))) (by omega) (by omega) _).2
      isplitl [Hdone]; · iexact Hdone
      rw [oblk_set, show blk i + (t.val - 1) + 1 = blk i + (t.val + 1 - 1) by omega]
      iexact Hblk
    isplitl [Hfree]
    · rw [OutIdle_congr d (cT i) (sT i) O v6 (show (t.val + 1) % 2 = (t.val - 1) % 2 by omega) (par_lt _) (par_lt _)]
      iexact Hfree
    iexists _
    isplitr; on_goal 2 => iexact HO
    · ipureintro
      intro p hp
      rcases Finset.mem_insert.1 hp with rfl | hp
      · exact .inr rfl
      · exact hW1 p hp
  · intro h
    have h0 : t.val = 0 := by have := mt (cond7_iff i t).2 h; omega
    rw [dif_neg (show ¬(0 < t.val ∧ t.val ≤ 8) by omega), show t.val + 1 - 1 = t.val - 1 by omega]
    iintro ⟨Hdone, Hprev, -, HO⟩
    isplitl [Hdone]; · iexact Hdone
    isplitl [Hprev]; · iexact Hprev
    iexact HO
  · isplitl [Hdone]; · iexact Hdone
    isplitl [Hprev]; · iexact Hprev
    isplitr; · iexact Hmw
    iexists _
    isplitr; on_goal 2 => iexact HO
    · ipureintro
      intro p hp
      rcases Finset.mem_insert.1 hp with rfl | hp
      · exact .inr rfl
      rcases Finset.mem_insert.1 hp with rfl | hp
      · exact .inr rfl
      exact hW p hp
  iintro ⟨Hdone, Hfree, HO⟩
  rw [wp_pure]
  imodintro
  isplitr; · ipureintro; exact words_next i t
  isplitl [Hnext Hidle]
  · isplitl [Hnext]; · iexact Hnext
    rw [InIdle_congr d (cT i) (sT i) A I v5 fi (show (t.val + 1 + 1) % 2 = t.val % 2 by omega) (par_lt _) (par_lt _) q]
    iexact Hidle
  isplitl [Hfree Hfly]
  · isplitl [Hfree]; · iexact Hfree
    rw [dif_pos (show 0 < t.val + 1 ∧ t.val + 1 ≤ 8 by omega)]
    iexact Hfly
  isplitl [Hdone Htodo]
  · isplitl [Hdone]; · iexact Hdone
    iexact Htodo
  isplitl [HX]; · iexact HX
  isplitl [Hg]; · iexact Hg
  iexact HO

end Trip

end Cert.Kernel.Gather
-- ==== Proof.Kernel.Body.lean ====
/-
  The gather kernel's body on one tile: the tile's eight blocks of the result come to hold the gathered rows, and
  the scratch, the semaphores and the shares of the operands come back.
-/
module

public import proofs.«01_k».proof.Proof.Kernel.Trip

@[expose] public section

noncomputable section

namespace Cert.Kernel.Gather

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

theorem off1_at : k1_off1 = ![0, 0, 0] := by decide +kernel
theorem off3_at : k1_off3 = ![0] := by decide +kernel

/-! ## Two slots are the buffer -/

/-- The elements of slot `b`. -/
def islotOf (b : ℕ) : Finset S2x1x256.Idx := Finset.univ.filter fun x => (x 0).val = b

theorem islot_set (A : Memref sig .scVector .vmem S2x1x256 .i32) (b : ℕ) (hb : b < 2) :
    (islot A b hb).view.set = A.view.setOn (islotOf b) := by
  show ((A.view.slice _).reshape _ _).set = _
  rw [View.set_reshape, View.set_slice]
  refine congrArg (fun M => Finset.map A.view.emb M) ?_
  ext x
  rw [Rect.mem_set_unit]
  simp only [islotOf, Finset.mem_filter, Finset.mem_univ, _root_.true_and]
  have h1 : (x 1).val < 1 := (x 1).isLt
  have h2 : (x 2).val < 256 := (x 2).isLt
  constructor
  · intro h; have := h 0; simp at this; omega
  · intro h a; fin_cases a
    · simp; omega
    · exact ⟨Nat.zero_le _, show (x 1).val < 0 + 1 by omega⟩
    · exact ⟨Nat.zero_le _, show (x 2).val < 0 + 256 by omega⟩

theorem islot_cover (A : Memref sig .scVector .vmem S2x1x256 .i32) : A.view.set = A.view.setOn (islotOf 0) ∪ A.view.setOn (islotOf 1) := by
  refine Eq.trans ?_ (Finset.map_union _ _)
  refine congrArg (fun M => Finset.map A.view.emb M) ?_
  ext x
  have h0 : (x 0).val < 2 := (x 0).isLt
  simp only [islotOf, Finset.mem_union, Finset.mem_filter, Finset.mem_univ, _root_.true_and, true_iff]; omega

theorem islot_disj (A : Memref sig .scVector .vmem S2x1x256 .i32) : Disjoint (A.view.setOn (islotOf 0)) (A.view.setOn (islotOf 1)) := by
  refine (Finset.disjoint_map _).2 (Finset.disjoint_left.2 fun x hx hx' => ?_)
  simp only [islotOf, Finset.mem_filter, Finset.mem_univ, _root_.true_and] at hx hx'; omega

/-- The elements of slot `b`. -/
def oslotOf (b : ℕ) : Finset S2x256x128.Idx := Finset.univ.filter fun x => (x 0).val = b

theorem oslot_set (O : Memref sig .scVector .vmem S2x256x128 .f32) (b : ℕ) (hb : b < 2) :
    (oslot O b hb).view.set = O.view.setOn (oslotOf b) := by
  show ((O.view.slice _).reshape _ _).set = _
  rw [View.set_reshape, View.set_slice]
  refine congrArg (fun M => Finset.map O.view.emb M) ?_
  ext x
  rw [Rect.mem_set_unit]
  simp only [oslotOf, Finset.mem_filter, Finset.mem_univ, _root_.true_and]
  have h1 : (x 1).val < 256 := (x 1).isLt
  have h2 : (x 2).val < 128 := (x 2).isLt
  constructor
  · intro h; have := h 0; simp at this; omega
  · intro h a; fin_cases a
    · simp; omega
    · exact ⟨Nat.zero_le _, show (x 1).val < 0 + 256 by omega⟩
    · exact ⟨Nat.zero_le _, show (x 2).val < 0 + 128 by omega⟩

theorem oslot_cover (O : Memref sig .scVector .vmem S2x256x128 .f32) : O.view.set = O.view.setOn (oslotOf 0) ∪ O.view.setOn (oslotOf 1) := by
  refine Eq.trans ?_ (Finset.map_union _ _)
  refine congrArg (fun M => Finset.map O.view.emb M) ?_
  ext x
  have h0 : (x 0).val < 2 := (x 0).isLt
  simp only [oslotOf, Finset.mem_union, Finset.mem_filter, Finset.mem_univ, _root_.true_and, true_iff]; omega

theorem oslot_disj (O : Memref sig .scVector .vmem S2x256x128 .f32) : Disjoint (O.view.setOn (oslotOf 0)) (O.view.setOn (oslotOf 1)) := by
  refine (Finset.disjoint_map _).2 (Finset.disjoint_left.2 fun x hx hx' => ?_)
  simp only [oslotOf, Finset.mem_filter, Finset.mem_univ, _root_.true_and] at hx hx'; omega

section Body

variable [FloatOps F] (d : Dev nD) (i : grid1.Coords)
variable (X : Memref sig .scVector .hbm S8192x128 .f32) (hX : X.IsWhole) (I : Memref sig .scVector .hbm S1x65536 .i32) (hI : I.IsWhole)
  (R : Memref sig .scVector .hbm S65536x128 .f32) (hR : R.IsWhole)
  (A : Memref sig .scVector .vmem S2x1x256 .i32) (hA : A.IsWhole) (v5 : DmaSems sig S2)
  (O : Memref sig .scVector .vmem S2x256x128 .f32) (hO : O.IsWhole) (v6 : DmaSems sig S2) (v144 : DmaSems sig S_)
  (ft : Buf (Elt F) (X.view.loc (thr d i))) (fi : Buf (Elt F) (I.view.loc (thr d i))) (fo : Buf (Elt F) (R.view.loc (thr d i)))
  (qt qi : PosShare TreeShare)

/-- The tile's scratch and semaphores at rest. -/
def Rest : sProp 𝕄 :=
  iprop((∃ f, A.view.loc (thr d i) ↦[A.view.set]{fullShare} f) ∗ (∃ f, O.view.loc (thr d i) ↦[O.view.set]{fullShare} f)
    ∗ semVal (thr d i, .dma (sem2 v5 0 (by decide))) 0 ∗ semVal (thr d i, .dma (sem2 v5 1 (by decide))) 0
    ∗ semVal (thr d i, .dma (sem2 v6 0 (by decide))) 0 ∗ semVal (thr d i, .dma (sem2 v6 1 (by decide))) 0
    ∗ semVal (thr d i, .dma v144.sem) 0)

/-- The share of the row numbers that slot `b`'s fetches read through. -/
def halfOf (qi : PosShare TreeShare) : ℕ → PosShare TreeShare
  | 0 => qi.left
  | _ => qi.right

/-- The tile's eight blocks of the result. -/
abbrev myRows (f : Buf (Elt F) (R.view.loc (thr d i))) : sProp 𝕄 :=
  R.view.loc (thr d i) ↦[R.view.setOn (rowsIn (256 * blk i) (256 * (blk i + 8)))]{fullShare} f

variable (OB : CellTallies nD τ sig (HIx 2)) (W : Waits sig (HIx 2)) (defs : Defs nD τ sig (Elt F) Λ₀) (𝒱 : Variants) (bd : Option 𝒱.V)

theorem rest_open : iprop(Rest d i A v5 O v6 v144 ∗ (I.view.loc (thr d i) ↦[I.view.set]{qi} fi))
    ⊢ iprop(InIdle d (cT i) (sT i) A I v5 fi (halfOf qi 0) 0 (by decide) ∗ InIdle d (cT i) (sT i) A I v5 fi (halfOf qi 1) 1 (by decide)
      ∗ OutIdle (F := F) d (cT i) (sT i) O v6 0 (by decide) ∗ OutIdle d (cT i) (sT i) O v6 1 (by decide) ∗ semVal (thr d i, .dma v144.sem) 0) := by
  unfold Rest InIdle OutIdle
  rw [islot_set, islot_set, oslot_set, oslot_set, islot_cover, oslot_cover]
  iintro ⟨⟨⟨%fA, HA⟩, ⟨%fO, HO⟩, H1, H2, H3, H4, H5⟩, HI⟩
  ihave HA := (pointsTo_union (islot_disj A)).1 $$ HA
  ihave HO := (pointsTo_union (oslot_disj O)).1 $$ HO
  ihave HI := (pointsTo_share (PosShare.mem_left_op_right qi)).1 $$ HI
  icases HA with ⟨HA0, HA1⟩
  icases HO with ⟨HO0, HO1⟩
  icases HI with ⟨HI0, HI1⟩
  isplitl [HA0 HI0 H1]
  · isplitl [HA0]; · iexists fA; iexact HA0
    isplitl [HI0]; · iexact HI0
    iexact H1
  isplitl [HA1 HI1 H2]
  · isplitl [HA1]; · iexists fA; iexact HA1
    isplitl [HI1]; · iexact HI1
    iexact H2
  isplitl [HO0 H3]
  · isplitl [HO0]; · iexists fO; iexact HO0
    iexact H3
  isplitl [HO1 H4]
  · isplitl [HO1]; · iexists fO; iexact HO1
    iexact H4
  iexact H5

theorem rest_close : iprop(InIdle d (cT i) (sT i) A I v5 fi (halfOf qi 0) 0 (by decide) ∗ InIdle d (cT i) (sT i) A I v5 fi (halfOf qi 1) 1 (by decide)
      ∗ OutIdle (F := F) d (cT i) (sT i) O v6 0 (by decide) ∗ OutIdle d (cT i) (sT i) O v6 1 (by decide) ∗ semVal (thr d i, .dma v144.sem) 0)
    ⊢ iprop(Rest d i A v5 O v6 v144 ∗ (I.view.loc (thr d i) ↦[I.view.set]{qi} fi)) := by
  unfold Rest InIdle OutIdle
  rw [islot_set, islot_set, oslot_set, oslot_set, islot_cover, oslot_cover]
  iintro ⟨⟨⟨%f0, HA0⟩, HI0, H1⟩, ⟨⟨%f1, HA1⟩, HI1, H2⟩, ⟨⟨%g0, HO0⟩, H3⟩, ⟨⟨%g1, HO1⟩, H4⟩, H5⟩
  isplitr [HI0 HI1]
  · isplitl [HA0 HA1]
    · iexists _
      iapply (pointsTo_join (islot_disj A))
      isplitl [HA0]; · iexact HA0
      iexact HA1
    isplitl [HO0 HO1]
    · iexists _
      iapply (pointsTo_join (oslot_disj O))
      isplitl [HO0]; · iexact HO0
      iexact HO1
    isplitl [H1]; · iexact H1
    isplitl [H2]; · iexact H2
    isplitl [H3]; · iexact H3
    isplitl [H4]; · iexact H4
    iexact H5
  · iapply (pointsTo_share (PosShare.mem_left_op_right qi)).2
    isplitl [HI0]; · iexact HI0
    iexact HI1

theorem inv_words (q : ℕ → PosShare TreeShare) (t : ℕ) (acc : BitVec 32 × BitVec 32 × BitVec 32 × BitVec 32 × BitVec 32) :
    Inv d i X I R A v5 O v6 v144 ft fi fo qt q OB W t acc ⊢ (⌜acc = (w6 t, w7 t, w7 t, w9 t, w10 t)⌝ : sProp 𝕄) := by
  unfold Inv
  iintro ⟨%h, -⟩
  ipureintro; exact h

/-- The invariant before the first trip, once the first fetch is under way. -/
theorem inv_start (q : ℕ → PosShare TreeShare) :
    iprop(InFly d (cT i) (sT i) A I v5 fi (q 0) 0 (by decide) (blk i + 0) (by have := blk_le i; omega) ∗ InIdle d (cT i) (sT i) A I v5 fi (q 1) 1 (by decide)
        ∗ OutIdle (F := F) d (cT i) (sT i) O v6 0 (by decide) ∗ OutIdle d (cT i) (sT i) O v6 1 (by decide) ∗ semVal (thr d i, .dma v144.sem) 0
        ∗ (X.view.loc (thr d i) ↦[X.view.set]{qt} ft) ∗ myRows d i R fo ∗ owes (thr d i) OB W)
      ⊢ Inv d i X I R A v5 O v6 v144 ft fi fo qt q OB W 0 (w6 0, w7 0, w7 0, w9 0, w10 0) := by
  unfold Inv InSide OutSide Rows
  rw [dif_pos (show 0 < 8 by decide), dif_neg (show ¬(0 < 0 ∧ 0 ≤ 8) by decide)]
  iintro ⟨Hi0, Hi1, Ho0, Ho1, Hg, HX, Hrows, HO⟩
  ihave Hrows := (rows_split d (cT i) (sT i) R (a := 256 * blk i) (b := 256 * blk i) (e := 256 * (blk i + 8)) le_rfl (by omega) fo).1 $$ Hrows
  icases Hrows with ⟨Hnone, Hrows⟩
  isplitr; · ipureintro; rfl
  isplitl [Hi0 Hi1]
  · isplitl [Hi0]; · iexact Hi0
    iexact Hi1
  isplitl [Ho0 Ho1]
  · isplitl [Ho0]; · iexact Ho0
    iexact Ho1
  isplitl [Hnone Hrows]
  · isplitl [Hnone]
    · have he : R.view.setOn (rowsIn (256 * blk i) (256 * (blk i + (0 - 1)))) = ∅ := by
        have : rowsIn (256 * blk i) (256 * (blk i + (0 - 1))) = ∅ := by
          refine Finset.filter_eq_empty_iff.2 fun x _ h => ?_
          omega
        rw [this]; rfl
      rw [he, pointsTo_empty]
      iempintro
    iexact Hrows
  isplitl [HX]; · iexact HX
  isplitl [Hg]; · iexact Hg
  iexists W
  isplitr; · ipureintro; exact fun p hp => .inl hp
  iexact HO

/-- The invariant after the last. -/
theorem inv_end (q : ℕ → PosShare TreeShare) (acc : BitVec 32 × BitVec 32 × BitVec 32 × BitVec 32 × BitVec 32) :
    Inv d i X I R A v5 O v6 v144 ft fi fo qt q OB W (Scf.trips k1_t1_loop.lb k1_t1_loop.ub k1_t1_loop.st) acc
      ⊢ iprop(⌜acc = (w6 8, w7 8, w7 8, w9 8, w10 8)⌝ ∗ InIdle d (cT i) (sT i) A I v5 fi (q 0) 0 (by decide) ∗ InIdle d (cT i) (sT i) A I v5 fi (q 1) 1 (by decide)
        ∗ OutIdle (F := F) d (cT i) (sT i) O v6 0 (by decide) ∗ OutFly d (cT i) (sT i) O X I R v6 ft fi fo 1 (by decide) (blk i + 7) (by have := blk_le i; omega)
        ∗ (R.view.loc (thr d i) ↦[R.view.setOn (rowsIn (256 * blk i) (256 * (blk i + 7)))]{fullShare} gathBuf d (cT i) (sT i) X I R ft fi fo)
        ∗ (X.view.loc (thr d i) ↦[X.view.set]{qt} ft) ∗ semVal (thr d i, .dma v144.sem) 0
        ∗ ∃ W', ⌜∀ p ∈ W', p ∈ W ∨ p.2 = none⌝ ∗ owes (thr d i) OB W') := by
  rw [show Scf.trips k1_t1_loop.lb k1_t1_loop.ub k1_t1_loop.st = 8 from trips_eq]
  unfold Inv InSide OutSide Rows
  rw [dif_neg (show ¬ 8 < 8 by decide), dif_pos (show 0 < 8 ∧ 8 ≤ 8 by decide)]
  iintro ⟨%h, ⟨Hi0, Hi1⟩, ⟨Ho0, Hf⟩, ⟨Hrows, -⟩, HX, Hg, HO⟩
  isplitr; · ipureintro; exact h
  isplitl [Hi0]; · iexact Hi0
  isplitl [Hi1]; · iexact Hi1
  isplitl [Ho0]; · iexact Ho0
  isplitl [Hf]; · iexact Hf
  isplitl [Hrows]; · iexact Hrows
  isplitl [HX]; · iexact HX
  isplitl [Hg]; · iexact Hg
  iexact HO

set_option maxHeartbeats 1600000 in
/-- The body on one tile. -/
theorem body (hin : ∀ x, (I.view.read (Elt F) fi x).toNat < 8192) :
    iprop(Transfers.MayWaits (thr d i) (default : HIx 2) OB ∗ Rest d i A v5 O v6 v144
        ∗ (X.view.loc (thr d i) ↦[X.view.set]{qt} ft) ∗ (I.view.loc (thr d i) ↦[I.view.set]{qi} fi) ∗ myRows d i R fo
        ∗ owes (thr d i) OB W)
      ⊢ wp frame (wpE defs 𝒱 (thr d i) bd) Set.univ (cc1_kern (F := F) i X hX I hI R hR A hA v5 O hO v6 v144)
        (fun _ => iprop(Rest d i A v5 O v6 v144
          ∗ (X.view.loc (thr d i) ↦[X.view.set]{qt} ft) ∗ (I.view.loc (thr d i) ↦[I.view.set]{qi} fi)
          ∗ myRows d i R (gathBuf d (cT i) (sT i) X I R ft fi fo)
          ∗ ∃ W', ⌜∀ p ∈ W', p ∈ W ∨ p.2 = none⌝ ∗ owes (thr d i) OB W')) := by
  have hb := blk_le i
  iintro ⟨#Hmw, HR, HX, HI, Hrows, HO⟩
  ihave H := (rest_open d i I A v5 O v6 v144 fi qi) $$ [HR HI]
  · isplitl [HR]; · iexact HR
    iexact HI
  icases H with ⟨Hi0, Hi1, Ho0, Ho1, Hg⟩
  simp only [cc1_kern_eq_skeleton, cc1_kern_skel, k1_part3_eq_skeleton, k1_part3_skel, k1_part4_eq_skeleton, k1_part4_skel, bind_assoc, pure_bind]
  iapply (issueIn' d (cT i) (sT i) defs 𝒱 bd A I v5 fi _ (show 0 < 2 by decide) (show blk i + 0 < 256 by omega) off1_at (off2_at i) off3_at) $$ Hi0
  iintro Hi0
  iapply wp_step
  iapply (Scf.wp_for_bind _ _ _ _ _ _ k1_t1_ok _ _ (fun t acc => iprop(Transfers.MayWaits (thr d i) (default : HIx 2) OB
    ∗ Inv d i X I R A v5 O v6 v144 ft fi fo qt (halfOf qi) OB W t acc)) ?_) $$ [Hi0 Hi1 Ho0 Ho1 Hg HX Hrows HO]
  · intro t acc
    iintro ⟨#Hmw, HInv⟩
    iapply (wp_wand_r _ _ _)
    ihave %hacc := (inv_words d i X I R A v5 O v6 v144 ft fi fo qt OB W (halfOf qi) t acc) $$ HInv
    subst hacc
    isplitl [HInv]
    · iapply (trip d i X hX I hI R hR A hA v5 O hO v6 v144 ft fi fo qt (halfOf qi) OB W defs 𝒱 bd t hin)
      isplitr; · iexact Hmw
      iexact HInv
    · iintro %acc' H
      isplitr; · iexact Hmw
      iexact H
  · isplitr; · iexact Hmw
    iapply (inv_start d i X I R A v5 O v6 v144 ft fi fo qt OB W (halfOf qi))
    isplitl [Hi0]; · iexact Hi0
    isplitl [Hi1]; · iexact Hi1
    isplitl [Ho0]; · iexact Ho0
    isplitl [Ho1]; · iexact Ho1
    isplitl [Hg]; · iexact Hg
    isplitl [HX]; · iexact HX
    isplitl [Hrows]; · iexact Hrows
    iexact HO
  iintro %acc ⟨-, HInv⟩
  ihave HInv := (inv_end d i X I R A v5 O v6 v144 ft fi fo qt OB W (halfOf qi) acc) $$ HInv
  icases HInv with ⟨%hacc, Hi0, Hi1, Ho0, Hf, Hrows, HX, Hg, %W', %hW, HO⟩
  subst hacc
  iapply (wp_assume _ _ _ _ (chk5_at i))
  iapply (wp_assume _ _ _ _ chk4_at)
  iapply (waitOut' d (cT i) (sT i) defs 𝒱 bd O X I R v6 ft fi fo (show 1 < 2 by decide) (show blk i + 7 < 256 by omega) off21_at (off19_at i) off20_at) $$ [Hf HO]
  · isplitl [Hf]; · iexact Hf
    isplitl [HO]; · iexact HO
    iexact Hmw
  iintro ⟨Ho1, Hblk, HO⟩
  iapply wp_step
  rw [wp_pure]
  imodintro
  ihave H := (rest_close d i I A v5 O v6 v144 fi qi) $$ [Hi0 Hi1 Ho0 Ho1 Hg]
  · isplitl [Hi0]; · iexact Hi0
    isplitl [Hi1]; · iexact Hi1
    isplitl [Ho0]; · iexact Ho0
    isplitl [Ho1]; · iexact Ho1
    iexact Hg
  icases H with ⟨HR, HI⟩
  isplitl [HR]; · iexact HR
  isplitl [HX]; · iexact HX
  isplitl [HI]; · iexact HI
  isplitl [Hrows Hblk]
  · iapply (rows_split d (cT i) (sT i) R (a := 256 * blk i) (b := 256 * (blk i + 7)) (by omega) (by omega) _).2
    isplitl [Hrows]; · iexact Hrows
    rw [oblk_set]
    iexact Hblk
  iexists _
  isplitr; on_goal 2 => iexact HO
  ipureintro
  intro p hp
  rcases Finset.mem_insert.1 hp with rfl | hp
  · exact .inr rfl
  · exact hW p hp

end Body

end Cert.Kernel.Gather
-- ==== Proof.Kernel.Deal.lean ====
/-
  How the arrays of a gather call are dealt: the table and the row numbers by shares, the result by runs of rows, to two
  SparseCores and to each one's sixteen subcores.
-/
module

public import proofs.«01_k».proof.Proof.Kernel.Body
public import Idealize.ShloMosaic.Lib.ShareLeaves

@[expose] public section

noncomputable section

namespace Cert.Kernel.Gather

open Cert.Kernel Cert.Kernel.Gen

open Idealize.ShloMosaic
open Idealize.ShloMosaic.SparseCore (S V T)
open Idealize.ShloMosaic.SparseCore.Cfg (HIx ownBufs ownSems0 ownCells ownRefs mem_ownCells)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

/-! ## The deal -/

section Deal

variable {ℓX ℓI ℓR : Loc nD τ sig} (row : Idx ℓR → ℕ)

/-- The elements whose row lies from `a` up to `b`. -/
def band (a b : ℕ) : Finset (Idx ℓR) := Finset.univ.filter fun x => a ≤ row x ∧ row x < b

variable (fX : Buf (Elt F) ℓX) (fI : Buf (Elt F) ℓI) (g : Buf (Elt F) ℓR)

/-- SparseCore `c`'s share of an array that the call reads, and its subcore `i`'s. -/
def coreQ (c : Fin 2) : PosShare TreeShare := leaf 1 fullShare c
def tileQ (c : Fin 2) (i : Fin 16) : PosShare TreeShare := leaf 4 (coreQ c) i

/-- What SparseCore `c` has of the three arrays. -/
def ofCore (c : Fin 2) : sProp 𝕄 :=
  iprop((ℓX ↦{coreQ c} fX) ∗ (ℓI ↦{coreQ c} fI) ∗ ℓR ↦[band row (32768 * c.val) (32768 * (c.val + 1))]{fullShare} g)

/-- What its subcore `i` has of them. -/
def ofTile (c : Fin 2) (i : Fin 16) : sProp 𝕄 :=
  iprop((ℓX ↦{tileQ c i} fX) ∗ (ℓI ↦{tileQ c i} fI)
    ∗ ℓR ↦[band row (32768 * c.val + 2048 * i.val) (32768 * c.val + 2048 * (i.val + 1))]{fullShare} g)

/-- `n` bands of `s` rows each, one after another from row `a`, are one band. -/
theorem bands (a s n : ℕ) (hs : 0 < s) :
    (ℓR ↦[band row a (a + s * n)]{fullShare} g : sProp 𝕄)
      = bigSep Finset.univ fun i : Fin n => ℓR ↦[band row (a + s * i.val) (a + s * (i.val + 1))]{fullShare} g := by
  rw [← pointsTo_biUnion Finset.univ (ℓ := ℓR) (fun i : Fin n => band row (a + s * i.val) (a + s * (i.val + 1)))]
  · congr 1
    ext x
    simp only [band, Finset.mem_biUnion, Finset.mem_filter, Finset.mem_univ, _root_.true_and]
    constructor
    · rintro ⟨h1, h2⟩
      have hlt : (row x - a) / s < n := Nat.div_lt_of_lt_mul (by omega)
      have hd := Nat.div_add_mod (row x - a) s
      have hm := Nat.mod_lt (row x - a) hs
      refine ⟨⟨(row x - a) / s, hlt⟩, ?_, ?_⟩ <;> simp only [Nat.mul_add, Nat.mul_one] <;> omega
    · rintro ⟨i, h1, h2⟩
      have : s * (i.val + 1) ≤ s * n := Nat.mul_le_mul_left s i.isLt
      omega
  · intro i _ j _ hij
    rw [Finset.disjoint_left]
    intro x hx hx'
    simp only [band, Finset.mem_filter, Finset.mem_univ, _root_.true_and] at hx hx'
    have hne : i.val ≠ j.val := fun e => hij (Fin.ext e)
    rcases Nat.lt_or_gt_of_ne hne with h | h
    · have : s * (i.val + 1) ≤ s * j.val := Nat.mul_le_mul_left s h
      omega
    · have : s * (j.val + 1) ≤ s * i.val := Nat.mul_le_mul_left s h
      omega

/-- The three arrays whole are the two SparseCores' parts. -/
theorem cores_eq (hrow : ∀ x, row x < 65536) :
    (iprop((ℓX ↦{fullShare} fX) ∗ (ℓI ↦{fullShare} fI) ∗ ℓR ↦{fullShare} g) : sProp 𝕄)
      = bigSep Finset.univ fun c : Fin 2 => ofCore row fX fI g c := by
  unfold ofCore coreQ
  rw [bigSep_sep', bigSep_sep', pointsTo_leaves (ℓ := ℓX) Finset.univ fX 1 fullShare, pointsTo_leaves (ℓ := ℓI) Finset.univ fI 1 fullShare]
  congr 2
  rw [show (Finset.univ : Finset (Idx ℓR)) = band row 0 (0 + 32768 * 2) from
    (Finset.filter_true_of_mem fun x _ => ⟨Nat.zero_le _, hrow x⟩).symm, bands row g 0 32768 2 (by decide)]
  simp only [Nat.zero_add]

/-- A SparseCore's part is its subcores' parts. -/
theorem tiles_eq (c : Fin 2) : (ofCore row fX fI g c : sProp 𝕄) = bigSep Finset.univ fun i : Fin 16 => ofTile row fX fI g c i := by
  unfold ofCore ofTile tileQ
  rw [bigSep_sep', bigSep_sep', pointsTo_leaves (ℓ := ℓX) Finset.univ fX 4 (coreQ c), pointsTo_leaves (ℓ := ℓI) Finset.univ fI 4 (coreQ c)]
  congr 2
  exact bands row g (32768 * c.val) 2048 16 (by decide)

end Deal

/-! ## A subcore's own scratch and semaphores -/

section Own

variable (d : Dev nD) (c : Fin τ.nSC) (s : Fin τ.nSub)

/-- Two of a subcore's own buffers, and the rest of them. -/
theorem own_bufs (a b : Ref sig .scVector) (ha : ((Proc.scVector c s).devRef a).owner = .proc (.scVector c s))
    (hb : ((Proc.scVector c s).devRef b).owner = .proc (.scVector c s)) (hab : b ≠ a) :
    ∃ Z : sProp 𝕄, (ownBufs (V d c s) : sProp 𝕄)
      = iprop((∃ f, (V d c s).loc a ↦{fullShare} f) ∗ (∃ f, (V d c s).loc b ↦{fullShare} f) ∗ Z) := by
  refine ⟨bigSep (((ownRefs (τ := τ) (.scVector c s)).erase ((Proc.scVector c s).devRef a)).erase ((Proc.scVector c s).devRef b))
      fun b => iprop(∃ f, ((d, b) : Loc nD τ sig) ↦{fullShare} f), ?_⟩
  unfold SparseCore.Cfg.ownBufs
  refine (SparseCore.bigSep_erase' (SparseCore.Cfg.mem_ownRefs_of_owner (p := Proc.scVector c s) ha)).trans ?_
  rw [SparseCore.bigSep_erase' (Finset.mem_erase.mpr ⟨fun e => hab (Proc.devRef_injective _ e),
    SparseCore.Cfg.mem_ownRefs_of_owner (p := Proc.scVector c s) hb⟩)]

/-- Five of its own semaphores at zero, and the rest of them. -/
theorem own_sems (l : Fin 5 → SemLoc sig) (hl : ∀ k, (l k).isScoped .scVector = true) (hinj : Function.Injective l) :
    ∃ Z : sProp 𝕄, (ownSems0 (V d c s) : sProp 𝕄)
      = iprop(semVal (V d c s, l 0) 0 ∗ semVal (V d c s, l 1) 0 ∗ semVal (V d c s, l 2) 0 ∗ semVal (V d c s, l 3) 0 ∗ semVal (V d c s, l 4) 0 ∗ Z) := by
  have hm : ∀ k, ((V d c s, l k) : GSem nD τ sig) ∈ ownCells (V d c s) := fun k => mem_ownCells.2 ⟨rfl, hl k⟩
  have hne : ∀ j k, j ≠ k → ((V d c s, l j) : GSem nD τ sig) ≠ (V d c s, l k) := fun j k h e => h (hinj (congrArg Prod.snd e))
  refine ⟨bigSep ((((((ownCells (V d c s)).erase (V d c s, l 0)).erase (V d c s, l 1)).erase (V d c s, l 2)).erase (V d c s, l 3)).erase (V d c s, l 4))
    fun g => semVal g 0, ?_⟩
  unfold SparseCore.Cfg.ownSems0
  rw [SparseCore.bigSep_erase' (hm 0),
    SparseCore.bigSep_erase' (i := (V d c s, l 1)) (by simp only [Finset.mem_erase]; exact ⟨hne _ _ (by decide), hm 1⟩),
    SparseCore.bigSep_erase' (i := (V d c s, l 2)) (by simp only [Finset.mem_erase]; exact ⟨hne _ _ (by decide), hne _ _ (by decide), hm 2⟩),
    SparseCore.bigSep_erase' (i := (V d c s, l 3)) (by
      simp only [Finset.mem_erase]; exact ⟨hne _ _ (by decide), hne _ _ (by decide), hne _ _ (by decide), hm 3⟩),
    SparseCore.bigSep_erase' (i := (V d c s, l 4)) (by
      simp only [Finset.mem_erase]; exact ⟨hne _ _ (by decide), hne _ _ (by decide), hne _ _ (by decide), hne _ _ (by decide), hm 4⟩)]

end Own

end Cert.Kernel.Gather

end
-- ==== Proof.Kernel.Region.lean ====
/-
  One pipelined call on the TensorCore, met in the middle of @main: what the arrays hold after it, from what they hold
  before. Stated once, for each of the five calls.
-/
module

public import proofs.«01_k».proof.Proof.Kernel.Copies
public import Idealize.ShloMosaic.Lib.Pipeline.RegionArrays
public import Idealize.ShloMosaic.Lib.Pipeline.Frame
public import Idealize.ShloMosaic.Lib.Pipeline.ArrRel
public import proofs.«01_k».proof.Proof.Gen.Kernel.Launch
public import proofs.«01_k».proof.Proof.Gen.Kernel.Points

@[expose] public section

noncomputable section

namespace Cert.Kernel.Gather

open Cert.Kernel Cert.Kernel.Gen

open Idealize.ShloMosaic
open Idealize.ShloMosaic.SparseCore (S V T)
open Idealize.ShloMosaic.SparseCore.Cfg (HIx)
open Idealize.ShloMosaic.StableHlo (held)
open Idealize.ShloMosaic.Pipeline (RDat arrRef ucRefs unscopedRest cellsGhost toksInit pin entry scopedRest)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

abbrev ΛP : Labels := Pipeline.Sig Λ₀ (Fin 5) fun p => (pcfgs (F := F) p).Adm
abbrev K : SparseCore.Cfg τ sig (ΛP (F := F)) 2 := sc (F := F)
abbrev 𝒱₀ : Variants := Variants.none
abbrev 𝒱 : Variants := 𝒱₀.lift
abbrev v₀ : 𝒱.V := Sum.inl none

abbrev EH : Emb UH (MT nD τ sig (HIx 2) (Elt F) ℕ UU ℕ) := embL
abbrev EP : Emb UP (MT nD τ sig (HIx 2) (Elt F) ℕ UU ℕ) := (Emb.inl : Emb UP (UP × Counters)).trans embR

instance EP_landsIn : (EP (F := F)).LandsIn (upEmb : UEmb _ 𝕄) := by unfold EP; infer_instance

/-- No call reads a table ahead of its points. -/
abbrev adm (p : Fin 5) : (pcfgs (F := F) p).Adm := (cfgs p).toPCfg_adm

/-- The data of a call's proof, for each call and device. -/
abbrev Data (F : FTy → Type) : Type _ := (p : Fin 5) → (d : Dev nD) → RDat τ (Elt F) (HIx 2) ℕ UU ℕ (cfgs p) d

variable (p : Fin 5)

/-- The array of a call's window, as a buffer of the device. -/
abbrev arr (w : Fin (cfgs p).W) : DevRef τ sig := Proc.devRef .tc (arrRef (cfgs p).spec w)

/-- Contents that have the call's arrays at `G` and all else as in `W`. -/
def putArrs (G : (w : Fin (cfgs p).W) → (arr p w).ty.Contents (Elt F)) (W : Valuation τ sig (Elt F)) : Valuation τ sig (Elt F) := fun b => by
  classical exact if h : ∃ w, arr p w = b then h.choose_spec ▸ G h.choose else W b

theorem putArrs_arr (G : (w : Fin (cfgs p).W) → (arr p w).ty.Contents (Elt F)) (W : Valuation τ sig (Elt F))
    (hinj : Function.Injective (arr p)) (w : Fin (cfgs p).W) : putArrs p G W (arr p w) = G w := by
  have hex : ∃ w', arr p w' = arr p w := ⟨w, rfl⟩
  have key : ∀ (w' : Fin (cfgs p).W) (h : arr p w' = arr p w), (h ▸ G w' : (arr p w).ty.Contents (Elt F)) = G w := by
    intro w' h
    obtain rfl := hinj h
    rfl
  unfold putArrs
  rw [dif_pos hex]
  exact key _ _

theorem putArrs_other (G : (w : Fin (cfgs p).W) → (arr p w).ty.Contents (Elt F)) (W : Valuation τ sig (Elt F))
    {b : DevRef τ sig} (hb : ∀ w, arr p w ≠ b) : putArrs p G W b = W b := by
  unfold putArrs
  rw [dif_neg (by rintro ⟨w, h⟩; exact hb w h)]

/-- What a call may leave: its arrays as its write-backs make them, the others as they were. -/
def Left (rd : Data F) (d : Dev nD) (W W' : Valuation τ sig (Elt F)) : Prop :=
  (∀ w, (rd p d).ArrAt w (cfgs p).N (W' (arr p w))) ∧ ∀ b, (∀ w, arr p w ≠ b) → W' b = W b

/-- What of the thread's state the calls on the TensorCore touch: what the thread owes, at a mark. -/
def Owing (d : Dev nD) (n : ℕ) : sProp 𝕄 :=
  iprop(∃ W, ⌜(K (F := F)).WBelow (T d) W (8 * n)⌝ ∗ owes (T d) ((K (F := F)).Otc d n) W)

/-- The pairs a thread may have recorded at that mark. -/
def below (F : FTy → Type) (d : Dev nD) (n : ℕ) : Set (SemLoc sig × HIx 2) := {x | (K (F := F)).lev (T d, x.1) x.2 ≤ 8 * n}

variable [FloatOps F]

/-- What a call's data have to say for the call to run from `W`. -/
structure Runs (rd : Data F) (n : ℕ) (W : Dev nD → Valuation τ sig (Elt F)) : Prop where
  facts : Pipeline.LaunchFacts (nD := nD) (τ := τ) cfgs p
  inj : Function.Injective (arr p)
  array : ∀ d w, (rd p d).A w = W d (arr p w)
  share : ∀ d w, (rd p d).share w = fullShare
  owed : ∀ d t, (rd p d).owed t = (K (F := F)).Otc d n
  recorded : ∀ d t, (rd p d).recorded t = below F d n
  first : ∀ d, (scopedRest (cfgs p).spec d : sProp 𝕄) ⊢ (rd p d).Φ 0
  last : ∀ d, (rd p d).Φ (Fin.last (cfgs p).N) ⊢ (scopedRest (cfgs p).spec d : sProp 𝕄)
  body : ∀ d, (rd p d).BodyObligation defs₀ 𝒱₀ (none : HIx 2) Set.univ

/-- The call as a step of @main. -/
def seg (rd : Data F) (n : ℕ) (W : Dev nD → Valuation τ sig (Elt F)) (h : Runs p rd n W) :
    Pipeline.RDat.RegionSeg (pcfgs (F := F)) adm rd (none : HIx 2) defs₀ 𝒱₀ (K (F := F)).L (K (F := F)).lev p where
  win := h.facts.win.to₀
  block_pos := h.facts.block_pos
  stage_whole := h.facts.stage_whole
  K := PEmpty
  osem := fun k => k.elim
  ho := Pipeline.OwnSemFacts.none _
  hbody := h.body
  hwaits d := Pipeline.RDat.cellsWaits_intro _ rd none p d fun w s t => by
    rw [h.owed]
    exact (K (F := F)).mayWait_none _ fun g => by
      by_contra hg
      have := (K (F := F)).lev_of_Otc_pos (d := d) (n := n) (g := g) (ι := none) (Nat.pos_of_ne_zero hg)
      simp [SparseCore.Cfg.lev] at this
  pre d := iprop(held (d.tc : Thread nD τ) (ucRefs τ sig) (W d) ∗ Owing d n)
  post d := iprop((∃ W', ⌜Left p rd d (W d) W'⌝ ∗ held (d.tc : Thread nD τ) (ucRefs τ sig) W') ∗ Owing d n)
  X _ := iprop(emp)
  Y _ := iprop(emp)
  Z d := unscopedRest (cfgs p).spec d (fun b => W d (Proc.devRef .tc b))
  hentry d := by
    iintro ⟨⟨Hh, Ho⟩, -, -⟩
    ihave Hu := (Entails.of_eq (Pipeline.unscopedBufs_held (Ix := HIx 2) (Name := ℕ) (U := UU) (Lvl := ℕ) d (W d)).symm) $$ Hh
    ihave Hu := (Pipeline.RDat.arrays_of_unscopedBufs (pcfgs (F := F)) adm rd h.facts.win h.facts.arr_whole d (h.share d) (fun b => W d (Proc.devRef .tc b)) (h.array d)) $$ Hu
    icases Hu with ⟨Ha, Hr⟩
    imodintro
    isplitl [Ha]; · iexact Ha
    isplitr
    · rw [Pipeline.prefHeld_of_none _ rfl]; iempintro
    isplitl [Ho]
    · unfold Owing Pipeline.RDat.owesAt
      icases Ho with ⟨%w, %hw, Ho⟩
      iexists w
      isplitr
      · ipureintro
        intro x hx
        exact Or.inl (by rw [h.recorded]; exact hw x hx)
      · rw [h.owed]; iexact Ho
    isplitr; · iempintro
    iexact Hr
  hin d := by
    iintro ⟨-, -, H⟩
    iapply (h.first d) $$ H
  hout d := by
    iintro H
    ihave H := (h.last d) $$ H
    isplitr; · iempintro
    isplitr
    · unfold Pipeline.ownSems0
      rw [Finset.univ_eq_empty, bigSep_empty]; iempintro
    iexact H
  hexit d := by
    rw [Pipeline.RDat.arraysAt_eq (pcfgs (F := F)) adm rd p d h.facts.arr_whole (h.share d)]
    iintro ⟨Ha, Ho, -, Hr⟩
    ihave Ha := (bigSep_exists_pi Finset.univ _) $$ Ha
    icases Ha with ⟨%G, Ha⟩
    ihave Ha := (bigSep_pure_sep Finset.univ _ _) $$ Ha
    icases Ha with ⟨%hG, Ha⟩
    imodintro
    isplitr [Ho]
    · iexists putArrs p G (W d)
      isplitr
      · ipureintro
        exact ⟨fun w => by rw [putArrs_arr p G (W d) h.inj w]; exact hG w (Finset.mem_univ w), fun b hb => putArrs_other p G (W d) hb⟩
      rw [← Pipeline.unscopedBufs_held (Ix := HIx 2) (Name := ℕ) (U := UU) (Lvl := ℕ) d (putArrs p G (W d)),
        Pipeline.unscopedBufs_split cfgs p h.facts.win.arr_unscoped h.facts.win.arr_inj d]
      isplitl [Ha]
      · iapply (Entails.of_eq (bigSep_congr fun w _ => by rw [putArrs_arr p G (W d) h.inj w])) $$ Ha
      · iapply (Entails.of_eq ?_) $$ Hr
        unfold Pipeline.unscopedRest
        refine bigSep_congr fun b hb => ?_
        exact congrArg (fun x => (((d.tc : Thread nD τ).loc b) ↦{fullShare} x : sProp 𝕄)) (putArrs_other p G (W d) fun w hw => (Finset.mem_sdiff.mp hb).2 (Finset.mem_image.2 ⟨w, Finset.mem_univ _, Proc.devRef_injective _ hw⟩)).symm
    · unfold Owing
      icases Ho with ⟨%w, %hw, Ho⟩
      iexists w
      isplitr
      · ipureintro
        intro x hx
        rcases hw hx with h' | ⟨w', s', h'⟩
        · rw [h.recorded] at h'; exact h'
        · subst h'; exact Nat.zero_le _
      · rw [h.owed]; iexact Ho

abbrev D : Defs nD τ sig (Elt F) (ΛP (F := F)) := Pipeline.defs pcfgs defs₀

/-- The call in @main: from all arrays at `W d`, a call leaves its arrays as its write-backs make them. -/
theorem wp_call [∀ e, Nonempty (Elt F e)] (rd : Data F) (n : ℕ) (W : Dev nD → Valuation τ sig (Elt F)) (h : Runs p rd n W) (d : Dev nD)
    (Q : PUnit → sProp 𝕄) :
    iprop(((boundary (d.tc : Thread nD τ) ∗ (∃ W', ⌜Left p rd d (W d) W'⌝ ∗ held (d.tc : Thread nD τ) (ucRefs τ sig) W') ∗ Owing d n) -∗ Q ⟨⟩)
        ∗ boundary (d.tc : Thread nD τ) ∗ held (d.tc : Thread nD τ) (ucRefs τ sig) (W d) ∗ Owing d n ∗ levAts (K (F := F)).L (K (F := F)).lev
        ∗ cellsGhost cfgs EP p d ∗ toksInit cfgs EP p d)
      ⊢ wp frame (wpE ((K (F := F)).defs (D (F := F))) 𝒱 (SparseCore.T d) none) Set.univ
          (Prog.lift (.customCall (SparseCore.inner (entry p)) ())) Q := by
  have hl := (K (F := F)).wp_liftProg (D (F := F)) 𝒱 (SparseCore.T d) (Set.univ : Set ℕ) none
    (.op (.customCall (entry (A := fun p => (pcfgs (F := F) p).Adm) p) ()) fun _ => .ret ⟨⟩) Q
  refine BIBase.Entails.trans ?_ hl
  refine BIBase.Entails.trans ?_ (Pipeline.RDat.RegionSeg.wp (pcfgs (F := F)) adm rd none cellOf_inj EP defs₀ 𝒱₀ (K (F := F)).L (K (F := F)).lev
    (seg p rd n W h) d none (fun u hu => nomatch hu) _ Q)
  unfold seg
  dsimp only
  iintro ⟨Hk, Hb, Hh, Ho, Hl, Hc, Ht⟩
  isplitl [Hk]
  · iintro ⟨Hb, Hh, Ho⟩
    rw [wp_ret]
    imodintro
    iapply Hk
    isplitl [Hb]; · iexact Hb
    isplitl [Hh]; · iexact Hh
    iexact Ho
  isplitl [Hb]; · iexact Hb
  isplitl [Hh Ho]
  · isplitl [Hh]; · iexact Hh
    iexact Ho
  isplitl [Hl]; · iexact Hl
  isplitl [Hc]; · iexact Hc
  iexact Ht

end Cert.Kernel.Gather

end
-- ==== Proof.Kernel.Rows.lean ====
/-
  Tables of rows as the kernels on the TensorCore keep them: a row read, a row replaced, and what a buffer reads after a row
  has been stored to it.
-/
module

public import proofs.«01_k».proof.Proof.Kernel.Region
public import Idealize.ShloMosaic.Lib.WritesUnit
public import Idealize.ShloMosaic.Lib.Exec
public import Idealize.ShloMosaic.Lib.Pipeline.FrameBody

@[expose] public section

noncomputable section

namespace Cert.Kernel.Gather

open Idealize.ShloMosaic Idealize.ShloMosaic.View

variable {α : Type} {n m k : ℕ}

/-- The tables of `n` rows of `m`. -/
abbrev Tbl (n m : ℕ) : Shape := ⟨2, ![n, m]⟩

/-- `k` rows of a table from row `r` on, `m'` of their entries. -/
def rows (k m' : ℕ) (P : (Tbl n m).Idx → α) (r : ℕ) (h : ∀ a, (![r, 0] : Fin 2 → ℕ) a + (Tbl k m').size a ≤ (Tbl n m).size a) : (Tbl k m').Idx → α :=
  fun x => P ((Rect.unit (s := Tbl n m) ![r, 0] (Tbl k m').size h).emb x)

/-- The table with `k` of its rows replaced, from row `r` on. -/
def putRows (P : (Tbl n m).Idx → α) (r : ℕ) (R : (Tbl k m).Idx → α) : (Tbl n m).Idx → α := fun y =>
  if h : r ≤ (y 0).val ∧ (y 0).val < r + k then R (fun a => match a with | 0 => ⟨(y 0).val - r, by show _ < k; omega⟩ | 1 => y 1) else P y

variable {sig : RefSig} {κ : Kind} {sp : Space} {e : EltTy} {Val : EltTy → Type}

theorem read_putRows (v : View sig κ sp (Tbl n m) e) (f : v.ty.Contents Val) (r : ℕ)
    (inb : ∀ a, (![r, 0] : Fin 2 → ℕ) a + (Tbl k m).size a ≤ (Tbl n m).size a)
    (w : (Tbl k m).Idx → Val e) (L : List (Piece Val (Tbl n m) e)) :
    v.read Val (v.writes Val f ((⟨Rect.unit (s := Tbl n m) ![r, 0] (Tbl k m).size inb, w⟩ : Piece Val (Tbl n m) e) :: L))
      = putRows (v.read Val (v.writes Val f L)) r w := by
  funext y
  unfold putRows
  by_cases h : r ≤ (y 0).val ∧ (y 0).val < r + k
  · rw [dif_pos h]
    refine View.read_writes_cons_unit_of_mem v f inb w L y _ rfl fun a => ?_
    match a with
    | 0 => show (y 0).val = r + ((y 0).val - r); omega
    | 1 => show (y 1).val = 0 + (y 1).val; omega
  · rw [dif_neg h]
    refine View.read_writes_cons_unit_of_not_mem v f inb w L y rfl 0 ?_
    show (y 0).val < r ∨ r + k ≤ (y 0).val
    omega

theorem readAt_rows (v : View sig κ sp (Tbl n m) e) (f : v.ty.Contents Val) (r : ℕ) (m' : ℕ)
    (inb : ∀ a, (![r, 0] : Fin 2 → ℕ) a + (Tbl k m').size a ≤ (Tbl n m).size a) :
    v.readAt Val (Rect.unit (s := Tbl n m) ![r, 0] (Tbl k m').size inb).toLoadRect f = rows k m' (v.read Val f) r inb := rfl

/-- A row that is not among the replaced ones reads as before. -/
theorem rows_putRows_of_ne (P : (Tbl n m).Idx → α) (r r' : ℕ) (R : (Tbl 1 m).Idx → α) (m' : ℕ)
    (h : ∀ a, (![r', 0] : Fin 2 → ℕ) a + (Tbl 1 m').size a ≤ (Tbl n m).size a) (hr : r' ≠ r) :
    rows 1 m' (putRows (k := 1) P r R) r' h = rows 1 m' P r' h := by
  funext x
  unfold rows putRows
  refine dif_neg ?_
  have h0 : (x 0).val < 1 := (x 0).isLt
  show ¬(r ≤ r' + 1 * (x 0).val ∧ r' + 1 * (x 0).val < r + 1)
  omega

/-- What a covered load reads, off any buffer the stores were made to. -/
theorem readCov_eq [∀ e, Nonempty (Val e)] {s : Shape} (v : View sig κ sp s e) (L : List (Piece Val s e)) (r : LoadRect s) :
    v.readCov L r = v.readAt Val r (v.writes Val v.junk L) := rfl

/-- A load of the whole reads the whole. -/
theorem readAt_all {s : Shape} (v : View sig κ sp s e) (f : v.ty.Contents Val) {off : Fin s.rank → ℕ} (h : off = fun _ => 0)
    (inb : ∀ a, off a + s.size a ≤ s.size a) : v.readAt Val (Rect.unit (s := s) off s.size inb).toLoadRect f = v.read Val f := by
  subst h
  funext x
  show v.read Val f ((Rect.whole s).emb x) = _
  rw [Rect.emb_whole_apply]

/-- A store of the whole leaves what is stored. -/
theorem read_all {s : Shape} (v : View sig κ sp s e) (f : v.ty.Contents Val) {off : Fin s.rank → ℕ} (h : off = fun _ => 0)
    (inb : ∀ a, off a + s.size a ≤ s.size a) (w : s.Idx → Val e) (L : List (Piece Val s e)) :
    v.read Val (v.writes Val f ((⟨Rect.unit (s := s) off s.size inb, w⟩ : Piece Val s e) :: L)) = w := by
  subst h
  funext y
  have h := View.read_writes_cons_emb v f (Rect.whole s) w L y
  rwa [Rect.emb_whole_apply] at h

theorem zero2 : (![0, 0] : Fin 2 → ℕ) = fun _ => 0 := by funext a; match a with | 0 => rfl | 1 => rfl
theorem zero3 : (![0, 0, 0] : Fin 3 → ℕ) = fun _ => 0 := by funext a; match a with | 0 => rfl | 1 => rfl | 2 => rfl

end Cert.Kernel.Gather

end
-- ==== Proof.Kernel.Blocks.lean ====
/-
  What a call's buffers hold at a point of its grid, and its arrays after the last: common to the five calls.
-/
module

public import proofs.«01_k».proof.Proof.Kernel.Rows
public import Idealize.ShloMosaic.Lib.Pipeline.Value

@[expose] public section

noncomputable section

namespace Cert.Kernel.Gather

open Cert.Kernel Cert.Kernel.Gen
open Idealize.ShloMosaic Idealize.ShloMosaic.TcCoe
open Idealize.ShloMosaic.SparseCore (S V T)
open Idealize.ShloMosaic.SparseCore.Cfg (HIx)
open Idealize.ShloMosaic.Pipeline (RDat arrRef)
open Idealize.SL Idealize.SL.RA Idealize.SL.BI Idealize.SL.Sem

/-- A quantity carried along a grid's points, from `z`. -/
def along {α β : Type} {N : ℕ} (b : Fin N → β) (step : β → α → α) (z : α) : (t : ℕ) → t < N → α
  | 0, h => step (b ⟨0, h⟩) z
  | t + 1, h => step (b ⟨t + 1, h⟩) (along b step z t (Nat.lt_of_succ_lt h))

variable {F : FTy → Type} [∀ e, Nonempty (Elt F e)]
variable {cfg : Pipeline.Cfg sig Λ₀} {d : Dev nD}

/-- The block of a window at a point, read off contents of its array. -/
abbrev cblk (cfg : Pipeline.Cfg sig Λ₀) (w : Fin cfg.W) (G : (arrRef cfg.spec w).ty.Contents (Elt F)) (t : Fin cfg.N) :
    ((cfg.win w).xblock (cfg.grid.coords t)).Idx → Elt F (cfg.win w).elt :=
  ((cfg.win w).blk t).view.read (Elt F) G

/-- The array of an output after the call has, under each block that is written back, what the body may have left. -/
theorem block_of (rd : RDat τ (Elt F) (HIx 2) ℕ UU ℕ cfg d) (w : Fin cfg.W)
    (disj : ∀ t t' : Fin cfg.N, (cfg.win w).flush t = true → (cfg.win w).flush t' = true → t ≠ t' →
      Disjoint ((cfg.win w).blk t).view.set ((cfg.win w).blk t').view.set)
    {G : (arrRef cfg.spec w).ty.Contents (Elt F)} (hG : rd.ArrAt w cfg.N G) (t : Fin cfg.N) (hf : (cfg.win w).flush t = true) :
    ∃ X, rd.Leaves w t X ∧ cblk cfg w G t = (cfg.win w).cut (cfg.grid.coords t) X := by
  obtain ⟨X, hX, hA⟩ := RDat.ArrAt.exists_exact hG
  have e := hA (Function.update (fun _ _ _ => Classical.arbitrary _) w X) fun u _ _ => by rw [Function.update_self]
  refine ⟨X t, hX t t.isLt hf, ?_⟩
  have h := (rd.withAfter (Function.update (fun _ _ _ => Classical.arbitrary _) w X)).read_blk_arrAt_eq_flushed w disj cfg.N t t.isLt hf
  rw [← e] at h
  refine h.trans ?_
  show (cfg.win w).cut (cfg.grid.coords t) ((Function.update (fun _ _ _ => Classical.arbitrary _) w X : (w : Fin cfg.W) → _) w t) = _
  rw [Function.update_self]

end Cert.Kernel.Gather

end
-- ==== Proof.Kernel.Dstats.lean ====
/-
  The kernel of the differences' sums: for one block of gathered rows, the sums move on and the rows' second halves are kept.
-/
module

public import proofs.«01_k».proof.Proof.Kernel.Blocks
public import proofs.«01_k».proof.Proof.Gen.Kernel.Skeleton
public import Idealize.ShloMosaic.Lib.WordCmp
public import Idealize.ShloMosaic.Lib.Tactic

@[expose] public section

noncomputable section

namespace Cert.Kernel.Gather

open Cert.Kernel Cert.Kernel.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The running sums of the differences, and of their squares, with one block's added. -/
def dstep (g tab : Vec F S8192x128 .f32) (P : Vec F S2x128 .f32) : Vec F S2x128 .f32 :=
  putRows (k := 1) (putRows (k := 1) P 0 (k3_pay4 g tab (rows 1 128 P 0 inb_S2x128_S1x128_0_0) : Vec F S1x128 .f32) : Vec F S2x128 .f32) 1
    (k3_pay5 g tab (rows 1 128 P 1 inb_S2x128_S1x128_1_0) : Vec F S1x128 .f32)

/-- The first block: its condition. -/
abbrev first3 (i : grid3.Coords) : Prop :=
  (Scalar.cmpi .ne (Scalar.extui (Scalar.cmpi .eq (BitVec.ofNat 32 (i 0).val) 0#32)) 0#32) = 1#1

theorem dstep_eq (g tab : Vec F S8192x128 .f32) (P : Vec F S2x128 .f32) :
    putRows (k := 1) (putRows (k := 1) P 0 (k3_pay4 g tab (rows 1 128 P 0 inb_S2x128_S1x128_0_0) : Vec F S1x128 .f32) : Vec F S2x128 .f32) 1
      (k3_pay5 g tab (rows 1 128 P 1 inb_S2x128_S1x128_1_0) : Vec F S1x128 .f32) = dstep g tab P := rfl

/-- Both rows replaced: what the table held before does not matter. -/
theorem putRows_both {α : Type} {m : ℕ} (P P' : (Tbl 2 m).Idx → α) (a b : (Tbl 1 m).Idx → α) :
    putRows (k := 1) (putRows (k := 1) P 0 a) 1 b = putRows (k := 1) (putRows (k := 1) P' 0 a) 1 b := by
  funext y
  have hy : (y 0).val < 2 := (y 0).isLt
  unfold putRows
  by_cases h1 : 1 ≤ (y 0).val ∧ (y 0).val < 1 + 1
  · rw [dif_pos h1, dif_pos h1]
  · rw [dif_neg h1, dif_neg h1, dif_pos (by omega), dif_pos (by omega)]

set_option maxHeartbeats 1000000 in
/-- One block: the sums move on, half of the rows' entries are kept, and the last block's point stores the sums. -/
theorem dstats_run (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S2x128 .f32) (harg3 : arg3.IsWhole) (arg4 : Memref sig .tc .vmem S1x8192x64 .bf16) (harg4 : arg4.IsWhole) (arg5 : Memref sig .tc .vmem S2x128 .f32) (harg5 : arg5.IsWhole)
    (g tab : Vec F S8192x128 .f32) (y : Vec F S2x128 .f32) (v : Vec F S1x8192x64 .bf16) (P : Vec F S2x128 .f32) (Q : PUnit → sProp 𝕄) :
    iprop(owns (c : Thread nD τ) arg1 fullShare g ∗ owns (c : Thread nD τ) arg2 fullShare tab ∗ owns (c : Thread nD τ) arg3 fullShare y
        ∗ owns (c : Thread nD τ) arg4 fullShare v ∗ owns (c : Thread nD τ) arg5 fullShare P
        ∗ (iprop(owns (c : Thread nD τ) arg1 fullShare g ∗ owns (c : Thread nD τ) arg2 fullShare tab
            ∗ owns (c : Thread nD τ) arg3 fullShare (if k3_cond2 i = 1#1 then dstep g tab (if first3 i then k3_pay1 else P) else y)
            ∗ owns (c : Thread nD τ) arg4 fullShare (k3_pay6 g)
            ∗ owns (c : Thread nD τ) arg5 fullShare (dstep g tab (if first3 i then k3_pay1 else P))) -∗ Q ⟨⟩))
      ⊢ wp frame (wpE (defs₀ (F := F)) 𝒱₀ c none) Set.univ (cc3__dstats_kernel i arg1 harg1 arg2 harg2 arg3 harg3 arg4 harg4 arg5 harg5) Q := by
  simp only [cc3__dstats_kernel_eq_skeleton]; unfold cc3__dstats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  by_cases hc : first3 i <;> by_cases hl : k3_cond2 i = 1#1
  · sl_exec (disch := first | sl_exact hc | sl_exact hl)
    sl_step
    iapply Hk
    isplitl [H0]; · iexists _; isplitr; · ipureintro; exact hf0
                    iexact H0
    isplitl [H1]; · iexists _; isplitr; · ipureintro; exact hf1
                    iexact H1
    isplitl [H2]; · iexists _; isplitr; on_goal 2 => iexact H2
                    ipureintro
                    delta dstats_run.sl.v31 dstats_run.sl.H4_3 dstats_run.sl.v15 dstats_run.sl.H4_2 dstats_run.sl.v8 dstats_run.sl.H4_1
                    rw [if_pos hc, if_pos hl]
                    rw [read_all _ _ zero2, readCov_eq, readAt_all _ _ zero2, readAt_all _ _ zero2, readAt_all _ _ zero2, hf0, hf1, read_putRows (k := 1), read_putRows (k := 1), read_all _ _ zero2,
        readCov_eq, readCov_eq, readAt_rows (k := 1), readAt_rows (k := 1), read_putRows (k := 1), read_all _ _ zero2,
        rows_putRows_of_ne _ _ _ _ _ _ (by decide), dstep_eq]
    isplitl [H3]
    · iexists _; isplitr; on_goal 2 => iexact H3
      ipureintro
      rw [read_all _ _ zero3, readAt_all _ _ zero2, hf0]
    · iexists _; isplitr; on_goal 2 => iexact H4
      ipureintro
      delta dstats_run.sl.H4_3 dstats_run.sl.v15 dstats_run.sl.H4_2 dstats_run.sl.v8 dstats_run.sl.H4_1
      rw [if_pos hc]
      rw [readAt_all _ _ zero2, readAt_all _ _ zero2, hf0, hf1, read_putRows (k := 1), read_putRows (k := 1), read_all _ _ zero2,
        readCov_eq, readCov_eq, readAt_rows (k := 1), readAt_rows (k := 1), read_putRows (k := 1), read_all _ _ zero2,
        rows_putRows_of_ne _ _ _ _ _ _ (by decide), dstep_eq]
  · sl_exec (disch := first | sl_exact hc | sl_exact hl)
    sl_step
    iapply Hk
    isplitl [H0]; · iexists _; isplitr; · ipureintro; exact hf0
                    iexact H0
    isplitl [H1]; · iexists _; isplitr; · ipureintro; exact hf1
                    iexact H1
    isplitl [H2]; · iexists _; isplitr; on_goal 2 => iexact H2
                    ipureintro
                    rw [if_neg hl]; exact hf2
    isplitl [H3]
    · iexists _; isplitr; on_goal 2 => iexact H3
      ipureintro
      rw [read_all _ _ zero3, readAt_all _ _ zero2, hf0]
    · iexists _; isplitr; on_goal 2 => iexact H4
      ipureintro
      delta dstats_run.sl.v15_1 dstats_run.sl.H4_2_1 dstats_run.sl.v8_1 dstats_run.sl.H4_1_1
      rw [if_pos hc]
      rw [readAt_all _ _ zero2, readAt_all _ _ zero2, hf0, hf1, read_putRows (k := 1), read_putRows (k := 1), read_all _ _ zero2,
        readCov_eq, readCov_eq, readAt_rows (k := 1), readAt_rows (k := 1), read_putRows (k := 1), read_all _ _ zero2,
        rows_putRows_of_ne _ _ _ _ _ _ (by decide), dstep_eq]
  · sl_exec (disch := first | sl_exact hc | sl_exact hl)
    sl_step
    iapply Hk
    isplitl [H0]; · iexists _; isplitr; · ipureintro; exact hf0
                    iexact H0
    isplitl [H1]; · iexists _; isplitr; · ipureintro; exact hf1
                    iexact H1
    isplitl [H2]; · iexists _; isplitr; on_goal 2 => iexact H2
                    ipureintro
                    delta dstats_run.sl.v31_1 dstats_run.sl.H4_2_2 dstats_run.sl.v15_2
                    rw [if_neg hc, if_pos hl]
                    rw [read_all _ _ zero2, readCov_eq, readAt_all _ _ zero2, readAt_all _ _ zero2, readAt_all _ _ zero2, hf0, hf1, read_putRows (k := 1), read_putRows (k := 1),
        readAt_rows (k := 1), readAt_rows (k := 1), View.writes_nil, hf4, putRows_both _ P, dstep_eq]
    isplitl [H3]
    · iexists _; isplitr; on_goal 2 => iexact H3
      ipureintro
      rw [read_all _ _ zero3, readAt_all _ _ zero2, hf0]
    · iexists _; isplitr; on_goal 2 => iexact H4
      ipureintro
      delta dstats_run.sl.H4_2_2 dstats_run.sl.v15_2
      rw [if_neg hc]
      rw [readAt_all _ _ zero2, readAt_all _ _ zero2, hf0, hf1, read_putRows (k := 1), read_putRows (k := 1),
        readAt_rows (k := 1), readAt_rows (k := 1), View.writes_nil, hf4, dstep_eq]
  · sl_exec (disch := first | sl_exact hc | sl_exact hl)
    sl_step
    iapply Hk
    isplitl [H0]; · iexists _; isplitr; · ipureintro; exact hf0
                    iexact H0
    isplitl [H1]; · iexists _; isplitr; · ipureintro; exact hf1
                    iexact H1
    isplitl [H2]; · iexists _; isplitr; on_goal 2 => iexact H2
                    ipureintro
                    rw [if_neg hl]; exact hf2
    isplitl [H3]
    · iexists _; isplitr; on_goal 2 => iexact H3
      ipureintro
      rw [read_all _ _ zero3, readAt_all _ _ zero2, hf0]
    · iexists _; isplitr; on_goal 2 => iexact H4
      ipureintro
      delta dstats_run.sl.v15_3
      rw [if_neg hc]
      rw [readAt_all _ _ zero2, readAt_all _ _ zero2, hf0, hf1, read_putRows (k := 1), read_putRows (k := 1),
        readAt_rows (k := 1), readAt_rows (k := 1), View.writes_nil, hf4, dstep_eq]

/-- The condition holds at the first point only. -/
theorem first3_iff : ∀ t : Fin cfg3.N, first3 (grid3.coords t) ↔ t.val = 0 :=
  (fun t => by
    have ht : t.val < 8 := Nat.lt_of_lt_of_eq t.isLt N_3
    have e0 : (grid3.coords t 0).val = t.val / 1 % 8 := Pipeline.Grid.coords_val t 0 (by decide) rfl
    simp only [first3, e0]
    word_cmp
   : ∀ t : Fin grid3.N, first3 (grid3.coords t) ↔ t.val = 0)

/-! ## The call on the first half -/

variable [∀ e, Nonempty (Elt F e)]

/-- The sums after a point. -/
def dsum3 (W : Valuation τ sig (Elt F)) : (t : ℕ) → t < cfg3.N → Vec F S2x128 .f32 :=
  along (fun t => (cblk cfg3 0 (W (arr 1 0)) t, cblk cfg3 1 (W (arr 1 1)) t)) (fun b P => dstep b.1 b.2 P) k3_pay1

/-- Between points: the sums so far, in the buffer of the call's own. -/
def kept3 (W : Valuation τ sig (Elt F)) (d : Dev nD) (t : ℕ) : sProp 𝕄 :=
  iprop(∃ P : Vec F S2x128 .f32, ⌜∀ k (h : k < cfg3.N), t = k + 1 → P = dsum3 W k h⌝
    ∗ owns (d : Thread nD τ) (Memref.whole cc3_scratch0) fullShare P ∗ Pipeline.scopedRestBut spec3 d [cc3_scratch0])

/-- The call's data: the blocks in are left as found, the last point stores the sums, half of each row is kept. -/
def rd3 (n : ℕ) (W : Dev nD → Valuation τ sig (Elt F)) (d : Dev nD) : Pipeline.RDat τ (Elt F) (HIx 2) ℕ UU ℕ cfg3 d where
  A w := W d (arr 1 w)
  after w t Y X := match w with
    | ⟨0, _⟩ => X = Y
    | ⟨1, _⟩ => X = Y
    | ⟨2, _⟩ => X = if k3_cond2 (grid3.coords t) = 1#1 then dsum3 (W d) t.val t.isLt else Y
    | ⟨3, _⟩ => X = k3_pay6 (cblk cfg3 0 (W d (arr 1 0)) t)
  Φ t := kept3 (W d) d t.val
  q _ := fullShare
  owed _ := (K (F := F)).Otc d n
  recorded _ := below F d n

theorem finds3_in (n : ℕ) (W : Dev nD → Valuation τ sig (Elt F)) (d : Dev nD) (t : Fin cfg3.N) (w : Fin 2) (Y) :
    (rd3 n W d).Finds (w.castLE (by decide) : Fin 4) t Y → ∃ e, Y = (rd3 n W d).fetched (w.castLE (by decide) : Fin 4) t e :=
  match w with
  | 0 => Pipeline.RDat.finds_in_eq_fetched (rd3 n W d) 0 rfl (fun _ _ _ => rfl) (fun _ _ _ h => h) t Y
  | 1 => Pipeline.RDat.finds_in_eq_fetched (rd3 n W d) 1 rfl (fun _ _ _ => rfl) (fun _ _ _ h => h) t Y

theorem dsum3_step (W : Valuation τ sig (Elt F)) (t : Fin cfg3.N) (P : Vec F S2x128 .f32)
    (hP : ∀ k (h : k < cfg3.N), t.val = k + 1 → P = dsum3 W k h) :
    dstep (cblk cfg3 0 (W (arr 1 0)) t) (cblk cfg3 1 (W (arr 1 1)) t) (if first3 (grid3.coords t) then k3_pay1 else P) = dsum3 W t.val t.isLt := by
  obtain ⟨t, ht⟩ := t
  match t, ht, hP with
  | 0, ht, _ => rw [if_pos ((first3_iff ⟨0, ht⟩).2 rfl)]; rfl
  | t + 1, ht, hP => rw [if_neg (fun h => absurd ((first3_iff ⟨t + 1, ht⟩).1 h) (Nat.succ_ne_zero t)), hP t (Nat.lt_of_succ_lt ht) rfl]; rfl

theorem defs₀_row3 (t : Fin cfg3.N) :
    defs₀ (F := F) .tc cfg3.body (cfg3.bodyArgs t (cfg3.slots t)) = bodyAt3 t := rfl

set_option maxHeartbeats 1000000 in
theorem body3 (n : ℕ) (W : Dev nD → Valuation τ sig (Elt F)) (d : Dev nD) :
    (rd3 n W d).BodyObligation defs₀ 𝒱₀ (none : HIx 2) Set.univ := fun t Y hY => by
  obtain ⟨e0, h0⟩ := finds3_in n W d t 0 (Y 0) (hY 0)
  obtain ⟨e1, h1⟩ := finds3_in n W d t 1 (Y 1) (hY 1)
  rw [bigSep_W3, bigSep_W3, defs₀_row3, show (rd3 n W d).owesAt none t.succ = (rd3 n W d).owesAt none t.castSucc from rfl,
    show (rd3 n W d).Φ t.succ = kept3 (W d) d (t.val + 1) from rfl, show (rd3 n W d).Φ t.castSucc = kept3 (W d) d t.val from rfl]
  unfold kept3
  iintro ⟨⟨%P, %hP, HP, HΦ⟩, Ho, H0, H1, H2, H3⟩
  have hs : dstep (Y 0) (Y 1) (if first3 (grid3.coords t) then k3_pay1 else P) = dsum3 (W d) t.val t.isLt := by
    rw [h0, h1]
    exact dsum3_step (W d) t P hP
  iapply (dstats_run d (grid3.coords t) _ _ _ _ _ _ _ _ _ _ (Y 0) (Y 1) (Y 2) (Y 3) P _)
  isplitl [H0]; · iexact H0
  isplitl [H1]; · iexact H1
  isplitl [H2]; · iexact H2
  isplitl [H3]; · iexact H3
  isplitl [HP]; · iexact HP
  rw [hs]
  iintro ⟨H0, H1, H2, H3, HP⟩
  isplitl [HΦ HP]
  · iexists (dsum3 (W d) t.val t.isLt)
    isplitr
    · ipureintro
      intro k h hk
      obtain rfl : t.val = k := Nat.succ.inj hk
      rfl
    isplitl [HP]; · iexact HP
    iexact HΦ
  isplitl [Ho]; · iexact Ho
  isplitl [H0]; · iexists _; isplitr; on_goal 2 => iexact H0
                  ipureintro; exact rfl
  isplitl [H1]; · iexists _; isplitr; on_goal 2 => iexact H1
                  ipureintro; exact rfl
  isplitl [H2]; · iexists _; isplitr; on_goal 2 => iexact H2
                  ipureintro; exact rfl
  · iexists _; isplitr; on_goal 2 => iexact H3
    ipureintro
    rw [h0]
    rfl

theorem begin3 (n : ℕ) (W : Dev nD → Valuation τ sig (Elt F)) (d : Dev nD) :
    (Pipeline.scopedRest spec3 d : sProp 𝕄) ⊢ (rd3 n W d).Φ 0 := by
  rw [scopedRest3_split, show (rd3 n W d).Φ 0 = kept3 (W d) d 0 from rfl]
  unfold kept3
  iintro ⟨⟨%f, H⟩, HΦ⟩
  iexists f
  isplitr
  · ipureintro
    intro k h hk
    exact absurd hk (Nat.succ_ne_zero k).symm
  rw [owns_whole]
  isplitl [H]; · iexact H
  iexact HΦ

theorem end3 (n : ℕ) (W : Dev nD → Valuation τ sig (Elt F)) (d : Dev nD) :
    (rd3 n W d).Φ (Fin.last cfg3.N) ⊢ (Pipeline.scopedRest spec3 d : sProp 𝕄) := by
  rw [scopedRest3_split, show (rd3 n W d).Φ (Fin.last cfg3.N) = kept3 (W d) d cfg3.N from rfl]
  unfold kept3
  simp only [owns_whole]
  iintro ⟨%P, %hP, H, HΦ⟩
  isplitl [H]; · iexists P; iexact H
  iexact HΦ

/-! ## The call on the second half -/

/-- Both halves are served by one kernel. -/
theorem dstats_same : cc4__dstats_kernel (F := F) = cc3__dstats_kernel (F := F) := rfl

/-- The sums after a point. -/
def dsum4 (W : Valuation τ sig (Elt F)) : (t : ℕ) → t < cfg4.N → Vec F S2x128 .f32 :=
  along (fun t => (cblk cfg4 0 (W (arr 2 0)) t, cblk cfg4 1 (W (arr 2 1)) t)) (fun b P => dstep b.1 b.2 P) k3_pay1

/-- Between points: the sums so far, in the buffer of the call's own. -/
def kept4 (W : Valuation τ sig (Elt F)) (d : Dev nD) (t : ℕ) : sProp 𝕄 :=
  iprop(∃ P : Vec F S2x128 .f32, ⌜∀ k (h : k < cfg4.N), t = k + 1 → P = dsum4 W k h⌝
    ∗ owns (d : Thread nD τ) (Memref.whole cc4_scratch0) fullShare P ∗ Pipeline.scopedRestBut spec4 d [cc4_scratch0])

/-- The call's data: the blocks in are left as found, the last point stores the sums, half of each row is kept. -/
def rd4 (n : ℕ) (W : Dev nD → Valuation τ sig (Elt F)) (d : Dev nD) : Pipeline.RDat τ (Elt F) (HIx 2) ℕ UU ℕ cfg4 d where
  A w := W d (arr 2 w)
  after w t Y X := match w with
    | ⟨0, _⟩ => X = Y
    | ⟨1, _⟩ => X = Y
    | ⟨2, _⟩ => X = if k3_cond2 (grid4.coords t) = 1#1 then dsum4 (W d) t.val t.isLt else Y
    | ⟨3, _⟩ => X = k3_pay6 (cblk cfg4 0 (W d (arr 2 0)) t)
  Φ t := kept4 (W d) d t.val
  q _ := fullShare
  owed _ := (K (F := F)).Otc d n
  recorded _ := below F d n

theorem finds4_in (n : ℕ) (W : Dev nD → Valuation τ sig (Elt F)) (d : Dev nD) (t : Fin cfg4.N) (w : Fin 2) (Y) :
    (rd4 n W d).Finds (w.castLE (by decide) : Fin 4) t Y → ∃ e, Y = (rd4 n W d).fetched (w.castLE (by decide) : Fin 4) t e :=
  match w with
  | 0 => Pipeline.RDat.finds_in_eq_fetched (rd4 n W d) 0 rfl (fun _ _ _ => rfl) (fun _ _ _ h => h) t Y
  | 1 => Pipeline.RDat.finds_in_eq_fetched (rd4 n W d) 1 rfl (fun _ _ _ => rfl) (fun _ _ _ h => h) t Y

theorem dsum4_step (W : Valuation τ sig (Elt F)) (t : Fin cfg4.N) (P : Vec F S2x128 .f32)
    (hP : ∀ k (h : k < cfg4.N), t.val = k + 1 → P = dsum4 W k h) :
    dstep (cblk cfg4 0 (W (arr 2 0)) t) (cblk cfg4 1 (W (arr 2 1)) t) (if first3 (grid4.coords t) then k3_pay1 else P) = dsum4 W t.val t.isLt := by
  obtain ⟨t, ht⟩ := t
  match t, ht, hP with
  | 0, ht, _ => rw [if_pos ((first3_iff ⟨0, ht⟩).2 rfl)]; rfl
  | t + 1, ht, hP => rw [if_neg (fun h => absurd ((first3_iff ⟨t + 1, ht⟩).1 h) (Nat.succ_ne_zero t)), hP t (Nat.lt_of_succ_lt ht) rfl]; rfl

theorem defs₀_row4 (t : Fin cfg4.N) :
    defs₀ (F := F) .tc cfg4.body (cfg4.bodyArgs t (cfg4.slots t)) = bodyAt4 t := rfl

set_option maxHeartbeats 1000000 in
theorem body4 (n : ℕ) (W : Dev nD → Valuation τ sig (Elt F)) (d : Dev nD) :
    (rd4 n W d).BodyObligation defs₀ 𝒱₀ (none : HIx 2) Set.univ := fun t Y hY => by
  obtain ⟨e0, h0⟩ := finds4_in n W d t 0 (Y 0) (hY 0)
  obtain ⟨e1, h1⟩ := finds4_in n W d t 1 (Y 1) (hY 1)
  rw [bigSep_W4, bigSep_W4, defs₀_row4, bodyAt4, dstats_same, show (rd4 n W d).owesAt none t.succ = (rd4 n W d).owesAt none t.castSucc from rfl,
    show (rd4 n W d).Φ t.succ = kept4 (W d) d (t.val + 1) from rfl, show (rd4 n W d).Φ t.castSucc = kept4 (W d) d t.val from rfl]
  unfold kept4
  iintro ⟨⟨%P, %hP, HP, HΦ⟩, Ho, H0, H1, H2, H3⟩
  have hs : dstep (Y 0) (Y 1) (if first3 (grid4.coords t) then k3_pay1 else P) = dsum4 (W d) t.val t.isLt := by
    rw [h0, h1]
    exact dsum4_step (W d) t P hP
  iapply (dstats_run d (grid4.coords t) _ _ _ _ _ _ _ _ _ _ (Y 0) (Y 1) (Y 2) (Y 3) P _)
  isplitl [H0]; · iexact H0
  isplitl [H1]; · iexact H1
  isplitl [H2]; · iexact H2
  isplitl [H3]; · iexact H3
  isplitl [HP]; · iexact HP
  rw [hs]
  iintro ⟨H0, H1, H2, H3, HP⟩
  isplitl [HΦ HP]
  · iexists (dsum4 (W d) t.val t.isLt)
    isplitr
    · ipureintro
      intro k h hk
      obtain rfl : t.val = k := Nat.succ.inj hk
      rfl
    isplitl [HP]; · iexact HP
    iexact HΦ
  isplitl [Ho]; · iexact Ho
  isplitl [H0]; · iexists _; isplitr; on_goal 2 => iexact H0
                  ipureintro; exact rfl
  isplitl [H1]; · iexists _; isplitr; on_goal 2 => iexact H1
                  ipureintro; exact rfl
  isplitl [H2]; · iexists _; isplitr; on_goal 2 => iexact H2
                  ipureintro; exact rfl
  · iexists _; isplitr; on_goal 2 => iexact H3
    ipureintro
    rw [h0]
    rfl

theorem begin4 (n : ℕ) (W : Dev nD → Valuation τ sig (Elt F)) (d : Dev nD) :
    (Pipeline.scopedRest spec4 d : sProp 𝕄) ⊢ (rd4 n W d).Φ 0 := by
  rw [scopedRest4_split, show (rd4 n W d).Φ 0 = kept4 (W d) d 0 from rfl]
  unfold kept4
  iintro ⟨⟨%f, H⟩, HΦ⟩
  iexists f
  isplitr
  · ipureintro
    intro k h hk
    exact absurd hk (Nat.succ_ne_zero k).symm
  rw [owns_whole]
  isplitl [H]; · iexact H
  iexact HΦ

theorem end4 (n : ℕ) (W : Dev nD → Valuation τ sig (Elt F)) (d : Dev nD) :
    (rd4 n W d).Φ (Fin.last cfg4.N) ⊢ (Pipeline.scopedRest spec4 d : sProp 𝕄) := by
  rw [scopedRest4_split, show (rd4 n W d).Φ (Fin.last cfg4.N) = kept4 (W d) d cfg4.N from rfl]
  unfold kept4
  simp only [owns_whole]
  iintro ⟨%P, %hP, H, HΦ⟩
  isplitl [H]; · iexists P; iexact H
  iexact HΦ

end Cert.Kernel.Gather

end
-- ==== Proof.Kernel.Second.lean ====
/-
  The kernel of the second products: the scale and the shift from the differences' sums, then block by block the second
  products and their sums.
-/
module

public import proofs.«01_k».proof.Proof.Kernel.Dstats
public import proofs.«01_k».proof.Proof.Gen.Kernel.Skeleton
public import Idealize.ShloMosaic.Lib.WordCmp
public import Idealize.ShloMosaic.Lib.Tactic

@[expose] public section

noncomputable section

namespace Cert.Kernel.Gather

open Cert.Kernel Cert.Kernel.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- A table of two rows. -/
def two {α : Type} {m : ℕ} (a b : (Tbl 1 m).Idx → α) : (Tbl 2 m).Idx → α := fun y =>
  if (y 0).val = 0 then a (fun x => match x with | 0 => (0 : Fin 1) | 1 => y 1) else b (fun x => match x with | 0 => (0 : Fin 1) | 1 => y 1)

theorem putRows_two {α : Type} {m : ℕ} (P : (Tbl 2 m).Idx → α) (a b : (Tbl 1 m).Idx → α) :
    putRows (k := 1) (putRows (k := 1) P 0 a) 1 b = two a b := by
  funext y
  have hy : (y 0).val < 2 := (y 0).isLt
  have hz : ∀ r (h : (y 0).val - r < 1), (⟨(y 0).val - r, h⟩ : Fin 1) = 0 := fun r h => Subsingleton.elim _ _
  unfold putRows two
  by_cases h : (y 0).val = 0
  · rw [dif_neg (by omega), dif_pos (by omega), if_pos h]
    exact congrArg a (funext fun x => match x with | 0 => hz 0 (by omega) | 1 => rfl)
  · rw [dif_pos (by omega), if_neg h]
    exact congrArg b (funext fun x => match x with | 0 => hz 1 (by omega) | 1 => rfl)

/-- The first point: its condition. -/
abbrev first5 (i : grid5.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The scale and the shift from the differences' sums. -/
def scale (sa sb : Vec F S2x128 .f32) (gv : Vec F S8x128 .f32) : Vec F S2x128 .f32 :=
  two (k5_pay3 (rows 1 128 sa 0 inb_S2x128_S1x128_0_0) (rows 1 128 sb 0 inb_S2x128_S1x128_0_0) (rows 1 128 sa 1 inb_S2x128_S1x128_1_0)
      (rows 1 128 sb 1 inb_S2x128_S1x128_1_0) (rows 1 128 gv 0 inb_S8x128_S1x128_0_0))
    (k5_pay4 (rows 1 128 sa 0 inb_S2x128_S1x128_0_0) (rows 1 128 sb 0 inb_S2x128_S1x128_0_0) (rows 1 128 sa 1 inb_S2x128_S1x128_1_0)
      (rows 1 128 sb 1 inb_S2x128_S1x128_1_0) (rows 1 128 gv 0 inb_S8x128_S1x128_0_0) (rows 1 128 gv 1 inb_S8x128_S1x128_1_0))

/-- The scale and the shift as kept: found at the first point. -/
def coef (i : grid5.Coords) (sa sb : Vec F S2x128 .f32) (gv : Vec F S8x128 .f32) (S : Vec F S2x128 .f32) : Vec F S2x128 .f32 :=
  if first5 i then scale sa sb gv else S

/-- The running sums of the second products, and of their squares, with one block's added. -/
def ustep (g tab : Vec F S8192x128 .f32) (B : Vec F S128x64 .bf16) (S : Vec F S2x128 .f32) (P : Vec F S2x64 .f32) : Vec F S2x64 .f32 :=
  two (k5_pay11 g tab (rows 1 128 S 0 inb_S2x128_S1x128_0_0) (rows 1 128 S 1 inb_S2x128_S1x128_1_0) B (rows 1 64 P 0 inb_S2x64_S1x64_0_0))
    (k5_pay6 (k5_pay12 g tab (rows 1 128 S 0 inb_S2x128_S1x128_0_0) (rows 1 128 S 1 inb_S2x128_S1x128_1_0) B (rows 1 64 P 1 inb_S2x64_S1x64_1_0)))

/-- The two halves' blocks are treated alike. -/
theorem part_same (i : grid5.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S8x128 .f32) (harg7 : arg7.IsWhole) (arg8 : Memref sig .tc .vmem S128x64 .bf16) (harg8 : arg8.IsWhole) (arg9 : Memref sig .tc .vmem S1x8192x64 .bf16) (harg9 : arg9.IsWhole) (arg10 : Memref sig .tc .vmem S8x64 .f32) (harg10 : arg10.IsWhole) (arg11 : Memref sig .tc .vmem S2x128 .f32) (harg11 : arg11.IsWhole) (arg12 : Memref sig .tc .vmem S2x64 .f32) (harg12 : arg12.IsWhole) :
    k5_part2 (F := F) i arg2 harg2 arg3 harg3 arg4 harg4 arg5 harg5 arg6 harg6 arg7 harg7 arg8 harg8 arg9 harg9 arg10 harg10 arg11 harg11 arg12 harg12 = k5_part1 i arg3 harg3 arg2 harg2 arg4 harg4 arg5 harg5 arg6 harg6 arg7 harg7 arg8 harg8 arg9 harg9 arg10 harg10 arg11 harg11 arg12 harg12 := rfl
theorem pay_same : k5_pay7 (F := F) = k5_pay6 := rfl

set_option maxHeartbeats 2000000 in
theorem u_run (c : Dev nD) (i : grid5.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S8x128 .f32) (harg7 : arg7.IsWhole) (arg8 : Memref sig .tc .vmem S128x64 .bf16) (harg8 : arg8.IsWhole) (arg9 : Memref sig .tc .vmem S1x8192x64 .bf16) (harg9 : arg9.IsWhole) (arg10 : Memref sig .tc .vmem S8x64 .f32) (harg10 : arg10.IsWhole) (arg11 : Memref sig .tc .vmem S2x128 .f32) (harg11 : arg11.IsWhole) (arg12 : Memref sig .tc .vmem S2x64 .f32) (harg12 : arg12.IsWhole)
    (ga : Vec F S8192x128 .f32) (gb : Vec F S8192x128 .f32) (tab : Vec F S8192x128 .f32) (sa : Vec F S2x128 .f32) (sb : Vec F S2x128 .f32) (gv : Vec F S8x128 .f32) (B : Vec F S128x64 .bf16) (u : Vec F S1x8192x64 .bf16) (y : Vec F S8x64 .f32) (S : Vec F S2x128 .f32) (P : Vec F S2x64 .f32) (h23 : k5_cond3 i = 1#1 ↔ ¬ k5_cond2 i = 1#1) (h12 : first5 i → k5_cond2 i = 1#1) (Q : PUnit → sProp 𝕄) :
    iprop(owns (c : Thread nD τ) arg2 fullShare ga
        ∗ owns (c : Thread nD τ) arg3 fullShare gb
        ∗ owns (c : Thread nD τ) arg4 fullShare tab
        ∗ owns (c : Thread nD τ) arg5 fullShare sa
        ∗ owns (c : Thread nD τ) arg6 fullShare sb
        ∗ owns (c : Thread nD τ) arg7 fullShare gv
        ∗ owns (c : Thread nD τ) arg8 fullShare B
        ∗ owns (c : Thread nD τ) arg9 fullShare u
        ∗ owns (c : Thread nD τ) arg10 fullShare y
        ∗ owns (c : Thread nD τ) arg11 fullShare S
        ∗ owns (c : Thread nD τ) arg12 fullShare P
        ∗ (iprop(owns (c : Thread nD τ) arg2 fullShare ga
        ∗ owns (c : Thread nD τ) arg3 fullShare gb
        ∗ owns (c : Thread nD τ) arg4 fullShare tab
        ∗ owns (c : Thread nD τ) arg5 fullShare sa
        ∗ owns (c : Thread nD τ) arg6 fullShare sb
        ∗ owns (c : Thread nD τ) arg7 fullShare gv
        ∗ owns (c : Thread nD τ) arg8 fullShare B
        ∗ owns (c : Thread nD τ) arg9 fullShare (k5_pay9 (if k5_cond2 i = 1#1 then ga else gb) tab (rows 1 128 (coef i sa sb gv S) 0 inb_S2x128_S1x128_0_0) (rows 1 128 (coef i sa sb gv S) 1 inb_S2x128_S1x128_1_0) B)
        ∗ owns (c : Thread nD τ) arg10 fullShare (putRows (k := 2) y 0 (ustep (if k5_cond2 i = 1#1 then ga else gb) tab B (coef i sa sb gv S) (if first5 i then k5_pay5 else P)))
        ∗ owns (c : Thread nD τ) arg11 fullShare (coef i sa sb gv S)
        ∗ owns (c : Thread nD τ) arg12 fullShare (ustep (if k5_cond2 i = 1#1 then ga else gb) tab B (coef i sa sb gv S) (if first5 i then k5_pay5 else P))) -∗ Q ⟨⟩))
      ⊢ wp frame (wpE (defs₀ (F := F)) 𝒱₀ c none) Set.univ (cc5__u_kernel i arg2 harg2 arg3 harg3 arg4 harg4 arg5 harg5 arg6 harg6 arg7 harg7 arg8 harg8 arg9 harg9 arg10 harg10 arg11 harg11 arg12 harg12) Q := by
  simp only [cc5__u_kernel_eq_skeleton]; unfold cc5__u_kernel_skel
  simp only [part_same, pay_same, k5_part1_eq_skeleton]; unfold k5_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  by_cases hc : first5 i
  · have h2 := h12 hc
    have h3 : ¬ k5_cond3 i = 1#1 := fun h => h23.1 h h2
    sl_exec (disch := first | sl_exact hc | sl_exact h2 | sl_exact h3)
    sl_step
    have hS : coef i sa sb gv S = scale sa sb gv := if_pos hc
    have hS11 : ∀ f, View.read (Elt F) arg11.view (arg11.view.writes (Elt F) f (u_run.sl.H11_2 c arg5 arg6 arg7 f5 f6 f7)) = scale sa sb gv := fun f => by
      delta u_run.sl.H11_2
      rw [read_putRows (k := 1), read_putRows (k := 1), putRows_two, readAt_rows (k := 1), readAt_rows (k := 1), readAt_rows (k := 1), readAt_rows (k := 1),
        readAt_rows (k := 1), readAt_rows (k := 1), hf5, hf6, hf7]
      rfl
    have hP12 : ∀ f, View.read (Elt F) arg12.view (arg12.view.writes (Elt F) f (u_run.sl.H12_3 c arg2 arg4 arg5 arg6 arg7 arg8 arg11 arg12 f2 f4 f5 f6 f7 f8))
        = ustep ga tab B (scale sa sb gv) k5_pay5 := fun f => by
      delta u_run.sl.H12_3 u_run.sl.v42 u_run.sl.H12_2 u_run.sl.v36 u_run.sl.v18 u_run.sl.v21
      rw [readCov_eq, readCov_eq, readCov_eq, readCov_eq, readAt_rows (k := 1), readAt_rows (k := 1), hS11, readAt_rows (k := 1), readAt_rows (k := 1),
        read_putRows (k := 1), read_putRows (k := 1), putRows_two, read_putRows (k := 1), rows_putRows_of_ne _ _ _ _ _ _ (by decide)]
      delta u_run.sl.H12_1
      rw [read_all _ _ zero2, readAt_all _ _ zero2, readAt_all _ _ zero2, readAt_all _ _ zero2, hf2, hf4, hf8]
      rfl
    iapply Hk
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]
    · iexists _; isplitr; on_goal 2 => iexact H9
      ipureintro
      delta u_run.sl.v18 u_run.sl.v21
      rw [hS, readCov_eq, readCov_eq, readAt_rows (k := 1), readAt_rows (k := 1), hS11, read_all _ _ zero3, if_pos h2, readAt_all _ _ zero2, readAt_all _ _ zero2, readAt_all _ _ zero2, hf2, hf4, hf8]
    isplitl [H10]
    · iexists _; isplitr; on_goal 2 => iexact H10
      ipureintro
      delta u_run.sl.v11
      rw [hS, read_putRows (k := 2), readCov_eq, readAt_all _ _ zero2, hP12, View.writes_nil, hf10, if_pos h2, if_pos hc]
    isplitl [H11]
    · iexists _; isplitr; on_goal 2 => iexact H11
      ipureintro
      rw [hS, hS11]

    · iexists _; isplitr; on_goal 2 => iexact H12
      ipureintro
      rw [hS, hP12, if_pos h2, if_pos hc]

  by_cases h2 : k5_cond2 i = 1#1
  · have h3 : ¬ k5_cond3 i = 1#1 := fun h => h23.1 h h2
    sl_exec (disch := first | sl_exact hc | sl_exact h2 | sl_exact h3)
    sl_step
    have hS : View.read (Elt F) arg11.view f11 = coef i sa sb gv S := hf11.trans (if_neg hc).symm
    have hP12 : ∀ f, View.read (Elt F) arg12.view (arg12.view.writes (Elt F) f (u_run.sl.H12_2_1 c arg2 arg4 arg8 arg11 arg12 f2 f4 f8 f11 f12))
        = ustep ga tab B (coef i sa sb gv S) P := fun f => by
      delta u_run.sl.H12_2_1 u_run.sl.v42_1
      rw [read_putRows (k := 1), read_putRows (k := 1), putRows_two, readAt_all _ _ zero2, readAt_all _ _ zero2, readAt_all _ _ zero2, readAt_rows (k := 1),
        readAt_rows (k := 1), readAt_rows (k := 1), readAt_rows (k := 1), hS, hf2, hf4, hf8, hf12]
      rfl
    iapply Hk
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]
    · iexists _; isplitr; on_goal 2 => iexact H9
      ipureintro
      rw [read_all _ _ zero3, if_pos h2, readAt_all _ _ zero2, readAt_all _ _ zero2, readAt_all _ _ zero2, readAt_rows (k := 1), readAt_rows (k := 1), hS, hf2, hf4, hf8]
    isplitl [H10]
    · iexists _; isplitr; on_goal 2 => iexact H10
      ipureintro
      delta u_run.sl.v11_1
      rw [read_putRows (k := 2), readCov_eq, readAt_all _ _ zero2, hP12, View.writes_nil, hf10, if_pos h2, if_neg hc]
    isplitl [H11]
    · iexists _; isplitr; on_goal 2 => iexact H11
      ipureintro
      exact hS

    · iexists _; isplitr; on_goal 2 => iexact H12
      ipureintro
      rw [hP12, if_pos h2, if_neg hc]

  · have h3 : k5_cond3 i = 1#1 := h23.2 h2
    sl_exec (disch := first | sl_exact hc | sl_exact h2 | sl_exact h3)
    sl_step
    have hS : View.read (Elt F) arg11.view f11 = coef i sa sb gv S := hf11.trans (if_neg hc).symm
    have hP12 : ∀ f, View.read (Elt F) arg12.view (arg12.view.writes (Elt F) f (u_run.sl.H12_2_2 c arg3 arg4 arg8 arg11 arg12 f3 f4 f8 f11 f12))
        = ustep gb tab B (coef i sa sb gv S) P := fun f => by
      delta u_run.sl.H12_2_2 u_run.sl.v42_2
      rw [read_putRows (k := 1), read_putRows (k := 1), putRows_two, readAt_all _ _ zero2, readAt_all _ _ zero2, readAt_all _ _ zero2, readAt_rows (k := 1),
        readAt_rows (k := 1), readAt_rows (k := 1), readAt_rows (k := 1), hS, hf3, hf4, hf8, hf12]
      rfl
    iapply Hk
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]
    · iexists _; isplitr; on_goal 2 => iexact H9
      ipureintro
      rw [read_all _ _ zero3, if_neg h2, readAt_all _ _ zero2, readAt_all _ _ zero2, readAt_all _ _ zero2, readAt_rows (k := 1), readAt_rows (k := 1), hS, hf3, hf4, hf8]
    isplitl [H10]
    · iexists _; isplitr; on_goal 2 => iexact H10
      ipureintro
      delta u_run.sl.v11_2
      rw [read_putRows (k := 2), readCov_eq, readAt_all _ _ zero2, hP12, View.writes_nil, hf10, if_neg h2, if_neg hc]
    isplitl [H11]
    · iexists _; isplitr; on_goal 2 => iexact H11
      ipureintro
      exact hS

    · iexists _; isplitr; on_goal 2 => iexact H12
      ipureintro
      rw [hP12, if_neg h2, if_neg hc]

/-! ## The call -/

/-- The first point only; the first half's points; the second half's. -/
theorem points5 : ∀ t : Fin cfg5.N, (first5 (grid5.coords t) ↔ t.val = 0) ∧ (k5_cond2 (grid5.coords t) = 1#1 ↔ t.val < 8)
    ∧ (k5_cond3 (grid5.coords t) = 1#1 ↔ ¬ t.val < 8) :=
  (fun t => by
    have ht : t.val < 16 := Nat.lt_of_lt_of_eq t.isLt N_5
    have e0 : (grid5.coords t 0).val = t.val / 8 % 2 := Pipeline.Grid.coords_val t 0 (by decide) rfl
    have e1 : (grid5.coords t 1).val = t.val / 1 % 8 := Pipeline.Grid.coords_val t 1 (by decide) rfl
    refine ⟨?_, ?_, ?_⟩
    · simp only [first5, e0, e1]
      word_cmp
    · simp only [k5_cond2, e0]
      word_cmp
    · simp only [k5_cond3, e0]
      word_cmp
   : ∀ t : Fin grid5.N, (first5 (grid5.coords t) ↔ t.val = 0) ∧ (k5_cond2 (grid5.coords t) = 1#1 ↔ t.val < 8)
    ∧ (k5_cond3 (grid5.coords t) = 1#1 ↔ ¬ t.val < 8))

variable [∀ e, Nonempty (Elt F e)]

/-- The gathered rows of a point. -/
def pick (W : Valuation τ sig (Elt F)) (t : Fin cfg5.N) : Vec F S8192x128 .f32 :=
  if k5_cond2 (grid5.coords t) = 1#1 then cblk cfg5 0 (W (arr 3 0)) t else cblk cfg5 1 (W (arr 3 1)) t

/-- The scale and the shift that the first point finds. -/
def coef0 (W : Valuation τ sig (Elt F)) : Vec F S2x128 .f32 :=
  scale (cblk cfg5 3 (W (arr 3 3)) t5_0) (cblk cfg5 4 (W (arr 3 4)) t5_0) (cblk cfg5 5 (W (arr 3 5)) t5_0)

/-- The sums after a point. -/
def usum (W : Valuation τ sig (Elt F)) : (t : ℕ) → t < cfg5.N → Vec F S2x64 .f32 :=
  along (fun t => (pick W t, cblk cfg5 2 (W (arr 3 2)) t, cblk cfg5 6 (W (arr 3 6)) t)) (fun b P => ustep b.1 b.2.1 b.2.2 (coef0 W) P) k5_pay5

/-- Between points: the scale and the shift, and the sums so far, in the buffers of the call's own. -/
def kept5 (W : Valuation τ sig (Elt F)) (d : Dev nD) (t : ℕ) : sProp 𝕄 :=
  iprop(∃ (S : Vec F S2x128 .f32) (P : Vec F S2x64 .f32), ⌜∀ k (h : k < cfg5.N), t = k + 1 → S = coef0 W ∧ P = usum W k h⌝
    ∗ owns (d : Thread nD τ) (Memref.whole cc5_scratch0) fullShare S ∗ owns (d : Thread nD τ) (Memref.whole cc5_scratch1) fullShare P
    ∗ Pipeline.scopedRestBut spec5 d [cc5_scratch0, cc5_scratch1])

/-- The call's data: the blocks in are left as found, the second products are stored, and the sums so far. -/
def rd5 (n : ℕ) (W : Dev nD → Valuation τ sig (Elt F)) (d : Dev nD) : Pipeline.RDat τ (Elt F) (HIx 2) ℕ UU ℕ cfg5 d where
  A w := W d (arr 3 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = k5_pay9 (pick (W d) t) (cblk cfg5 2 (W d (arr 3 2)) t) (rows 1 128 (coef0 (W d)) 0 inb_S2x128_S1x128_0_0)
        (rows 1 128 (coef0 (W d)) 1 inb_S2x128_S1x128_1_0) (cblk cfg5 6 (W d (arr 3 6)) t)
    | ⟨8, _⟩ => X = putRows (k := 2) Y 0 (usum (W d) t.val t.isLt)
  Φ t := kept5 (W d) d t.val
  q _ := fullShare
  owed _ := (K (F := F)).Otc d n
  recorded _ := below F d n

theorem finds5_in (n : ℕ) (W : Dev nD → Valuation τ sig (Elt F)) (d : Dev nD) (t : Fin cfg5.N) (w : Fin 7) (Y) :
    (rd5 n W d).Finds (w.castLE (by decide) : Fin 9) t Y → ∃ e, Y = (rd5 n W d).fetched (w.castLE (by decide) : Fin 9) t e :=
  match w with
  | 0 => Pipeline.RDat.finds_in_eq_fetched (rd5 n W d) 0 rfl (fun _ _ _ => rfl) (fun _ _ _ h => h) t Y
  | 1 => Pipeline.RDat.finds_in_eq_fetched (rd5 n W d) 1 rfl (fun _ _ _ => rfl) (fun _ _ _ h => h) t Y
  | 2 => Pipeline.RDat.finds_in_eq_fetched (rd5 n W d) 2 rfl (fun _ _ _ => rfl) (fun _ _ _ h => h) t Y
  | 3 => Pipeline.RDat.finds_in_eq_fetched (rd5 n W d) 3 rfl (fun _ _ _ => rfl) (fun _ _ _ h => h) t Y
  | 4 => Pipeline.RDat.finds_in_eq_fetched (rd5 n W d) 4 rfl (fun _ _ _ => rfl) (fun _ _ _ h => h) t Y
  | 5 => Pipeline.RDat.finds_in_eq_fetched (rd5 n W d) 5 rfl (fun _ _ _ => rfl) (fun _ _ _ h => h) t Y
  | 6 => Pipeline.RDat.finds_in_eq_fetched (rd5 n W d) 6 rfl (fun _ _ _ => rfl) (fun _ _ _ h => h) t Y

theorem coef_step (W : Valuation τ sig (Elt F)) (t : Fin cfg5.N) (S : Vec F S2x128 .f32) (hS : t.val ≠ 0 → S = coef0 W) :
    coef (grid5.coords t) (cblk cfg5 3 (W (arr 3 3)) t) (cblk cfg5 4 (W (arr 3 4)) t) (cblk cfg5 5 (W (arr 3 5)) t) S = coef0 W := by
  unfold coef
  by_cases h : t.val = 0
  · obtain rfl : t = t5_0 := Fin.ext h
    rw [if_pos ((points5 _).1.2 h)]
    rfl
  · rw [if_neg fun h' => h ((points5 _).1.1 h'), hS h]

theorem usum_step (W : Valuation τ sig (Elt F)) (t : Fin cfg5.N) (P : Vec F S2x64 .f32)
    (hP : ∀ k (h : k < cfg5.N), t.val = k + 1 → P = usum W k h) :
    ustep (pick W t) (cblk cfg5 2 (W (arr 3 2)) t) (cblk cfg5 6 (W (arr 3 6)) t) (coef0 W) (if first5 (grid5.coords t) then k5_pay5 else P) = usum W t.val t.isLt := by
  obtain ⟨t, ht⟩ := t
  match t, ht, hP with
  | 0, ht, _ => rw [if_pos ((points5 ⟨0, ht⟩).1.2 rfl)]; rfl
  | t + 1, ht, hP => rw [if_neg (fun h => absurd ((points5 ⟨t + 1, ht⟩).1.1 h) (Nat.succ_ne_zero t)), hP t (Nat.lt_of_succ_lt ht) rfl]; rfl

theorem defs₀_row5 (t : Fin cfg5.N) :
    defs₀ (F := F) .tc cfg5.body (cfg5.bodyArgs t (cfg5.slots t)) = bodyAt5 t := rfl

set_option maxHeartbeats 2000000 in
theorem body5 (n : ℕ) (W : Dev nD → Valuation τ sig (Elt F)) (d : Dev nD) :
    (rd5 n W d).BodyObligation defs₀ 𝒱₀ (none : HIx 2) Set.univ := fun t Y hY => by
  obtain ⟨e0, h0⟩ := finds5_in n W d t 0 (Y 0) (hY 0)
  obtain ⟨e1, h1⟩ := finds5_in n W d t 1 (Y 1) (hY 1)
  obtain ⟨e2, h2⟩ := finds5_in n W d t 2 (Y 2) (hY 2)
  obtain ⟨e3, h3⟩ := finds5_in n W d t 3 (Y 3) (hY 3)
  obtain ⟨e4, h4⟩ := finds5_in n W d t 4 (Y 4) (hY 4)
  obtain ⟨e5, h5⟩ := finds5_in n W d t 5 (Y 5) (hY 5)
  obtain ⟨e6, h6⟩ := finds5_in n W d t 6 (Y 6) (hY 6)
  rw [bigSep_W5, bigSep_W5, defs₀_row5, show (rd5 n W d).owesAt none t.succ = (rd5 n W d).owesAt none t.castSucc from rfl,
    show (rd5 n W d).Φ t.succ = kept5 (W d) d (t.val + 1) from rfl, show (rd5 n W d).Φ t.castSucc = kept5 (W d) d t.val from rfl]
  unfold kept5
  iintro ⟨⟨%S, %P, %hSP, HS, HP, HΦ⟩, Ho, H0, H1, H2, H3, H4, H5, H6, H7, H8⟩
  have hg : (if k5_cond2 (grid5.coords t) = 1#1 then Y 0 else Y 1) = pick (W d) t := by
    rw [h0, h1]
    rfl
  have hS : coef (grid5.coords t) (Y 3) (Y 4) (Y 5) S = coef0 (W d) := by
    rw [h3, h4, h5]
    refine coef_step (W d) t S fun h => ?_
    obtain ⟨k, hk⟩ := Nat.exists_eq_succ_of_ne_zero h
    exact (hSP k (by have := t.isLt; omega) hk).1
  have hP : ustep (pick (W d) t) (Y 2) (Y 6) (coef0 (W d)) (if first5 (grid5.coords t) then k5_pay5 else P) = usum (W d) t.val t.isLt := by
    rw [h2, h6]
    exact usum_step (W d) t P fun k h hk => (hSP k h hk).2
  iapply (u_run d (grid5.coords t) _ _ _ _ _ _ _ _ _ _ _ _ _ _ _ _ _ _ _ _ _ _ (Y 0) (Y 1) (Y 2) (Y 3) (Y 4) (Y 5) (Y 6) (Y 7) (Y 8) S P
    ((points5 t).2.2.trans (not_congr (points5 t).2.1.symm)) (fun h => (points5 t).2.1.2 (by have := (points5 t).1.1 h; omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  isplitl [HP]; · iexact HP
  rw [hg, hS, hP]
  iintro ⟨H0, H1, H2, H3, H4, H5, H6, H7, H8, HS, HP⟩
  isplitl [HΦ HS HP]
  · iexists (coef0 (W d)), (usum (W d) t.val t.isLt)
    isplitr
    · ipureintro
      intro k h hk
      obtain rfl : t.val = k := Nat.succ.inj hk
      exact ⟨rfl, rfl⟩
    isplitl [HS]; · iexact HS
    isplitl [HP]; · iexact HP
    iexact HΦ
  isplitl [Ho]; · iexact Ho
  isplitl [H0]; · iexists _; isplitr; on_goal 2 => iexact H0
                  ipureintro; exact rfl
  isplitl [H1]; · iexists _; isplitr; on_goal 2 => iexact H1
                  ipureintro; exact rfl
  isplitl [H2]; · iexists _; isplitr; on_goal 2 => iexact H2
                  ipureintro; exact rfl
  isplitl [H3]; · iexists _; isplitr; on_goal 2 => iexact H3
                  ipureintro; exact rfl
  isplitl [H4]; · iexists _; isplitr; on_goal 2 => iexact H4
                  ipureintro; exact rfl
  isplitl [H5]; · iexists _; isplitr; on_goal 2 => iexact H5
                  ipureintro; exact rfl
  isplitl [H6]; · iexists _; isplitr; on_goal 2 => iexact H6
                  ipureintro; exact rfl
  isplitl [H7]
  · iexists _; isplitr; on_goal 2 => iexact H7
    ipureintro
    rw [h2, h6]
    rfl
  · iexists _; isplitr; on_goal 2 => iexact H8
    ipureintro
    exact rfl

theorem begin5 (n : ℕ) (W : Dev nD → Valuation τ sig (Elt F)) (d : Dev nD) :
    (Pipeline.scopedRest spec5 d : sProp 𝕄) ⊢ (rd5 n W d).Φ 0 := by
  rw [scopedRest5_split, show (rd5 n W d).Φ 0 = kept5 (W d) d 0 from rfl]
  unfold kept5
  simp only [owns_whole]
  iintro ⟨⟨⟨%f, H⟩, ⟨%g, HG⟩⟩, HΦ⟩
  iexists f, g
  isplitr
  · ipureintro
    intro k h hk
    exact absurd hk (Nat.succ_ne_zero k).symm
  isplitl [H]; · iexact H
  isplitl [HG]; · iexact HG
  iexact HΦ

theorem end5 (n : ℕ) (W : Dev nD → Valuation τ sig (Elt F)) (d : Dev nD) :
    (rd5 n W d).Φ (Fin.last cfg5.N) ⊢ (Pipeline.scopedRest spec5 d : sProp 𝕄) := by
  rw [scopedRest5_split, show (rd5 n W d).Φ (Fin.last cfg5.N) = kept5 (W d) d cfg5.N from rfl]
  unfold kept5
  simp only [owns_whole]
  iintro ⟨%S, %P, %hP, HS, HP, HΦ⟩
  isplitl [HS HP]
  · isplitl [HS]; · iexists S; iexact HS
    iexists P; iexact HP
  iexact HΦ

end Cert.Kernel.Gather

end
-- ==== Proof.Kernel.Table.lean ====
/-
  The table kernel: one block of rows of the two products, and two running sums of the second one.
-/
module

public import proofs.«01_k».proof.Proof.Kernel.Blocks
public import proofs.«01_k».proof.Proof.Gen.Kernel.Skeleton
public import Idealize.ShloMosaic.Lib.WordCmp
public import Idealize.ShloMosaic.Lib.Tactic

@[expose] public section

noncomputable section

namespace Cert.Kernel.Gather

open Cert.Kernel Cert.Kernel.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The running sums with one block's added. -/
def vstep (x : Vec F S1x2048x64 .f32) (wv : Vec F S64x64 .f32) (P : Vec F S8x64 .f32) : Vec F S8x64 .f32 :=
  let P' : Vec F S8x64 .f32 := putRows (k := 1) P 0 (k0_pay5 x wv (rows 1 64 P 0 inb_S8x64_S1x64_0_0))
  putRows (k := 1) P' 1 (k0_pay6 x wv (rows 1 64 P 1 inb_S8x64_S1x64_1_0))

/-- The first block: its condition. -/
abbrev first0 (i : grid0.Coords) : Prop :=
  (Scalar.cmpi .ne (Scalar.extui (Scalar.cmpi .eq (BitVec.ofNat 32 (i 0).val) 0#32)) 0#32) = 1#1

set_option maxHeartbeats 1000000 in
/-- One block: the products are stored, the sums move on. -/
theorem table_run (c : Dev nD) (i : grid0.Coords) (arg1 : Memref sig .tc .vmem S1x2048x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S1x2048x128 .f32) (harg4 : arg4.IsWhole) (arg5 : Memref sig .tc .vmem S8x64 .f32) (harg5 : arg5.IsWhole)
    (x : Vec F S1x2048x64 .f32) (w1 wv : Vec F S64x64 .f32) (y : Vec F S1x2048x128 .f32) (P : Vec F S8x64 .f32) (Q : PUnit → sProp 𝕄) :
    iprop(owns (c : Thread nD τ) arg1 fullShare x ∗ owns (c : Thread nD τ) arg2 fullShare w1 ∗ owns (c : Thread nD τ) arg3 fullShare wv
        ∗ owns (c : Thread nD τ) arg4 fullShare y ∗ owns (c : Thread nD τ) arg5 fullShare P
        ∗ (iprop(owns (c : Thread nD τ) arg1 fullShare x ∗ owns (c : Thread nD τ) arg2 fullShare w1 ∗ owns (c : Thread nD τ) arg3 fullShare wv
            ∗ owns (c : Thread nD τ) arg4 fullShare (k0_pay3 x w1 wv)
            ∗ owns (c : Thread nD τ) arg5 fullShare (vstep x wv (if first0 i then k0_pay4 else P))) -∗ Q ⟨⟩))
      ⊢ wp frame (wpE (defs₀ (F := F)) 𝒱₀ c none) Set.univ (cc0__table_kernel i arg1 harg1 arg2 harg2 arg3 harg3 arg4 harg4 arg5 harg5) Q := by
  simp only [cc0__table_kernel_eq_skeleton]; unfold cc0__table_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  by_cases hc : first0 i
  · sl_exec (disch := first | sl_exact hc)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]
    · iexists _; isplitr; on_goal 2 => iexact H3
      ipureintro
      rw [read_all _ _ zero3, readAt_all _ _ zero3, readAt_all _ _ zero2, readAt_all _ _ zero2, hf0, hf1, hf2]
    · iexists _; isplitr; on_goal 2 => iexact H4
      ipureintro
      delta table_run.sl.v21 table_run.sl.H4_2 table_run.sl.v15 table_run.sl.H4_1
      rw [if_pos hc]
      rw [readAt_all _ _ zero3, readAt_all _ _ zero2, hf0, hf2, read_putRows (k := 1), read_putRows (k := 1), read_all _ _ zero2,
        readCov_eq, readCov_eq, readAt_rows (k := 1), readAt_rows (k := 1), read_putRows (k := 1), read_all _ _ zero2,
        rows_putRows_of_ne _ _ _ _ _ _ (by decide)]
      rfl
  · sl_exec (disch := first | sl_exact hc)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]
    · iexists _; isplitr; on_goal 2 => iexact H3
      ipureintro
      rw [read_all _ _ zero3, readAt_all _ _ zero3, readAt_all _ _ zero2, readAt_all _ _ zero2, hf0, hf1, hf2]
    · iexists _; isplitr; on_goal 2 => iexact H4
      ipureintro
      delta table_run.sl.v21_1
      rw [if_neg hc]
      rw [readAt_all _ _ zero3, readAt_all _ _ zero2, hf0, hf2, read_putRows (k := 1), read_putRows (k := 1),
        readAt_rows (k := 1), readAt_rows (k := 1), View.writes_nil, hf4]
      rfl

/-! ## The call -/

variable [∀ e, Nonempty (Elt F e)]

/-- The sums after a point. -/
def vsum (W : Valuation τ sig (Elt F)) : (t : ℕ) → t < cfg0.N → Vec F S8x64 .f32 :=
  along (fun t => (cblk cfg0 0 (W (arr 0 0)) t, cblk cfg0 2 (W (arr 0 2)) t)) (fun b P => vstep b.1 b.2 P) k0_pay4

/-- The call's data: the blocks in are left as found, the products are stored, the sums move on. -/
def rd0 (n : ℕ) (W : Dev nD → Valuation τ sig (Elt F)) (d : Dev nD) : Pipeline.RDat τ (Elt F) (HIx 2) ℕ UU ℕ cfg0 d where
  A w := W d (arr 0 w)
  after w t Y X := match w with
    | ⟨0, _⟩ => X = Y
    | ⟨1, _⟩ => X = Y
    | ⟨2, _⟩ => X = Y
    | ⟨3, _⟩ => X = k0_pay3 (cblk cfg0 0 (W d (arr 0 0)) t) (cblk cfg0 1 (W d (arr 0 1)) t) (cblk cfg0 2 (W d (arr 0 2)) t)
    | ⟨4, _⟩ => X = vsum (W d) t.val t.isLt
  Φ _ := Pipeline.scopedRest spec0 d
  q _ := fullShare
  owed _ := (K (F := F)).Otc d n
  recorded _ := below F d n

theorem finds0_in (n : ℕ) (W : Dev nD → Valuation τ sig (Elt F)) (d : Dev nD) (t : Fin cfg0.N) (w : Fin 3) (Y) :
    (rd0 n W d).Finds (w.castLE (by decide) : Fin 5) t Y → ∃ e, Y = (rd0 n W d).fetched (w.castLE (by decide) : Fin 5) t e :=
  match w with
  | 0 => Pipeline.RDat.finds_in_eq_fetched (rd0 n W d) 0 rfl (fun _ _ _ => rfl) (fun _ _ _ h => h) t Y
  | 1 => Pipeline.RDat.finds_in_eq_fetched (rd0 n W d) 1 rfl (fun _ _ _ => rfl) (fun _ _ _ h => h) t Y
  | 2 => Pipeline.RDat.finds_in_eq_fetched (rd0 n W d) 2 rfl (fun _ _ _ => rfl) (fun _ _ _ h => h) t Y

/-- The condition holds at the first point only. -/
theorem first0_iff : ∀ t : Fin cfg0.N, first0 (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [first0, e0]
    word_cmp
   : ∀ t : Fin grid0.N, first0 (grid0.coords t) ↔ t.val = 0)

/-- The sums the body finds, after the first point. -/
theorem finds0_sum (n : ℕ) (W : Dev nD → Valuation τ sig (Elt F)) (d : Dev nD) (t : Fin cfg0.N) (ht : t.val ≠ 0) (Y) (h : (rd0 n W d).Finds 4 t Y) :
    Y = vsum (W d) (t.val - 1) (Nat.lt_of_le_of_lt (Nat.sub_le _ _) t.isLt) := by
  rcases ((rd0 n W d).finds_of_pos rfl ht Y).1 h with h' | ⟨Z, -, h'⟩
  · have h4 := (flush0_4 ⟨t.val - 1, Nat.lt_of_le_of_lt (Nat.sub_le _ _) t.isLt⟩).1 h'
    have ht4 : t.val < 4 := Nat.lt_of_lt_of_eq t.isLt N_0
    simp only at h4
    omega
  · exact h'

theorem vsum_step (W : Valuation τ sig (Elt F)) (t : Fin cfg0.N) (P : Vec F S8x64 .f32)
    (hP : t.val ≠ 0 → P = vsum W (t.val - 1) (Nat.lt_of_le_of_lt (Nat.sub_le _ _) t.isLt)) :
    vstep (cblk cfg0 0 (W (arr 0 0)) t) (cblk cfg0 2 (W (arr 0 2)) t) (if first0 (grid0.coords t) then k0_pay4 else P) = vsum W t.val t.isLt := by
  obtain ⟨t, ht⟩ := t
  match t, ht, hP with
  | 0, ht, _ => rw [if_pos ((first0_iff ⟨0, ht⟩).2 rfl)]; rfl
  | t + 1, ht, hP => rw [if_neg (fun h => absurd ((first0_iff ⟨t + 1, ht⟩).1 h) (Nat.succ_ne_zero t)), hP (Nat.succ_ne_zero t)]; rfl

theorem defs₀_row0 (t : Fin cfg0.N) :
    defs₀ (F := F) .tc cfg0.body (cfg0.bodyArgs t (cfg0.slots t)) = bodyAt0 t := rfl

set_option maxHeartbeats 1000000 in
theorem body0 (n : ℕ) (W : Dev nD → Valuation τ sig (Elt F)) (d : Dev nD) :
    (rd0 n W d).BodyObligation defs₀ 𝒱₀ (none : HIx 2) Set.univ := fun t Y hY => by
  obtain ⟨e0, h0⟩ := finds0_in n W d t 0 (Y 0) (hY 0)
  obtain ⟨e1, h1⟩ := finds0_in n W d t 1 (Y 1) (hY 1)
  obtain ⟨e2, h2⟩ := finds0_in n W d t 2 (Y 2) (hY 2)
  have h4 := fun ht => finds0_sum n W d t ht (Y 4) (hY 4)
  rw [bigSep_W0, bigSep_W0, defs₀_row0, show (rd0 n W d).Φ t.succ = (rd0 n W d).Φ t.castSucc from rfl,
    show (rd0 n W d).owesAt none t.succ = (rd0 n W d).owesAt none t.castSucc from rfl]
  iintro ⟨HΦ, Ho, H0, H1, H2, H3, H4⟩
  iapply (table_run d (grid0.coords t) _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexists _; isplitr; on_goal 2 => iexact H0
                  ipureintro; exact rfl
  isplitl [H1]; · iexists _; isplitr; on_goal 2 => iexact H1
                  ipureintro; exact rfl
  isplitl [H2]; · iexists _; isplitr; on_goal 2 => iexact H2
                  ipureintro; exact rfl
  isplitl [H3]
  · iexists _; isplitr; on_goal 2 => iexact H3
    ipureintro
    rw [h0, h1, h2]
    rfl
  · iexists _; isplitr; on_goal 2 => iexact H4
    ipureintro
    rw [h0, h2]
    exact vsum_step (W d) t (Y 4) h4

end Cert.Kernel.Gather

end
-- ==== Proof.Kernel.Final.lean ====
/-
  The last kernel: for one block of rows, the second products scaled, weighed and added up, and the greatest of them; then the
  data of the five calls together.
-/
module

public import proofs.«01_k».proof.Proof.Kernel.Second
public import proofs.«01_k».proof.Proof.Kernel.Table
public import proofs.«01_k».proof.Proof.Gen.Kernel.Skeleton
public import Idealize.ShloMosaic.Lib.WordCmp
public import Idealize.ShloMosaic.Lib.Tactic

@[expose] public section

noncomputable section

namespace Cert.Kernel.Gather

open Cert.Kernel Cert.Kernel.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- What the last kernel stores first: each row's products weighed and added up. -/
def attOf (U : Vec F S16x512x64 .bf16) (Va Vb : Vec F S8x512x64 .bf16) (su sv : Vec F S8x64 .f32) (gv : Vec F S8x128 .f32) : Vec F S1x64x512 .f32 :=
  k6_pay11 (k6_pay7 (rows 1 64 su 0 inb_S8x64_S1x64_0_0) (rows 1 64 su 1 inb_S8x64_S1x64_1_0) (rows 1 64 gv 2 inb_S8x128_S1x64_2_0) U) (k6_pay8 (rows 1 64 su 0 inb_S8x64_S1x64_0_0) (rows 1 64 su 1 inb_S8x64_S1x64_1_0) (rows 1 64 gv 2 inb_S8x128_S1x64_2_0) U) (k6_pay9 Va) (k6_pay10 Vb)
    (rows 1 64 sv 0 inb_S8x64_S1x64_0_0) (rows 1 64 sv 1 inb_S8x64_S1x64_1_0) (rows 1 64 gv 4 inb_S8x128_S1x64_4_0) (rows 1 64 gv 5 inb_S8x128_S1x64_5_0)

/-- What it stores second: each row's greatest product, scaled and shifted. -/
def gfOf (U : Vec F S16x512x64 .bf16) (su : Vec F S8x64 .f32) (gv : Vec F S8x128 .f32) : Vec F S1x64x512 .f32 :=
  k6_pay1 (k6_pay12 (k6_pay3 (rows 1 64 su 0 inb_S8x64_S1x64_0_0) (rows 1 64 su 1 inb_S8x64_S1x64_1_0) (rows 1 64 gv 2 inb_S8x128_S1x64_2_0)) (k6_pay6 U)) (k6_pay13 (k6_pay4 (rows 1 64 su 0 inb_S8x64_S1x64_0_0) (rows 1 64 su 1 inb_S8x64_S1x64_1_0) (rows 1 64 gv 2 inb_S8x128_S1x64_2_0) (rows 1 64 gv 3 inb_S8x128_S1x64_3_0)))

set_option maxHeartbeats 1000000 in
theorem final_run (c : Dev nD) (i : grid6.Coords) (arg1 : Memref sig .tc .vmem S16x512x64 .bf16) (harg1 : arg1.IsWhole) (arg2 : Memref sig .tc .vmem S8x512x64 .bf16) (harg2 : arg2.IsWhole) (arg3 : Memref sig .tc .vmem S8x512x64 .bf16) (harg3 : arg3.IsWhole) (arg4 : Memref sig .tc .vmem S8x64 .f32) (harg4 : arg4.IsWhole) (arg5 : Memref sig .tc .vmem S8x64 .f32) (harg5 : arg5.IsWhole) (arg6 : Memref sig .tc .vmem S8x128 .f32) (harg6 : arg6.IsWhole) (arg7 : Memref sig .tc .vmem S1x64x512 .f32) (harg7 : arg7.IsWhole) (arg8 : Memref sig .tc .vmem S1x64x512 .f32) (harg8 : arg8.IsWhole)
    (U : Vec F S16x512x64 .bf16) (Va : Vec F S8x512x64 .bf16) (Vb : Vec F S8x512x64 .bf16) (su : Vec F S8x64 .f32) (sv : Vec F S8x64 .f32) (gv : Vec F S8x128 .f32) (y : Vec F S1x64x512 .f32) (z : Vec F S1x64x512 .f32) (Q : PUnit → sProp 𝕄) :
    iprop(owns (c : Thread nD τ) arg1 fullShare U
        ∗ owns (c : Thread nD τ) arg2 fullShare Va
        ∗ owns (c : Thread nD τ) arg3 fullShare Vb
        ∗ owns (c : Thread nD τ) arg4 fullShare su
        ∗ owns (c : Thread nD τ) arg5 fullShare sv
        ∗ owns (c : Thread nD τ) arg6 fullShare gv
        ∗ owns (c : Thread nD τ) arg7 fullShare y
        ∗ owns (c : Thread nD τ) arg8 fullShare z
        ∗ (iprop(owns (c : Thread nD τ) arg1 fullShare U
        ∗ owns (c : Thread nD τ) arg2 fullShare Va
        ∗ owns (c : Thread nD τ) arg3 fullShare Vb
        ∗ owns (c : Thread nD τ) arg4 fullShare su
        ∗ owns (c : Thread nD τ) arg5 fullShare sv
        ∗ owns (c : Thread nD τ) arg6 fullShare gv
        ∗ owns (c : Thread nD τ) arg7 fullShare (attOf U Va Vb su sv gv)
        ∗ owns (c : Thread nD τ) arg8 fullShare (gfOf U su gv)) -∗ Q ⟨⟩))
      ⊢ wp frame (wpE (defs₀ (F := F)) 𝒱₀ c none) Set.univ (cc6__final_kernel i arg1 harg1 arg2 harg2 arg3 harg3 arg4 harg4 arg5 harg5 arg6 harg6 arg7 harg7 arg8 harg8) Q := by
  simp only [cc6__final_kernel_eq_skeleton]; unfold cc6__final_kernel_skel
  simp only [k6_part1_eq_skeleton, k6_part2_eq_skeleton]; unfold k6_part1_skel k6_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  sl_exec
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr; on_goal 2 => iexact H7
    ipureintro
    rw [read_all _ _ zero3]
    rw [readAt_rows (k := 1), readAt_rows (k := 1), readAt_rows (k := 1), readAt_rows (k := 1), readAt_rows (k := 1), readAt_rows (k := 1), readAt_rows (k := 1),
      readAt_rows (k := 1),
      readAt_all _ _ zero3, readAt_all _ _ zero3, readAt_all _ _ zero3, hf1, hf2, hf3, hf4, hf5, hf6]
    dsimp only
    rfl
  · iexists _; isplitr; on_goal 2 => iexact H8
    ipureintro
    rw [read_all _ _ zero3]
    rw [readAt_rows (k := 1), readAt_rows (k := 1), readAt_rows (k := 1), readAt_rows (k := 1),
      readAt_all _ _ zero3, hf1, hf4, hf6]
    dsimp only
    rfl

/-! ## The call -/

variable [∀ e, Nonempty (Elt F e)]

/-- The call's data: the blocks in are left as found, both results are stored. -/
def rd6 (n : ℕ) (W : Dev nD → Valuation τ sig (Elt F)) (d : Dev nD) : Pipeline.RDat τ (Elt F) (HIx 2) ℕ UU ℕ cfg6 d where
  A w := W d (arr 4 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = attOf (cblk cfg6 0 (W d (arr 4 0)) t) (cblk cfg6 1 (W d (arr 4 1)) t) (cblk cfg6 2 (W d (arr 4 2)) t)
        (cblk cfg6 3 (W d (arr 4 3)) t) (cblk cfg6 4 (W d (arr 4 4)) t) (cblk cfg6 5 (W d (arr 4 5)) t)
    | ⟨7, _⟩ => X = gfOf (cblk cfg6 0 (W d (arr 4 0)) t) (cblk cfg6 3 (W d (arr 4 3)) t) (cblk cfg6 5 (W d (arr 4 5)) t)
  Φ _ := Pipeline.scopedRest spec6 d
  q _ := fullShare
  owed _ := (K (F := F)).Otc d n
  recorded _ := below F d n

theorem finds6_in (n : ℕ) (W : Dev nD → Valuation τ sig (Elt F)) (d : Dev nD) (t : Fin cfg6.N) (w : Fin 6) (Y) :
    (rd6 n W d).Finds (w.castLE (by decide) : Fin 8) t Y → ∃ e, Y = (rd6 n W d).fetched (w.castLE (by decide) : Fin 8) t e :=
  match w with
  | 0 => Pipeline.RDat.finds_in_eq_fetched (rd6 n W d) 0 rfl (fun _ _ _ => rfl) (fun _ _ _ h => h) t Y
  | 1 => Pipeline.RDat.finds_in_eq_fetched (rd6 n W d) 1 rfl (fun _ _ _ => rfl) (fun _ _ _ h => h) t Y
  | 2 => Pipeline.RDat.finds_in_eq_fetched (rd6 n W d) 2 rfl (fun _ _ _ => rfl) (fun _ _ _ h => h) t Y
  | 3 => Pipeline.RDat.finds_in_eq_fetched (rd6 n W d) 3 rfl (fun _ _ _ => rfl) (fun _ _ _ h => h) t Y
  | 4 => Pipeline.RDat.finds_in_eq_fetched (rd6 n W d) 4 rfl (fun _ _ _ => rfl) (fun _ _ _ h => h) t Y
  | 5 => Pipeline.RDat.finds_in_eq_fetched (rd6 n W d) 5 rfl (fun _ _ _ => rfl) (fun _ _ _ h => h) t Y

theorem defs₀_row6 (t : Fin cfg6.N) :
    defs₀ (F := F) .tc cfg6.body (cfg6.bodyArgs t (cfg6.slots t)) = bodyAt6 t := rfl

set_option maxHeartbeats 2000000 in
theorem body6 (n : ℕ) (W : Dev nD → Valuation τ sig (Elt F)) (d : Dev nD) :
    (rd6 n W d).BodyObligation defs₀ 𝒱₀ (none : HIx 2) Set.univ := fun t Y hY => by
  obtain ⟨e0, h0⟩ := finds6_in n W d t 0 (Y 0) (hY 0)
  obtain ⟨e1, h1⟩ := finds6_in n W d t 1 (Y 1) (hY 1)
  obtain ⟨e2, h2⟩ := finds6_in n W d t 2 (Y 2) (hY 2)
  obtain ⟨e3, h3⟩ := finds6_in n W d t 3 (Y 3) (hY 3)
  obtain ⟨e4, h4⟩ := finds6_in n W d t 4 (Y 4) (hY 4)
  obtain ⟨e5, h5⟩ := finds6_in n W d t 5 (Y 5) (hY 5)
  rw [bigSep_W6, bigSep_W6, defs₀_row6, show (rd6 n W d).Φ t.succ = (rd6 n W d).Φ t.castSucc from rfl,
    show (rd6 n W d).owesAt none t.succ = (rd6 n W d).owesAt none t.castSucc from rfl]
  iintro ⟨HΦ, Ho, H0, H1, H2, H3, H4, H5, H6, H7⟩
  iapply (final_run d (grid6.coords t) _ _ _ _ _ _ _ _ _ _ _ _ _ _ _ _ (Y 0) (Y 1) (Y 2) (Y 3) (Y 4) (Y 5) (Y 6) (Y 7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexists _; isplitr; on_goal 2 => iexact H0
                  ipureintro; exact rfl
  isplitl [H1]; · iexists _; isplitr; on_goal 2 => iexact H1
                  ipureintro; exact rfl
  isplitl [H2]; · iexists _; isplitr; on_goal 2 => iexact H2
                  ipureintro; exact rfl
  isplitl [H3]; · iexists _; isplitr; on_goal 2 => iexact H3
                  ipureintro; exact rfl
  isplitl [H4]; · iexists _; isplitr; on_goal 2 => iexact H4
                  ipureintro; exact rfl
  isplitl [H5]; · iexists _; isplitr; on_goal 2 => iexact H5
                  ipureintro; exact rfl
  isplitl [H6]
  · iexists _; isplitr; on_goal 2 => iexact H6
    ipureintro
    rw [h0, h1, h2, h3, h4, h5]
    rfl
  · iexists _; isplitr; on_goal 2 => iexact H7
    ipureintro
    rw [h0, h3, h5]
    rfl

/-! ## The five calls -/

/-- The data of the five calls, at the valuations each is entered with. -/
def rdats (n : ℕ) (W : Dev nD → Valuation τ sig (Elt F)) : Data F := fun p d => match p with
  | 0 => rd0 n W d
  | 1 => rd3 n W d
  | 2 => rd4 n W d
  | 3 => rd5 n W d
  | 4 => rd6 n W d

theorem runs0 (n : ℕ) (W : Dev nD → Valuation τ sig (Elt F)) : Runs 0 (rdats n W) n W where
  facts := launch0
  inj := by decide
  array _ _ := rfl
  share _ _ := ite_self _
  owed _ _ := rfl
  recorded _ _ := rfl
  first _ := BIBase.Entails.rfl
  last _ := BIBase.Entails.rfl
  body d := body0 n W d

theorem runs1 (n : ℕ) (W : Dev nD → Valuation τ sig (Elt F)) : Runs 1 (rdats n W) n W where
  facts := launch3
  inj := by decide
  array _ _ := rfl
  share _ _ := ite_self _
  owed _ _ := rfl
  recorded _ _ := rfl
  first d := begin3 n W d
  last d := end3 n W d
  body d := body3 n W d

theorem runs2 (n : ℕ) (W : Dev nD → Valuation τ sig (Elt F)) : Runs 2 (rdats n W) n W where
  facts := launch4
  inj := by decide
  array _ _ := rfl
  share _ _ := ite_self _
  owed _ _ := rfl
  recorded _ _ := rfl
  first d := begin4 n W d
  last d := end4 n W d
  body d := body4 n W d

theorem runs3 (n : ℕ) (W : Dev nD → Valuation τ sig (Elt F)) : Runs 3 (rdats n W) n W where
  facts := launch5
  inj := by decide
  array _ _ := rfl
  share _ _ := ite_self _
  owed _ _ := rfl
  recorded _ _ := rfl
  first d := begin5 n W d
  last d := end5 n W d
  body d := body5 n W d

theorem runs4 (n : ℕ) (W : Dev nD → Valuation τ sig (Elt F)) : Runs 4 (rdats n W) n W where
  facts := launch6
  inj := by decide
  array _ _ := rfl
  share _ _ := ite_self _
  owed _ _ := rfl
  recorded _ _ := rfl
  first _ := BIBase.Entails.rfl
  last _ := BIBase.Entails.rfl
  body d := body6 n W d

end Cert.Kernel.Gather

end
-- ==== Proof.Kernel.Host.lean ====
/-
  The host's own operations in @main: those before, between and after the calls, and what the arrays hold that the
  SparseCore calls read.
-/
module

public import proofs.«01_k».proof.Proof.Kernel.Final
public import Idealize.ShloMosaic.Lib.StableHlo.Run

@[expose] public section

noncomputable section

namespace Cert.Kernel.Gather

open Cert.Kernel Cert.Kernel.Gen

open Idealize.ShloMosaic Idealize.ShloMosaic.TcCoe
open Idealize.ShloMosaic.SparseCore.Cfg (HIx)
open Idealize.ShloMosaic.StableHlo (seq after after_of_forall_not_mem)
open Idealize.ShloMosaic.Pipeline (ucRefs sub_ucRefs entry)
open Idealize.SL Idealize.SL.Sem

variable {F : FTy → Type} [FloatOps F]

/-- The host's operations before the first call: the transposes. -/
def ops0 : List (HloOp τ sig (Elt F)) :=
  [StableHlo.unary main_arg0 main_v0 ((transpose S4x2048x64 [0, 2, 1] · transposes_S4x64x2048_S4x2048x64_0_2_1) : (⟨S4x64x2048, .f32⟩ : BufTy).Contents (Elt F) → (⟨S4x2048x64, .f32⟩ : BufTy).Contents (Elt F)),
   StableHlo.unary main_arg3 main_v1 ((transpose S64x64 [1, 0] · transposes_S64x64_S64x64_1_0) : (⟨S64x64, .f32⟩ : BufTy).Contents (Elt F) → (⟨S64x64, .f32⟩ : BufTy).Contents (Elt F)),
   StableHlo.unary main_arg11 main_v2 ((transpose S64x64 [1, 0] · transposes_S64x64_S64x64_1_0) : (⟨S64x64, .f32⟩ : BufTy).Contents (Elt F) → (⟨S64x64, .f32⟩ : BufTy).Contents (Elt F))]

/-- Those between it and the first SparseCore call: the table as one list of rows, and the numbers of its rows, the slices' first half. -/
def ops1 : List (HloOp τ sig (Elt F)) :=
  [StableHlo.reshape main_v3_0 main_v4 (rfl : (.f32 : EltTy) = .f32) shapeCasts_S4x2048x128_S8192x128,
   StableHlo.nullary main_v5 (iotaInDim S4 32 0),
   StableHlo.nullary main_c (constantI S_ 32 2048#32),
   StableHlo.unary main_c main_v6 (broadcastInDim S4 ![] bcast_S_S4 : (⟨S_, .i32⟩ : BufTy).Contents (Elt F) → (⟨S4, .i32⟩ : BufTy).Contents (Elt F)),
   StableHlo.binary main_v5 main_v6 main_v7 (muli : (⟨S4, .i32⟩ : BufTy).Contents (Elt F) → (⟨S4, .i32⟩ : BufTy).Contents (Elt F) → (⟨S4, .i32⟩ : BufTy).Contents (Elt F)),
   StableHlo.reshape main_v7 main_v8 (rfl : (.i32 : EltTy) = .i32) shapeCasts_S4_S4x1x1,
   StableHlo.unary main_v8 main_v9 (broadcastInDim S4x2048x16 ![0, 1, 2] bcast_S4x1x1_S4x2048x16_0_1_2 : (⟨S4x1x1, .i32⟩ : BufTy).Contents (Elt F) → (⟨S4x2048x16, .i32⟩ : BufTy).Contents (Elt F)),
   StableHlo.binary main_arg1 main_v9 main_v10 (addi : (⟨S4x2048x16, .i32⟩ : BufTy).Contents (Elt F) → (⟨S4x2048x16, .i32⟩ : BufTy).Contents (Elt F) → (⟨S4x2048x16, .i32⟩ : BufTy).Contents (Elt F)),
   StableHlo.unary main_v10 main_v11 ((transpose S16x4x2048 [2, 0, 1] · transposes_S4x2048x16_S16x4x2048_2_0_1) : (⟨S4x2048x16, .i32⟩ : BufTy).Contents (Elt F) → (⟨S16x4x2048, .i32⟩ : BufTy).Contents (Elt F)),
   StableHlo.reshape main_v11 main_v12 (rfl : (.i32 : EltTy) = .i32) shapeCasts_S16x4x2048_S1x131072,
   StableHlo.unary main_v12 main_v13 ((extractStridedSlice S1x65536 ![0, 0] · slices_S1x131072_S1x65536_0_0) : (⟨S1x131072, .i32⟩ : BufTy).Contents (Elt F) → (⟨S1x65536, .i32⟩ : BufTy).Contents (Elt F))]

/-- The one between the SparseCore calls: the second half of the row numbers. -/
def ops2 : List (HloOp τ sig (Elt F)) :=
  [StableHlo.unary main_v12 main_v15 ((extractStridedSlice S1x65536 ![0, 65536] · slices_S1x131072_S1x65536_0_65536) : (⟨S1x131072, .i32⟩ : BufTy).Contents (Elt F) → (⟨S1x65536, .i32⟩ : BufTy).Contents (Elt F))]

/-- Those before the last two calls: the parameters side by side, and the weight padded with zeros. -/
def ops3 : List (HloOp τ sig (Elt F)) :=
  [StableHlo.nullary main_cst (constant S_ .f32 0x00000000#32),
   StableHlo.unary main_cst main_v19 (broadcastInDim S64 ![] bcast_S_S64 : (⟨S_, .f32⟩ : BufTy).Contents (Elt F) → (⟨S64, .f32⟩ : BufTy).Contents (Elt F)),
   StableHlo.unary main_arg5 main_v20 (broadcastInDim S1x64 ![1] bcast_S64_S1x64_1 : (⟨S64, .f32⟩ : BufTy).Contents (Elt F) → (⟨S1x64, .f32⟩ : BufTy).Contents (Elt F)),
   StableHlo.unary main_arg6 main_v21 (broadcastInDim S1x64 ![1] bcast_S64_S1x64_1 : (⟨S64, .f32⟩ : BufTy).Contents (Elt F) → (⟨S1x64, .f32⟩ : BufTy).Contents (Elt F)),
   StableHlo.unary main_arg9 main_v22 (broadcastInDim S1x64 ![1] bcast_S64_S1x64_1 : (⟨S64, .f32⟩ : BufTy).Contents (Elt F) → (⟨S1x64, .f32⟩ : BufTy).Contents (Elt F)),
   StableHlo.unary main_arg10 main_v23 (broadcastInDim S1x64 ![1] bcast_S64_S1x64_1 : (⟨S64, .f32⟩ : BufTy).Contents (Elt F) → (⟨S1x64, .f32⟩ : BufTy).Contents (Elt F)),
   StableHlo.unary main_arg12 main_v24 (broadcastInDim S1x64 ![1] bcast_S64_S1x64_1 : (⟨S64, .f32⟩ : BufTy).Contents (Elt F) → (⟨S1x64, .f32⟩ : BufTy).Contents (Elt F)),
   StableHlo.unary main_arg13 main_v25 (broadcastInDim S1x64 ![1] bcast_S64_S1x64_1 : (⟨S64, .f32⟩ : BufTy).Contents (Elt F) → (⟨S1x64, .f32⟩ : BufTy).Contents (Elt F)),
   StableHlo.unary main_v19 main_v26 (broadcastInDim S1x64 ![1] bcast_S64_S1x64_1 : (⟨S64, .f32⟩ : BufTy).Contents (Elt F) → (⟨S1x64, .f32⟩ : BufTy).Contents (Elt F)),
   StableHlo.unary main_v19 main_v27 (broadcastInDim S1x64 ![1] bcast_S64_S1x64_1 : (⟨S64, .f32⟩ : BufTy).Contents (Elt F) → (⟨S1x64, .f32⟩ : BufTy).Contents (Elt F)),
   StableHlo.nary ![main_v20, main_v21, main_v22, main_v23, main_v24, main_v25, main_v26, main_v27] main_v28 (fun u => (concatenate S8x64 0 [⟨S1x64, (u 0 : (⟨S1x64, .f32⟩ : BufTy).Contents (Elt F))⟩, ⟨S1x64, (u 1 : (⟨S1x64, .f32⟩ : BufTy).Contents (Elt F))⟩, ⟨S1x64, (u 2 : (⟨S1x64, .f32⟩ : BufTy).Contents (Elt F))⟩, ⟨S1x64, (u 3 : (⟨S1x64, .f32⟩ : BufTy).Contents (Elt F))⟩, ⟨S1x64, (u 4 : (⟨S1x64, .f32⟩ : BufTy).Contents (Elt F))⟩, ⟨S1x64, (u 5 : (⟨S1x64, .f32⟩ : BufTy).Contents (Elt F))⟩, ⟨S1x64, (u 6 : (⟨S1x64, .f32⟩ : BufTy).Contents (Elt F))⟩, ⟨S1x64, (u 7 : (⟨S1x64, .f32⟩ : BufTy).Contents (Elt F))⟩] concatenates_S1x64_S1x64_S1x64_S1x64_S1x64_S1x64_S1x64_S1x64_S8x64_d0 : (⟨S8x64, .f32⟩ : BufTy).Contents (Elt F))),
   StableHlo.binary main_v28 main_v28 main_v29 ((fun a b => concatenate S8x128 1 [⟨S8x64, a⟩, ⟨S8x64, b⟩] concatenates_S8x64_S8x64_S8x128_d1) : (⟨S8x64, .f32⟩ : BufTy).Contents (Elt F) → (⟨S8x64, .f32⟩ : BufTy).Contents (Elt F) → (⟨S8x128, .f32⟩ : BufTy).Contents (Elt F)),
   StableHlo.nullary main_cst_0 (constant S_ .f32 0x00000000#32),
   StableHlo.unary main_cst_0 main_v30 (broadcastInDim S128x64 ![] bcast_S_S128x64 : (⟨S_, .f32⟩ : BufTy).Contents (Elt F) → (⟨S128x64, .f32⟩ : BufTy).Contents (Elt F)),
   StableHlo.unary main_arg7 main_v31 ((transpose S64x64 [1, 0] · transposes_S64x64_S64x64_1_0) : (⟨S64x64, .f32⟩ : BufTy).Contents (Elt F) → (⟨S64x64, .f32⟩ : BufTy).Contents (Elt F)),
   StableHlo.nullary main_c_1 (constantI S_ 32 0#32),
   StableHlo.unary main_c_1 main_v32 (broadcastInDim S1 ![] bcast_S_S1 : (⟨S_, .i32⟩ : BufTy).Contents (Elt F) → (⟨S1, .i32⟩ : BufTy).Contents (Elt F)),
   StableHlo.ternary main_v30 main_v32 main_v31 main_v33 ((fun x i u => Host.scatter scatter_S128x64_S1_S64x64_01_n_0_0 (fun _ b => b) x i u) : (⟨S128x64, .f32⟩ : BufTy).Contents (Elt F) → (⟨S1, .i32⟩ : BufTy).Contents (Elt F) → (⟨S64x64, .f32⟩ : BufTy).Contents (Elt F) → (⟨S128x64, .f32⟩ : BufTy).Contents (Elt F)),
   StableHlo.unary main_v33 main_v34 ((truncf .bf16 · bitsLt_bf16_f32) : (⟨S128x64, .f32⟩ : BufTy).Contents (Elt F) → (⟨S128x64, .bf16⟩ : BufTy).Contents (Elt F))]

/-- The program in these pieces. -/
theorem main_eq (d : Dev nD) :
    main (F := F) d = (seq ops0 >>= fun _ => (Prog.lift (.customCall (SparseCore.inner (entry 0)) ()) >>= fun _ =>
      (seq ops1 >>= fun _ => ((K (F := F)).run d 0 >>= fun _ => (seq ops2 >>= fun _ => ((K (F := F)).run d 1 >>= fun _ =>
      (Prog.lift (.customCall (SparseCore.inner (entry 1)) ()) >>= fun _ => (Prog.lift (.customCall (SparseCore.inner (entry 2)) ()) >>= fun _ =>
      (seq ops3 >>= fun _ => (Prog.lift (.customCall (SparseCore.inner (entry 3)) ()) >>= fun _ =>
      (Prog.lift (.customCall (SparseCore.inner (entry 4)) ()) >>= fun _ => pure ⟨⟩)))))))))) ) := rfl

theorem ops0_sub : ∀ op ∈ ops0 (F := F), op.bufs ⊆ ucRefs τ sig := by
  simp only [ops0, List.forall_mem_cons, List.not_mem_nil, false_implies, implies_true, and_true]
  exact ⟨sub_ucRefs _ (StableHlo.unary_bufs_sub ..), sub_ucRefs _ (StableHlo.unary_bufs_sub ..), sub_ucRefs _ (StableHlo.unary_bufs_sub ..)⟩
theorem ops0_fresh : ∀ op ∈ ops0 (F := F), op.fresh = ∅ := by
  simp only [ops0, List.forall_mem_cons, List.not_mem_nil, false_implies, implies_true, and_true]
  exact ⟨rfl, rfl, rfl⟩
theorem ops1_sub : ∀ op ∈ ops1 (F := F), op.bufs ⊆ ucRefs τ sig := by
  simp only [ops1, List.forall_mem_cons, List.not_mem_nil, false_implies, implies_true, and_true]
  exact ⟨sub_ucRefs _ (StableHlo.reshape_bufs_sub ..), sub_ucRefs _ (StableHlo.nullary_bufs_sub ..), sub_ucRefs _ (StableHlo.nullary_bufs_sub ..), sub_ucRefs _ (StableHlo.unary_bufs_sub ..), sub_ucRefs _ (StableHlo.binary_bufs_sub ..), sub_ucRefs _ (StableHlo.reshape_bufs_sub ..), sub_ucRefs _ (StableHlo.unary_bufs_sub ..), sub_ucRefs _ (StableHlo.binary_bufs_sub ..), sub_ucRefs _ (StableHlo.unary_bufs_sub ..), sub_ucRefs _ (StableHlo.reshape_bufs_sub ..), sub_ucRefs _ (StableHlo.unary_bufs_sub ..)⟩
theorem ops1_fresh : ∀ op ∈ ops1 (F := F), op.fresh = ∅ := by
  simp only [ops1, List.forall_mem_cons, List.not_mem_nil, false_implies, implies_true, and_true]
  exact ⟨rfl, rfl, rfl, rfl, rfl, rfl, rfl, rfl, rfl, rfl, rfl⟩
theorem ops2_sub : ∀ op ∈ ops2 (F := F), op.bufs ⊆ ucRefs τ sig := by
  simp only [ops2, List.forall_mem_cons, List.not_mem_nil, false_implies, implies_true, and_true]
  exact sub_ucRefs _ (StableHlo.unary_bufs_sub ..)
theorem ops2_fresh : ∀ op ∈ ops2 (F := F), op.fresh = ∅ := by
  simp only [ops2, List.forall_mem_cons, List.not_mem_nil, false_implies, implies_true, and_true]
  exact rfl
theorem ops3_sub : ∀ op ∈ ops3 (F := F), op.bufs ⊆ ucRefs τ sig := by
  simp only [ops3, List.forall_mem_cons, List.not_mem_nil, false_implies, implies_true, and_true]
  exact ⟨sub_ucRefs _ (StableHlo.nullary_bufs_sub ..), sub_ucRefs _ (StableHlo.unary_bufs_sub ..), sub_ucRefs _ (StableHlo.unary_bufs_sub ..), sub_ucRefs _ (StableHlo.unary_bufs_sub ..), sub_ucRefs _ (StableHlo.unary_bufs_sub ..), sub_ucRefs _ (StableHlo.unary_bufs_sub ..), sub_ucRefs _ (StableHlo.unary_bufs_sub ..), sub_ucRefs _ (StableHlo.unary_bufs_sub ..), sub_ucRefs _ (StableHlo.unary_bufs_sub ..), sub_ucRefs _ (StableHlo.unary_bufs_sub ..), sub_ucRefs _ (StableHlo.nary_bufs_sub ..), sub_ucRefs _ (StableHlo.binary_bufs_sub ..), sub_ucRefs _ (StableHlo.nullary_bufs_sub ..), sub_ucRefs _ (StableHlo.unary_bufs_sub ..), sub_ucRefs _ (StableHlo.unary_bufs_sub ..), sub_ucRefs _ (StableHlo.nullary_bufs_sub ..), sub_ucRefs _ (StableHlo.unary_bufs_sub ..), sub_ucRefs _ (StableHlo.ternary_bufs_sub ..), sub_ucRefs _ (StableHlo.unary_bufs_sub ..)⟩
theorem ops3_fresh : ∀ op ∈ ops3 (F := F), op.fresh = ∅ := by
  simp only [ops3, List.forall_mem_cons, List.not_mem_nil, false_implies, implies_true, and_true]
  exact ⟨rfl, rfl, rfl, rfl, rfl, rfl, rfl, rfl, rfl, rfl, rfl, rfl, rfl, rfl, rfl, rfl, rfl, rfl, rfl⟩

/-! ## What the operations leave alone -/

/-- The arrays that each group of operations writes. -/
def outs0 : List (Ref sig .tc) := [main_v0, main_v1, main_v2]
def outs1 : List (Ref sig .tc) := [main_v4, main_v5, main_c, main_v6, main_v7, main_v8, main_v9, main_v10, main_v11, main_v12, main_v13]
def outs2 : List (Ref sig .tc) := [main_v15]
def outs3 : List (Ref sig .tc) := [main_cst, main_v19, main_v20, main_v21, main_v22, main_v23, main_v24, main_v25, main_v26, main_v27, main_v28, main_v29, main_cst_0, main_v30, main_v31, main_c_1, main_v32, main_v33, main_v34]

theorem keeps_ops0 (W : Valuation τ sig (Elt F)) (b : Ref sig .tc) (h : b ∉ outs0) : after ops0 W (Proc.devRef .tc b) = W (Proc.devRef .tc b) :=
  StableHlo.after_of_writes_sub (W := outs0) ops0 W (StableHlo.forall_writes_sub_of_map rfl) h
theorem keeps_ops1 (W : Valuation τ sig (Elt F)) (b : Ref sig .tc) (h : b ∉ outs1) : after ops1 W (Proc.devRef .tc b) = W (Proc.devRef .tc b) :=
  StableHlo.after_of_writes_sub (W := outs1) ops1 W (StableHlo.forall_writes_sub_of_map rfl) h
theorem keeps_ops2 (W : Valuation τ sig (Elt F)) (b : Ref sig .tc) (h : b ∉ outs2) : after ops2 W (Proc.devRef .tc b) = W (Proc.devRef .tc b) :=
  StableHlo.after_of_writes_sub (W := outs2) ops2 W (StableHlo.forall_writes_sub_of_map rfl) h
theorem keeps_ops3 (W : Valuation τ sig (Elt F)) (b : Ref sig .tc) (h : b ∉ outs3) : after ops3 W (Proc.devRef .tc b) = W (Proc.devRef .tc b) :=
  StableHlo.after_of_writes_sub (W := outs3) ops3 W (StableHlo.forall_writes_sub_of_map rfl) h

/-! ## The arrays of the SparseCore calls -/

abbrev bX : DevRef τ sig := Proc.devRef .tc main_v4
abbrev bJ : DevRef τ sig := Proc.devRef .tc main_arg1
abbrev bN : DevRef τ sig := Proc.devRef .tc main_v12
abbrev bI0 : DevRef τ sig := Proc.devRef .tc main_v13
abbrev bR0 : DevRef τ sig := Proc.devRef .tc main_v14
abbrev bI1 : DevRef τ sig := Proc.devRef .tc main_v15
abbrev bR1 : DevRef τ sig := Proc.devRef .tc main_v16

/-- The table's blocks, as the first call leaves them: at each batch the two products of its block. -/
def prods (W : Valuation τ sig (Elt F)) : Vec F S4x2048x128 .f32 := fun y =>
  k0_pay3 (cblk cfg0 0 (W (arr 0 0)) ⟨(y 0).val, Nat.lt_of_lt_of_eq (y 0).isLt N_0.symm⟩) (cblk cfg0 1 (W (arr 0 1)) ⟨(y 0).val, Nat.lt_of_lt_of_eq (y 0).isLt N_0.symm⟩)
    (cblk cfg0 2 (W (arr 0 2)) ⟨(y 0).val, Nat.lt_of_lt_of_eq (y 0).isLt N_0.symm⟩)
    (fun | 0 => (0 : Fin 1) | 1 => y 1 | 2 => y 2 | ⟨_ + 3, h⟩ => absurd h (Nat.not_lt.2 (Nat.le_add_left _ _)))

/-- The table as a list of rows. -/
def tabOf (x : Vec F S4x2048x128 .f32) : Vec F S8192x128 .f32 := shapeCast S8192x128 x shapeCasts_S4x2048x128_S8192x128

/-- The numbers of the table's rows that the neighbours are at. -/
def nums (J : IVec S4x2048x16 32) : IVec S1x131072 32 :=
  shapeCast S1x131072 (transpose S16x4x2048 [2, 0, 1] (addi J (broadcastInDim S4x2048x16 ![0, 1, 2] bcast_S4x1x1_S4x2048x16_0_1_2
    (shapeCast S4x1x1 (muli (iotaInDim S4 32 0) (broadcastInDim S4 ![] bcast_S_S4 (constantI S_ 32 2048#32))) shapeCasts_S4_S4x1x1))) transposes_S4x2048x16_S16x4x2048_2_0_1) shapeCasts_S16x4x2048_S1x131072
/-- The first and the second half of them. -/
def nums0 (J : IVec S4x2048x16 32) : IVec S1x65536 32 := extractStridedSlice S1x65536 ![0, 0] (nums J) slices_S1x131072_S1x65536_0_0
def nums1 (J : IVec S4x2048x16 32) : IVec S1x65536 32 := extractStridedSlice S1x65536 ![0, 65536] (nums J) slices_S1x131072_S1x65536_0_65536

theorem ops1_X (W : Valuation τ sig (Elt F)) : after ops1 W bX = tabOf (F := F) (W (arr 0 3)) := by
  unfold ops1
  after_results <;> rfl
theorem ops1_N (W : Valuation τ sig (Elt F)) : after ops1 W bN = nums (W bJ) := by
  unfold ops1
  after_results <;> rfl
theorem ops1_I0 (W : Valuation τ sig (Elt F)) : after ops1 W bI0 = nums0 (W bJ) := by
  unfold ops1
  after_results <;> rfl
theorem ops2_I1 (W : Valuation τ sig (Elt F)) (J) (h : W bN = nums J) : after ops2 W bI1 = nums1 J := by
  have e : after ops2 W bI1 = (extractStridedSlice S1x65536 ![0, 65536] (W bN : IVec S1x131072 32) slices_S1x131072_S1x65536_0_65536) := by
    unfold ops2
    after_results <;> rfl
  rw [e, h]; rfl

/-- The first call's table, from what it may leave. -/
theorem left_prods (n : ℕ) (d : Dev nD) (W W' : Valuation τ sig (Elt F)) (h : Left 0 (rdats n fun _ => W) d W W') : W' (arr 0 3) = prods (F := F) W := by
  funext y
  have hy : (y 0).val < cfg0.N := Nat.lt_of_lt_of_eq (y 0).isLt N_0.symm
  have hinj : ∀ t t' : Fin cfg0.N, (cfg0.win 3).index t = (cfg0.win 3).index t' → t = t' := (by decide +kernel : ∀ t t' : Fin grid0.N, win0_3.index t = win0_3.index t' → t = t')
  obtain ⟨X, hX, e⟩ := block_of (rd0 n (fun _ => W) d) 3 (fun t t' _ _ hne => (cfg0.win 3).disjoint_blk fun h => hne (hinj t t' h)) (h.1 3) ⟨(y 0).val, hy⟩
    (by revert hy; generalize (y 0).val = a; intro ha; exact (by decide +kernel : ∀ t : Fin grid0.N, win0_3.flush t = true) ⟨a, ha⟩)
  obtain ⟨Y, -, hX⟩ := hX
  have hX : X = k0_pay3 (cblk cfg0 0 (W (arr 0 0)) ⟨(y 0).val, hy⟩) (cblk cfg0 1 (W (arr 0 1)) ⟨(y 0).val, hy⟩) (cblk cfg0 2 (W (arr 0 2)) ⟨(y 0).val, hy⟩) := hX
  have e := congrFun e (fun | 0 => (0 : Fin 1) | 1 => y 1 | 2 => y 2 | ⟨_ + 3, h⟩ => absurd h (Nat.not_lt.2 (Nat.le_add_left _ _)))
  rw [hX] at e
  refine Eq.trans ?_ e
  have hidx := (by decide +kernel : ∀ t : Fin grid0.N, win0_3.index t 0 = t.val ∧ win0_3.index t 1 = 0 ∧ win0_3.index t 2 = 0) ⟨(y 0).val, hy⟩
  refine congrArg (W' (arr 0 3)) (funext fun a => Fin.ext ?_)
  refine Eq.trans ?_ (Pipeline.Window.rect_emb_val (cfg0.win 3) ⟨(y 0).val, hy⟩ _ a).symm
  match a with
  | 0 => exact (show (y 0).val = (y 0).val * 1 + 0 by omega).trans (congrArg (fun i => i * 1 + 0) hidx.1.symm)
  | 1 => exact (show (y 1).val = 0 * 2048 + (y 1).val by omega).trans (congrArg (fun i => i * 2048 + (y 1).val) hidx.2.1.symm)
  | 2 => exact (show (y 2).val = 0 * 128 + (y 2).val by omega).trans (congrArg (fun i => i * 128 + (y 2).val) hidx.2.2.symm)

end Cert.Kernel.Gather

end
-- ==== Proof.Kernel.Tiles.lean ====
/-
  The two SparseCore calls, each on two SparseCores of sixteen subcores: what a SparseCore and each of its subcores are
  given of the arrays, and that each subcore's task leaves its rows of the result gathered.
-/
module

public import proofs.«01_k».proof.Proof.Kernel.Deal
public import proofs.«01_k».proof.Proof.Kernel.Host
public import Idealize.ShloMosaic.Lib.StableHlo.Run
public import Idealize.ShloMosaic.Lib.Pipeline.Kit

@[expose] public section

noncomputable section

namespace Cert.Kernel.Gather

open Cert.Kernel Cert.Kernel.Gen

open Idealize.ShloMosaic
open Idealize.ShloMosaic.SparseCore (S V T)
open Idealize.ShloMosaic.SparseCore.Cfg (HIx Pay ownBufs ownSems0)
open Idealize.ShloMosaic.StableHlo (held held_sub_split held_congr wp_seq seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 2) (Elt F) ℕ UU ℕ

variable [FloatOps F]

/-- The contents that the calls read and find: on each device the table, the row numbers of either call and what either
    result holds before. -/
structure Given (F : FTy → Type) where
  tab : (d : Dev nD) → Buf (Elt F) ((d, bX) : Loc nD τ sig)
  i0 : (d : Dev nD) → Buf (Elt F) ((d, bI0) : Loc nD τ sig)
  i1 : (d : Dev nD) → Buf (Elt F) ((d, bI1) : Loc nD τ sig)
  r0 : (d : Dev nD) → Buf (Elt F) ((d, bR0) : Loc nD τ sig)
  r1 : (d : Dev nD) → Buf (Elt F) ((d, bR1) : Loc nD τ sig)

/-- The results: the gathered rows. -/
def Given.o0 (Z : Given F) (d : Dev nD) : Buf (Elt F) ((d, bR0) : Loc nD τ sig) := gath (F := F) (Z.tab d) (Z.i0 d)
def Given.o1 (Z : Given F) (d : Dev nD) : Buf (Elt F) ((d, bR1) : Loc nD τ sig) := gath (F := F) (Z.tab d) (Z.i1 d)

/-- Every row number that a call reads is a row of the table. -/
def Given.InTable (Z : Given F) : Prop := ∀ d : Dev nD, (∀ j : S1x65536.Idx, (Z.i0 d j : BitVec 32).toNat < 8192) ∧ ∀ j : S1x65536.Idx, (Z.i1 d j : BitVec 32).toNat < 8192

variable (Z : Given F)

/-! ## What the handshakes carry -/

/-- A result's row. -/
abbrev rowOf0 (d : Dev nD) : Idx ((d, bR0) : Loc nD τ sig) → ℕ := fun x : S65536x128.Idx => (x 0).val
abbrev rowOf1 (d : Dev nD) : Idx ((d, bR1) : Loc nD τ sig) → ℕ := fun x : S65536x128.Idx => (x 0).val

/-- SparseCore `c`'s part of the first call's arrays, the result's contents `g`; and its subcore `i`'s. -/
abbrev core0 (d : Dev nD) (c : Fin 2) (g : Buf (Elt F) ((d, bR0) : Loc nD τ sig)) : sProp 𝕄 :=
  ofCore (ℓX := (d, bX)) (ℓI := (d, bI0)) (rowOf0 d) (Z.tab d) (Z.i0 d) g c
abbrev tile0 (d : Dev nD) (c : Fin 2) (i : Fin 16) (g : Buf (Elt F) ((d, bR0) : Loc nD τ sig)) : sProp 𝕄 :=
  ofTile (ℓX := (d, bX)) (ℓI := (d, bI0)) (rowOf0 d) (Z.tab d) (Z.i0 d) g c i
/-- The same of the second call's. -/
abbrev core1 (d : Dev nD) (c : Fin 2) (g : Buf (Elt F) ((d, bR1) : Loc nD τ sig)) : sProp 𝕄 :=
  ofCore (ℓX := (d, bX)) (ℓI := (d, bI1)) (rowOf1 d) (Z.tab d) (Z.i1 d) g c
abbrev tile1 (d : Dev nD) (c : Fin 2) (i : Fin 16) (g : Buf (Elt F) ((d, bR1) : Loc nD τ sig)) : sProp 𝕄 :=
  ofTile (ℓX := (d, bX)) (ℓI := (d, bI1)) (rowOf1 d) (Z.tab d) (Z.i1 d) g c i

theorem nCore0 : (K (F := F)).nCore 0 = 2 := rfl
theorem nCore1 : (K (F := F)).nCore 1 = 2 := rfl
theorem nSub0 : (K (F := F)).nSub 0 = 16 := rfl
theorem nSub1 : (K (F := F)).nSub 1 = 16 := rfl

/-- Each call takes the arrays and brings them back, its result at the gathered rows. -/
def P : (K (F := F)).Pay (nD := nD) (Val := Elt F) (Name := ℕ) (U := UU) where
  st := fun q d c => match q with
    | 0 => core0 Z d (Fin.cast nCore0 c) (Z.r0 d)
    | 1 => core1 Z d (Fin.cast nCore1 c) (Z.r1 d)
  dn := fun q d c => match q with
    | 0 => core0 Z d (Fin.cast nCore0 c) (Z.o0 d)
    | 1 => core1 Z d (Fin.cast nCore1 c) (Z.o1 d)
  go := fun q d c i => match q with
    | 0 => tile0 Z d (Fin.cast nCore0 c) (Fin.cast nSub0 i) (Z.r0 d)
    | 1 => tile1 Z d (Fin.cast nCore1 c) (Fin.cast nSub1 i) (Z.r1 d)
  td := fun q d c i => match q with
    | 0 => tile0 Z d (Fin.cast nCore0 c) (Fin.cast nSub0 i) (Z.o0 d)
    | 1 => tile1 Z d (Fin.cast nCore1 c) (Fin.cast nSub1 i) (Z.o1 d)
  x := fun _ _ => iprop(emp)

theorem core_storable {ℓX ℓI ℓR : Loc nD τ sig} (row : Idx ℓR → ℕ) (fX : Buf (Elt F) ℓX) (fI : Buf (Elt F) ℓI) (g : Buf (Elt F) ℓR) (c : Fin 2) :
    BI.Storable (upEmb : UEmb _ 𝕄) (ofCore row fX fI g c) := by unfold ofCore; infer_instance
theorem tile_storable {ℓX ℓI ℓR : Loc nD τ sig} (row : Idx ℓR → ℕ) (fX : Buf (Elt F) ℓX) (fI : Buf (Elt F) ℓI) (g : Buf (Elt F) ℓR) (c : Fin 2) (i : Fin 16) :
    BI.Storable (upEmb : UEmb _ 𝕄) (ofTile row fX fI g c i) := by unfold ofTile; infer_instance

instance P_storable : (P (F := F) Z).IsStorable where
  st q _ _ := match q with | 0 => core_storable .. | 1 => core_storable ..
  dn q _ _ := match q with | 0 => core_storable .. | 1 => core_storable ..
  go q _ _ _ := match q with | 0 => tile_storable .. | 1 => tile_storable ..
  td q _ _ _ := match q with | 0 => tile_storable .. | 1 => tile_storable ..

/-! ## A task -/

section Tile

variable (d : Dev nD) (L : grid1.Coords)

abbrev cL (L : grid1.Coords) : Fin 2 := L 0
abbrev iL (L : grid1.Coords) : Fin 16 := L 1

/-- The five semaphores of a pair of a two-slot fetch, a two-slot write-out and a gather. -/
def five (v5 v6 : DmaSems sig S2) (v144 : DmaSems sig S_) : Fin 5 → SemLoc sig
  | 0 => .dma (sem2 v5 0 (by decide)) | 1 => .dma (sem2 v5 1 (by decide)) | 2 => .dma (sem2 v6 0 (by decide)) | 3 => .dma (sem2 v6 1 (by decide))
  | 4 => .dma v144.sem

omit [FloatOps F] in
theorem blk_rows : 256 * blk L = 32768 * (cL L).val + 2048 * (iL L).val := by
  show 256 * (8 * (L 1).val + 128 * (L 0).val) = 32768 * (L 0).val + 2048 * (L 1).val
  omega
omit [FloatOps F] in
theorem blk_rows' : 256 * (blk L + 8) = 32768 * (cL L).val + 2048 * ((iL L).val + 1) := by
  show 256 * ((8 * (L 1).val + 128 * (L 0).val) + 8) = 32768 * (L 0).val + 2048 * ((L 1).val + 1)
  omega

theorem myRows0 (g : Buf (Elt F) ((d, bR0) : Loc nD τ sig)) :
    (myRows d L (Memref.whole main_v14_scv) g : sProp 𝕄)
      = (((d, bR0) : Loc nD τ sig) ↦[band (rowOf0 d) (32768 * (cL L).val + 2048 * (iL L).val) (32768 * (cL L).val + 2048 * ((iL L).val + 1))]{fullShare} g) := by
  have h : (Memref.whole main_v14_scv : Memref sig .scVector .hbm S65536x128 .f32).view.setOn (rowsIn (256 * blk L) (256 * (blk L + 8)))
      = band (rowOf0 d) (32768 * (cL L).val + 2048 * (iL L).val) (32768 * (cL L).val + 2048 * ((iL L).val + 1)) := by
    rw [blk_rows, blk_rows']
    exact Finset.map_refl
  unfold myRows
  rw [h]

theorem myRows1 (g : Buf (Elt F) ((d, bR1) : Loc nD τ sig)) :
    (myRows d L (Memref.whole main_v16_scv) g : sProp 𝕄)
      = (((d, bR1) : Loc nD τ sig) ↦[band (rowOf1 d) (32768 * (cL L).val + 2048 * (iL L).val) (32768 * (cL L).val + 2048 * ((iL L).val + 1))]{fullShare} g) := by
  have h : (Memref.whole main_v16_scv : Memref sig .scVector .hbm S65536x128 .f32).view.setOn (rowsIn (256 * blk L) (256 * (blk L + 8)))
      = band (rowOf1 d) (32768 * (cL L).val + 2048 * (iL L).val) (32768 * (cL L).val + 2048 * ((iL L).val + 1)) := by
    rw [blk_rows, blk_rows']
    exact Finset.map_refl
  unfold myRows
  rw [h]

theorem gath0 (ft : Buf (Elt F) ((d, bX) : Loc nD τ sig)) (fi : Buf (Elt F) ((d, bI0) : Loc nD τ sig)) (fo : Buf (Elt F) ((d, bR0) : Loc nD τ sig)) :
    gathBuf d (cT L) (sT L) (Memref.whole main_v4_scv) (Memref.whole main_v13_scv) (Memref.whole main_v14_scv) ft fi fo = gath (F := F) ft fi := by
  unfold gathBuf
  exact View.write_whole_univ _ _ _

theorem gath1 (ft : Buf (Elt F) ((d, bX) : Loc nD τ sig)) (fi : Buf (Elt F) ((d, bI1) : Loc nD τ sig)) (fo : Buf (Elt F) ((d, bR1) : Loc nD τ sig)) :
    gathBuf d (cT L) (sT L) (Memref.whole main_v4_scv) (Memref.whole main_v15_scv) (Memref.whole main_v16_scv) ft fi fo = gath (F := F) ft fi := by
  unfold gathBuf
  exact View.write_whole_univ _ _ _

/-- The task of the first call on subcore `L 1` of SparseCore `L 0`: from its parts of the arrays, its own scratch and
    semaphores and what it owes, the kernel's body runs and leaves its rows of the result gathered. -/
theorem task0 (hF : (K (F := F)).Facts) (hpre : Z.InTable) (O : CellTallies nD τ sig (HIx 2)) (W : Waits sig (HIx 2)) (hO : ∀ g, O g none = 0) :
    iprop(levAts (K (F := F)).L (K (F := F)).lev ∗ emp ∗ tile0 Z d (cL L) (iL L) (Z.r0 d)
        ∗ scopedBufs (V d (cT L) (sT L)) ∗ scopedSems0 (V d (cT L) (sT L)) ∗ owes (V d (cT L) (sT L)) O W)
      ⊢ wp frame (wpE (defs₀ (F := F)) 𝒱₀ (V d (cT L) (sT L)) none) Set.univ
          (cc1_kern L (Memref.whole main_v4_scv) (Memref.isWhole_whole _) (Memref.whole main_v13_scv) (Memref.isWhole_whole _)
            (Memref.whole main_v14_scv) (Memref.isWhole_whole _) (Memref.whole cc1_scoped0) (Memref.isWhole_whole _) cc1_scoped1
            (Memref.whole cc1_scoped2) (Memref.isWhole_whole _) cc1_scoped3 cc1_scoped4)
          fun _ => iprop(tile0 Z d (cL L) (iL L) (Z.o0 d)
            ∗ scopedBufs (V d (cT L) (sT L)) ∗ scopedSems0 (V d (cT L) (sT L))
            ∗ ∃ W', ⌜∀ p ∈ W', p ∈ W ∨ p.2 = none⌝ ∗ owes (V d (cT L) (sT L)) O W') := by
  obtain ⟨ZB, hZB⟩ := own_bufs (F := F) d (cT L) (sT L) cc1_scoped0 cc1_scoped2 rfl rfl (by decide)
  obtain ⟨ZS, hZS⟩ := own_sems (F := F) d (cT L) (sT L) (five cc1_scoped1 cc1_scoped3 cc1_scoped4) (by decide) (by decide)
  have hin : ∀ x, (((Memref.whole main_v13_scv : Memref sig .scVector .hbm S1x65536 .i32).view.read (Elt F) (Z.i0 d)) x).toNat < 8192 := (hpre d).1
  have hb := body (F := F) d L (Memref.whole main_v4_scv) (Memref.isWhole_whole _) (Memref.whole main_v13_scv) (Memref.isWhole_whole _)
    (Memref.whole main_v14_scv) (Memref.isWhole_whole _) (Memref.whole cc1_scoped0) (Memref.isWhole_whole _) cc1_scoped1
    (Memref.whole cc1_scoped2) (Memref.isWhole_whole _) cc1_scoped3 cc1_scoped4 (Z.tab d) (Z.i0 d) (Z.r0 d)
    (tileQ (cL L) (iL L)) (tileQ (cL L) (iL L)) O W (defs₀ (F := F)) 𝒱₀ none hin
  rw [gath0, myRows0, myRows0] at hb
  unfold tile0 ofTile
  rw [(K (F := F)).scopedBufs_V hF d (cT L) (sT L), SparseCore.Cfg.scopedSems0_V (Val := Elt F) d (cT L) (sT L), hZB, hZS]
  iintro ⟨#Hlv, -, ⟨HX, HI, HR⟩, ⟨HA, HO, HZB⟩, ⟨H0, H1, H2, H3, H4, HZS⟩, Ho⟩
  ihave Hmw := (show levAts (K (F := F)).L (K (F := F)).lev ⊢ Transfers.MayWaits (V d (cT L) (sT L)) (default : HIx 2) O from
    (K (F := F)).mayWaits_none (thr := V d (cT L) (sT L)) hO) $$ Hlv
  iapply (wp_wand_r _ _ _)
  isplitl [HX HI HR HA HO H0 H1 H2 H3 H4 Ho]
  · iapply hb
    isplitl []; · iexact Hmw
    isplitl [HA HO H0 H1 H2 H3 H4]
    · unfold Rest
      simp only [Memref.view_whole, View.set_whole]
      isplitl [HA]; · iexact HA
      isplitl [HO]; · iexact HO
      isplitl [H0]; · iexact H0
      isplitl [H1]; · iexact H1
      isplitl [H2]; · iexact H2
      isplitl [H3]; · iexact H3
      iexact H4
    simp only [Memref.view_whole, View.set_whole]
    isplitl [HX]; · iexact HX
    isplitl [HI]; · iexact HI
    isplitl [HR]; · iexact HR
    iexact Ho
  unfold Rest
  simp only [Memref.view_whole, View.set_whole]
  iintro %_ ⟨⟨HA, HO, H0, H1, H2, H3, H4⟩, HX, HI, HR, HW⟩
  isplitl [HX HI HR]
  · isplitl [HX]; · iexact HX
    isplitl [HI]; · iexact HI
    iexact HR
  isplitl [HA HO HZB]
  · isplitl [HA]; · iexact HA
    isplitl [HO]; · iexact HO
    iexact HZB
  isplitl [H0 H1 H2 H3 H4 HZS]
  · isplitl [H0]; · iexact H0
    isplitl [H1]; · iexact H1
    isplitl [H2]; · iexact H2
    isplitl [H3]; · iexact H3
    isplitl [H4]; · iexact H4
    iexact HZS
  iexact HW

/-- The task of the second call on subcore `L 1` of SparseCore `L 0`: from its parts of the arrays, its own scratch and
    semaphores and what it owes, the kernel's body runs and leaves its rows of the result gathered. -/
theorem task1 (hF : (K (F := F)).Facts) (hpre : Z.InTable) (O : CellTallies nD τ sig (HIx 2)) (W : Waits sig (HIx 2)) (hO : ∀ g, O g none = 0) :
    iprop(levAts (K (F := F)).L (K (F := F)).lev ∗ emp ∗ tile1 Z d (cL L) (iL L) (Z.r1 d)
        ∗ scopedBufs (V d (cT L) (sT L)) ∗ scopedSems0 (V d (cT L) (sT L)) ∗ owes (V d (cT L) (sT L)) O W)
      ⊢ wp frame (wpE (defs₀ (F := F)) 𝒱₀ (V d (cT L) (sT L)) none) Set.univ
          (cc2_kern L (Memref.whole main_v4_scv) (Memref.isWhole_whole _) (Memref.whole main_v15_scv) (Memref.isWhole_whole _)
            (Memref.whole main_v16_scv) (Memref.isWhole_whole _) (Memref.whole cc2_scoped0) (Memref.isWhole_whole _) cc2_scoped1
            (Memref.whole cc2_scoped2) (Memref.isWhole_whole _) cc2_scoped3 cc2_scoped4)
          fun _ => iprop(tile1 Z d (cL L) (iL L) (Z.o1 d)
            ∗ scopedBufs (V d (cT L) (sT L)) ∗ scopedSems0 (V d (cT L) (sT L))
            ∗ ∃ W', ⌜∀ p ∈ W', p ∈ W ∨ p.2 = none⌝ ∗ owes (V d (cT L) (sT L)) O W') := by
  obtain ⟨ZB, hZB⟩ := own_bufs (F := F) d (cT L) (sT L) cc2_scoped0 cc2_scoped2 rfl rfl (by decide)
  obtain ⟨ZS, hZS⟩ := own_sems (F := F) d (cT L) (sT L) (five cc2_scoped1 cc2_scoped3 cc2_scoped4) (by decide) (by decide)
  have hin : ∀ x, (((Memref.whole main_v15_scv : Memref sig .scVector .hbm S1x65536 .i32).view.read (Elt F) (Z.i1 d)) x).toNat < 8192 := (hpre d).2
  have hb := body (F := F) d L (Memref.whole main_v4_scv) (Memref.isWhole_whole _) (Memref.whole main_v15_scv) (Memref.isWhole_whole _)
    (Memref.whole main_v16_scv) (Memref.isWhole_whole _) (Memref.whole cc2_scoped0) (Memref.isWhole_whole _) cc2_scoped1
    (Memref.whole cc2_scoped2) (Memref.isWhole_whole _) cc2_scoped3 cc2_scoped4 (Z.tab d) (Z.i1 d) (Z.r1 d)
    (tileQ (cL L) (iL L)) (tileQ (cL L) (iL L)) O W (defs₀ (F := F)) 𝒱₀ none hin
  rw [gath1, myRows1, myRows1] at hb
  unfold tile1 ofTile
  rw [(K (F := F)).scopedBufs_V hF d (cT L) (sT L), SparseCore.Cfg.scopedSems0_V (Val := Elt F) d (cT L) (sT L), hZB, hZS]
  iintro ⟨#Hlv, -, ⟨HX, HI, HR⟩, ⟨HA, HO, HZB⟩, ⟨H0, H1, H2, H3, H4, HZS⟩, Ho⟩
  ihave Hmw := (show levAts (K (F := F)).L (K (F := F)).lev ⊢ Transfers.MayWaits (V d (cT L) (sT L)) (default : HIx 2) O from
    (K (F := F)).mayWaits_none (thr := V d (cT L) (sT L)) hO) $$ Hlv
  iapply (wp_wand_r _ _ _)
  isplitl [HX HI HR HA HO H0 H1 H2 H3 H4 Ho]
  · iapply hb
    isplitl []; · iexact Hmw
    isplitl [HA HO H0 H1 H2 H3 H4]
    · unfold Rest
      simp only [Memref.view_whole, View.set_whole]
      isplitl [HA]; · iexact HA
      isplitl [HO]; · iexact HO
      isplitl [H0]; · iexact H0
      isplitl [H1]; · iexact H1
      isplitl [H2]; · iexact H2
      isplitl [H3]; · iexact H3
      iexact H4
    simp only [Memref.view_whole, View.set_whole]
    isplitl [HX]; · iexact HX
    isplitl [HI]; · iexact HI
    isplitl [HR]; · iexact HR
    iexact Ho
  unfold Rest
  simp only [Memref.view_whole, View.set_whole]
  iintro %_ ⟨⟨HA, HO, H0, H1, H2, H3, H4⟩, HX, HI, HR, HW⟩
  isplitl [HX HI HR]
  · isplitl [HX]; · iexact HX
    isplitl [HI]; · iexact HI
    iexact HR
  isplitl [HA HO HZB]
  · isplitl [HA]; · iexact HA
    isplitl [HO]; · iexact HO
    iexact HZB
  isplitl [H0 H1 H2 H3 H4 HZS]
  · isplitl [H0]; · iexact H0
    isplitl [H1]; · iexact H1
    isplitl [H2]; · iexact H2
    isplitl [H3]; · iexact H3
    isplitl [H4]; · iexact H4
    iexact HZS
  iexact HW

end Tile

/-! ## The calls' obligations -/

/-- The grid point of subcore `s` of SparseCore `c`. -/
def coords (c : Fin (grid1.bound 0)) (s : Fin (grid1.bound 1)) : grid1.Coords :=
  fun | 0 => c | 1 => s | ⟨_ + 2, h⟩ => absurd h (Nat.not_lt.2 (Nat.le_add_left _ _))

theorem defs₀_call0 (c : Fin τ.nSC) (s : Fin τ.nSub) :
    defs₀ (F := F) (.scVector c s) 1 ()
      = SparseCore.onTile hcore1 hsub1 (fun c s => cc1_kern (coords c s)
          (Memref.whole main_v4_scv) (Memref.isWhole_whole _) (Memref.whole main_v13_scv) (Memref.isWhole_whole _)
            (Memref.whole main_v14_scv) (Memref.isWhole_whole _) (Memref.whole cc1_scoped0) (Memref.isWhole_whole _) cc1_scoped1
            (Memref.whole cc1_scoped2) (Memref.isWhole_whole _) cc1_scoped3 cc1_scoped4) ⟨⟩ c s := rfl

theorem defs₀_call1 (c : Fin τ.nSC) (s : Fin τ.nSub) :
    defs₀ (F := F) (.scVector c s) 2 ()
      = SparseCore.onTile hcore2 hsub2 (fun c s => cc2_kern (coords c s)
          (Memref.whole main_v4_scv) (Memref.isWhole_whole _) (Memref.whole main_v15_scv) (Memref.isWhole_whole _)
            (Memref.whole main_v16_scv) (Memref.isWhole_whole _) (Memref.whole cc2_scoped0) (Memref.isWhole_whole _) cc2_scoped1
            (Memref.whole cc2_scoped2) (Memref.isWhole_whole _) cc2_scoped3 cc2_scoped4) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The first call's tasks. -/
theorem obl0 (hF : (K (F := F)).Facts) (hpre : Z.InTable) : (K (F := F)).TileObl (D (F := F)) 𝒱 (P Z) v₀ 0 := by
  intro d c i O W hO _ _
  simp only [show (P Z).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_call0]; simp only [SparseCore.onTile, hci, and_self, ↓reduceDIte]
  exact (task0 Z d (coords ⟨_, hci.1⟩ ⟨_, hci.2⟩) hF hpre O W hO).trans (wp_mono frame _ _ fun _ => obl_post)

set_option maxRecDepth 16384 in
/-- The second call's. -/
theorem obl1 (hF : (K (F := F)).Facts) (hpre : Z.InTable) : (K (F := F)).TileObl (D (F := F)) 𝒱 (P Z) v₀ 1 := by
  intro d c i O W hO _ _
  simp only [show (P Z).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_call1]; simp only [SparseCore.onTile, hci, and_self, ↓reduceDIte]
  exact (task1 Z d (coords ⟨_, hci.1⟩ ⟨_, hci.2⟩) hF hpre O W hO).trans (wp_mono frame _ _ fun _ => obl_post)

/-- A SparseCore's part of a call's arrays is dealt to its subcores and gathered from them. -/
theorem split0 : (K (F := F)).VecSplit' (P Z) 0 := by
  intro d c
  show core0 Z d (Fin.cast nCore0 c) (Z.r0 d) ⊢ |={Set.univ}=> iprop(
      (bigSep Finset.univ fun i : Fin 16 => tile0 Z d (Fin.cast nCore0 c) i (Z.r0 d))
      ∗ ((bigSep Finset.univ fun i : Fin 16 => tile0 Z d (Fin.cast nCore0 c) i (Z.o0 d)) -∗ core0 Z d (Fin.cast nCore0 c) (Z.o0 d)))
  unfold core0 tile0
  rw [tiles_eq, tiles_eq]
  iintro H; imodintro
  isplitl [H]; · iexact H
  iintro H; iexact H

theorem split1 : (K (F := F)).VecSplit' (P Z) 1 := by
  intro d c
  show core1 Z d (Fin.cast nCore1 c) (Z.r1 d) ⊢ |={Set.univ}=> iprop(
      (bigSep Finset.univ fun i : Fin 16 => tile1 Z d (Fin.cast nCore1 c) i (Z.r1 d))
      ∗ ((bigSep Finset.univ fun i : Fin 16 => tile1 Z d (Fin.cast nCore1 c) i (Z.o1 d)) -∗ core1 Z d (Fin.cast nCore1 c) (Z.o1 d)))
  unfold core1 tile1
  rw [tiles_eq, tiles_eq]
  iintro H; imodintro
  isplitl [H]; · iexact H
  iintro H; iexact H

end Cert.Kernel.Gather

end
-- ==== Proof.Kernel.Launch.lean ====
/-
  The whole program's run: the host's operations, the five calls on the TensorCore and the two on the SparseCores, in
  the program's order; at the end every array holds what the chain of calls makes it hold, and every semaphore is at
  zero.
-/
module

public import proofs.«01_k».proof.Proof.Kernel.Tiles
public import Idealize.ShloMosaic.Lib.StableHlo.Run
public import Idealize.ShloMosaic.Lib.Pipeline.Kit

@[expose] public section

noncomputable section

namespace Cert.Kernel.Gather

open Cert.Kernel Cert.Kernel.Gen

open Idealize.ShloMosaic
open Idealize.ShloMosaic.SparseCore (S V T)
open Idealize.ShloMosaic.SparseCore.Cfg (HIx Pay ownBufs ownSems0)
open Idealize.ShloMosaic.StableHlo (held held_sub_split held_congr wp_seq seq after)
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs entry cells launchToks cellsGhost toksInit)
open Idealize.ShloMosaic.Rounds
open Idealize.ShloMosaic.Tactic

variable {F : FTy → Type}

local notation "𝕄" => MT nD τ sig (HIx 2) (Elt F) ℕ UU ℕ

variable [FloatOps F] (m : (ℓ : Loc nD τ sig) → Buf (Elt F) ℓ) (ρ : Dev nD → PrngReg)

/-! ## The contents along the run -/

/-- At the launch, and before the first call. -/
def V0 (d : Dev nD) : Valuation τ sig (Elt F) := fun b => m (d, b)
def V1 (d : Dev nD) : Valuation τ sig (Elt F) := after ops0 (V0 m d)

/-- With the rows gathered by a call of the SparseCores. -/
def got0 (W : Valuation τ sig (Elt F)) : Valuation τ sig (Elt F) := Function.update W bR0 (gath (F := F) (W bX) (W bI0))
def got1 (W : Valuation τ sig (Elt F)) : Valuation τ sig (Elt F) := Function.update W bR1 (gath (F := F) (W bX) (W bI1))

/-- From what the first call leaves: what its successors on the TensorCore start from. -/
def V6 (W : Valuation τ sig (Elt F)) : Valuation τ sig (Elt F) := got1 (after ops2 (got0 (after ops1 W)))

/-- What the SparseCores' calls are given. -/
def given : Given F where
  tab d := tabOf (F := F) (prods (F := F) (V1 m d))
  i0 d := nums0 (m (d, bJ))
  i1 d := nums1 (m (d, bJ))
  r0 d := m (d, bR0)
  r1 d := m (d, bR1)

/-- What each call leaves, from what it finds: after the first, and after each of the last four. -/
structure Chain (d : Dev nD) (V2 V7 V8 V10 V11 : Valuation τ sig (Elt F)) : Prop where
  c0 : Left 0 (rdats 0 fun _ => V1 m d) d (V1 m d) V2
  c1 : Left 1 (rdats 2 fun _ => V6 V2) d (V6 V2) V7
  c2 : Left 2 (rdats 2 fun _ => V7) d V7 V8
  c3 : Left 3 (rdats 2 fun _ => after ops3 V8) d (after ops3 V8) V10
  c4 : Left 4 (rdats 2 fun _ => V10) d V10 V11

/-! ## What the SparseCores' calls find -/

section Find

variable {m} {d : Dev nD} {W : Valuation τ sig (Elt F)} (h : Left 0 (rdats 0 fun _ => V1 m d) d (V1 m d) W)

include h

theorem keeps0 (b : Ref sig .tc) (hb : ∀ w, arr 0 w ≠ Proc.devRef .tc b) (ho : b ∉ outs0) : W (Proc.devRef .tc b) = m (d, Proc.devRef .tc b) :=
  (h.2 _ hb).trans (keeps_ops0 _ b ho)

theorem find_X : after ops1 W bX = (given m).tab d := by
  rw [ops1_X, left_prods 0 d _ _ h]; rfl

theorem find_J : W bJ = m (d, bJ) := keeps0 h main_arg1 (by decide) (by decide)

theorem find_I0 : after ops1 W bI0 = (given m).i0 d := by
  rw [ops1_I0, find_J h]; rfl

theorem find_R0 : after ops1 W bR0 = (given m).r0 d :=
  (keeps_ops1 _ main_v14 (by decide)).trans (keeps0 h main_v14 (by decide) (by decide))

theorem find_X' : after ops2 (got0 (after ops1 W)) bX = (given m).tab d :=
  (keeps_ops2 _ main_v4 (by decide)).trans ((Function.update_of_ne (by decide) _ _).trans (find_X h))

theorem find_I1 : after ops2 (got0 (after ops1 W)) bI1 = (given m).i1 d :=
  ops2_I1 _ _ ((Function.update_of_ne (show bN ≠ bR0 by decide) _ _).trans ((ops1_N W).trans (congrArg nums (find_J h))))

theorem find_R1 : after ops2 (got0 (after ops1 W)) bR1 = (given m).r1 d :=
  (keeps_ops2 _ main_v16 (by decide)).trans ((Function.update_of_ne (by decide) _ _).trans
    ((keeps_ops1 _ main_v16 (by decide)).trans (keeps0 h main_v16 (by decide) (by decide))))

end Find

/-! ## The launch's ghost state -/

omit [FloatOps F] in
theorem nothing {I : Type} (t : Finset I) : (bigSep t fun _ => iprop(emp)) = (iprop(emp) : sProp 𝕄) := bigSep_emp_const t

def u₀ : UU := (initOf (K (F := F)).hsCells (K (F := F)).hsToks, (initOf (cells cfgs cellOf_inj) (launchToks cfgs cellOf_inj), 1))

/-- What the five calls on the TensorCore use of it, on one device. -/
def mine (d : Dev nD) : sProp 𝕄 :=
  iprop((bigSep Finset.univ fun p : Fin 5 => cellsGhost cfgs (EP (F := F)) p d) ∗ bigSep Finset.univ fun p : Fin 5 => toksInit cfgs (EP (F := F)) p d)

theorem hu₀ (Z : Given F) : (ownU (u₀ (F := F)) : sProp 𝕄)
    ⊢ |={Set.univ}=> iprop(BI.own (EH (initOf (K (F := F)).hsCells (K (F := F)).hsToks)) ∗ (bigSep Finset.univ fun d : Dev nD => mine (F := F) d)
        ∗ bigSep Finset.univ fun thr : Thread nD τ => bigSep Finset.univ fun q : Fin 2 => (P Z).x q thr) := by
  unfold u₀ mine
  iintro Hu
  ihave H := (ownU_pair (initOf (K (F := F)).hsCells (K (F := F)).hsToks) ((initOf (cells cfgs cellOf_inj) (launchToks cfgs cellOf_inj), 1) : UP × Counters)) $$ Hu
  icases H with ⟨HH, H⟩
  ihave H := (own_pair_emb (embR (A := UH) (B := UP × Counters)) (initOf (cells cfgs cellOf_inj) (launchToks cfgs cellOf_inj)) (1 : Counters)) $$ H
  icases H with ⟨H, -⟩
  ihave H := (Pipeline.fund_ghost cfgs (EP (F := F)) cellOf_inj) $$ H
  imod H with ⟨Hc, Ht⟩
  imodintro
  isplitl [HH]; · iexact HH
  isplitl [Hc Ht]
  · iapply (Entails.of_eq (bigSep_sep' Finset.univ (fun d : Dev nD => bigSep Finset.univ fun p : Fin 5 => cellsGhost cfgs (EP (F := F)) p d)
      (fun d : Dev nD => bigSep Finset.univ fun p : Fin 5 => toksInit cfgs (EP (F := F)) p d)).symm)
    isplitl [Hc]; · iexact Hc
    iexact Ht
  rw [show (bigSep Finset.univ fun thr : Thread nD τ => bigSep Finset.univ fun q : Fin 2 => (P (F := F) Z).x q thr)
      = (bigSep Finset.univ fun _ : Thread nD τ => (iprop(emp) : sProp 𝕄)) from
    bigSep_congr fun _ _ => bigSep_emp_const _, nothing]
  iempintro

omit [FloatOps F] in
/-- One call's part each. -/
theorem five_calls (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} from rfl, SparseCore.bigSep_insert' (by decide), SparseCore.bigSep_insert' (by decide),
    SparseCore.bigSep_insert' (by decide), SparseCore.bigSep_insert' (by decide), bigSep_singleton]

/-! ## The host's thread -/

omit [FloatOps F] in
theorem unscoped_held (d : Dev nD) : (unscopedBufs d (fun b => m ((SparseCore.T d).loc b)) : sProp 𝕄) = held (SparseCore.T d) (ucRefs τ sig) (V0 m d) :=
  Pipeline.unscopedBufs_held (Ix := HIx 2) (Name := ℕ) (U := UU) (Lvl := ℕ) d (V0 m d)

/-- A call's three arrays, out of all of them. -/
theorem held_take {a b c : DevRef τ sig} (hab : a ≠ b) (hac : a ≠ c) (hbc : b ≠ c) (h : ({a, b, c} : Finset (DevRef τ sig)) ⊆ ucRefs τ sig) (d : Dev nD)
    (V : Valuation τ sig (Elt F)) :
    (held (SparseCore.T d) (ucRefs τ sig) V : sProp 𝕄)
      = iprop(((((d, a) : Loc nD τ sig) ↦{fullShare} V a) ∗ (((d, b) : Loc nD τ sig) ↦{fullShare} V b) ∗ (((d, c) : Loc nD τ sig) ↦{fullShare} V c))
        ∗ held (SparseCore.T d) (ucRefs τ sig \ {a, b, c}) V) := by
  rw [held_sub_split (SparseCore.T d) h V]
  congr 1
  unfold held
  rw [SparseCore.bigSep_insert' (by simp [hab, hac]), SparseCore.bigSep_insert' (by simp [hbc]), bigSep_singleton]

omit [FloatOps F] in
/-- The rest of the arrays keep their contents when one of the three is written. -/
theorem held_rest {a b c : DevRef τ sig} (d : Dev nD) (V : Valuation τ sig (Elt F)) (x) :
    (held (SparseCore.T d) (ucRefs τ sig \ {a, b, c}) (Function.update V c x) : sProp 𝕄) = held (SparseCore.T d) (ucRefs τ sig \ {a, b, c}) V :=
  held_congr (SparseCore.T d) fun e he => Function.update_of_ne (fun h => by subst h; simp at he) _ _

theorem sub0 : ({bX, bI0, bR0} : Finset (DevRef τ sig)) ⊆ ucRefs τ sig := by decide
theorem sub1 : ({bX, bI1, bR1} : Finset (DevRef τ sig)) ⊆ ucRefs τ sig := by decide

variable (Z : Given F)

/-- The first call's arrays before it, and after. -/
theorem give0 (d : Dev nD) (W : Valuation τ sig (Elt F)) (hX : W bX = Z.tab d) (hI : W bI0 = Z.i0 d) (hR : W bR0 = Z.r0 d) :
    (held (SparseCore.T d) (ucRefs τ sig) W : sProp 𝕄)
    = iprop((bigSep Finset.univ fun c : Fin ((K (F := F)).nCore 0) => (P Z).st 0 d c) ∗ held (SparseCore.T d) (ucRefs τ sig \ {bX, bI0, bR0}) W) := by
  rw [held_take (show bX ≠ bI0 by decide) (show bX ≠ bR0 by decide) (show bI0 ≠ bR0 by decide) sub0,
    cores_eq (ℓX := (d, bX)) (ℓI := (d, bI0)) (rowOf0 d) (W bX) (W bI0) (W bR0) (fun x => (x (0 : Fin 2)).isLt), hX, hI, hR]
  rfl
theorem take0 (d : Dev nD) (W : Valuation τ sig (Elt F)) (hX : W bX = Z.tab d) (hI : W bI0 = Z.i0 d) :
    (iprop((bigSep Finset.univ fun c : Fin ((K (F := F)).nCore 0) => (P Z).dn 0 d c) ∗ held (SparseCore.T d) (ucRefs τ sig \ {bX, bI0, bR0}) W) : sProp 𝕄)
    = held (SparseCore.T d) (ucRefs τ sig) (got0 W) := by
  rw [held_take (show bX ≠ bI0 by decide) (show bX ≠ bR0 by decide) (show bI0 ≠ bR0 by decide) sub0,
    cores_eq (ℓX := (d, bX)) (ℓI := (d, bI0)) (rowOf0 d) (got0 W bX) (got0 W bI0) (got0 W bR0) (fun x => (x (0 : Fin 2)).isLt),
    show got0 W bX = W bX from Function.update_of_ne (by decide) _ _, show got0 W bI0 = W bI0 from Function.update_of_ne (by decide) _ _,
    show got0 W bR0 = gath (F := F) (W bX) (W bI0) from Function.update_self _ _ _,
    show (held (SparseCore.T d) (ucRefs τ sig \ {bX, bI0, bR0}) (got0 W) : sProp 𝕄) = _ from held_rest d W _, hX, hI]
  rfl
/-- The second's. -/
theorem give1 (d : Dev nD) (W : Valuation τ sig (Elt F)) (hX : W bX = Z.tab d) (hI : W bI1 = Z.i1 d) (hR : W bR1 = Z.r1 d) :
    (held (SparseCore.T d) (ucRefs τ sig) W : sProp 𝕄)
    = iprop((bigSep Finset.univ fun c : Fin ((K (F := F)).nCore 1) => (P Z).st 1 d c) ∗ held (SparseCore.T d) (ucRefs τ sig \ {bX, bI1, bR1}) W) := by
  rw [held_take (show bX ≠ bI1 by decide) (show bX ≠ bR1 by decide) (show bI1 ≠ bR1 by decide) sub1,
    cores_eq (ℓX := (d, bX)) (ℓI := (d, bI1)) (rowOf1 d) (W bX) (W bI1) (W bR1) (fun x => (x (0 : Fin 2)).isLt), hX, hI, hR]
  rfl
theorem take1 (d : Dev nD) (W : Valuation τ sig (Elt F)) (hX : W bX = Z.tab d) (hI : W bI1 = Z.i1 d) :
    (iprop((bigSep Finset.univ fun c : Fin ((K (F := F)).nCore 1) => (P Z).dn 1 d c) ∗ held (SparseCore.T d) (ucRefs τ sig \ {bX, bI1, bR1}) W) : sProp 𝕄)
    = held (SparseCore.T d) (ucRefs τ sig) (got1 W) := by
  rw [held_take (show bX ≠ bI1 by decide) (show bX ≠ bR1 by decide) (show bI1 ≠ bR1 by decide) sub1,
    cores_eq (ℓX := (d, bX)) (ℓI := (d, bI1)) (rowOf1 d) (got1 W bX) (got1 W bI1) (got1 W bR1) (fun x => (x (0 : Fin 2)).isLt),
    show got1 W bX = W bX from Function.update_of_ne (by decide) _ _, show got1 W bI1 = W bI1 from Function.update_of_ne (by decide) _ _,
    show got1 W bR1 = gath (F := F) (W bX) (W bI1) from Function.update_self _ _ _,
    show (held (SparseCore.T d) (ucRefs τ sig \ {bX, bI1, bR1}) (got1 W) : sProp 𝕄) = _ from held_rest d W _, hX, hI]
  rfl

omit [FloatOps F] in
/-- What the thread owes, out of its state and back. -/
theorem owing (d : Dev nD) (n : ℕ) : ((K (F := F)).tcSt EH d n : sProp 𝕄) ⊢ iprop(Owing d n ∗ (Owing d n -∗ (K (F := F)).tcSt EH d n)) := by
  unfold SparseCore.Cfg.tcSt Owing
  iintro ⟨Ho, H⟩
  isplitl [Ho]; · iexact Ho
  iintro Ho
  isplitl [Ho]; · iexact Ho
  iexact H

/-- What the host's thread ends with. -/
def Ends (d : Dev nD) : sProp 𝕄 :=
  iprop(∃ V2 V7 V8 V10 V11, ⌜Chain m d V2 V7 V8 V10 V11⌝ ∗ held (SparseCore.T d) (ucRefs τ sig) V11)

/-- `@main` on the TensorCore. -/
theorem hmain [∀ e, Nonempty (Elt F e)] (κ : GSem nD τ sig → ℕ) (d : Dev nD) :
    iprop((K (F := F)).ctx EH (P (given m)) κ ∗ (K (F := F)).tcSt EH d 0 ∗ (K (F := F)).tcRes m ρ d ∗ mine d)
      ⊢ wp frame (wpE ((K (F := F)).defs (D (F := F))) 𝒱 (SparseCore.T d) none) Set.univ (main d)
          fun _ => iprop((K (F := F)).tcSt EH d 2 ∗ Ends m d ∗ (K (F := F)).tcEnd d) := by
  unfold SparseCore.Cfg.tcRes SparseCore.Cfg.tcEnd mine
  rw [unscoped_held, main_eq, five_calls, five_calls]
  iintro ⟨#Hctx, Hst, ⟨Hb, Hheld, Hts, -⟩, ⟨Hc0, Hc1, Hc2, Hc3, Hc4⟩, Ht0, Ht1, Ht2, Ht3, Ht4⟩
  ihave Hlv := (SparseCore.Cfg.ctx_levAts κ) $$ Hctx
  icases Hlv with #Hlv
  iapply (wp_seq (bd := none) 𝒱 Set.univ d (ucRefs τ sig) _ (ops0 (F := F)) ops0_sub ops0_fresh (V0 m d)) $$ [Hb Hheld]
  · isplitl [Hb] <;> iassumption
  iintro ⟨Hb, Hheld⟩
  rw [wp_bind]
  ihave Hst := (owing d 0) $$ Hst
  icases Hst with ⟨Ho, Hst⟩
  iapply (wp_call 0 (rdats 0 fun _ => V1 m d) 0 (fun _ => V1 m d) (runs0 0 fun _ => V1 m d) d)
  isplitr [Hb Hheld Ho Hc0 Ht0]
  on_goal 2 =>
    isplitl [Hb]; · iexact Hb
    isplitl [Hheld]; · iexact Hheld
    isplitl [Ho]; · iexact Ho
    isplitr; · iexact Hlv
    isplitl [Hc0]; · iexact Hc0
    iexact Ht0
  iintro ⟨Hb, ⟨%V2, %h0, Hheld⟩, Ho⟩
  ihave Hst := Hst $$ Ho
  iapply (wp_seq (bd := none) 𝒱 Set.univ d (ucRefs τ sig) _ (ops1 (F := F)) ops1_sub ops1_fresh V2) $$ [Hb Hheld]
  · isplitl [Hb] <;> iassumption
  iintro ⟨Hb, Hheld⟩
  ihave Hh := (show (held (Val := Elt F) (d.tc : Thread nD τ) (ucRefs τ sig) (after ops1 V2) : sProp 𝕄) ⊢ _ from Entails.of_eq (give0 (given m) d _ (find_X h0) (find_I0 h0) (find_R0 h0))) $$ Hheld
  icases Hh with ⟨Hin, Hrest⟩
  rw [wp_bind]
  iapply ((K (F := F)).wp_run (D (F := F)) 𝒱 (EH := EH) (P := P (given m)) κ d 0) $$ [Hst Hin Hb Hrest Hts Hc1 Hc2 Hc3 Hc4 Ht1 Ht2 Ht3 Ht4]
  isplitr; · iexact Hctx
  isplitl [Hst]; · iexact Hst
  isplitl [Hin]; · iexact Hin
  iintro ⟨Hst, Hdn⟩
  ihave Hheld := (Entails.of_eq (take0 (given m) d _ (find_X h0) (find_I0 h0))) $$ [Hdn Hrest]
  · isplitl [Hdn]; · iexact Hdn
    iexact Hrest
  iapply (wp_seq (bd := none) 𝒱 Set.univ d (ucRefs τ sig) _ (ops2 (F := F)) ops2_sub ops2_fresh (got0 (after ops1 V2))) $$ [Hb Hheld]
  · isplitl [Hb] <;> iassumption
  iintro ⟨Hb, Hheld⟩
  ihave Hh := (show (held (Val := Elt F) (d.tc : Thread nD τ) (ucRefs τ sig) (after ops2 (got0 (after ops1 V2))) : sProp 𝕄) ⊢ _ from Entails.of_eq (give1 (given m) d _ (find_X' h0) (find_I1 h0) (find_R1 h0))) $$ Hheld
  icases Hh with ⟨Hin, Hrest⟩
  rw [wp_bind]
  iapply ((K (F := F)).wp_run (D (F := F)) 𝒱 (EH := EH) (P := P (given m)) κ d 1) $$ [Hst Hin Hb Hrest Hts Hc1 Hc2 Hc3 Hc4 Ht1 Ht2 Ht3 Ht4]
  isplitr; · iexact Hctx
  isplitl [Hst]; · iexact Hst
  isplitl [Hin]; · iexact Hin
  iintro ⟨Hst, Hdn⟩
  ihave Hheld := (show _ ⊢ (held (Val := Elt F) (d.tc : Thread nD τ) (ucRefs τ sig) (V6 V2) : sProp 𝕄) from Entails.of_eq (take1 (given m) d _ (find_X' h0) (find_I1 h0))) $$ [Hdn Hrest]
  · isplitl [Hdn]; · iexact Hdn
    iexact Hrest
  ihave Hst := (show ((K (F := F)).tcSt EH d ((1 : Fin 2).val + 1) : sProp 𝕄) ⊢ _ from owing d 2) $$ Hst
  icases Hst with ⟨Ho, Hst⟩
  rw [wp_bind]
  iapply (wp_call 1 (rdats 2 fun _ => V6 V2) 2 (fun _ => V6 V2) (runs1 2 fun _ => V6 V2) d)
  isplitr [Hb Hheld Ho Hc1 Ht1]
  on_goal 2 =>
    isplitl [Hb]; · iexact Hb
    isplitl [Hheld]; · iexact Hheld
    isplitl [Ho]; · iexact Ho
    isplitr; · iexact Hlv
    isplitl [Hc1]; · iexact Hc1
    iexact Ht1
  iintro ⟨Hb, ⟨%V7, %h1, Hheld⟩, Ho⟩
  rw [wp_bind]
  iapply (wp_call 2 (rdats 2 fun _ => V7) 2 (fun _ => V7) (runs2 2 fun _ => V7) d)
  isplitr [Hb Hheld Ho Hc2 Ht2]
  on_goal 2 =>
    isplitl [Hb]; · iexact Hb
    isplitl [Hheld]; · iexact Hheld
    isplitl [Ho]; · iexact Ho
    isplitr; · iexact Hlv
    isplitl [Hc2]; · iexact Hc2
    iexact Ht2
  iintro ⟨Hb, ⟨%V8, %h2, Hheld⟩, Ho⟩
  iapply (wp_seq (bd := none) 𝒱 Set.univ d (ucRefs τ sig) _ (ops3 (F := F)) ops3_sub ops3_fresh V8) $$ [Hb Hheld]
  · isplitl [Hb] <;> iassumption
  iintro ⟨Hb, Hheld⟩
  rw [wp_bind]
  iapply (wp_call 3 (rdats 2 fun _ => after ops3 V8) 2 (fun _ => after ops3 V8) (runs3 2 fun _ => after ops3 V8) d)
  isplitr [Hb Hheld Ho Hc3 Ht3]
  on_goal 2 =>
    isplitl [Hb]; · iexact Hb
    isplitl [Hheld]; · iexact Hheld
    isplitl [Ho]; · iexact Ho
    isplitr; · iexact Hlv
    isplitl [Hc3]; · iexact Hc3
    iexact Ht3
  iintro ⟨Hb, ⟨%V10, %h3, Hheld⟩, Ho⟩
  rw [wp_bind]
  iapply (wp_call 4 (rdats 2 fun _ => V10) 2 (fun _ => V10) (runs4 2 fun _ => V10) d)
  isplitr [Hb Hheld Ho Hc4 Ht4]
  on_goal 2 =>
    isplitl [Hb]; · iexact Hb
    isplitl [Hheld]; · iexact Hheld
    isplitl [Ho]; · iexact Ho
    isplitr; · iexact Hlv
    isplitl [Hc4]; · iexact Hc4
    iexact Ht4
  iintro ⟨Hb, ⟨%V11, %h4, Hheld⟩, Ho⟩
  ihave Hst := Hst $$ Ho
  rw [wp_pure]; imodintro
  isplitl [Hst]; · iexact Hst
  isplitl [Hheld]
  · unfold Ends
    iexists V2, V7, V8, V10, V11
    isplitr
    · ipureintro; exact ⟨h0, h1, h2, h3, h4⟩
    iexact Hheld
  isplitl [Hb] <;> iassumption

/-! ## The run -/

/-- What is read of the final state. -/
def fq (d : Dev nD) (s' : Phys nD τ sig (Elt F)) : Prop :=
  ∃ V2 V7 V8 V10 V11, Chain m d V2 V7 V8 V10 V11 ∧ ∀ b ∈ ucRefs τ sig, s'.mem.mem (d, b) = V11 b

omit [FloatOps F] in
theorem held_read (d : Dev nD) (W : Valuation τ sig (Elt F)) (s' : Phys nD τ sig (Elt F)) :
    iprop(held (SparseCore.T d) (ucRefs τ sig) W ∗ SI s') ⊢ (⌜∀ b ∈ ucRefs τ sig, s'.mem.mem (d, b) = W b⌝ : sProp 𝕄) := by
  have key : ∀ b ∈ ucRefs τ sig, iprop(held (SparseCore.T d) (ucRefs τ sig) W ∗ SI s') ⊢ (⌜s'.mem.mem (d, b) = W b⌝ : sProp 𝕄) := by
    intro b hb
    iintro ⟨H, HSI⟩
    ihave Hb := (show (held (SparseCore.T d) (ucRefs τ sig) W : sProp 𝕄) ⊢ (((d, b) : Loc nD τ sig) ↦{fullShare} W b) from bigSep_elim hb) $$ H
    ihave H := (SI_pointsTo_agree (st := s') (ℓ := (d, b)) (I := Finset.univ) (q := fullShare) (f := W b)) $$ [HSI Hb]
    · isplitl [HSI] <;> iassumption
    icases H with %h
    ipureintro; exact funext fun i => h i (Finset.mem_univ i)
  refine (Laws.forall_intro fun b => ?_).trans Laws.pure_forall.2
  by_cases hb : b ∈ ucRefs τ sig
  · exact (key b hb).trans (Laws.pure_mono fun h _ => h)
  · exact Laws.pure_intro fun h => absurd h hb

theorem hfin (d : Dev nD) (s' : Phys nD τ sig (Elt F)) : iprop(Ends m d ∗ SI s') ⊢ (⌜fq m d s'⌝ : sProp 𝕄) := by
  unfold Ends
  iintro ⟨⟨%V2, %V7, %V8, %V10, %V11, %h, H⟩, HSI⟩
  ihave H := (held_read d V11 s') $$ [H HSI]
  · isplitl [H] <;> iassumption
  icases H with %hm
  ipureintro
  exact ⟨V2, V7, V8, V10, V11, h, hm⟩

def QC : PUnit × MemSt nD τ sig (Elt F) → Prop := fun r =>
  (∀ d : Dev nD, ∃ V2 V7 V8 V10 V11, Chain m d V2 V7 V8 V10 V11 ∧ ∀ b ∈ ucRefs τ sig, r.2.mem (d, b) = V11 b) ∧ r.2.sem = fun _ => 0

/-- The program's run. -/
theorem run_main [∀ e, Nonempty (Elt F e)] (hpre : (given m).InTable) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P (given m)) (A := ∅) facts v₀
    (fun q hq => match q with | 0 => nomatch hq | 1 => nomatch hq)
    (fun q _ => match q with | 0 => obl0 _ facts hpre | 1 => obl1 _ facts hpre)
    (fun q _ => match q with | 0 => SparseCore.Cfg.VecSplit.of_plain (split0 _) | 1 => SparseCore.Cfg.VecSplit.of_plain (split1 _))
    m ρ main (fun d => mine (F := F) d) (fun d => Ends m d) (u₀ (F := F)) (sep_elim_left.trans (hu₀ _)) (hmain m ρ) (fq m) (hfin m) (QC m)
    (fun _ h hz => ⟨h, hz⟩)

end Cert.Kernel.Gather

end
-- ==== Proof.Value.Reads.lean ====
/-
  The calls' blocks read at an element: which element of its array each element of a block is.
-/
module

public import proofs.«01_k».proof.Proof.Kernel.Launch
public import Idealize.ShloMosaic.Lib.Pointwise

@[expose] public section

noncomputable section

namespace Cert.Kernel.Value

open Cert.Kernel Cert.Kernel.Gen Cert.Kernel.Gather
open Idealize.ShloMosaic

/-- An element of a window's block, as an element of the array. -/
theorem at_block {G : Pipeline.Grid} (w : Pipeline.Window sig G) (t : Fin G.N) (y : (w.xblock (G.coords t)).Idx) {β : Type}
    (A : w.shape.Idx → β) (i : w.shape.Idx) (h : ∀ a, (i a).val = w.index t a * w.size a + (y a).val)
    (hk : w.kind = .blocked := by rfl) : A ((w.rect t).emb y) = A i :=
  congrArg A (funext fun a => Fin.ext ((Pipeline.Window.rect_emb_val w t y a hk).trans (h a).symm))

variable {F : FTy → Type}

/-! ## The table kernel -/

theorem in0_0 (A : Vec F S4x2048x64 .f32) (t : Fin cfg0.N) (b : Fin 4) (hb : b.val = t.val) (n : Fin 2048) (c : Fin 64) :
    cblk (F := F) cfg0 0 A t (ix3 (0 : Fin 1) n c) = A (ix3 b n c) := by
  have hidx := (by decide +kernel : ∀ t : Fin grid0.N, win0_0.index t 0 = t.val ∧ win0_0.index t 1 = 0 ∧ win0_0.index t 2 = 0) t
  refine at_block win0_0 t (ix3 (0 : Fin 1) n c) A (ix3 b n c) fun a => ?_
  match a with
  | 0 => rw [hidx.1]; exact hb.trans (by show t.val = t.val * 1 + 0; omega)
  | 1 => rw [hidx.2.1]; show n.val = 0 * 2048 + n.val; omega
  | 2 => rw [hidx.2.2]; show c.val = 0 * 64 + c.val; omega

/-- A block that is its whole array of two axes. -/
theorem whole_block {G : Pipeline.Grid} (w : Pipeline.Window sig G) (t : Fin G.N) (y : (w.xblock (G.coords t)).Idx) {β : Type}
    (A : w.shape.Idx → β) (i : w.shape.Idx) (h0 : ∀ a, w.index t a = 0) (h : ∀ a, (i a).val = (y a).val) : A ((w.rect t).emb y) = A i :=
  congrArg A (funext fun a => Fin.ext ((Pipeline.Window.rect_emb_val_of_index_zero w t a (h0 a) y).trans (h a).symm))

theorem in0_1 (A : Vec F S64x64 .f32) (t : Fin cfg0.N) (c o : Fin 64) : cblk (F := F) cfg0 1 A t (ix2 c o) = A (ix2 c o) :=
  whole_block win0_1 t (ix2 c o) A (ix2 c o) ((by decide +kernel : ∀ (t : Fin grid0.N) (a), win0_1.index t a = 0) t) fun _ => rfl
theorem in0_2 (A : Vec F S64x64 .f32) (t : Fin cfg0.N) (c o : Fin 64) : cblk (F := F) cfg0 2 A t (ix2 c o) = A (ix2 c o) :=
  whole_block win0_2 t (ix2 c o) A (ix2 c o) ((by decide +kernel : ∀ (t : Fin grid0.N) (a), win0_2.index t a = 0) t) fun _ => rfl
theorem out0_4 (A : Vec F S8x64 .f32) (t : Fin cfg0.N) (r : Fin 8) (o : Fin 64) : cblk (F := F) cfg0 4 A t (ix2 r o) = A (ix2 r o) :=
  whole_block win0_4 t (ix2 r o) A (ix2 r o) ((by decide +kernel : ∀ (t : Fin grid0.N) (a), win0_4.index t a = 0) t) fun _ => rfl

/-! ## The differences' kernels -/

theorem in3_0 (A : Vec F S65536x128 .f32) (t : Fin cfg3.N) (r : Fin 8192) (o : Fin 128) (j : Fin 65536) (hj : j.val = t.val * 8192 + r.val) :
    cblk (F := F) cfg3 0 A t (ix2 r o) = A (ix2 j o) := by
  have hidx := (by decide +kernel : ∀ t : Fin grid3.N, win3_0.index t 0 = t.val ∧ win3_0.index t 1 = 0) t
  refine at_block win3_0 t (ix2 r o) A (ix2 j o) fun a => ?_
  match a with
  | 0 => rw [hidx.1]; exact hj
  | 1 => rw [hidx.2]; show o.val = 0 * 128 + o.val; omega
theorem in3_1 (A : Vec F S8192x128 .f32) (t : Fin cfg3.N) (r : Fin 8192) (o : Fin 128) : cblk (F := F) cfg3 1 A t (ix2 r o) = A (ix2 r o) :=
  whole_block win3_1 t (ix2 r o) A (ix2 r o) ((by decide +kernel : ∀ (t : Fin grid3.N) (a), win3_1.index t a = 0) t) fun _ => rfl
theorem out3_2 (A : Vec F S2x128 .f32) (t : Fin cfg3.N) (r : Fin 2) (o : Fin 128) : cblk (F := F) cfg3 2 A t (ix2 r o) = A (ix2 r o) :=
  whole_block win3_2 t (ix2 r o) A (ix2 r o) ((by decide +kernel : ∀ (t : Fin grid3.N) (a), win3_2.index t a = 0) t) fun _ => rfl
theorem out3_3 (A : Vec F S8x8192x64 .bf16) (t : Fin cfg3.N) (k : Fin 8) (hk : k.val = t.val) (r : Fin 8192) (o : Fin 64) :
    cblk (F := F) cfg3 3 A t (ix3 (0 : Fin 1) r o) = A (ix3 k r o) := by
  have hidx := (by decide +kernel : ∀ t : Fin grid3.N, win3_3.index t 0 = t.val ∧ win3_3.index t 1 = 0 ∧ win3_3.index t 2 = 0) t
  refine at_block win3_3 t (ix3 (0 : Fin 1) r o) A (ix3 k r o) fun a => ?_
  match a with
  | 0 => rw [hidx.1]; exact hk.trans (by show t.val = t.val * 1 + 0; omega)
  | 1 => rw [hidx.2.1]; show r.val = 0 * 8192 + r.val; omega
  | 2 => rw [hidx.2.2]; show o.val = 0 * 64 + o.val; omega

/-- The second of them has the first's windows. -/
theorem in4_0 (A : Vec F S65536x128 .f32) (t : Fin cfg4.N) (r : Fin 8192) (o : Fin 128) (j : Fin 65536) (hj : j.val = t.val * 8192 + r.val) :
    cblk (F := F) cfg4 0 A t (ix2 r o) = A (ix2 j o) := in3_0 A t r o j hj
theorem in4_1 (A : Vec F S8192x128 .f32) (t : Fin cfg4.N) (r : Fin 8192) (o : Fin 128) : cblk (F := F) cfg4 1 A t (ix2 r o) = A (ix2 r o) :=
  in3_1 A t r o
theorem out4_2 (A : Vec F S2x128 .f32) (t : Fin cfg4.N) (r : Fin 2) (o : Fin 128) : cblk (F := F) cfg4 2 A t (ix2 r o) = A (ix2 r o) :=
  out3_2 A t r o
theorem out4_3 (A : Vec F S8x8192x64 .bf16) (t : Fin cfg4.N) (k : Fin 8) (hk : k.val = t.val) (r : Fin 8192) (o : Fin 64) :
    cblk (F := F) cfg4 3 A t (ix3 (0 : Fin 1) r o) = A (ix3 k r o) := out3_3 A t k hk r o

/-! ## The second products' kernel -/

theorem in5_0 (A : Vec F S65536x128 .f32) (t : Fin cfg5.N) (ht : t.val < 8) (r : Fin 8192) (o : Fin 128) (j : Fin 65536) (hj : j.val = t.val * 8192 + r.val) :
    cblk (F := F) cfg5 0 A t (ix2 r o) = A (ix2 j o) := by
  have hidx := (by decide +kernel : ∀ t : Fin grid5.N, t.val < 8 → win5_0.index t 0 = t.val ∧ win5_0.index t 1 = 0) t ht
  refine at_block win5_0 t (ix2 r o) A (ix2 j o) fun a => ?_
  match a with
  | 0 => rw [hidx.1]; exact hj
  | 1 => rw [hidx.2]; show o.val = 0 * 128 + o.val; omega
theorem in5_1 (A : Vec F S65536x128 .f32) (t : Fin cfg5.N) (ht : 8 ≤ t.val) (r : Fin 8192) (o : Fin 128) (j : Fin 65536) (hj : j.val = (t.val - 8) * 8192 + r.val) :
    cblk (F := F) cfg5 1 A t (ix2 r o) = A (ix2 j o) := by
  have hidx := (by decide +kernel : ∀ t : Fin grid5.N, 8 ≤ t.val → win5_1.index t 0 = t.val - 8 ∧ win5_1.index t 1 = 0) t ht
  refine at_block win5_1 t (ix2 r o) A (ix2 j o) fun a => ?_
  match a with
  | 0 => rw [hidx.1]; exact hj
  | 1 => rw [hidx.2]; show o.val = 0 * 128 + o.val; omega
theorem in5_2 (A : Vec F S8192x128 .f32) (t : Fin cfg5.N) (r : Fin 8192) (o : Fin 128) : cblk (F := F) cfg5 2 A t (ix2 r o) = A (ix2 r o) :=
  whole_block win5_2 t (ix2 r o) A (ix2 r o) ((by decide +kernel : ∀ (t : Fin grid5.N) (a), win5_2.index t a = 0) t) fun _ => rfl
theorem in5_3 (A : Vec F S2x128 .f32) (t : Fin cfg5.N) (r : Fin 2) (o : Fin 128) : cblk (F := F) cfg5 3 A t (ix2 r o) = A (ix2 r o) :=
  whole_block win5_3 t (ix2 r o) A (ix2 r o) ((by decide +kernel : ∀ (t : Fin grid5.N) (a), win5_3.index t a = 0) t) fun _ => rfl
theorem in5_4 (A : Vec F S2x128 .f32) (t : Fin cfg5.N) (r : Fin 2) (o : Fin 128) : cblk (F := F) cfg5 4 A t (ix2 r o) = A (ix2 r o) :=
  whole_block win5_4 t (ix2 r o) A (ix2 r o) ((by decide +kernel : ∀ (t : Fin grid5.N) (a), win5_4.index t a = 0) t) fun _ => rfl
theorem in5_5 (A : Vec F S8x128 .f32) (t : Fin cfg5.N) (r : Fin 8) (o : Fin 128) : cblk (F := F) cfg5 5 A t (ix2 r o) = A (ix2 r o) :=
  whole_block win5_5 t (ix2 r o) A (ix2 r o) ((by decide +kernel : ∀ (t : Fin grid5.N) (a), win5_5.index t a = 0) t) fun _ => rfl
theorem in5_6 (A : Vec F S128x64 .bf16) (t : Fin cfg5.N) (r : Fin 128) (o : Fin 64) : cblk (F := F) cfg5 6 A t (ix2 r o) = A (ix2 r o) :=
  whole_block win5_6 t (ix2 r o) A (ix2 r o) ((by decide +kernel : ∀ (t : Fin grid5.N) (a), win5_6.index t a = 0) t) fun _ => rfl
theorem out5_7 (A : Vec F S16x8192x64 .bf16) (t : Fin cfg5.N) (k : Fin 16) (hk : k.val = t.val) (r : Fin 8192) (o : Fin 64) :
    cblk (F := F) cfg5 7 A t (ix3 (0 : Fin 1) r o) = A (ix3 k r o) := by
  have hidx := (by decide +kernel : ∀ t : Fin grid5.N, win5_7.index t 0 = t.val ∧ win5_7.index t 1 = 0 ∧ win5_7.index t 2 = 0) t
  refine at_block win5_7 t (ix3 (0 : Fin 1) r o) A (ix3 k r o) fun a => ?_
  match a with
  | 0 => rw [hidx.1]; exact hk.trans (by show t.val = t.val * 1 + 0; omega)
  | 1 => rw [hidx.2.1]; show r.val = 0 * 8192 + r.val; omega
  | 2 => rw [hidx.2.2]; show o.val = 0 * 64 + o.val; omega
theorem out5_8 (A : Vec F S8x64 .f32) (t : Fin cfg5.N) (r : Fin 8) (o : Fin 64) : cblk (F := F) cfg5 8 A t (ix2 r o) = A (ix2 r o) :=
  whole_block win5_8 t (ix2 r o) A (ix2 r o) ((by decide +kernel : ∀ (t : Fin grid5.N) (a), win5_8.index t a = 0) t) fun _ => rfl
theorem cond5_iff : ∀ t : Fin cfg5.N, k5_cond2 (grid5.coords t) = 1#1 ↔ t.val < 8 :=
  (by decide +kernel : ∀ t : Fin grid5.N, k5_cond2 (grid5.coords t) = 1#1 ↔ t.val < 8)

/-! ## The last kernel -/

theorem in6_0 (A : Vec F S16x8192x64 .bf16) (t : Fin cfg6.N) (k : Fin 16) (n : Fin 512) (o : Fin 64) (r : Fin 8192) (hr : r.val = t.val * 512 + n.val) :
    cblk (F := F) cfg6 0 A t (ix3 k n o) = A (ix3 k r o) := by
  have hidx := (by decide +kernel : ∀ t : Fin grid6.N, win6_0.index t 0 = 0 ∧ win6_0.index t 1 = t.val ∧ win6_0.index t 2 = 0) t
  refine at_block win6_0 t (ix3 k n o) A (ix3 k r o) fun a => ?_
  match a with
  | 0 => rw [hidx.1]; show k.val = 0 * 16 + k.val; omega
  | 1 => rw [hidx.2.1]; exact hr
  | 2 => rw [hidx.2.2]; show o.val = 0 * 64 + o.val; omega
theorem in6_1 (A : Vec F S8x8192x64 .bf16) (t : Fin cfg6.N) (k : Fin 8) (n : Fin 512) (o : Fin 64) (r : Fin 8192) (hr : r.val = t.val * 512 + n.val) :
    cblk (F := F) cfg6 1 A t (ix3 k n o) = A (ix3 k r o) := by
  have hidx := (by decide +kernel : ∀ t : Fin grid6.N, win6_1.index t 0 = 0 ∧ win6_1.index t 1 = t.val ∧ win6_1.index t 2 = 0) t
  refine at_block win6_1 t (ix3 k n o) A (ix3 k r o) fun a => ?_
  match a with
  | 0 => rw [hidx.1]; show k.val = 0 * 8 + k.val; omega
  | 1 => rw [hidx.2.1]; exact hr
  | 2 => rw [hidx.2.2]; show o.val = 0 * 64 + o.val; omega
theorem in6_2 (A : Vec F S8x8192x64 .bf16) (t : Fin cfg6.N) (k : Fin 8) (n : Fin 512) (o : Fin 64) (r : Fin 8192) (hr : r.val = t.val * 512 + n.val) :
    cblk (F := F) cfg6 2 A t (ix3 k n o) = A (ix3 k r o) := in6_1 A t k n o r hr
theorem in6_3 (A : Vec F S8x64 .f32) (t : Fin cfg6.N) (r : Fin 8) (o : Fin 64) : cblk (F := F) cfg6 3 A t (ix2 r o) = A (ix2 r o) :=
  whole_block win6_3 t (ix2 r o) A (ix2 r o) ((by decide +kernel : ∀ (t : Fin grid6.N) (a), win6_3.index t a = 0) t) fun _ => rfl
theorem in6_4 (A : Vec F S8x64 .f32) (t : Fin cfg6.N) (r : Fin 8) (o : Fin 64) : cblk (F := F) cfg6 4 A t (ix2 r o) = A (ix2 r o) :=
  whole_block win6_4 t (ix2 r o) A (ix2 r o) ((by decide +kernel : ∀ (t : Fin grid6.N) (a), win6_4.index t a = 0) t) fun _ => rfl
theorem in6_5 (A : Vec F S8x128 .f32) (t : Fin cfg6.N) (r : Fin 8) (o : Fin 128) : cblk (F := F) cfg6 5 A t (ix2 r o) = A (ix2 r o) :=
  whole_block win6_5 t (ix2 r o) A (ix2 r o) ((by decide +kernel : ∀ (t : Fin grid6.N) (a), win6_5.index t a = 0) t) fun _ => rfl
theorem out6_6 (A : Vec F S4x64x2048 .f32) (t : Fin cfg6.N) (o : Fin 64) (l : Fin 512) (b : Fin 4) (n : Fin 2048) (hb : b.val = t.val / 4)
    (hn : n.val = t.val % 4 * 512 + l.val) : cblk (F := F) cfg6 6 A t (ix3 (0 : Fin 1) o l) = A (ix3 b o n) := by
  have hidx := (by decide +kernel : ∀ t : Fin grid6.N, win6_6.index t 0 = t.val / 4 ∧ win6_6.index t 1 = 0 ∧ win6_6.index t 2 = t.val % 4) t
  refine at_block win6_6 t (ix3 (0 : Fin 1) o l) A (ix3 b o n) fun a => ?_
  match a with
  | 0 => rw [hidx.1]; exact hb.trans (by show t.val / 4 = t.val / 4 * 1 + 0; omega)
  | 1 => rw [hidx.2.1]; show o.val = 0 * 64 + o.val; omega
  | 2 => rw [hidx.2.2]; exact hn
theorem out6_7 (A : Vec F S4x64x2048 .f32) (t : Fin cfg6.N) (o : Fin 64) (l : Fin 512) (b : Fin 4) (n : Fin 2048) (hb : b.val = t.val / 4)
    (hn : n.val = t.val % 4 * 512 + l.val) : cblk (F := F) cfg6 7 A t (ix3 (0 : Fin 1) o l) = A (ix3 b o n) := out6_6 A t o l b n hb hn

end Cert.Kernel.Value

end
-- ==== Proof.Value.Lefts.lean ====
/-
  The calls' outputs read at an element: what the write-back that reaches it had in its block.
-/
module

public import proofs.«01_k».proof.Proof.Value.Reads

@[expose] public section

noncomputable section

namespace Cert.Kernel.Value

open Cert.Kernel Cert.Kernel.Gen Cert.Kernel.Gather
open Idealize.ShloMosaic

/-! ## Tables by rows -/

section Tables

variable {α : Type} {n m : ℕ}

theorem rows_at {m' : ℕ} (P : (Tbl n m).Idx → α) (r : ℕ) (h) (o : Fin m') (i : Fin n) (j : Fin m) (hi : i.val = r) (hj : j.val = o.val) :
    rows 1 m' P r h (ix2 (0 : Fin 1) o) = P (ix2 i j) := by
  unfold rows
  refine congrArg P (funext fun a => Fin.ext ?_)
  rw [Rect.emb_apply]
  match a with
  | 0 => show r + 1 * 0 = i.val; omega
  | 1 => show 0 + 1 * o.val = j.val; omega

theorem put_at (P : (Tbl n m).Idx → α) (r : ℕ) (R : (Tbl 1 m).Idx → α) (i : Fin n) (j : Fin m) (h : i.val = r) :
    putRows (k := 1) P r R (ix2 i j) = R (ix2 (0 : Fin 1) j) := by
  unfold putRows
  refine (dif_pos ?_).trans (congrArg R (funext fun x => ?_))
  · show r ≤ i.val ∧ i.val < r + 1; omega
  match x with
  | 0 => exact Subsingleton.elim (α := Fin 1) _ _
  | 1 => rfl

theorem put_off (P : (Tbl n m).Idx → α) (r : ℕ) (R : (Tbl 1 m).Idx → α) (i : Fin n) (j : Fin m) (h : i.val ≠ r) :
    putRows (k := 1) P r R (ix2 i j) = P (ix2 i j) := by
  unfold putRows
  refine dif_neg ?_
  show ¬ (r ≤ i.val ∧ i.val < r + 1); omega

theorem put_two (P : (Tbl 8 m).Idx → α) (R : (Tbl 2 m).Idx → α) (i : Fin 2) (j : Fin m) :
    putRows (k := 2) P 0 R (ix2 (⟨i.val, by omega⟩ : Fin 8) j) = R (ix2 i j) := by
  unfold putRows
  refine (dif_pos ?_).trans (congrArg R (funext fun x => ?_))
  · show 0 ≤ i.val ∧ i.val < 0 + 2; omega
  match x with
  | 0 => rfl
  | 1 => rfl

theorem two_at0 (a b : (Tbl 1 m).Idx → α) (j : Fin m) : two a b (ix2 (0 : Fin 2) j) = a (ix2 (0 : Fin 1) j) := by
  unfold two
  refine (if_pos rfl).trans (congrArg a (funext fun x => ?_))
  match x with
  | 0 => rfl
  | 1 => rfl
theorem two_at1 (a b : (Tbl 1 m).Idx → α) (j : Fin m) : two a b (ix2 (1 : Fin 2) j) = b (ix2 (0 : Fin 1) j) := by
  unfold two
  refine (if_neg (show ¬ ((1 : Fin 2)).val = 0 by decide)).trans (congrArg b (funext fun x => ?_))
  match x with
  | 0 => rfl
  | 1 => rfl

end Tables

variable {F : FTy → Type} [FloatOps F] [∀ e, Nonempty (Elt F e)]
variable {n : ℕ} {d : Dev nD} {W W' : Valuation τ sig (Elt F)}

/-! ## The table kernel -/

theorem once0_4 : ∀ t t' : Fin cfg0.N, (cfg0.win 4).flush t = true → (cfg0.win 4).flush t' = true → t = t' :=
  (by decide +kernel : ∀ t t' : Fin grid0.N, win0_4.flush t = true → win0_4.flush t' = true → t = t')

theorem left_vstat (h : Left 0 (rdats n fun _ => W) d W W') (r : Fin 8) (o : Fin 64) :
    W' (arr 0 4) (ix2 r o) = vsum W 3 (Nat.lt_of_lt_of_eq (by decide) N_0.symm) (ix2 r o) := by
  obtain ⟨X, hX, e⟩ := block_of (rd0 n (fun _ => W) d) 4 (fun t t' ht ht' hne => absurd (once0_4 t t' ht ht') hne) (h.1 4)
    ⟨3, Nat.lt_of_lt_of_eq (by decide) N_0.symm⟩ (by decide +kernel)
  obtain ⟨Y, -, hX⟩ := hX
  have hX : X = vsum W 3 (Nat.lt_of_lt_of_eq (by decide) N_0.symm) := hX
  have e := congrFun e (ix2 r o)
  rw [hX] at e
  exact (out0_4 (W' (arr 0 4)) _ r o).symm.trans e

/-! ## The differences' kernels -/

theorem once3_2 : ∀ t t' : Fin cfg3.N, (cfg3.win 2).flush t = true → (cfg3.win 2).flush t' = true → t = t' :=
  (by decide +kernel : ∀ t t' : Fin grid3.N, win3_2.flush t = true → win3_2.flush t' = true → t = t')

theorem left_dsum3 (h : Left 1 (rdats n fun _ => W) d W W') (r : Fin 2) (o : Fin 128) :
    W' (arr 1 2) (ix2 r o) = dsum3 W 7 (Nat.lt_of_lt_of_eq (by decide) N_3.symm) (ix2 r o) := by
  obtain ⟨X, hX, e⟩ := block_of (rd3 n (fun _ => W) d) 2 (fun t t' ht ht' hne => absurd (once3_2 t t' ht ht') hne) (h.1 2)
    ⟨7, Nat.lt_of_lt_of_eq (by decide) N_3.symm⟩ (by decide +kernel)
  obtain ⟨Y, -, hX⟩ := hX
  have hX : X = if k3_cond2 (grid3.coords ⟨7, Nat.lt_of_lt_of_eq (by decide) N_3.symm⟩) = 1#1 then dsum3 W 7 (Nat.lt_of_lt_of_eq (by decide) N_3.symm) else Y := hX
  rw [if_pos (by decide +kernel)] at hX
  have e := congrFun e (ix2 r o)
  rw [hX] at e
  exact (out3_2 (W' (arr 1 2)) _ r o).symm.trans e

theorem apart3_3 : ∀ t t' : Fin cfg3.N, (cfg3.win 3).index t = (cfg3.win 3).index t' → t = t' :=
  (by decide +kernel : ∀ t t' : Fin grid3.N, win3_3.index t = win3_3.index t' → t = t')

theorem left_half3 (h : Left 1 (rdats n fun _ => W) d W W') (k : Fin 8) (r : Fin 8192) (o : Fin 64) :
    W' (arr 1 3) (ix3 k r o) = k3_pay6 (cblk cfg3 0 (W (arr 1 0)) ⟨k.val, Nat.lt_of_lt_of_eq k.isLt N_3.symm⟩) (ix3 (0 : Fin 1) r o) := by
  have hk : k.val < cfg3.N := Nat.lt_of_lt_of_eq k.isLt N_3.symm
  obtain ⟨X, hX, e⟩ := block_of (rd3 n (fun _ => W) d) 3 (fun t t' _ _ hne => (cfg3.win 3).disjoint_blk fun h => hne (apart3_3 t t' h)) (h.1 3) ⟨k.val, hk⟩
    (by revert hk; generalize k.val = a; intro ha; exact (by decide +kernel : ∀ t : Fin grid3.N, win3_3.flush t = true) ⟨a, ha⟩)
  obtain ⟨Y, -, hX⟩ := hX
  have hX : X = k3_pay6 (cblk cfg3 0 (W (arr 1 0)) ⟨k.val, hk⟩) := hX
  have e := congrFun e (ix3 (0 : Fin 1) r o)
  rw [hX] at e
  exact (out3_3 (W' (arr 1 3)) ⟨k.val, hk⟩ k rfl r o).symm.trans e

theorem once4_2 : ∀ t t' : Fin cfg4.N, (cfg4.win 2).flush t = true → (cfg4.win 2).flush t' = true → t = t' :=
  (by decide +kernel : ∀ t t' : Fin grid4.N, win4_2.flush t = true → win4_2.flush t' = true → t = t')

theorem left_dsum4 (h : Left 2 (rdats n fun _ => W) d W W') (r : Fin 2) (o : Fin 128) :
    W' (arr 2 2) (ix2 r o) = dsum4 W 7 (Nat.lt_of_lt_of_eq (by decide) N_4.symm) (ix2 r o) := by
  obtain ⟨X, hX, e⟩ := block_of (rd4 n (fun _ => W) d) 2 (fun t t' ht ht' hne => absurd (once4_2 t t' ht ht') hne) (h.1 2)
    ⟨7, Nat.lt_of_lt_of_eq (by decide) N_4.symm⟩ (by decide +kernel)
  obtain ⟨Y, -, hX⟩ := hX
  have hX : X = if k3_cond2 (grid4.coords ⟨7, Nat.lt_of_lt_of_eq (by decide) N_4.symm⟩) = 1#1 then dsum4 W 7 (Nat.lt_of_lt_of_eq (by decide) N_4.symm) else Y := hX
  rw [if_pos (by decide +kernel)] at hX
  have e := congrFun e (ix2 r o)
  rw [hX] at e
  exact (out4_2 (W' (arr 2 2)) _ r o).symm.trans e

theorem apart4_3 : ∀ t t' : Fin cfg4.N, (cfg4.win 3).index t = (cfg4.win 3).index t' → t = t' :=
  (by decide +kernel : ∀ t t' : Fin grid4.N, win4_3.index t = win4_3.index t' → t = t')

theorem left_half4 (h : Left 2 (rdats n fun _ => W) d W W') (k : Fin 8) (r : Fin 8192) (o : Fin 64) :
    W' (arr 2 3) (ix3 k r o) = k3_pay6 (cblk cfg4 0 (W (arr 2 0)) ⟨k.val, Nat.lt_of_lt_of_eq k.isLt N_4.symm⟩) (ix3 (0 : Fin 1) r o) := by
  have hk : k.val < cfg4.N := Nat.lt_of_lt_of_eq k.isLt N_4.symm
  obtain ⟨X, hX, e⟩ := block_of (rd4 n (fun _ => W) d) 3 (fun t t' _ _ hne => (cfg4.win 3).disjoint_blk fun h => hne (apart4_3 t t' h)) (h.1 3) ⟨k.val, hk⟩
    (by revert hk; generalize k.val = a; intro ha; exact (by decide +kernel : ∀ t : Fin grid4.N, win4_3.flush t = true) ⟨a, ha⟩)
  obtain ⟨Y, -, hX⟩ := hX
  have hX : X = k3_pay6 (cblk cfg4 0 (W (arr 2 0)) ⟨k.val, hk⟩) := hX
  have e := congrFun e (ix3 (0 : Fin 1) r o)
  rw [hX] at e
  exact (out4_3 (W' (arr 2 3)) ⟨k.val, hk⟩ k rfl r o).symm.trans e

/-! ## The second products' kernel -/

theorem apart5_7 : ∀ t t' : Fin cfg5.N, (cfg5.win 7).index t = (cfg5.win 7).index t' → t = t' :=
  (by decide +kernel : ∀ t t' : Fin grid5.N, win5_7.index t = win5_7.index t' → t = t')

theorem left_u (h : Left 3 (rdats n fun _ => W) d W W') (k : Fin 16) (r : Fin 8192) (o : Fin 64) (t : Fin cfg5.N) (ht : t.val = k.val) :
    W' (arr 3 7) (ix3 k r o) = k5_pay9 (pick W t) (cblk cfg5 2 (W (arr 3 2)) t) (rows 1 128 (coef0 W) 0 inb_S2x128_S1x128_0_0)
        (rows 1 128 (coef0 W) 1 inb_S2x128_S1x128_1_0) (cblk cfg5 6 (W (arr 3 6)) t) (ix3 (0 : Fin 1) r o) := by
  obtain ⟨X, hX, e⟩ := block_of (rd5 n (fun _ => W) d) 7 (fun t t' _ _ hne => (cfg5.win 7).disjoint_blk fun h => hne (apart5_7 t t' h)) (h.1 7) t
    ((by decide +kernel : ∀ t : Fin grid5.N, win5_7.flush t = true) t)
  obtain ⟨Y, -, hX⟩ := hX
  have hX : X = k5_pay9 (pick W t) (cblk cfg5 2 (W (arr 3 2)) t) (rows 1 128 (coef0 W) 0 inb_S2x128_S1x128_0_0)
        (rows 1 128 (coef0 W) 1 inb_S2x128_S1x128_1_0) (cblk cfg5 6 (W (arr 3 6)) t) := hX
  have e := congrFun e (ix3 (0 : Fin 1) r o)
  rw [hX] at e
  exact (out5_7 (W' (arr 3 7)) t k ht.symm r o).symm.trans e

theorem once5_8 : ∀ t t' : Fin cfg5.N, (cfg5.win 8).flush t = true → (cfg5.win 8).flush t' = true → t = t' :=
  (by decide +kernel : ∀ t t' : Fin grid5.N, win5_8.flush t = true → win5_8.flush t' = true → t = t')

theorem left_usum (h : Left 3 (rdats n fun _ => W) d W W') (r : Fin 2) (o : Fin 64) :
    W' (arr 3 8) (ix2 (⟨r.val, by omega⟩ : Fin 8) o) = usum W 15 (Nat.lt_of_lt_of_eq (by decide) N_5.symm) (ix2 r o) := by
  obtain ⟨X, hX, e⟩ := block_of (rd5 n (fun _ => W) d) 8 (fun t t' ht ht' hne => absurd (once5_8 t t' ht ht') hne) (h.1 8)
    ⟨15, Nat.lt_of_lt_of_eq (by decide) N_5.symm⟩ (by decide +kernel)
  obtain ⟨Y, -, hX⟩ := hX
  have hX : X = putRows (k := 2) Y 0 (usum W 15 (Nat.lt_of_lt_of_eq (by decide) N_5.symm)) := hX
  have e := congrFun e (ix2 (⟨r.val, by omega⟩ : Fin 8) o)
  rw [hX] at e
  exact (out5_8 (W' (arr 3 8)) _ _ o).symm.trans (e.trans (put_two Y _ r o))

/-! ## The last kernel -/

theorem apart6_6 : ∀ t t' : Fin cfg6.N, (cfg6.win 6).index t = (cfg6.win 6).index t' → t = t' :=
  (by decide +kernel : ∀ t t' : Fin grid6.N, win6_6.index t = win6_6.index t' → t = t')
theorem apart6_7 : ∀ t t' : Fin cfg6.N, (cfg6.win 7).index t = (cfg6.win 7).index t' → t = t' :=
  (by decide +kernel : ∀ t t' : Fin grid6.N, win6_7.index t = win6_7.index t' → t = t')

theorem left_att (h : Left 4 (rdats n fun _ => W) d W W') (b : Fin 4) (o : Fin 64) (q : Fin 2048) (t : Fin cfg6.N) (l : Fin 512)
    (hb : b.val = t.val / 4) (hq : q.val = t.val % 4 * 512 + l.val) :
    W' (arr 4 6) (ix3 b o q) = attOf (cblk cfg6 0 (W (arr 4 0)) t) (cblk cfg6 1 (W (arr 4 1)) t) (cblk cfg6 2 (W (arr 4 2)) t)
        (cblk cfg6 3 (W (arr 4 3)) t) (cblk cfg6 4 (W (arr 4 4)) t) (cblk cfg6 5 (W (arr 4 5)) t) (ix3 (0 : Fin 1) o l) := by
  obtain ⟨X, hX, e⟩ := block_of (rd6 n (fun _ => W) d) 6 (fun t t' _ _ hne => (cfg6.win 6).disjoint_blk fun h => hne (apart6_6 t t' h)) (h.1 6) t
    ((by decide +kernel : ∀ t : Fin grid6.N, win6_6.flush t = true) t)
  obtain ⟨Y, -, hX⟩ := hX
  have hX : X = attOf (cblk cfg6 0 (W (arr 4 0)) t) (cblk cfg6 1 (W (arr 4 1)) t) (cblk cfg6 2 (W (arr 4 2)) t)
        (cblk cfg6 3 (W (arr 4 3)) t) (cblk cfg6 4 (W (arr 4 4)) t) (cblk cfg6 5 (W (arr 4 5)) t) := hX
  have e := congrFun e (ix3 (0 : Fin 1) o l)
  rw [hX] at e
  exact (out6_6 (W' (arr 4 6)) t o l b q hb hq).symm.trans e

theorem left_gf (h : Left 4 (rdats n fun _ => W) d W W') (b : Fin 4) (o : Fin 64) (q : Fin 2048) (t : Fin cfg6.N) (l : Fin 512)
    (hb : b.val = t.val / 4) (hq : q.val = t.val % 4 * 512 + l.val) :
    W' (arr 4 7) (ix3 b o q) = gfOf (cblk cfg6 0 (W (arr 4 0)) t) (cblk cfg6 3 (W (arr 4 3)) t) (cblk cfg6 5 (W (arr 4 5)) t) (ix3 (0 : Fin 1) o l) := by
  obtain ⟨X, hX, e⟩ := block_of (rd6 n (fun _ => W) d) 7 (fun t t' _ _ hne => (cfg6.win 7).disjoint_blk fun h => hne (apart6_7 t t' h)) (h.1 7) t
    ((by decide +kernel : ∀ t : Fin grid6.N, win6_7.flush t = true) t)
  obtain ⟨Y, -, hX⟩ := hX
  have hX : X = gfOf (cblk cfg6 0 (W (arr 4 0)) t) (cblk cfg6 3 (W (arr 4 3)) t) (cblk cfg6 5 (W (arr 4 5)) t) := hX
  have e := congrFun e (ix3 (0 : Fin 1) o l)
  rw [hX] at e
  exact (out6_7 (W' (arr 4 7)) t o l b q hb hq).symm.trans e

end Cert.Kernel.Value

end
-- ==== Proof.Value.Maths.lean ====
/-
  The two programs as plain maths over the reals: what the kernel computes and what the reference does, both over the pairs of a
  neighbour's place and a point's row; and that they are equal.
-/
module

public import Idealize.ShloMosaic.PureOps.Ideal.Laws
public import Idealize.ShloMosaic.Lib.IdealHost

@[expose] public section

noncomputable section

namespace Cert.Maths

open Idealize.ShloMosaic

/-! ## Real numbers among the extended ones -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) b := by
  rcases le_total a b with h | h
  · rw [max_eq_right h, max_eq_right (EReal.coe_le_coe_iff.2 h)]
  · rw [max_eq_left h, max_eq_left (EReal.coe_le_coe_iff.2 h)]

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem rsqrt_coe (r : ℝ) (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.2 h.le), if_neg h.ne']

theorem sqrt_coe (r : ℝ) (h : 0 ≤ r) : Ideal.sqrt (r : EReal) = ((Real.sqrt r : ℝ) : EReal) := by
  show (if r < 0 then (⊥ : EReal) else (Real.sqrt r : EReal)) = _
  rw [if_neg (not_lt.2 h)]

theorem exp_coe (r : ℝ) : Ideal.exp (r : EReal) = ((Real.exp r : ℝ) : EReal) := rfl

/-- The greatest of sixteen numbers. -/
def most (f : Fin 16 → ℝ) : ℝ := Finset.univ.sup' ⟨0, Finset.mem_univ _⟩ f

theorem le_most (f : Fin 16 → ℝ) (k : Fin 16) : f k ≤ most f := Finset.le_sup' f (Finset.mem_univ k)

theorem exists_most (f : Fin 16 → ℝ) : ∃ k, most f = f k := by
  obtain ⟨k, -, h⟩ := Finset.exists_mem_eq_sup' (s := (Finset.univ : Finset (Fin 16))) ⟨0, Finset.mem_univ _⟩ f
  exact ⟨k, h⟩

/-- A scale that is not negative and a shift go through it. -/
theorem most_affine (f : Fin 16 → ℝ) (a b : ℝ) (ha : 0 ≤ a) : most (fun k => f k * a + b) = most f * a + b := by
  refine le_antisymm (Finset.sup'_le _ _ fun k _ => ?_) ?_
  · have := mul_le_mul_of_nonneg_right (le_most f k) ha
    linarith
  · obtain ⟨k, hk⟩ := exists_most f
    rw [hk]
    exact le_most (fun k => f k * a + b) k

theorem fold_most (f : Fin 16 → ℝ) : (Finset.univ : Finset (Fin 16)).fold max (⊥ : EReal) (fun k => (f k : EReal)) = ((most f : ℝ) : EReal) := by
  refine le_antisymm ?_ ?_
  · rw [Finset.fold_max_le]
    exact ⟨bot_le, fun k _ => EReal.coe_le_coe_iff.2 (le_most f k)⟩
  · obtain ⟨k, hk⟩ := exists_most f
    rw [hk, Finset.le_fold_max]
    exact .inr ⟨k, Finset.mem_univ k, le_rfl⟩

/-! ## The numbers that the programs write out -/

/-- The number added to a variance. -/
def eps : ℝ := 10995116 / 2 ^ 40
/-- The slope below zero. -/
def slope : ℝ := 13421773 / 2 ^ 26

theorem eps_pos : 0 < eps := by unfold eps; norm_num
theorem slope_pos : 0 < slope := by unfold slope; norm_num
theorem slope_lt : slope < 1 := by unfold slope; norm_num

theorem bits_eps : Ideal.ofBits .f32 0x3727C5AC#32 = (eps : EReal) := by
  unfold eps
  simp [Ideal.ofBits, Ideal.ieee, -EReal.coe_mul]
  norm_num
theorem bits_slope : Ideal.ofBits .f32 0x3E4CCCCD#32 = (slope : EReal) := by
  unfold slope
  simp [Ideal.ofBits, Ideal.ieee, -EReal.coe_mul]
  norm_num
theorem bits_pairs : Ideal.ofBits .f32 0x48000000#32 = ((131072 : ℝ) : EReal) := by
  simp [Ideal.ofBits, Ideal.ieee, -EReal.coe_mul]
  norm_num
theorem bits_points : Ideal.ofBits .f32 0x46000000#32 = ((8192 : ℝ) : EReal) := by
  simp [Ideal.ofBits, Ideal.ieee, -EReal.coe_mul]
  norm_num
theorem bits_bot : Ideal.ofBits .f32 0xFF800000#32 = ⊥ := by
  simp [Ideal.ofBits, Ideal.ieee]
theorem bits_top : Ideal.ofBits .f32 0x7F800000#32 = ⊤ := by
  simp [Ideal.ofBits, Ideal.ieee]
theorem bits_zero : Ideal.ofBits .f32 0x00000000#32 = ((0 : ℝ) : EReal) := by
  simp [Ideal.ofBits, Ideal.ieee]
theorem bits_one_short : Ideal.ofBits .bf16 0x3F80#16 = ((1 : ℝ) : EReal) := by
  simp [Ideal.ofBits, Ideal.ieee, -EReal.coe_mul]
  norm_num

/-! ## A family normalized -/

section Norm

variable {ι : Type} [Fintype ι]

/-- The scale, from the sums of a family and of its squares. -/
def scaleOf (N : ℝ) (h : ι → ℝ) (g : ℝ) : ℝ :=
  g * (Real.sqrt ((∑ j, h j * h j) / N - (∑ j, h j) / N * ((∑ j, h j) / N) + eps))⁻¹
/-- The shift that goes with it. -/
def shiftOf (N : ℝ) (h : ι → ℝ) (g be : ℝ) : ℝ := be - (∑ j, h j) / N * scaleOf N h g

/-- The family's mean and variance. -/
def mean (N : ℝ) (h : ι → ℝ) : ℝ := (∑ j, h j) / N
def var (N : ℝ) (h : ι → ℝ) : ℝ := (∑ j, (h j - mean N h) * (h j - mean N h)) / N
/-- A member less the mean, over the deviation, scaled and shifted. -/
def norm (N : ℝ) (h : ι → ℝ) (g be : ℝ) (i : ι) : ℝ := (h i - mean N h) / Real.sqrt (var N h + eps) * g + be

theorem var_nonneg (N : ℝ) (hN : 0 < N) (h : ι → ℝ) : 0 ≤ var N h :=
  div_nonneg (Finset.sum_nonneg fun j _ => mul_self_nonneg _) hN.le

theorem var_eq (N : ℝ) (hN : 0 < N) (hc : N = Fintype.card ι) (h : ι → ℝ) :
    var N h = (∑ j, h j * h j) / N - (∑ j, h j) / N * ((∑ j, h j) / N) := by
  have e : ∀ j, (h j - mean N h) * (h j - mean N h) = h j * h j - 2 * mean N h * h j + mean N h * mean N h := fun j => by ring
  unfold var
  simp only [e]
  rw [Finset.sum_add_distrib, Finset.sum_sub_distrib, ← Finset.mul_sum, Finset.sum_const, Finset.card_univ, nsmul_eq_mul, ← hc]
  have hs : mean N h = (∑ j, h j) / N := rfl
  rw [← hs]
  have hs' : (∑ j, h j) = N * mean N h := by rw [hs]; field_simp
  rw [hs']
  field_simp
  ring

theorem mean_add (N : ℝ) (hN : 0 < N) (hc : N = Fintype.card ι) (h : ι → ℝ) (b : ℝ) : mean N (fun j => h j + b) = mean N h + b := by
  unfold mean
  rw [Finset.sum_add_distrib, Finset.sum_const, Finset.card_univ, nsmul_eq_mul, ← hc]
  field_simp

theorem var_add (N : ℝ) (hN : 0 < N) (hc : N = Fintype.card ι) (h : ι → ℝ) (b : ℝ) : var N (fun j => h j + b) = var N h := by
  unfold var
  rw [mean_add N hN hc]
  simp only [add_sub_add_right_eq_sub]

/-- Normalizing is scaling and shifting; a constant added to the family makes no difference. -/
theorem norm_add (N : ℝ) (hN : 0 < N) (hc : N = Fintype.card ι) (h : ι → ℝ) (b g be : ℝ) (i : ι) :
    norm N (fun j => h j + b) g be i = h i * scaleOf N h g + shiftOf N h g be := by
  unfold norm shiftOf scaleOf
  rw [mean_add N hN hc, var_add N hN hc, ← var_eq N hN hc]
  show (h i + b - (mean N h + b)) / _ * g + be = h i * (g * _) + (be - mean N h * (g * _))
  rw [div_eq_mul_inv]
  ring

theorem norm_plain (N : ℝ) (hN : 0 < N) (hc : N = Fintype.card ι) (h : ι → ℝ) (g be : ℝ) (i : ι) :
    norm N h g be i = h i * scaleOf N h g + shiftOf N h g be := by
  have := norm_add N hN hc h 0 g be i
  simpa using this

theorem under_pos (N : ℝ) (hN : 0 < N) (hc : N = Fintype.card ι) (h : ι → ℝ) :
    0 < (∑ j, h j * h j) / N - (∑ j, h j) / N * ((∑ j, h j) / N) + eps := by
  rw [← var_eq N hN hc]
  exact add_pos_of_nonneg_of_pos (var_nonneg N hN h) eps_pos

theorem scaleOf_nonneg (N : ℝ) (h : ι → ℝ) (g : ℝ) (hg : 0 ≤ g) : 0 ≤ scaleOf N h g :=
  mul_nonneg hg (inv_nonneg.2 (Real.sqrt_nonneg _))

end Norm

/-! ## The two programs -/

/-- A neighbour's place and a point's row. -/
abbrev Pair : Type := Fin 16 × Fin 8192

/-- What the programs are given, over the reals: the points' features by row, the row of each neighbour, and the parameters. -/
structure In where
  x : Fin 8192 → Fin 64 → ℝ
  src : Fin 16 → Fin 8192 → Fin 8192
  W1 : Fin 64 → Fin 64 → ℝ
  b1 : Fin 64 → ℝ
  g1 : Fin 64 → ℝ
  be1 : Fin 64 → ℝ
  W2 : Fin 64 → Fin 64 → ℝ
  b2 : Fin 64 → ℝ
  g2 : Fin 64 → ℝ
  be2 : Fin 64 → ℝ
  Wv : Fin 64 → Fin 64 → ℝ
  gv : Fin 64 → ℝ
  bev : Fin 64 → ℝ

/-- How many pairs and how many points there are. -/
abbrev nPairs : ℝ := 131072
abbrev nPoints : ℝ := 8192

theorem pairs_pos : (0 : ℝ) < nPairs := by norm_num
theorem points_pos : (0 : ℝ) < nPoints := by norm_num
theorem pairs_card : nPairs = (Fintype.card Pair : ℝ) := by
  rw [Fintype.card_prod, Fintype.card_fin, Fintype.card_fin]; norm_num
theorem points_card : nPoints = (Fintype.card (Fin 8192) : ℝ) := by
  rw [Fintype.card_fin]; norm_num

namespace In

variable (I : In)

/-- The two products of each point. -/
def f1 (r : Fin 8192) (o : Fin 64) : ℝ := ∑ c, I.x r c * I.W1 o c
def fv (r : Fin 8192) (o : Fin 64) : ℝ := ∑ c, I.x r c * I.Wv o c

/-! The kernel's way: products first, differences of them after. -/

def dif (p : Pair) (o : Fin 64) : ℝ := I.f1 (I.src p.1 p.2) o - I.f1 p.2 o
def a1 (o : Fin 64) : ℝ := scaleOf nPairs (fun p : Pair => I.dif p o) (I.g1 o)
def c1 (o : Fin 64) : ℝ := shiftOf nPairs (fun p : Pair => I.dif p o) (I.g1 o) (I.be1 o)
def z (p : Pair) (o : Fin 64) : ℝ := I.dif p o * I.a1 o + I.c1 o
def act (p : Pair) (o : Fin 64) : ℝ := max (I.z p o) (slope * I.z p o)
def u (p : Pair) (o : Fin 64) : ℝ := ∑ c, I.act p c * I.W2 o c
def a2 (o : Fin 64) : ℝ := scaleOf nPairs (fun p : Pair => I.u p o) (I.g2 o)
def c2 (o : Fin 64) : ℝ := shiftOf nPairs (fun p : Pair => I.u p o) (I.g2 o) (I.be2 o)
def umax (r : Fin 8192) (o : Fin 64) : ℝ := most fun k => I.u (k, r) o
def ex (k : Fin 16) (r : Fin 8192) (o : Fin 64) : ℝ := Real.exp ((I.u (k, r) o - I.umax r o) * I.a2 o)
def av (o : Fin 64) : ℝ := scaleOf nPoints (fun r : Fin 8192 => I.fv r o) (I.gv o)
def cv (o : Fin 64) : ℝ := shiftOf nPoints (fun r : Fin 8192 => I.fv r o) (I.gv o) (I.bev o)
def att (r : Fin 8192) (o : Fin 64) : ℝ :=
  max ((∑ k, I.ex k r o * I.fv (I.src k r) o) / (∑ k, I.ex k r o) * I.av o + I.cv o) 0
def gf (r : Fin 8192) (o : Fin 64) : ℝ := I.umax r o * I.a2 o + I.c2 o

/-! The reference's way. -/

def h1 (p : Pair) (o : Fin 64) : ℝ := (∑ c, (I.x (I.src p.1 p.2) c - I.x p.2 c) * I.W1 o c) + I.b1 o
def y1 (p : Pair) (o : Fin 64) : ℝ := norm nPairs (fun q : Pair => I.h1 q o) (I.g1 o) (I.be1 o) p
def leak (p : Pair) (o : Fin 64) : ℝ := if 0 ≤ I.y1 p o then I.y1 p o else slope * I.y1 p o
def h2 (p : Pair) (o : Fin 64) : ℝ := (∑ c, I.leak p c * I.W2 o c) + I.b2 o
def y2 (p : Pair) (o : Fin 64) : ℝ := norm nPairs (fun q : Pair => I.h2 q o) (I.g2 o) (I.be2 o) p
def ymax (r : Fin 8192) (o : Fin 64) : ℝ := most fun k => I.y2 (k, r) o
def ey (k : Fin 16) (r : Fin 8192) (o : Fin 64) : ℝ := Real.exp (I.y2 (k, r) o - I.ymax r o)
def vals (r : Fin 8192) (o : Fin 64) : ℝ := norm nPoints (fun q : Fin 8192 => I.fv q o) (I.gv o) (I.bev o) r
def refAtt (r : Fin 8192) (o : Fin 64) : ℝ :=
  max (∑ k, I.ey k r o / (∑ j, I.ey j r o) * I.vals (I.src k r) o) 0

/-! ## They agree -/

theorem h1_eq (p : Pair) (o : Fin 64) : I.h1 p o = I.dif p o + I.b1 o := by
  unfold h1 dif f1
  rw [← Finset.sum_sub_distrib]
  simp only [sub_mul]

theorem y1_eq (p : Pair) (o : Fin 64) : I.y1 p o = I.z p o := by
  unfold y1
  rw [show (fun q : Pair => I.h1 q o) = fun q => I.dif q o + I.b1 o from funext fun q => I.h1_eq q o,
    norm_add nPairs pairs_pos pairs_card]
  rfl

theorem leak_eq (p : Pair) (o : Fin 64) : I.leak p o = I.act p o := by
  unfold leak act
  rw [y1_eq]
  have h0 := slope_pos
  have h1 := slope_lt
  by_cases h : 0 ≤ I.z p o
  · rw [if_pos h, max_eq_left]
    nlinarith
  · rw [if_neg h, max_eq_right]
    nlinarith

theorem h2_eq (p : Pair) (o : Fin 64) : I.h2 p o = I.u p o + I.b2 o := by
  unfold h2 u
  simp only [leak_eq]

theorem y2_eq (p : Pair) (o : Fin 64) : I.y2 p o = I.u p o * I.a2 o + I.c2 o := by
  unfold y2
  rw [show (fun q : Pair => I.h2 q o) = fun q => I.u q o + I.b2 o from funext fun q => I.h2_eq q o,
    norm_add nPairs pairs_pos pairs_card]
  rfl

/-- The second results agree where the scale has no sign. -/
theorem gf_eq (r : Fin 8192) (o : Fin 64) (hg : 0 ≤ I.g2 o) : I.ymax r o = I.gf r o := by
  unfold ymax gf umax
  simp only [y2_eq]
  exact most_affine _ _ _ (scaleOf_nonneg _ _ _ hg)

theorem ex_pos (k : Fin 16) (r : Fin 8192) (o : Fin 64) : 0 < I.ex k r o := Real.exp_pos _
theorem sum_ex_pos (r : Fin 8192) (o : Fin 64) : 0 < ∑ k, I.ex k r o := Finset.sum_pos (fun k _ => I.ex_pos k r o) ⟨0, Finset.mem_univ _⟩
theorem ey_pos (k : Fin 16) (r : Fin 8192) (o : Fin 64) : 0 < I.ey k r o := Real.exp_pos _
theorem sum_ey_pos (r : Fin 8192) (o : Fin 64) : 0 < ∑ k, I.ey k r o := Finset.sum_pos (fun k _ => I.ey_pos k r o) ⟨0, Finset.mem_univ _⟩

/-- The kernel's weights are the reference's up to a factor. -/
theorem ey_eq (k : Fin 16) (r : Fin 8192) (o : Fin 64) :
    I.ey k r o = I.ex k r o * Real.exp (I.umax r o * I.a2 o + I.c2 o - I.ymax r o) := by
  unfold ey ex
  rw [← Real.exp_add, y2_eq]
  congr 1
  ring

/-- The first results agree. -/
theorem att_eq (r : Fin 8192) (o : Fin 64) : I.refAtt r o = I.att r o := by
  unfold refAtt att
  refine congrArg (fun t => max t 0) ?_
  have hv : ∀ q, I.vals q o = I.fv q o * I.av o + I.cv o := fun q => norm_plain nPoints points_pos points_card _ _ _ _
  have hT := I.sum_ex_pos r o
  set f := Real.exp (I.umax r o * I.a2 o + I.c2 o - I.ymax r o) with hf
  have hfp : 0 < f := Real.exp_pos _
  have hs : (∑ j, I.ey j r o) = (∑ j, I.ex j r o) * f := by
    rw [Finset.sum_mul]
    exact Finset.sum_congr rfl fun j _ => I.ey_eq j r o
  rw [hs]
  have e : ∀ k, I.ey k r o / ((∑ j, I.ex j r o) * f) * I.vals (I.src k r) o
      = (I.ex k r o * I.fv (I.src k r) o) * (I.av o / (∑ j, I.ex j r o)) + I.ex k r o * (I.cv o / (∑ j, I.ex j r o)) := fun k => by
    rw [hv, ey_eq, ← hf]
    field_simp
  rw [Finset.sum_congr rfl fun k _ => e k, Finset.sum_add_distrib, ← Finset.sum_mul, ← Finset.sum_mul]
  field_simp

end In

end Cert.Maths

end
-- ==== Proof.Value.Pay.lean ====
/-
  The kernels' payloads read at an element.
-/
module

public import proofs.«01_k».proof.Proof.Value.Maths
public import proofs.«01_k».proof.Proof.Gen.Kernel.Skeleton
public import Idealize.ShloMosaic.Lib.Pointwise

@[expose] public section

noncomputable section

namespace Cert.Kernel.Value

open Cert.Kernel Cert.Kernel.Gen Cert.Maths
open Idealize.ShloMosaic Idealize.ShloMosaic.Pointwise

theorem pay2_0 (x : Vec Ideal S1x2048x64 .f32) (w : Vec Ideal S64x64 .f32) (r : Fin 2048) (o : Fin 64) :
    k0_pay2 x w (ix2 r o) = ∑ c : Fin 64, x (ix3 0 r c) * w (ix2 c o) := by
  pointwise [k0_pay2, k0_pay1]

theorem pay3_0 (x : Vec Ideal S1x2048x64 .f32) (w1 wv : Vec Ideal S64x64 .f32) (r : Fin 2048) (o : Fin 128) :
    k0_pay3 x w1 wv (ix3 0 r o) = if h : o.val < 64 then ∑ c : Fin 64, x (ix3 0 r c) * w1 (ix2 c ⟨o.val, h⟩)
      else ∑ c : Fin 64, x (ix3 0 r c) * wv (ix2 c ⟨o.val - 64, by omega⟩) := by
  pointwise [k0_pay3, k0_pay2, k0_pay1]

theorem pay5_0 (x : Vec Ideal S1x2048x64 .f32) (w : Vec Ideal S64x64 .f32) (p : Vec Ideal S1x64 .f32) (o : Fin 64) :
    k0_pay5 x w p (ix2 0 o) = p (ix2 0 o) + ∑ r : Fin 2048, ∑ c : Fin 64, x (ix3 0 r c) * w (ix2 c o) := by
  pointwise [k0_pay5, k0_pay2, k0_pay1]

theorem pay6_0 (x : Vec Ideal S1x2048x64 .f32) (w : Vec Ideal S64x64 .f32) (p : Vec Ideal S1x64 .f32) (o : Fin 64) :
    k0_pay6 x w p (ix2 0 o) = p (ix2 0 o) + ∑ r : Fin 2048, (∑ c : Fin 64, x (ix3 0 r c) * w (ix2 c o)) * (∑ c : Fin 64, x (ix3 0 r c) * w (ix2 c o)) := by
  pointwise [k0_pay6, k0_pay2, k0_pay1]

theorem pay4_3 (g t : Vec Ideal S8192x128 .f32) (p : Vec Ideal S1x128 .f32) (o : Fin 128) :
    k3_pay4 g t p (ix2 0 o) = p (ix2 0 o) + ∑ r : Fin 8192, (g (ix2 r o) - t (ix2 r o)) := by
  pointwise [k3_pay4, k3_pay3, k3_pay2]

theorem pay5_3 (g t : Vec Ideal S8192x128 .f32) (p : Vec Ideal S1x128 .f32) (o : Fin 128) :
    k3_pay5 g t p (ix2 0 o) = p (ix2 0 o) + ∑ r : Fin 8192, (g (ix2 r o) - t (ix2 r o)) * (g (ix2 r o) - t (ix2 r o)) := by
  pointwise [k3_pay5, k3_pay3, k3_pay2]

theorem pay6_3 (g : Vec Ideal S8192x128 .f32) (r : Fin 8192) (o : Fin 64) :
    k3_pay6 g (ix3 0 r o) = g (ix2 r ⟨64 + o.val, by omega⟩) := by
  pointwise [k3_pay6, k3_pay2]

theorem pay3_5 (s0 t0 s1 t1 g : Vec Ideal S1x128 .f32) (o : Fin 128) :
    k5_pay3 s0 t0 s1 t1 g (ix2 0 o) = g (ix2 0 o) * Ideal.rsqrt (Ideal.div (s1 (ix2 0 o) + t1 (ix2 0 o)) (Ideal.ofBits .f32 0x48000000#32)
      - Ideal.div (s0 (ix2 0 o) + t0 (ix2 0 o)) (Ideal.ofBits .f32 0x48000000#32) * Ideal.div (s0 (ix2 0 o) + t0 (ix2 0 o)) (Ideal.ofBits .f32 0x48000000#32)
      + Ideal.ofBits .f32 0x3727C5AC#32) := by
  pointwise [k5_pay3, k5_pay2, k5_pay1]

theorem pay4_5 (s0 t0 s1 t1 g b : Vec Ideal S1x128 .f32) (o : Fin 128) :
    k5_pay4 s0 t0 s1 t1 g b (ix2 0 o) = b (ix2 0 o) - Ideal.div (s0 (ix2 0 o) + t0 (ix2 0 o)) (Ideal.ofBits .f32 0x48000000#32)
      * k5_pay3 s0 t0 s1 t1 g (ix2 0 o) := by
  pointwise [k5_pay4, k5_pay3, k5_pay2, k5_pay1]

theorem pay8_5 (g t : Vec Ideal S8192x128 .f32) (a c : Vec Ideal S1x128 .f32) (B : Vec Ideal S128x64 .bf16) (r : Fin 8192) (o : Fin 64) :
    k5_pay8 g t a c B (ix2 r o) = ∑ q : Fin 128, max ((g (ix2 r q) - t (ix2 r q)) * a (ix2 0 q) + c (ix2 0 q))
      (Ideal.ofBits .f32 0x3E4CCCCD#32 * ((g (ix2 r q) - t (ix2 r q)) * a (ix2 0 q) + c (ix2 0 q))) * B (ix2 q o) := by
  pointwise [k5_pay8]

theorem pay9_5 (g t : Vec Ideal S8192x128 .f32) (a c : Vec Ideal S1x128 .f32) (B : Vec Ideal S128x64 .bf16) (r : Fin 8192) (o : Fin 64) :
    k5_pay9 g t a c B (ix3 0 r o) = k5_pay8 g t a c B (ix2 r o) := by
  pointwise [k5_pay9]

theorem pay11_5 (g t : Vec Ideal S8192x128 .f32) (a c : Vec Ideal S1x128 .f32) (B : Vec Ideal S128x64 .bf16) (p : Vec Ideal S1x64 .f32) (o : Fin 64) :
    k5_pay11 g t a c B p (ix2 0 o) = p (ix2 0 o) + ∑ r : Fin 8192, Ideal.ofBits .bf16 0x3F80#16 * k5_pay8 g t a c B (ix2 r o) := by
  pointwise [k5_pay11, k5_pay10]

theorem pay12_5 (g t : Vec Ideal S8192x128 .f32) (a c : Vec Ideal S1x128 .f32) (B : Vec Ideal S128x64 .bf16) (p : Vec Ideal S1x64 .f32) (o : Fin 64) :
    k5_pay6 (k5_pay12 g t a c B p) (ix2 0 o) = p (ix2 0 o) + ∑ r : Fin 8192, Ideal.ofBits .bf16 0x3F80#16 * (k5_pay8 g t a c B (ix2 r o) * k5_pay8 g t a c B (ix2 r o)) := by
  pointwise [k5_pay6, k5_pay12, k5_pay10]

theorem pay3_6 (s0 s1 g : Vec Ideal S1x64 .f32) (o : Fin 64) :
    k6_pay3 s0 s1 g (ix2 0 o) = g (ix2 0 o) * Ideal.rsqrt (Ideal.div (s1 (ix2 0 o)) (Ideal.ofBits .f32 0x48000000#32)
      - Ideal.div (s0 (ix2 0 o)) (Ideal.ofBits .f32 0x48000000#32) * Ideal.div (s0 (ix2 0 o)) (Ideal.ofBits .f32 0x48000000#32)
      + Ideal.ofBits .f32 0x3727C5AC#32) := by
  pointwise [k6_pay3, k6_pay2]

theorem pay4_6 (s0 s1 g b : Vec Ideal S1x64 .f32) (o : Fin 64) :
    k6_pay4 s0 s1 g b (ix2 0 o) = b (ix2 0 o) - Ideal.div (s0 (ix2 0 o)) (Ideal.ofBits .f32 0x48000000#32) * k6_pay3 s0 s1 g (ix2 0 o) := by
  pointwise [k6_pay4, k6_pay2]

theorem pay6_6 (U : Vec Ideal S16x512x64 .bf16) (r : Fin 512) (o : Fin 64) :
    k6_pay6 U (ix2 r o) = (Finset.univ : Finset (Fin 16)).fold max (Ideal.ofBits .f32 0xFF800000#32) (fun k => U (ix3 k r o)) := by
  pointwise [k6_pay6, k6_pay5]

theorem pay7_6 (s0 s1 g : Vec Ideal S1x64 .f32) (U : Vec Ideal S16x512x64 .bf16) (k : Fin 16) (r : Fin 512) (o : Fin 64) :
    k6_pay7 s0 s1 g U (ix3 k r o) = Ideal.exp ((U (ix3 k r o) - k6_pay6 U (ix2 r o)) * k6_pay3 s0 s1 g (ix2 0 o)) := by
  pointwise [k6_pay7, k6_pay5]

theorem pay8_6 (s0 s1 g : Vec Ideal S1x64 .f32) (U : Vec Ideal S16x512x64 .bf16) (r : Fin 512) (o : Fin 64) :
    k6_pay8 s0 s1 g U (ix2 r o) = ∑ k : Fin 16, k6_pay7 s0 s1 g U (ix3 k r o) := by
  pointwise [k6_pay8]

theorem pay11_6 (E : FVec Ideal S16x512x64 .f32) (T : FVec Ideal S512x64 .f32) (Va Vb : Vec Ideal S8x512x64 .bf16)
    (s0 s1 g b : Vec Ideal S1x64 .f32) (r : Fin 512) (o : Fin 64) :
    k6_pay11 E T (k6_pay9 Va) (k6_pay10 Vb) s0 s1 g b (ix3 0 o r)
      = max (Ideal.div ((∑ k : Fin 8, E (ix3 ⟨k.val, by omega⟩ r o) * Va (ix3 k r o)) + ∑ k : Fin 8, E (ix3 ⟨8 + k.val, by omega⟩ r o) * Vb (ix3 k r o)) (T (ix2 r o))
        * (g (ix2 0 o) * Ideal.rsqrt (Ideal.div (s1 (ix2 0 o)) (Ideal.ofBits .f32 0x46000000#32)
            - Ideal.div (s0 (ix2 0 o)) (Ideal.ofBits .f32 0x46000000#32) * Ideal.div (s0 (ix2 0 o)) (Ideal.ofBits .f32 0x46000000#32)
            + Ideal.ofBits .f32 0x3727C5AC#32))
        + (b (ix2 0 o) - Ideal.div (s0 (ix2 0 o)) (Ideal.ofBits .f32 0x46000000#32)
          * (g (ix2 0 o) * Ideal.rsqrt (Ideal.div (s1 (ix2 0 o)) (Ideal.ofBits .f32 0x46000000#32)
            - Ideal.div (s0 (ix2 0 o)) (Ideal.ofBits .f32 0x46000000#32) * Ideal.div (s0 (ix2 0 o)) (Ideal.ofBits .f32 0x46000000#32)
            + Ideal.ofBits .f32 0x3727C5AC#32)))) 0 := by
  pointwise [k6_pay11, k6_pay9, k6_pay10]

theorem pay1_6 (a c : FVec Ideal S1x64 .f32) (M : FVec Ideal S512x64 .f32) (r : Fin 512) (o : Fin 64) :
    k6_pay1 (k6_pay12 a M) (k6_pay13 c) (ix3 0 o r) = M (ix2 r o) * a (ix2 0 o) + c (ix2 0 o) := by
  pointwise [k6_pay1, k6_pay12, k6_pay13]

end Cert.Kernel.Value

end
-- ==== Proof.Value.Calls.lean ====
/-
  What the calls on the TensorCore leave, over the reals: from arrays that hold real numbers, the real numbers that
  the outputs hold.
-/
module

public import proofs.«01_k».proof.Proof.Value.Lefts
public import proofs.«01_k».proof.Proof.Value.Pay

@[expose] public section

noncomputable section

namespace Cert.Maths

/-! ## Sums in parts -/

/-- Point `n` of batch `b`. -/
def row (b : Fin 4) (n : Fin 2048) : Fin 8192 := ⟨b.val * 2048 + n.val, by omega⟩
/-- Row `r` of block `k`. -/
def at8 (k : Fin 8) (r : Fin 8192) : Fin 65536 := ⟨k.val * 8192 + r.val, by omega⟩
/-- A column of the left half. -/
def lcol (o : Fin 64) : Fin 128 := ⟨o.val, by omega⟩
/-- The neighbours of the first and of the second half. -/
def lo (k : Fin 8) : Fin 16 := ⟨k.val, by omega⟩
def hi (k : Fin 8) : Fin 16 := ⟨8 + k.val, by omega⟩

theorem sum_rows {M : Type} [AddCommMonoid M] (f : Fin 8192 → M) : ∑ b : Fin 4, ∑ n : Fin 2048, f (row b n) = ∑ r, f r := by
  rw [← Fintype.sum_prod_type' (f := fun b n => f (row b n))]
  exact Fintype.sum_equiv (finProdFinEquiv (m := 4) (n := 2048)) _ f fun p => congrArg f (Fin.ext (by
    show p.1.val * 2048 + p.2.val = p.2.val + 2048 * p.1.val; omega))

theorem sum_halves {M : Type} [AddCommMonoid M] (f : Fin 16 → M) : ∑ k : Fin 8, f (lo k) + ∑ k : Fin 8, f (hi k) = ∑ k, f k :=
  (Fin.sum_univ_add (a := 8) (b := 8) f).symm

theorem sum_left (f : Fin 128 → EReal) (h : ∀ q, 64 ≤ q.val → f q = 0) : ∑ q, f q = ∑ c : Fin 64, f (lcol c) := by
  rw [Fin.sum_univ_add (a := 64) (b := 64) f]
  rw [show ∑ i : Fin 64, f (Fin.natAdd 64 i) = 0 from Finset.sum_eq_zero fun i _ => h _ (by show 64 ≤ 64 + i.val; omega), add_zero]
  rfl

open Idealize.ShloMosaic

theorem scale_coe {ι : Type} [Fintype ι] {N : ℝ} (hN : 0 < N) (hc : N = Fintype.card ι) (h : ι → ℝ) (g : ℝ) (e : EReal) (he : e = (N : EReal)) :
    (g : EReal) * Ideal.rsqrt (Ideal.div ((∑ j, h j * h j : ℝ) : EReal) e - Ideal.div ((∑ j, h j : ℝ) : EReal) e * Ideal.div ((∑ j, h j : ℝ) : EReal) e
      + Ideal.ofBits .f32 0x3727C5AC#32) = ((scaleOf N h g : ℝ) : EReal) := by
  rw [he, div_coe _ _ hN.ne', div_coe _ _ hN.ne', bits_eps, ← EReal.coe_mul, ← EReal.coe_sub, ← EReal.coe_add, rsqrt_coe _ (under_pos N hN hc h), ← EReal.coe_mul]
  rfl

theorem shift_coe {ι : Type} [Fintype ι] {N : ℝ} (hN : 0 < N) (h : ι → ℝ) (g be : ℝ) (e : EReal) (he : e = (N : EReal)) :
    (be : EReal) - Ideal.div ((∑ j, h j : ℝ) : EReal) e * ((scaleOf N h g : ℝ) : EReal) = ((shiftOf N h g be : ℝ) : EReal) := by
  rw [he, div_coe _ _ hN.ne', ← EReal.coe_mul, ← EReal.coe_sub]
  rfl

namespace In

/-- The table's row of a point: its two products side by side. -/
def tab (I : In) (r : Fin 8192) (q : Fin 128) : ℝ := if h : q.val < 64 then I.f1 r ⟨q.val, h⟩ else I.fv r ⟨q.val - 64, by omega⟩

theorem tab_left (I : In) (r : Fin 8192) (o : Fin 64) : I.tab r (lcol o) = I.f1 r o := dif_pos o.isLt
theorem tab_right (I : In) (r : Fin 8192) (o : Fin 64) : I.tab r ⟨64 + o.val, by omega⟩ = I.fv r o := by
  unfold tab
  rw [dif_neg (show ¬ 64 + o.val < 64 by omega)]
  exact congrArg (I.fv r) (Fin.ext (show 64 + o.val - 64 = o.val by omega))

end In

end Cert.Maths

namespace Cert.Kernel.Value

open Cert.Kernel Cert.Kernel.Gen Cert.Kernel.Gather Cert.Maths
open Idealize.ShloMosaic

/-- A running sum, at one place of what is carried. -/
theorem along_sum {α β : Type} {N : ℕ} (b : Fin N → β) (step : β → α → α) (z : α) (ρ : α → EReal) (f : ℕ → ℝ) (h0 : ρ z = 0)
    (hs : ∀ t P, ρ (step (b t) P) = ρ P + ((f t.val : ℝ) : EReal)) :
    ∀ t (h : t < N), ρ (along b step z t h) = ((∑ s ∈ Finset.range (t + 1), f s : ℝ) : EReal)
  | 0, h => by
    show ρ (step (b ⟨0, h⟩) z) = _
    rw [hs, h0, zero_add, Finset.sum_range_one]
  | t + 1, h => by
    show ρ (step (b ⟨t + 1, h⟩) (along b step z t (Nat.lt_of_succ_lt h))) = _
    rw [hs, along_sum b step z ρ f h0 hs t, Finset.sum_range_succ _ (t + 1), EReal.coe_add]

/-- The same, the summands given by the points. -/
theorem along_sum_fin {α β : Type} {N : ℕ} (b : Fin N → β) (step : β → α → α) (z : α) (ρ : α → EReal) (K : ℕ) (hK : N = K + 1) (f : Fin (K + 1) → ℝ)
    (h0 : ρ z = 0) (hs : ∀ (t : Fin N) P, ρ (step (b t) P) = ρ P + ((f ⟨t.val, Nat.lt_of_lt_of_eq t.isLt hK⟩ : ℝ) : EReal)) (h : K < N) :
    ρ (along b step z K h) = ((∑ s, f s : ℝ) : EReal) := by
  rw [along_sum b step z ρ (fun t => if ht : t < K + 1 then f ⟨t, ht⟩ else 0) h0
    (fun t P => by rw [hs, dif_pos (Nat.lt_of_lt_of_eq t.isLt hK)]) K h, Finset.sum_range]
  refine congrArg _ (Finset.sum_congr rfl fun s _ => ?_)
  rw [dif_pos s.isLt]

variable {I : In} {n : ℕ} {d : Dev nD} {W W' : Valuation τ sig (Elt Ideal)}

/-! ## The table kernel -/

section Table

theorem dot_coe (x w : Fin 64 → EReal) (a b : Fin 64 → ℝ) (hx : ∀ c, x c = (a c : EReal)) (hw : ∀ c, w c = (b c : EReal)) :
    ∑ c, x c * w c = ((∑ c, a c * b c : ℝ) : EReal) := by
  simp only [hx, hw, ← EReal.coe_mul, coe_sum]

variable (hx : ∀ b i c, (W (arr 0 0) : Vec Ideal S4x2048x64 .f32) (ix3 b i c) = ((I.x (row b i) c : ℝ) : EReal))
variable (h1 : ∀ c o, (W (arr 0 1) : Vec Ideal S64x64 .f32) (ix2 c o) = ((I.W1 o c : ℝ) : EReal))
variable (hv : ∀ c o, (W (arr 0 2) : Vec Ideal S64x64 .f32) (ix2 c o) = ((I.Wv o c : ℝ) : EReal))

include hx hv in
theorem block_fv (b : Fin 4) (t : Fin cfg0.N) (ht : b.val = t.val) (i : Fin 2048) (o : Fin 64) :
    ∑ c : Fin 64, HMul.hMul (α := EReal) (β := EReal) (γ := EReal) (cblk cfg0 0 (W (arr 0 0)) t (ix3 (0 : Fin 1) i c)) (cblk cfg0 2 (W (arr 0 2)) t (ix2 c o))
      = ((I.fv (row b i) o : ℝ) : EReal) :=
  dot_coe _ _ _ _ (fun c => (in0_0 _ t b ht i c).trans (hx b i c)) fun c => (in0_2 _ t c o).trans (hv c o)

include hx h1 in
theorem block_f1 (b : Fin 4) (t : Fin cfg0.N) (ht : b.val = t.val) (i : Fin 2048) (o : Fin 64) :
    ∑ c : Fin 64, HMul.hMul (α := EReal) (β := EReal) (γ := EReal) (cblk cfg0 0 (W (arr 0 0)) t (ix3 (0 : Fin 1) i c)) (cblk cfg0 1 (W (arr 0 1)) t (ix2 c o))
      = ((I.f1 (row b i) o : ℝ) : EReal) :=
  dot_coe _ _ _ _ (fun c => (in0_0 _ t b ht i c).trans (hx b i c)) fun c => (in0_1 _ t c o).trans (h1 c o)

include hx h1 hv in
theorem prods_at (b : Fin 4) (i : Fin 2048) (q : Fin 128) : prods (F := Ideal) W (ix3 b i q) = ((I.tab (row b i) q : ℝ) : EReal) := by
  have hb : b.val < cfg0.N := Nat.lt_of_lt_of_eq b.isLt N_0.symm
  have e : prods (F := Ideal) W (ix3 b i q) = k0_pay3 (cblk cfg0 0 (W (arr 0 0)) ⟨b.val, hb⟩) (cblk cfg0 1 (W (arr 0 1)) ⟨b.val, hb⟩)
      (cblk cfg0 2 (W (arr 0 2)) ⟨b.val, hb⟩) (ix3 0 i q) :=
    congrArg (k0_pay3 (F := Ideal) _ _ _) (funext fun a => match a with
      | 0 => rfl
      | 1 => rfl
      | 2 => rfl)
  rw [e, pay3_0]
  unfold In.tab
  split
  · exact block_f1 hx h1 b _ rfl i _
  · exact block_fv hx hv b _ rfl i _

include hx hv in
theorem vstat0 (h : Left 0 (rdats n fun _ => W) d W W') (o : Fin 64) :
    (W' (arr 0 4) : Vec Ideal S8x64 .f32) (ix2 (0 : Fin 8) o) = ((∑ r, I.fv r o : ℝ) : EReal) := by
  rw [left_vstat h, ← sum_rows fun r => I.fv r o]
  refine along_sum_fin _ _ _ (fun P : Vec Ideal S8x64 .f32 => P (ix2 (0 : Fin 8) o)) 3 N_0 (fun b => ∑ i, I.fv (row b i) o) ?_ (fun t P => ?_) _
  · show k0_pay4 (F := Ideal) (ix2 (0 : Fin 8) o) = 0
    pointwise [k0_pay4]
  · show vstep _ _ P (ix2 (0 : Fin 8) o) = _
    unfold vstep
    refine (put_off _ 1 _ (0 : Fin 8) o (by decide)).trans ((put_at P 0 _ (0 : Fin 8) o rfl).trans ?_)
    rw [pay5_0, rows_at P 0 _ o 0 o rfl rfl, coe_sum]
    refine congrArg (P (ix2 (0 : Fin 8) o) + ·) (Finset.sum_congr rfl fun i _ => ?_)
    exact block_fv hx hv ⟨t.val, Nat.lt_of_lt_of_eq t.isLt N_0⟩ t rfl i o

include hx hv in
theorem vstat1 (h : Left 0 (rdats n fun _ => W) d W W') (o : Fin 64) :
    (W' (arr 0 4) : Vec Ideal S8x64 .f32) (ix2 (1 : Fin 8) o) = ((∑ r, I.fv r o * I.fv r o : ℝ) : EReal) := by
  rw [left_vstat h, ← sum_rows fun r => I.fv r o * I.fv r o]
  refine along_sum_fin _ _ _ (fun P : Vec Ideal S8x64 .f32 => P (ix2 (1 : Fin 8) o)) 3 N_0 (fun b => ∑ i, I.fv (row b i) o * I.fv (row b i) o) ?_ (fun t P => ?_) _
  · show k0_pay4 (F := Ideal) (ix2 (1 : Fin 8) o) = 0
    pointwise [k0_pay4]
  · show vstep _ _ P (ix2 (1 : Fin 8) o) = _
    unfold vstep
    refine (put_at _ 1 _ (1 : Fin 8) o rfl).trans ?_
    rw [pay6_0, rows_at P 1 _ o 1 o rfl rfl, coe_sum]
    refine congrArg (P (ix2 (1 : Fin 8) o) + ·) (Finset.sum_congr rfl fun i _ => ?_)
    rw [block_fv hx hv ⟨t.val, Nat.lt_of_lt_of_eq t.isLt N_0⟩ t rfl i o, EReal.coe_mul]

end Table

/-! ## The differences' kernels -/

section Dif

variable (part : Fin 8 → Fin 16)

theorem dif_at (g t : EReal) (p : Pair) (o : Fin 64) (hg : g = ((I.tab (I.src p.1 p.2) (lcol o) : ℝ) : EReal)) (ht : t = ((I.tab p.2 (lcol o) : ℝ) : EReal)) :
    g - t = ((I.dif p o : ℝ) : EReal) := by
  rw [hg, ht, I.tab_left, I.tab_left, ← EReal.coe_sub]; rfl

theorem dstep0 (G T : Vec Ideal S8192x128 .f32) (k : Fin 16) (hg : ∀ r q, G (ix2 r q) = ((I.tab (I.src k r) q : ℝ) : EReal))
    (ht : ∀ r q, T (ix2 r q) = ((I.tab r q : ℝ) : EReal)) (P : Vec Ideal S2x128 .f32) (o : Fin 64) :
    dstep G T P (ix2 (0 : Fin 2) (lcol o)) = P (ix2 (0 : Fin 2) (lcol o)) + ((∑ r, I.dif (k, r) o : ℝ) : EReal) := by
  unfold dstep
  refine (put_off _ 1 _ (0 : Fin 2) (lcol o) (by decide)).trans ((put_at P 0 _ (0 : Fin 2) (lcol o) rfl).trans ?_)
  rw [pay4_3, rows_at P 0 _ (lcol o) 0 (lcol o) rfl rfl, coe_sum]
  exact congrArg (P (ix2 (0 : Fin 2) (lcol o)) + ·) (Finset.sum_congr rfl fun r _ => dif_at _ _ (k, r) o (hg r _) (ht r _))

theorem dstep1 (G T : Vec Ideal S8192x128 .f32) (k : Fin 16) (hg : ∀ r q, G (ix2 r q) = ((I.tab (I.src k r) q : ℝ) : EReal))
    (ht : ∀ r q, T (ix2 r q) = ((I.tab r q : ℝ) : EReal)) (P : Vec Ideal S2x128 .f32) (o : Fin 64) :
    dstep G T P (ix2 (1 : Fin 2) (lcol o)) = P (ix2 (1 : Fin 2) (lcol o)) + ((∑ r, I.dif (k, r) o * I.dif (k, r) o : ℝ) : EReal) := by
  unfold dstep
  refine (put_at _ 1 _ (1 : Fin 2) (lcol o) rfl).trans ?_
  rw [pay5_3, rows_at P 1 _ (lcol o) 1 (lcol o) rfl rfl, coe_sum]
  refine congrArg (P (ix2 (1 : Fin 2) (lcol o)) + ·) (Finset.sum_congr rfl fun r _ => ?_)
  rw [dif_at _ _ (k, r) o (hg r _) (ht r _), EReal.coe_mul]

theorem start3 (i : Fin 2) (o : Fin 128) : k3_pay1 (F := Ideal) (ix2 i o) = 0 := by
  pointwise [k3_pay1]

section First

variable (hg : ∀ k r q, (W (arr 1 0) : Vec Ideal S65536x128 .f32) (ix2 (at8 k r) q) = ((I.tab (I.src (lo k) r) q : ℝ) : EReal))
variable (ht : ∀ r q, (W (arr 1 1) : Vec Ideal S8192x128 .f32) (ix2 r q) = ((I.tab r q : ℝ) : EReal))

include hg ht in
theorem dsums0_a (h : Left 1 (rdats n fun _ => W) d W W') (o : Fin 64) :
    (W' (arr 1 2) : Vec Ideal S2x128 .f32) (ix2 (0 : Fin 2) (lcol o)) = ((∑ k, ∑ r, I.dif (lo k, r) o : ℝ) : EReal) := by
  rw [left_dsum3 h]
  exact along_sum_fin _ _ _ (fun P : Vec Ideal S2x128 .f32 => P (ix2 (0 : Fin 2) (lcol o))) 7 N_3 (fun k => ∑ r, I.dif (lo k, r) o) (start3 _ _)
    (fun t P => dstep0 _ _ (lo ⟨t.val, Nat.lt_of_lt_of_eq t.isLt N_3⟩) (fun r q => (in3_0 _ t r q (at8 ⟨t.val, Nat.lt_of_lt_of_eq t.isLt N_3⟩ r) rfl).trans (hg _ r q))
      (fun r q => (in3_1 _ t r q).trans (ht r q)) P o) _

include hg ht in
theorem dsums1_a (h : Left 1 (rdats n fun _ => W) d W W') (o : Fin 64) :
    (W' (arr 1 2) : Vec Ideal S2x128 .f32) (ix2 (1 : Fin 2) (lcol o)) = ((∑ k, ∑ r, I.dif (lo k, r) o * I.dif (lo k, r) o : ℝ) : EReal) := by
  rw [left_dsum3 h]
  exact along_sum_fin _ _ _ (fun P : Vec Ideal S2x128 .f32 => P (ix2 (1 : Fin 2) (lcol o))) 7 N_3 (fun k => ∑ r, I.dif (lo k, r) o * I.dif (lo k, r) o) (start3 _ _)
    (fun t P => dstep1 _ _ (lo ⟨t.val, Nat.lt_of_lt_of_eq t.isLt N_3⟩) (fun r q => (in3_0 _ t r q (at8 ⟨t.val, Nat.lt_of_lt_of_eq t.isLt N_3⟩ r) rfl).trans (hg _ r q))
      (fun r q => (in3_1 _ t r q).trans (ht r q)) P o) _

include hg in
theorem half_a (h : Left 1 (rdats n fun _ => W) d W W') (k : Fin 8) (r : Fin 8192) (o : Fin 64) :
    (W' (arr 1 3) : Vec Ideal S8x8192x64 .bf16) (ix3 k r o) = ((I.fv (I.src (lo k) r) o : ℝ) : EReal) := by
  rw [left_half3 h, pay6_3, ← I.tab_right]
  exact (in3_0 _ _ r _ (at8 k r) rfl).trans (hg k r _)

end First

section Second

variable (hg : ∀ k r q, (W (arr 2 0) : Vec Ideal S65536x128 .f32) (ix2 (at8 k r) q) = ((I.tab (I.src (hi k) r) q : ℝ) : EReal))
variable (ht : ∀ r q, (W (arr 2 1) : Vec Ideal S8192x128 .f32) (ix2 r q) = ((I.tab r q : ℝ) : EReal))

include hg ht in
theorem dsums0_b (h : Left 2 (rdats n fun _ => W) d W W') (o : Fin 64) :
    (W' (arr 2 2) : Vec Ideal S2x128 .f32) (ix2 (0 : Fin 2) (lcol o)) = ((∑ k, ∑ r, I.dif (hi k, r) o : ℝ) : EReal) := by
  rw [left_dsum4 h]
  exact along_sum_fin _ _ _ (fun P : Vec Ideal S2x128 .f32 => P (ix2 (0 : Fin 2) (lcol o))) 7 N_4 (fun k => ∑ r, I.dif (hi k, r) o) (start3 _ _)
    (fun t P => dstep0 _ _ (hi ⟨t.val, Nat.lt_of_lt_of_eq t.isLt N_4⟩) (fun r q => (in4_0 _ t r q (at8 ⟨t.val, Nat.lt_of_lt_of_eq t.isLt N_4⟩ r) rfl).trans (hg _ r q))
      (fun r q => (in4_1 _ t r q).trans (ht r q)) P o) _

include hg ht in
theorem dsums1_b (h : Left 2 (rdats n fun _ => W) d W W') (o : Fin 64) :
    (W' (arr 2 2) : Vec Ideal S2x128 .f32) (ix2 (1 : Fin 2) (lcol o)) = ((∑ k, ∑ r, I.dif (hi k, r) o * I.dif (hi k, r) o : ℝ) : EReal) := by
  rw [left_dsum4 h]
  exact along_sum_fin _ _ _ (fun P : Vec Ideal S2x128 .f32 => P (ix2 (1 : Fin 2) (lcol o))) 7 N_4 (fun k => ∑ r, I.dif (hi k, r) o * I.dif (hi k, r) o) (start3 _ _)
    (fun t P => dstep1 _ _ (hi ⟨t.val, Nat.lt_of_lt_of_eq t.isLt N_4⟩) (fun r q => (in4_0 _ t r q (at8 ⟨t.val, Nat.lt_of_lt_of_eq t.isLt N_4⟩ r) rfl).trans (hg _ r q))
      (fun r q => (in4_1 _ t r q).trans (ht r q)) P o) _

include hg in
theorem half_b (h : Left 2 (rdats n fun _ => W) d W W') (k : Fin 8) (r : Fin 8192) (o : Fin 64) :
    (W' (arr 2 3) : Vec Ideal S8x8192x64 .bf16) (ix3 k r o) = ((I.fv (I.src (hi k) r) o : ℝ) : EReal) := by
  rw [left_half4 h, pay6_3, ← I.tab_right]
  exact (in4_0 _ _ r _ (at8 k r) rfl).trans (hg k r _)

end Second

end Dif

/-! ## The second products' kernel -/

section Second

/-- What the call finds. -/
structure Found5 (I : In) (W : Valuation τ sig (Elt Ideal)) : Prop where
  ga : ∀ k r q, (W (arr 3 0) : Vec Ideal S65536x128 .f32) (ix2 (at8 k r) q) = ((I.tab (I.src (lo k) r) q : ℝ) : EReal)
  gb : ∀ k r q, (W (arr 3 1) : Vec Ideal S65536x128 .f32) (ix2 (at8 k r) q) = ((I.tab (I.src (hi k) r) q : ℝ) : EReal)
  tab : ∀ r q, (W (arr 3 2) : Vec Ideal S8192x128 .f32) (ix2 r q) = ((I.tab r q : ℝ) : EReal)
  sa0 : ∀ o, (W (arr 3 3) : Vec Ideal S2x128 .f32) (ix2 (0 : Fin 2) (lcol o)) = ((∑ k, ∑ r, I.dif (lo k, r) o : ℝ) : EReal)
  sa1 : ∀ o, (W (arr 3 3) : Vec Ideal S2x128 .f32) (ix2 (1 : Fin 2) (lcol o)) = ((∑ k, ∑ r, I.dif (lo k, r) o * I.dif (lo k, r) o : ℝ) : EReal)
  sb0 : ∀ o, (W (arr 3 4) : Vec Ideal S2x128 .f32) (ix2 (0 : Fin 2) (lcol o)) = ((∑ k, ∑ r, I.dif (hi k, r) o : ℝ) : EReal)
  sb1 : ∀ o, (W (arr 3 4) : Vec Ideal S2x128 .f32) (ix2 (1 : Fin 2) (lcol o)) = ((∑ k, ∑ r, I.dif (hi k, r) o * I.dif (hi k, r) o : ℝ) : EReal)
  g1 : ∀ o, (W (arr 3 5) : Vec Ideal S8x128 .f32) (ix2 (0 : Fin 8) (lcol o)) = ((I.g1 o : ℝ) : EReal)
  be1 : ∀ o, (W (arr 3 5) : Vec Ideal S8x128 .f32) (ix2 (1 : Fin 8) (lcol o)) = ((I.be1 o : ℝ) : EReal)
  w2 : ∀ c o, (W (arr 3 6) : Vec Ideal S128x64 .bf16) (ix2 (lcol c) o) = ((I.W2 o c : ℝ) : EReal)
  w2z : ∀ (q : Fin 128) o, 64 ≤ q.val → (W (arr 3 6) : Vec Ideal S128x64 .bf16) (ix2 q o) = (0 : EReal)

theorem both (f : Pair → ℝ) : (((∑ k, ∑ r, f (lo k, r) : ℝ) : EReal) + ((∑ k, ∑ r, f (hi k, r) : ℝ) : EReal)) = ((∑ p, f p : ℝ) : EReal) := by
  rw [← EReal.coe_add, sum_halves fun k => ∑ r, f (k, r), Fintype.sum_prod_type]

variable (f : Found5 I W)

include f

theorem coef_a (o : Fin 64) : coef0 W (ix2 (0 : Fin 2) (lcol o)) = ((I.a1 o : ℝ) : EReal) := by
  unfold coef0 scale
  refine (two_at0 _ _ _).trans ?_
  rw [pay3_5, rows_at _ 0 _ (lcol o) (0 : Fin 2) (lcol o) rfl rfl, rows_at _ 0 _ (lcol o) (0 : Fin 2) (lcol o) rfl rfl,
    rows_at _ 1 _ (lcol o) (1 : Fin 2) (lcol o) rfl rfl, rows_at _ 1 _ (lcol o) (1 : Fin 2) (lcol o) rfl rfl, rows_at _ 0 _ (lcol o) (0 : Fin 8) (lcol o) rfl rfl,
    in5_3, in5_3, in5_4, in5_4, in5_5, f.sa0, f.sa1, f.sb0, f.sb1, f.g1, both fun p => I.dif p o, both fun p => I.dif p o * I.dif p o]
  exact scale_coe pairs_pos pairs_card _ _ _ bits_pairs

theorem coef_c (o : Fin 64) : coef0 W (ix2 (1 : Fin 2) (lcol o)) = ((I.c1 o : ℝ) : EReal) := by
  have ha := coef_a f o
  unfold coef0 scale at ha ⊢
  have ha := (two_at0 _ _ _).symm.trans ha
  refine (two_at1 _ _ _).trans ?_
  rw [pay4_5, ha, rows_at _ 0 _ (lcol o) (0 : Fin 2) (lcol o) rfl rfl, rows_at _ 0 _ (lcol o) (0 : Fin 2) (lcol o) rfl rfl,
    rows_at _ 1 _ (lcol o) (1 : Fin 8) (lcol o) rfl rfl, in5_3, in5_4, in5_5, f.sa0, f.sb0, f.be1, both fun p => I.dif p o]
  exact shift_coe pairs_pos _ _ _ _ bits_pairs

theorem pick_at (t : Fin cfg5.N) (k : Fin 16) (hk : k.val = t.val) (r : Fin 8192) (q : Fin 128) :
    pick W t (ix2 r q) = ((I.tab (I.src k r) q : ℝ) : EReal) := by
  unfold pick
  by_cases h : t.val < 8
  · rw [if_pos ((cond5_iff t).2 h)]
    obtain rfl : k = lo ⟨t.val, h⟩ := Fin.ext hk
    exact (in5_0 _ t h r q (at8 ⟨t.val, h⟩ r) rfl).trans (f.ga _ r q)
  · rw [if_neg fun e => h ((cond5_iff t).1 e)]
    have ht : t.val < 16 := Nat.lt_of_lt_of_eq t.isLt N_5
    have h8 : t.val - 8 < 8 := by omega
    obtain rfl : k = hi ⟨t.val - 8, h8⟩ := Fin.ext (hk.trans (show t.val = 8 + (t.val - 8) by omega))
    exact (in5_1 _ t (by omega) r q (at8 ⟨t.val - 8, h8⟩ r) rfl).trans (f.gb _ r q)

theorem u_at (t : Fin cfg5.N) (k : Fin 16) (hk : k.val = t.val) (r : Fin 8192) (o : Fin 64) :
    k5_pay8 (pick W t) (cblk cfg5 2 (W (arr 3 2)) t) (rows 1 128 (coef0 W) 0 inb_S2x128_S1x128_0_0) (rows 1 128 (coef0 W) 1 inb_S2x128_S1x128_1_0)
      (cblk cfg5 6 (W (arr 3 6)) t) (ix2 r o) = ((I.u (k, r) o : ℝ) : EReal) := by
  rw [pay8_5, sum_left _ fun q hq => by rw [in5_6, f.w2z q o hq, mul_zero]]
  unfold In.u
  rw [coe_sum]
  refine Finset.sum_congr rfl fun c _ => ?_
  rw [rows_at _ 0 _ (lcol c) (0 : Fin 2) (lcol c) rfl rfl, rows_at _ 1 _ (lcol c) (1 : Fin 2) (lcol c) rfl rfl, coef_a f, coef_c f, in5_6, f.w2 c o,
    dif_at _ _ (k, r) c (pick_at f t k hk r _) ((in5_2 _ t r _).trans (f.tab r _)), bits_slope, ← EReal.coe_mul, ← EReal.coe_add, ← EReal.coe_mul, ← coe_max, ← EReal.coe_mul]
  rfl

theorem u_out (h : Left 3 (rdats n fun _ => W) d W W') (k : Fin 16) (r : Fin 8192) (o : Fin 64) :
    (W' (arr 3 7) : Vec Ideal S16x8192x64 .bf16) (ix3 k r o) = ((I.u (k, r) o : ℝ) : EReal) := by
  rw [left_u h k r o ⟨k.val, Nat.lt_of_lt_of_eq k.isLt N_5.symm⟩ rfl, pay9_5]
  exact u_at f _ k rfl r o

theorem ustat0 (h : Left 3 (rdats n fun _ => W) d W W') (o : Fin 64) :
    (W' (arr 3 8) : Vec Ideal S8x64 .f32) (ix2 (0 : Fin 8) o) = ((∑ p : Pair, I.u p o : ℝ) : EReal) := by
  refine (left_usum h (0 : Fin 2) o).trans ?_
  rw [Fintype.sum_prod_type]
  refine along_sum_fin _ _ _ (fun P : Vec Ideal S2x64 .f32 => P (ix2 (0 : Fin 2) o)) 15 N_5 (fun k => ∑ r, I.u (k, r) o) ?_ (fun t P => ?_) _
  · show k5_pay5 (F := Ideal) (ix2 (0 : Fin 2) o) = 0
    pointwise [k5_pay5]
  · refine (two_at0 _ _ _).trans ?_
    rw [pay11_5, rows_at P 0 _ o (0 : Fin 2) o rfl rfl, coe_sum]
    refine congrArg (P (ix2 (0 : Fin 2) o) + ·) (Finset.sum_congr rfl fun r _ => ?_)
    rw [u_at f t ⟨t.val, Nat.lt_of_lt_of_eq t.isLt N_5⟩ rfl r o, bits_one_short, ← EReal.coe_mul, one_mul]

theorem ustat1 (h : Left 3 (rdats n fun _ => W) d W W') (o : Fin 64) :
    (W' (arr 3 8) : Vec Ideal S8x64 .f32) (ix2 (1 : Fin 8) o) = ((∑ p : Pair, I.u p o * I.u p o : ℝ) : EReal) := by
  refine (left_usum h (1 : Fin 2) o).trans ?_
  rw [Fintype.sum_prod_type]
  refine along_sum_fin _ _ _ (fun P : Vec Ideal S2x64 .f32 => P (ix2 (1 : Fin 2) o)) 15 N_5 (fun k => ∑ r, I.u (k, r) o * I.u (k, r) o) ?_ (fun t P => ?_) _
  · show k5_pay5 (F := Ideal) (ix2 (1 : Fin 2) o) = 0
    pointwise [k5_pay5]
  · refine (two_at1 _ _ _).trans ?_
    rw [pay12_5, rows_at P 1 _ o (1 : Fin 2) o rfl rfl, coe_sum]
    refine congrArg (P (ix2 (1 : Fin 2) o) + ·) (Finset.sum_congr rfl fun r _ => ?_)
    rw [u_at f t ⟨t.val, Nat.lt_of_lt_of_eq t.isLt N_5⟩ rfl r o, bits_one_short, ← EReal.coe_mul, ← EReal.coe_mul, one_mul]

end Second

/-! ## The last kernel -/

section Final

/-- What the call finds. -/
structure Found6 (I : In) (W : Valuation τ sig (Elt Ideal)) : Prop where
  u : ∀ k r o, (W (arr 4 0) : Vec Ideal S16x8192x64 .bf16) (ix3 k r o) = ((I.u (k, r) o : ℝ) : EReal)
  va : ∀ k r o, (W (arr 4 1) : Vec Ideal S8x8192x64 .bf16) (ix3 k r o) = ((I.fv (I.src (lo k) r) o : ℝ) : EReal)
  vb : ∀ k r o, (W (arr 4 2) : Vec Ideal S8x8192x64 .bf16) (ix3 k r o) = ((I.fv (I.src (hi k) r) o : ℝ) : EReal)
  su0 : ∀ o, (W (arr 4 3) : Vec Ideal S8x64 .f32) (ix2 (0 : Fin 8) o) = ((∑ p : Pair, I.u p o : ℝ) : EReal)
  su1 : ∀ o, (W (arr 4 3) : Vec Ideal S8x64 .f32) (ix2 (1 : Fin 8) o) = ((∑ p : Pair, I.u p o * I.u p o : ℝ) : EReal)
  sv0 : ∀ o, (W (arr 4 4) : Vec Ideal S8x64 .f32) (ix2 (0 : Fin 8) o) = ((∑ r, I.fv r o : ℝ) : EReal)
  sv1 : ∀ o, (W (arr 4 4) : Vec Ideal S8x64 .f32) (ix2 (1 : Fin 8) o) = ((∑ r, I.fv r o * I.fv r o : ℝ) : EReal)
  g2 : ∀ o, (W (arr 4 5) : Vec Ideal S8x128 .f32) (ix2 (2 : Fin 8) (lcol o)) = ((I.g2 o : ℝ) : EReal)
  be2 : ∀ o, (W (arr 4 5) : Vec Ideal S8x128 .f32) (ix2 (3 : Fin 8) (lcol o)) = ((I.be2 o : ℝ) : EReal)
  gv : ∀ o, (W (arr 4 5) : Vec Ideal S8x128 .f32) (ix2 (4 : Fin 8) (lcol o)) = ((I.gv o : ℝ) : EReal)
  bev : ∀ o, (W (arr 4 5) : Vec Ideal S8x128 .f32) (ix2 (5 : Fin 8) (lcol o)) = ((I.bev o : ℝ) : EReal)

/-- The point of the grid, and the row of its block, that a row is at. -/
theorem row_block (b : Fin 4) (q : Fin 2048) : ∃ (t : Fin cfg6.N) (l : Fin 512), b.val = t.val / 4 ∧ q.val = t.val % 4 * 512 + l.val ∧ (row b q).val = t.val * 512 + l.val :=
  ⟨⟨b.val * 4 + q.val / 512, Nat.lt_of_lt_of_eq (by omega) N_6.symm⟩, ⟨q.val % 512, by omega⟩,
    by show b.val = (b.val * 4 + q.val / 512) / 4; omega,
    by show q.val = (b.val * 4 + q.val / 512) % 4 * 512 + q.val % 512; omega,
    by show b.val * 2048 + q.val = (b.val * 4 + q.val / 512) * 512 + q.val % 512; omega⟩

variable (f : Found6 I W)

include f

theorem scale2 (t : Fin cfg6.N) (o : Fin 64) :
    k6_pay3 (rows 1 64 (cblk cfg6 3 (W (arr 4 3)) t) 0 inb_S8x64_S1x64_0_0) (rows 1 64 (cblk cfg6 3 (W (arr 4 3)) t) 1 inb_S8x64_S1x64_1_0)
      (rows 1 64 (cblk cfg6 5 (W (arr 4 5)) t) 2 inb_S8x128_S1x64_2_0) (ix2 0 o) = ((I.a2 o : ℝ) : EReal) := by
  rw [pay3_6, rows_at _ 0 _ o (0 : Fin 8) o rfl rfl, rows_at _ 1 _ o (1 : Fin 8) o rfl rfl, rows_at _ 2 _ o (2 : Fin 8) (lcol o) rfl rfl,
    in6_3, in6_3, in6_5, f.su0, f.su1, f.g2]
  exact scale_coe pairs_pos pairs_card _ _ _ bits_pairs

theorem shift2 (t : Fin cfg6.N) (o : Fin 64) :
    k6_pay4 (rows 1 64 (cblk cfg6 3 (W (arr 4 3)) t) 0 inb_S8x64_S1x64_0_0) (rows 1 64 (cblk cfg6 3 (W (arr 4 3)) t) 1 inb_S8x64_S1x64_1_0)
      (rows 1 64 (cblk cfg6 5 (W (arr 4 5)) t) 2 inb_S8x128_S1x64_2_0) (rows 1 64 (cblk cfg6 5 (W (arr 4 5)) t) 3 inb_S8x128_S1x64_3_0) (ix2 0 o)
      = ((I.c2 o : ℝ) : EReal) := by
  rw [pay4_6, scale2 f, rows_at _ 0 _ o (0 : Fin 8) o rfl rfl, rows_at _ 3 _ o (3 : Fin 8) (lcol o) rfl rfl, in6_3, in6_5, f.su0, f.be2]
  exact shift_coe pairs_pos _ _ _ _ bits_pairs

theorem umax_at (t : Fin cfg6.N) (l : Fin 512) (r : Fin 8192) (hr : r.val = t.val * 512 + l.val) (o : Fin 64) :
    k6_pay6 (cblk cfg6 0 (W (arr 4 0)) t) (ix2 l o) = ((I.umax r o : ℝ) : EReal) := by
  rw [pay6_6, bits_bot]
  refine Eq.trans ?_ (fold_most fun k => I.u (k, r) o)
  exact congrArg (Finset.fold max ⊥ · Finset.univ) (funext fun k => (in6_0 _ t k l o r hr).trans (f.u k r o))

theorem gf_out (h : Left 4 (rdats n fun _ => W) d W W') (b : Fin 4) (o : Fin 64) (q : Fin 2048) :
    (W' (arr 4 7) : Vec Ideal S4x64x2048 .f32) (ix3 b o q) = ((I.gf (row b q) o : ℝ) : EReal) := by
  obtain ⟨t, l, hb, hq, hr⟩ := row_block b q
  rw [left_gf h b o q t l hb hq]
  unfold gfOf
  rw [pay1_6, umax_at f t l _ hr, scale2 f, shift2 f, ← EReal.coe_mul, ← EReal.coe_add]
  rfl

theorem ex_at (t : Fin cfg6.N) (k : Fin 16) (l : Fin 512) (r : Fin 8192) (hr : r.val = t.val * 512 + l.val) (o : Fin 64) :
    k6_pay7 (rows 1 64 (cblk cfg6 3 (W (arr 4 3)) t) 0 inb_S8x64_S1x64_0_0) (rows 1 64 (cblk cfg6 3 (W (arr 4 3)) t) 1 inb_S8x64_S1x64_1_0)
      (rows 1 64 (cblk cfg6 5 (W (arr 4 5)) t) 2 inb_S8x128_S1x64_2_0) (cblk cfg6 0 (W (arr 4 0)) t) (ix3 k l o) = ((I.ex k r o : ℝ) : EReal) := by
  rw [pay7_6, scale2 f, umax_at f t l r hr, in6_0 _ t k l o r hr, f.u, ← EReal.coe_sub, ← EReal.coe_mul, exp_coe]
  rfl

theorem scalev (t : Fin cfg6.N) (o : Fin 64) :
    HMul.hMul (α := EReal) (β := EReal) (γ := EReal) (cblk cfg6 5 (W (arr 4 5)) t (ix2 (4 : Fin 8) (lcol o))) (Ideal.rsqrt (Ideal.div ((cblk cfg6 4 (W (arr 4 4)) t : Vec Ideal S8x64 .f32) (ix2 (1 : Fin 8) o)) (Ideal.ofBits .f32 0x46000000#32)
            - Ideal.div ((cblk cfg6 4 (W (arr 4 4)) t : Vec Ideal S8x64 .f32) (ix2 (0 : Fin 8) o)) (Ideal.ofBits .f32 0x46000000#32) * Ideal.div ((cblk cfg6 4 (W (arr 4 4)) t : Vec Ideal S8x64 .f32) (ix2 (0 : Fin 8) o)) (Ideal.ofBits .f32 0x46000000#32)
            + Ideal.ofBits .f32 0x3727C5AC#32)) = ((I.av o : ℝ) : EReal) := by
  rw [in6_4, in6_4, in6_5, f.sv0, f.sv1, f.gv]
  exact scale_coe points_pos points_card _ _ _ bits_points

theorem att_out (h : Left 4 (rdats n fun _ => W) d W W') (b : Fin 4) (o : Fin 64) (q : Fin 2048) :
    (W' (arr 4 6) : Vec Ideal S4x64x2048 .f32) (ix3 b o q) = ((I.att (row b q) o : ℝ) : EReal) := by
  obtain ⟨t, l, hb, hq, hr⟩ := row_block b q
  rw [left_att h b o q t l hb hq]
  unfold attOf
  have hsum : ((∑ k : Fin 8, ((I.ex (lo k) (row b q) o * I.fv (I.src (lo k) (row b q)) o : ℝ) : EReal)) + ∑ k : Fin 8, ((I.ex (hi k) (row b q) o * I.fv (I.src (hi k) (row b q)) o : ℝ) : EReal))
      = ((∑ k, I.ex k (row b q) o * I.fv (I.src k (row b q)) o : ℝ) : EReal) := by
    rw [← coe_sum, ← coe_sum, ← EReal.coe_add, sum_halves fun k => I.ex k (row b q) o * I.fv (I.src k (row b q)) o]
  rw [pay11_6, rows_at _ 0 _ o (0 : Fin 8) o rfl rfl, rows_at _ 1 _ o (1 : Fin 8) o rfl rfl, rows_at _ 4 _ o (4 : Fin 8) (lcol o) rfl rfl,
    rows_at _ 5 _ o (5 : Fin 8) (lcol o) rfl rfl, scalev f, pay8_6]
  rw [show (∑ k : Fin 16, k6_pay7 (rows 1 64 (cblk cfg6 3 (W (arr 4 3)) t) 0 inb_S8x64_S1x64_0_0) (rows 1 64 (cblk cfg6 3 (W (arr 4 3)) t) 1 inb_S8x64_S1x64_1_0)
      (rows 1 64 (cblk cfg6 5 (W (arr 4 5)) t) 2 inb_S8x128_S1x64_2_0) (cblk cfg6 0 (W (arr 4 0)) t) (ix3 k l o)) = ((∑ k, I.ex k (row b q) o : ℝ) : EReal) from
    (Finset.sum_congr rfl fun k _ => ex_at f t k l _ hr o).trans (coe_sum _ _).symm]
  rw [show (∑ k : Fin 8, k6_pay7 (rows 1 64 (cblk cfg6 3 (W (arr 4 3)) t) 0 inb_S8x64_S1x64_0_0) (rows 1 64 (cblk cfg6 3 (W (arr 4 3)) t) 1 inb_S8x64_S1x64_1_0)
      (rows 1 64 (cblk cfg6 5 (W (arr 4 5)) t) 2 inb_S8x128_S1x64_2_0) (cblk cfg6 0 (W (arr 4 0)) t) (ix3 (⟨k.val, by omega⟩ : Fin 16) l o)
        * (cblk cfg6 1 (W (arr 4 1)) t : Vec Ideal S8x512x64 .bf16) (ix3 k l o)) = ∑ k : Fin 8, ((I.ex (lo k) (row b q) o * I.fv (I.src (lo k) (row b q)) o : ℝ) : EReal) from
    Finset.sum_congr rfl fun k _ => by rw [ex_at f t _ l _ hr o, in6_1 _ t k l o _ hr, f.va, EReal.coe_mul]; rfl]
  rw [show (∑ k : Fin 8, k6_pay7 (rows 1 64 (cblk cfg6 3 (W (arr 4 3)) t) 0 inb_S8x64_S1x64_0_0) (rows 1 64 (cblk cfg6 3 (W (arr 4 3)) t) 1 inb_S8x64_S1x64_1_0)
      (rows 1 64 (cblk cfg6 5 (W (arr 4 5)) t) 2 inb_S8x128_S1x64_2_0) (cblk cfg6 0 (W (arr 4 0)) t) (ix3 (⟨8 + k.val, by omega⟩ : Fin 16) l o)
        * (cblk cfg6 2 (W (arr 4 2)) t : Vec Ideal S8x512x64 .bf16) (ix3 k l o)) = ∑ k : Fin 8, ((I.ex (hi k) (row b q) o * I.fv (I.src (hi k) (row b q)) o : ℝ) : EReal) from
    Finset.sum_congr rfl fun k _ => by rw [ex_at f t _ l _ hr o, in6_2 _ t k l o _ hr, f.vb, EReal.coe_mul]; rfl]
  rw [hsum, div_coe _ _ (I.sum_ex_pos _ _).ne', in6_4, in6_5, f.sv0, f.bev,
    show ((I.bev o : ℝ) : EReal) - Ideal.div ((∑ r, I.fv r o : ℝ) : EReal) (Ideal.ofBits .f32 0x46000000#32) * ((I.av o : ℝ) : EReal) = ((I.cv o : ℝ) : EReal) from
      shift_coe points_pos (fun r => I.fv r o) (I.gv o) (I.bev o) _ bits_points,
    ← EReal.coe_mul, ← EReal.coe_add, show (0 : EReal) = ((0 : ℝ) : EReal) from rfl, ← coe_max]
  rfl

end Final

end Cert.Kernel.Value

end
-- ==== Proof.Value.Args.lean ====
/-
  The arguments of both programs, and the real numbers and rows that they hold.
-/
module

public import proofs.«01_k».proof.Proof.Value.Calls

@[expose] public section

noncomputable section

namespace Cert.Maths

open Idealize.ShloMosaic

/-- The fourteen arguments. -/
structure Args where
  a0 : FVec Ideal ⟨3, ![4, 64, 2048]⟩ .f32
  a1 : IVec ⟨3, ![4, 2048, 16]⟩ 32
  a2 : IVec ⟨3, ![4, 1, 2048]⟩ 1
  a3 : FVec Ideal ⟨2, ![64, 64]⟩ .f32
  a4 : FVec Ideal ⟨1, ![64]⟩ .f32
  a5 : FVec Ideal ⟨1, ![64]⟩ .f32
  a6 : FVec Ideal ⟨1, ![64]⟩ .f32
  a7 : FVec Ideal ⟨2, ![64, 64]⟩ .f32
  a8 : FVec Ideal ⟨1, ![64]⟩ .f32
  a9 : FVec Ideal ⟨1, ![64]⟩ .f32
  a10 : FVec Ideal ⟨1, ![64]⟩ .f32
  a11 : FVec Ideal ⟨2, ![64, 64]⟩ .f32
  a12 : FVec Ideal ⟨1, ![64]⟩ .f32
  a13 : FVec Ideal ⟨1, ![64]⟩ .f32

/-- Neither infinity, as the programs test it. -/
def Fine {s : Shape} (a : FVec Ideal s .f32) : Prop := ∀ j, max (a j : EReal) (-(a j : EReal)) < ⊤

theorem Fine.coe {s : Shape} {a : FVec Ideal s .f32} (h : Fine a) (j : s.Idx) : (a j : EReal) = (((a j : EReal).toReal : ℝ) : EReal) := by
  have hj := max_lt_iff.1 (h j)
  refine (EReal.coe_toReal (ne_of_lt hj.1) fun e => ?_).symm
  rw [e, EReal.neg_bot] at hj
  exact lt_irrefl _ hj.2

/-- The indices are points of their batch. -/
def InBatch (J : IVec ⟨3, ![4, 2048, 16]⟩ 32) : Prop := ∀ j, (J j).toNat < 2048

/-- What is asked of the arguments. -/
structure Args.Ok (A : Args) : Prop where
  inb : InBatch A.a1
  mask : ∀ j, A.a2 j = 1#1
  pos : ∀ j, (0 : EReal) ≤ A.a9 j
  f0 : Fine A.a0
  f3 : Fine A.a3
  f4 : Fine A.a4
  f5 : Fine A.a5
  f6 : Fine A.a6
  f7 : Fine A.a7
  f8 : Fine A.a8
  f9 : Fine A.a9
  f10 : Fine A.a10
  f11 : Fine A.a11
  f12 : Fine A.a12
  f13 : Fine A.a13

/-- The arguments hold these real numbers and name these rows. -/
structure Holds (I : In) (A : Args) : Prop where
  inb : InBatch A.a1
  mask : ∀ j, A.a2 j = 1#1
  pos : ∀ o, 0 ≤ I.g2 o
  src : ∀ b n k, (I.src k (row b n)).val = b.val * 2048 + (A.a1 (ix3 b n k)).toNat
  x : ∀ b c n, A.a0 (ix3 b c n) = ((I.x (row b n) c : ℝ) : EReal)
  W1 : ∀ o c, A.a3 (ix2 o c) = ((I.W1 o c : ℝ) : EReal)
  b1 : ∀ o, A.a4 (ix1 o) = ((I.b1 o : ℝ) : EReal)
  g1 : ∀ o, A.a5 (ix1 o) = ((I.g1 o : ℝ) : EReal)
  be1 : ∀ o, A.a6 (ix1 o) = ((I.be1 o : ℝ) : EReal)
  W2 : ∀ o c, A.a7 (ix2 o c) = ((I.W2 o c : ℝ) : EReal)
  b2 : ∀ o, A.a8 (ix1 o) = ((I.b2 o : ℝ) : EReal)
  g2 : ∀ o, A.a9 (ix1 o) = ((I.g2 o : ℝ) : EReal)
  be2 : ∀ o, A.a10 (ix1 o) = ((I.be2 o : ℝ) : EReal)
  Wv : ∀ o c, A.a11 (ix2 o c) = ((I.Wv o c : ℝ) : EReal)
  gv : ∀ o, A.a12 (ix1 o) = ((I.gv o : ℝ) : EReal)
  bev : ∀ o, A.a13 (ix1 o) = ((I.bev o : ℝ) : EReal)

/-- The batch and the point of a row. -/
def batch (r : Fin 8192) : Fin 4 := ⟨r.val / 2048, by omega⟩
def point (r : Fin 8192) : Fin 2048 := ⟨r.val % 2048, by omega⟩

theorem batch_row (b : Fin 4) (n : Fin 2048) : batch (row b n) = b := Fin.ext (by show (b.val * 2048 + n.val) / 2048 = b.val; omega)
theorem point_row (b : Fin 4) (n : Fin 2048) : point (row b n) = n := Fin.ext (by show (b.val * 2048 + n.val) % 2048 = n.val; omega)
theorem row_of (r : Fin 8192) : row (batch r) (point r) = r := Fin.ext (by show r.val / 2048 * 2048 + r.val % 2048 = r.val; omega)

/-- Every row is a point of a batch. -/
theorem exists_row (r : Fin 8192) : ∃ b n, r = row b n := ⟨batch r, point r, (row_of r).symm⟩

/-- Arguments of which that is true hold real numbers. -/
theorem Args.Ok.holds {A : Args} (h : A.Ok) : ∃ I, Holds I A := by
  refine ⟨{ x := fun r c => (A.a0 (ix3 (batch r) c (point r)) : EReal).toReal
            src := fun k r => ⟨(batch r).val * 2048 + (A.a1 (ix3 (batch r) (point r) k)).toNat, by have := h.inb (ix3 (batch r) (point r) k); have := (batch r).isLt; omega⟩
            W1 := fun o c => (A.a3 (ix2 o c) : EReal).toReal
            b1 := fun o => (A.a4 (ix1 o) : EReal).toReal
            g1 := fun o => (A.a5 (ix1 o) : EReal).toReal
            be1 := fun o => (A.a6 (ix1 o) : EReal).toReal
            W2 := fun o c => (A.a7 (ix2 o c) : EReal).toReal
            b2 := fun o => (A.a8 (ix1 o) : EReal).toReal
            g2 := fun o => (A.a9 (ix1 o) : EReal).toReal
            be2 := fun o => (A.a10 (ix1 o) : EReal).toReal
            Wv := fun o c => (A.a11 (ix2 o c) : EReal).toReal
            gv := fun o => (A.a12 (ix1 o) : EReal).toReal
            bev := fun o => (A.a13 (ix1 o) : EReal).toReal },
    { inb := h.inb, mask := h.mask, pos := fun o => EReal.toReal_nonneg (h.pos (ix1 o))
      src := fun b n k => by show (batch (row b n)).val * 2048 + (A.a1 (ix3 (batch (row b n)) (point (row b n)) k)).toNat = _; rw [batch_row, point_row]
      x := fun b c n => by show A.a0 (ix3 b c n) = (((A.a0 (ix3 (batch (row b n)) c (point (row b n))) : EReal).toReal : ℝ) : EReal); rw [batch_row, point_row]; exact h.f0.coe _
      W1 := fun o c => h.f3.coe _
      b1 := fun o => h.f4.coe _
      g1 := fun o => h.f5.coe _
      be1 := fun o => h.f6.coe _
      W2 := fun o c => h.f7.coe _
      b2 := fun o => h.f8.coe _
      g2 := fun o => h.f9.coe _
      be2 := fun o => h.f10.coe _
      Wv := fun o c => h.f11.coe _
      gv := fun o => h.f12.coe _
      bev := fun o => h.f13.coe _ }⟩

end Cert.Maths

end
-- ==== Proof.Batch.lean ====
/-
  What the preconditions say of the arguments.
-/
module

public import proofs.«01_k».proof.Proof.Gen.Pre_idx_in_range
public import proofs.«01_k».proof.Proof.Gen.Pre_inputs_ok
public import proofs.«01_k».proof.Proof.Value.Args
public import Idealize.ShloMosaic.Lib.Pointwise
public import Idealize.ShloMosaic.Lib.ReduceAll

@[expose] public section

noncomputable section

namespace Cert.Batch

open Idealize.ShloMosaic Cert.Maths

/-- A word that reads, signed, neither below 0 nor as 2048 or more is below 2048. -/
theorem below (w : BitVec 32) (e : IntOp.andi (IntOp.cmpi .sge w 0#32) (IntOp.cmpi .slt w 2048#32) = 1#1) : w.toNat < 2048 := by
  unfold IntOp.andi IntOp.cmpi at e
  have hb : ∀ a b : Bool, BitVec.ofBool a &&& BitVec.ofBool b = 1#1 → a = true ∧ b = true := by decide
  obtain ⟨h0, h1⟩ := hb _ _ e
  change (0#32).sle w = true at h0
  change w.slt 2048#32 = true at h1
  rw [BitVec.sle_eq_decide, decide_eq_true_eq] at h0
  rw [BitVec.slt_eq_decide, decide_eq_true_eq] at h1
  have := BitVec.toInt_eq_toNat_cond w
  have e0 : (0#32).toInt = 0 := rfl
  have e1 : (2048#32).toInt = 2048 := rfl
  have hw := w.isLt
  rw [e0] at h0
  rw [e1] at h1
  split at this <;> omega

section Range

open Cert.Pre_idx_in_range Cert.Pre_idx_in_range.Gen

variable {F : FTy → Type} [FloatOps F]

/-- The first precondition: every index names a point of its own batch. -/
theorem inBatch (x : FVec F S4x64x2048 .f32) (J : IVec S4x2048x16 32) (m : IVec S4x1x2048 1) (w3 : FVec F S64x64 .f32) (w4 w5 w6 : FVec F S64 .f32) (w7 : FVec F S64x64 .f32)
    (w8 w9 w10 : FVec F S64 .f32) (w11 : FVec F S64x64 .f32) (w12 w13 : FVec F S64 .f32) (h : fn x J m w3 w4 w5 w6 w7 w8 w9 w10 w11 w12 w13 = fun _ => 1#1) : InBatch J := by
  intro j
  have e := congrFun h j
  unfold fn at e
  pointwise at e
  exact below _ e

end Range

section Inputs

open Cert.Pre_inputs_ok Cert.Pre_inputs_ok.Gen

theorem both {a b : IVec S_ 1} (h : andi a b = fun _ => 1#1) : a = (fun _ => 1#1) ∧ b = fun _ => 1#1 := by
  have hb : ∀ u v : BitVec 1, u &&& v = 1#1 → u = 1#1 ∧ v = 1#1 := by decide
  exact ⟨funext fun i => (hb _ _ (congrFun h i)).1, funext fun i => (hb _ _ (congrFun h i)).2⟩

theorem holds_of_bit {p : Prop} [Decidable p] (h : BitVec.ofBool (decide p) = 1#1) : p := by
  by_contra hn
  rw [decide_eq_false hn] at h
  exact absurd h (by decide)

/-- A number that compares as no less than zero. -/
theorem atLeast {x : EReal} (h : FloatOps.cmpf (F := Ideal) (φ := .f32) .oge x (Ideal.ofBits .f32 0x00000000#32) = 1#1) : 0 ≤ x := by
  rw [bits_zero, EReal.coe_zero] at h
  exact holds_of_bit h

/-- A comparison of sizes with positive infinity that holds everywhere. -/
theorem fine {s : Shape} {a : FVec Ideal s .f32} {h0 : S_.BroadcastsInDim s (![] : Fin 0 → Fin s.rank)}
    (h : ∀ i, cmpf .olt (Host.absf a) (broadcastInDim s ![] h0 (constant S_ .f32 0x7F800000#32)) i = 1#1) : Fine a := by
  intro j
  have e := h j
  change FloatOps.cmpf (F := Ideal) (φ := .f32) .olt (max (a j : EReal) (-(a j : EReal))) (Ideal.ofBits .f32 0x7F800000#32) = 1#1 at e
  rw [bits_top] at e
  exact holds_of_bit e

/-- The second precondition: what is asked of the arguments. -/
theorem ok (A : Args) (h : fn (F := Ideal) A.a0 A.a1 A.a2 A.a3 A.a4 A.a5 A.a6 A.a7 A.a8 A.a9 A.a10 A.a11 A.a12 A.a13 = fun _ => 1#1) : A.Ok := by
  unfold fn fn_part1 fn_part2 fn_part3 fn_part4 at h
  dsimp only at h
  obtain ⟨h, k13⟩ := both h
  obtain ⟨h, k12⟩ := both h
  obtain ⟨h, k11⟩ := both h
  obtain ⟨h, k10⟩ := both h
  obtain ⟨h, k9⟩ := both h
  obtain ⟨h, k8⟩ := both h
  obtain ⟨h, k7⟩ := both h
  obtain ⟨h, k6⟩ := both h
  obtain ⟨h, k5⟩ := both h
  obtain ⟨h, k4⟩ := both h
  obtain ⟨h, k3⟩ := both h
  obtain ⟨h, k0⟩ := both h
  obtain ⟨h, kp⟩ := both h
  obtain ⟨kj, km⟩ := both h
  exact {
    inb := fun j => below _ (Host.reduce_andi_all _ _ _ _ ix0 (congrFun kj ix0) j)
    mask := Host.reduce_andi_all _ _ _ _ ix0 (congrFun km ix0)
    pos := fun j => atLeast (Host.reduce_andi_all _ _ _ _ ix0 (congrFun kp ix0) j)
    f0 := fine (Host.reduce_andi_all _ _ _ _ ix0 (congrFun k0 ix0))
    f3 := fine (Host.reduce_andi_all _ _ _ _ ix0 (congrFun k3 ix0))
    f4 := fine (Host.reduce_andi_all _ _ _ _ ix0 (congrFun k4 ix0))
    f5 := fine (Host.reduce_andi_all _ _ _ _ ix0 (congrFun k5 ix0))
    f6 := fine (Host.reduce_andi_all _ _ _ _ ix0 (congrFun k6 ix0))
    f7 := fine (Host.reduce_andi_all _ _ _ _ ix0 (congrFun k7 ix0))
    f8 := fine (Host.reduce_andi_all _ _ _ _ ix0 (congrFun k8 ix0))
    f9 := fine (Host.reduce_andi_all _ _ _ _ ix0 (congrFun k9 ix0))
    f10 := fine (Host.reduce_andi_all _ _ _ _ ix0 (congrFun k10 ix0))
    f11 := fine (Host.reduce_andi_all _ _ _ _ ix0 (congrFun k11 ix0))
    f12 := fine (Host.reduce_andi_all _ _ _ _ ix0 (congrFun k12 ix0))
    f13 := fine (Host.reduce_andi_all _ _ _ _ ix0 (congrFun k13 ix0)) }

end Inputs

end Cert.Batch
-- ==== Proof.Same.lean ====
/-
  The idealization is the same program text: its tables of bodies and its threads are the program's.
-/
module

public import proofs.«01_k».proof.Proof.Gen.Kernel
public import proofs.«01_k».proof.Proof.Gen.KernelIdeal

@[expose] public section

set_option maxHeartbeats 8000000

noncomputable section

namespace Cert.Same

open Idealize.ShloMosaic Idealize.SL.Sem Cert.Kernel.Gen Cert.KernelIdeal.Gen

variable {F : FTy → Type} [FloatOps F]

/-! ## The kernels' bodies -/

theorem table (a) : Cert.KernelIdeal.defs₀ (F := F) .tc (0 : Fin 7) a = Cert.Kernel.defs₀ (F := F) .tc (0 : Fin 7) a := rfl
theorem gather1 (c s) : Cert.KernelIdeal.defs₀ (F := F) (.scVector c s) (1 : Fin 7) () = Cert.Kernel.defs₀ (F := F) (.scVector c s) (1 : Fin 7) () := rfl
theorem gather2 (c s) : Cert.KernelIdeal.defs₀ (F := F) (.scVector c s) (2 : Fin 7) () = Cert.Kernel.defs₀ (F := F) (.scVector c s) (2 : Fin 7) () := rfl
theorem dstats1 (a) : Cert.KernelIdeal.defs₀ (F := F) .tc (3 : Fin 7) a = Cert.Kernel.defs₀ (F := F) .tc (3 : Fin 7) a := rfl
theorem dstats2 (a) : Cert.KernelIdeal.defs₀ (F := F) .tc (4 : Fin 7) a = Cert.Kernel.defs₀ (F := F) .tc (4 : Fin 7) a := rfl
theorem second (a) : Cert.KernelIdeal.defs₀ (F := F) .tc (5 : Fin 7) a = Cert.Kernel.defs₀ (F := F) .tc (5 : Fin 7) a := rfl
theorem final (a) : Cert.KernelIdeal.defs₀ (F := F) .tc (6 : Fin 7) a = Cert.Kernel.defs₀ (F := F) .tc (6 : Fin 7) a := rfl

/-- On the TensorCore. -/
theorem on_tc : ∀ (ℓ : Fin 7) (a : Cert.Kernel.Λ₀.Args ℓ), Cert.KernelIdeal.defs₀ (F := F) .tc ℓ a = Cert.Kernel.defs₀ (F := F) .tc ℓ a
  | 0, a => table a
  | 1, _ => rfl
  | 2, _ => rfl
  | 3, a => dstats1 a
  | 4, a => dstats2 a
  | 5, a => second a
  | 6, a => final a

/-- On a scalar subcore, where none runs. -/
theorem on_scs (c) : ∀ (ℓ : Fin 7) (a : Cert.Kernel.Λ₀.Args ℓ), Cert.KernelIdeal.defs₀ (F := F) (.scScalar c) ℓ a = Cert.Kernel.defs₀ (F := F) (.scScalar c) ℓ a
  | 0, _ => rfl
  | 1, _ => rfl
  | 2, _ => rfl
  | 3, _ => rfl
  | 4, _ => rfl
  | 5, _ => rfl
  | 6, _ => rfl

/-- On a vector subcore. -/
theorem on_scv (c s) : ∀ (ℓ : Fin 7) (a : Cert.Kernel.Λ₀.Args ℓ), Cert.KernelIdeal.defs₀ (F := F) (.scVector c s) ℓ a = Cert.Kernel.defs₀ (F := F) (.scVector c s) ℓ a
  | 0, _ => rfl
  | 1, _ => gather1 c s
  | 2, _ => gather2 c s
  | 3, _ => rfl
  | 4, _ => rfl
  | 5, _ => rfl
  | 6, _ => rfl

theorem bodies : Cert.KernelIdeal.defs₀ (F := F) = Cert.Kernel.defs₀ (F := F) := by
  funext p ℓ a
  cases p with
  | tc => exact on_tc ℓ a
  | scScalar c => exact on_scs c ℓ a
  | scVector c s => exact on_scv c s ℓ a

/-! ## The whole -/

theorem defs : Cert.KernelIdeal.defs (F := F) = Cert.Kernel.defs (F := F) :=
  congrArg (fun D => (Cert.Kernel.sc (F := F)).defs (Pipeline.defs Cert.Kernel.pcfgs D)) bodies

theorem threads : Cert.KernelIdeal.threads (F := F) = Cert.Kernel.threads (F := F) := rfl

end Cert.Same

end
-- ==== Proof.Value.Words.lean ====
/-
  The numbers of the rows that the SparseCore calls fetch, from the indices; and what the host's other operations
  put in the arrays that the calls read.
-/
module

public import proofs.«01_k».proof.Proof.Value.Args
public import proofs.«01_k».proof.Proof.Kernel.Launch

@[expose] public section

noncomputable section

namespace Cert.Kernel.Value

open Cert.Kernel Cert.Kernel.Gen Cert.Kernel.Gather Cert.Maths
open Idealize.ShloMosaic Idealize.ShloMosaic.TcCoe
open Idealize.ShloMosaic.StableHlo

/-! ## The row numbers -/

/-- Place `f` of the list of row numbers: of point `f % 2048` of batch `f / 2048 % 4`, neighbour `f / 8192`. -/
def word (J : IVec S4x2048x16 32) (f : Fin 131072) : BitVec 32 :=
  J (ix3 ⟨f.val / 2048 % 4, by omega⟩ ⟨f.val % 2048, by omega⟩ ⟨f.val / 8192, by omega⟩) + BitVec.ofNat 32 (f.val / 2048 % 4) * 2048#32

theorem nums_apply (J : IVec S4x2048x16 32) (j : S1x131072.Idx) : nums J j = word J (j 1) := by
  unfold nums word
  pointwise
  rfl

theorem nums0_apply (J : IVec S4x2048x16 32) (f : Fin 65536) : nums0 J (ix2 (0 : Fin 1) f) = word J ⟨f.val, by omega⟩ := by
  unfold nums0
  pointwise [nums_apply]

theorem nums1_apply (J : IVec S4x2048x16 32) (f : Fin 65536) : nums1 J (ix2 (0 : Fin 1) f) = word J ⟨65536 + f.val, by omega⟩ := by
  unfold nums1
  pointwise [nums_apply]

theorem word_toNat {J : IVec S4x2048x16 32} (h : InBatch J) (f : Fin 131072) :
    (word J f).toNat = (J (ix3 ⟨f.val / 2048 % 4, by omega⟩ ⟨f.val % 2048, by omega⟩ ⟨f.val / 8192, by omega⟩)).toNat + f.val / 2048 % 4 * 2048 := by
  have := h (ix3 ⟨f.val / 2048 % 4, by omega⟩ ⟨f.val % 2048, by omega⟩ ⟨f.val / 8192, by omega⟩)
  unfold word
  rw [BitVec.toNat_add, BitVec.toNat_mul, BitVec.toNat_ofNat, BitVec.toNat_ofNat]
  omega

theorem word_lt {J : IVec S4x2048x16 32} (h : InBatch J) (f : Fin 131072) : (word J f).toNat < 8192 := by
  rw [word_toNat h]
  have := h (ix3 ⟨f.val / 2048 % 4, by omega⟩ ⟨f.val % 2048, by omega⟩ ⟨f.val / 8192, by omega⟩)
  omega

/-- Neighbour `k` of point `n` of batch `b`. -/
theorem word_at {J : IVec S4x2048x16 32} (h : InBatch J) (k : Fin 16) (b : Fin 4) (n : Fin 2048) (f : Fin 131072) (hf : f.val = k.val * 8192 + (row b n).val) :
    (word J f).toNat = b.val * 2048 + (J (ix3 b n k)).toNat := by
  have hr : (row b n).val = b.val * 2048 + n.val := rfl
  have h1 : (⟨f.val / 2048 % 4, by omega⟩ : Fin 4) = b := Fin.ext (by show f.val / 2048 % 4 = b.val; omega)
  have h2 : (⟨f.val % 2048, by omega⟩ : Fin 2048) = n := Fin.ext (by show f.val % 2048 = n.val; omega)
  have h3 : (⟨f.val / 8192, by omega⟩ : Fin 16) = k := Fin.ext (by show f.val / 8192 = k.val; omega)
  have h4 : f.val / 2048 % 4 = b.val := by omega
  rw [word_toNat h, h1, h2, h3, h4]
  omega

/-- The row that the word names. -/
theorem rowAt_word {J : IVec S4x2048x16 32} (h : InBatch J) {I : In} (hs : ∀ b n k, (I.src k (row b n)).val = b.val * 2048 + (J (ix3 b n k)).toNat)
    (k : Fin 16) (r : Fin 8192) (f : Fin 131072) (hf : f.val = k.val * 8192 + r.val) : rowAt (word J f) = I.src k r := by
  obtain ⟨b, n, rfl⟩ := exists_row r
  refine Fin.ext ?_
  rw [hs]
  show (word J f).toNat % 8192 = _
  rw [Nat.mod_eq_of_lt (word_lt h f), word_at h k b n f hf]

section Table

variable {F : FTy → Type} [FloatOps F] (m : (ℓ : Loc nD τ sig) → Buf (Elt F) ℓ)

/-- Indices in their batch give row numbers in the table. -/
theorem inTable (h : ∀ d : Dev nD, InBatch (m (d, bJ))) : (given m).InTable := fun d =>
  ⟨fun j => by
    obtain ⟨i, f, rfl⟩ : ∃ (i : Fin 1) (f : Fin 65536), j = ix2 i f := ⟨j 0, j 1, (ix2_eta j).symm⟩
    obtain rfl : i = 0 := Subsingleton.elim _ _
    show (nums0 (m (d, bJ)) (ix2 (0 : Fin 1) f)).toNat < 8192
    rw [nums0_apply]; exact word_lt (h d) _,
   fun j => by
    obtain ⟨i, f, rfl⟩ : ∃ (i : Fin 1) (f : Fin 65536), j = ix2 i f := ⟨j 0, j 1, (ix2_eta j).symm⟩
    obtain rfl : i = 0 := Subsingleton.elim _ _
    show (nums1 (m (d, bJ)) (ix2 (0 : Fin 1) f)).toNat < 8192
    rw [nums1_apply]; exact word_lt (h d) _⟩

theorem tabOf_at (x : Vec F S4x2048x128 .f32) (b : Fin 4) (n : Fin 2048) (q : Fin 128) : tabOf (F := F) x (ix2 (row b n) q) = x (ix3 b n q) := by
  unfold tabOf row
  pointwise

end Table

end Cert.Kernel.Value

end
-- ==== Proof.Value.Params.lean ====
/-
  What the host puts in the arrays before the first and before the last calls: the transposed arguments, the
  parameters side by side, and the padded weight.
-/
module

public import proofs.«01_k».proof.Proof.Value.Args
public import proofs.«01_k».proof.Proof.Kernel.Launch
public import Idealize.ShloMosaic.Lib.Routing.OpsSet

@[expose] public section

noncomputable section

namespace Cert.Kernel.Value

open Cert.Kernel Cert.Kernel.Gen Cert.Kernel.Gather Cert.Maths
open Idealize.ShloMosaic Idealize.ShloMosaic.TcCoe
open Idealize.ShloMosaic.StableHlo

variable (W : Valuation τ sig (Elt Ideal))

theorem ops0_x (b : Fin 4) (n : Fin 2048) (c : Fin 64) :
    (after ops0 W (arr 0 0) : Vec Ideal S4x2048x64 .f32) (ix3 b n c) = (W (Proc.devRef .tc main_arg0) : Vec Ideal S4x64x2048 .f32) (ix3 b c n) := by
  have e : after ops0 W (arr 0 0) = transpose S4x2048x64 [0, 2, 1] (W (Proc.devRef .tc main_arg0) : Vec Ideal S4x64x2048 .f32) transposes_S4x64x2048_S4x2048x64_0_2_1 := by
    unfold ops0
    after_results <;> rfl
  rw [e]
  pointwise

theorem ops0_w1 (c o : Fin 64) :
    (after ops0 W (arr 0 1) : Vec Ideal S64x64 .f32) (ix2 c o) = (W (Proc.devRef .tc main_arg3) : Vec Ideal S64x64 .f32) (ix2 o c) := by
  have e : after ops0 W (arr 0 1) = transpose S64x64 [1, 0] (W (Proc.devRef .tc main_arg3) : Vec Ideal S64x64 .f32) transposes_S64x64_S64x64_1_0 := by
    unfold ops0
    after_results <;> rfl
  rw [e]
  pointwise

theorem ops0_wv (c o : Fin 64) :
    (after ops0 W (arr 0 2) : Vec Ideal S64x64 .f32) (ix2 c o) = (W (Proc.devRef .tc main_arg11) : Vec Ideal S64x64 .f32) (ix2 o c) := by
  have e : after ops0 W (arr 0 2) = transpose S64x64 [1, 0] (W (Proc.devRef .tc main_arg11) : Vec Ideal S64x64 .f32) transposes_S64x64_S64x64_1_0 := by
    unfold ops0
    after_results <;> rfl
  rw [e]
  pointwise

/-! ## The parameters side by side -/

/-- One row of them. -/
def asRow (x : Vec Ideal S64 .f32) : Vec Ideal S1x64 .f32 := broadcastInDim S1x64 ![1] bcast_S64_S1x64_1 x

theorem asRow_apply (x : Vec Ideal S64 .f32) (i : Fin 1) (o : Fin 64) : asRow x (ix2 i o) = x (ix1 o) := by
  unfold asRow
  pointwise

/-- All of them. -/
def stacked (x0 x1 x2 x3 x4 x5 x6 : Vec Ideal S64 .f32) : Vec Ideal S8x64 .f32 :=
  concatenate S8x64 0 [⟨S1x64, asRow x0⟩, ⟨S1x64, asRow x1⟩, ⟨S1x64, asRow x2⟩, ⟨S1x64, asRow x3⟩, ⟨S1x64, asRow x4⟩, ⟨S1x64, asRow x5⟩, ⟨S1x64, asRow x6⟩, ⟨S1x64, asRow x6⟩]
    concatenates_S1x64_S1x64_S1x64_S1x64_S1x64_S1x64_S1x64_S1x64_S8x64_d0

theorem ops3_params : (after ops3 W (arr 3 5) : Vec Ideal S8x128 .f32) = concatenate S8x128 1 [⟨S8x64, stacked (W (Proc.devRef .tc main_arg5)) (W (Proc.devRef .tc main_arg6)) (W (Proc.devRef .tc main_arg9))
      (W (Proc.devRef .tc main_arg10)) (W (Proc.devRef .tc main_arg12)) (W (Proc.devRef .tc main_arg13)) (broadcastInDim S64 ![] bcast_S_S64 (constant (F := Ideal) S_ .f32 0x00000000#32))⟩,
      ⟨S8x64, stacked (W (Proc.devRef .tc main_arg5)) (W (Proc.devRef .tc main_arg6)) (W (Proc.devRef .tc main_arg9))
      (W (Proc.devRef .tc main_arg10)) (W (Proc.devRef .tc main_arg12)) (W (Proc.devRef .tc main_arg13)) (broadcastInDim S64 ![] bcast_S_S64 (constant (F := Ideal) S_ .f32 0x00000000#32))⟩] concatenates_S8x64_S8x64_S8x128_d1 := by
  unfold ops3 stacked asRow
  after_results <;> rfl

theorem stacked_at (x0 x1 x2 x3 x4 x5 x6 : Vec Ideal S64 .f32) (k : Fin 6) (o : Fin 64) :
    stacked x0 x1 x2 x3 x4 x5 x6 (ix2 (⟨k.val, by omega⟩ : Fin 8) o) = (match k with | 0 => x0 | 1 => x1 | 2 => x2 | 3 => x3 | 4 => x4 | 5 => x5) (ix1 o) := by
  unfold stacked
  match k with
  | 0 => pointwise [asRow_apply]
  | 1 => pointwise [asRow_apply]
  | 2 => pointwise [asRow_apply]
  | 3 => pointwise [asRow_apply]
  | 4 => pointwise [asRow_apply]
  | 5 => pointwise [asRow_apply]

theorem params_at (x : Vec Ideal S8x64 .f32) (k : Fin 8) (o : Fin 64) :
    concatenate S8x128 1 [⟨S8x64, x⟩, ⟨S8x64, x⟩] concatenates_S8x64_S8x64_S8x128_d1 (ix2 k (lcol o)) = x (ix2 k o) := by
  unfold lcol
  pointwise

/-! ## The padded weight -/

abbrev dS : ScatterDims S128x64 S1 S64x64 := scatter_S128x64_S1_S64x64_01_n_0_0

theorem window0 (c o : Fin 64) : dS.window (ix2 c o) 0 = c.val := rfl
theorem window1 (c o : Fin 64) : dS.window (ix2 c o) 1 = o.val := rfl

theorem start_zero (j : S64x64.Idx) (idx : IVec S1 32) (h : ∀ i, (idx i).toInt = 0) (a : Fin 2) : dS.start j idx a = 0 := by
  unfold ScatterDims.start
  split
  · exact h _
  · rfl

theorem lands (c o : Fin 64) (idx : IVec S1 32) (h : ∀ i, (idx i).toInt = 0) : dS.resultIdx? (ix2 c o) idx = some (ix2 (lcol c) o) := by
  unfold ScatterDims.resultIdx?
  have hw : ∀ a : Fin 2, dS.start (ix2 c o) idx a + dS.window (ix2 c o) a = (((ix2 (lcol c) o : S128x64.Idx) a).val : ℤ) := fun a => by
    rw [start_zero _ _ h, zero_add]
    match a with
    | 0 => rfl
    | 1 => rfl
  refine (dif_pos fun a => ?_).trans (congrArg some (funext fun a => Fin.ext ?_))
  · rw [hw a]
    exact ⟨Int.natCast_nonneg _, Int.ofNat_lt.2 ((ix2 (lcol c) o : S128x64.Idx) a).isLt⟩
  · show (dS.start (ix2 c o) idx a + dS.window (ix2 c o) a).toNat = _
    rw [hw a]
    rfl

/-- The weight in the upper rows of zeros. -/
def padded (x : Vec Ideal S64x64 .f32) : Vec Ideal S128x64 .f32 :=
  Host.scatter scatter_S128x64_S1_S64x64_01_n_0_0 (fun _ b => b) (broadcastInDim S128x64 ![] bcast_S_S128x64 (constant (F := Ideal) S_ .f32 0x00000000#32))
    (broadcastInDim S1 ![] bcast_S_S1 (constantI S_ 32 0#32)) (transpose S64x64 [1, 0] x transposes_S64x64_S64x64_1_0)

theorem index_zero (i : S1.Idx) : ((broadcastInDim S1 ![] bcast_S_S1 (constantI S_ 32 0#32) : IVec S1 32) i).toInt = 0 := rfl

theorem padded_at (x : Vec Ideal S64x64 .f32) (c o : Fin 64) : padded x (ix2 (lcol c) o) = x (ix2 o c) := by
  unfold padded
  refine Routing.scatter_set_hit _ _ _ _ _ _ (fun k hk => ?_) (ix2 c o) (lands c o _ index_zero)
  obtain ⟨c', o', rfl⟩ : ∃ (c' o' : Fin 64), k = ix2 c' o' := ⟨k 0, k 1, (ix2_eta k).symm⟩
  have e := Option.some.inj ((lands c' o' _ index_zero).symm.trans hk)
  have e0 : c' = c := Fin.ext (show (lcol c').val = (lcol c).val from congrArg Fin.val (congrFun e 0))
  have e1 : o' = o := Fin.ext (congrArg Fin.val (congrFun e 1))
  subst e0 e1
  pointwise

theorem padded_zero (x : Vec Ideal S64x64 .f32) (q : Fin 128) (o : Fin 64) (hq : 64 ≤ q.val) : padded x (ix2 q o) = (0 : EReal) := by
  unfold padded
  refine (Routing.scatter_set_miss _ _ _ _ _ fun k hk => ?_).trans ?_
  · obtain ⟨c', o', rfl⟩ : ∃ (c' o' : Fin 64), k = ix2 c' o' := ⟨k 0, k 1, (ix2_eta k).symm⟩
    have e := Option.some.inj ((lands c' o' _ index_zero).symm.trans hk)
    have e0 : c'.val = q.val := congrArg Fin.val (congrFun e 0)
    omega
  · pointwise

theorem ops3_w2 : (after ops3 W (Proc.devRef .tc main_v34) : Vec Ideal S128x64 .bf16) = truncf (F := Ideal) .bf16 (padded (W (Proc.devRef .tc main_arg7))) bitsLt_bf16_f32 := by
  unfold ops3 padded
  after_results <;> rfl

end Cert.Kernel.Value

end
-- ==== Proof.Value.Chain.lean ====
/-
  The calls one after another: what each of the last two finds, and what the program leaves, over the reals.
-/
module

public import proofs.«01_k».proof.Proof.Value.Words
public import proofs.«01_k».proof.Proof.Value.Params

@[expose] public section

noncomputable section

namespace Cert.Kernel.Value

open Cert.Kernel Cert.Kernel.Gen Cert.Kernel.Gather Cert.Maths
open Idealize.ShloMosaic Idealize.ShloMosaic.TcCoe
open Idealize.ShloMosaic.StableHlo

/-! ## What is kept -/

section Kept

variable {F : FTy → Type} [FloatOps F] [∀ e, Nonempty (Elt F e)] {m : (ℓ : Loc nD τ sig) → Buf (Elt F) ℓ} {d : Dev nD}
  {V2 V7 V8 V10 V11 : Valuation τ sig (Elt F)}

/-- An array that the pieces between the first two and the next calls do not write. -/
theorem V6_keeps (W : Valuation τ sig (Elt F)) (b : Ref sig .tc) (h1 : b ∉ outs1) (h2 : b ∉ outs2) (h0 : Proc.devRef .tc b ≠ bR0) (h3 : Proc.devRef .tc b ≠ bR1) :
    V6 W (Proc.devRef .tc b) = W (Proc.devRef .tc b) :=
  (Function.update_of_ne h3 _ _).trans ((keeps_ops2 _ b h2).trans ((Function.update_of_ne h0 _ _).trans (keeps_ops1 _ b h1)))

/-- An array that nothing writes up to the third call on the TensorCore. -/
theorem V8_keeps (h : Chain m d V2 V7 V8 V10 V11) (b : Ref sig .tc) (n0 : ∀ w, arr 0 w ≠ Proc.devRef .tc b) (n1 : ∀ w, arr 1 w ≠ Proc.devRef .tc b)
    (n2 : ∀ w, arr 2 w ≠ Proc.devRef .tc b) (o0 : b ∉ outs0) (o1 : b ∉ outs1) (o2 : b ∉ outs2) (h0 : Proc.devRef .tc b ≠ bR0) (h3 : Proc.devRef .tc b ≠ bR1) :
    V8 (Proc.devRef .tc b) = m (d, Proc.devRef .tc b) :=
  (h.c2.2 _ n2).trans ((h.c1.2 _ n1).trans ((V6_keeps V2 b o1 o2 h0 h3).trans (keeps0 h.c0 b n0 o0)))

/-- An array that nothing writes. -/
theorem V11_keeps (h : Chain m d V2 V7 V8 V10 V11) (b : Ref sig .tc) (n0 : ∀ w, arr 0 w ≠ Proc.devRef .tc b) (n1 : ∀ w, arr 1 w ≠ Proc.devRef .tc b)
    (n2 : ∀ w, arr 2 w ≠ Proc.devRef .tc b) (n3 : ∀ w, arr 3 w ≠ Proc.devRef .tc b) (n4 : ∀ w, arr 4 w ≠ Proc.devRef .tc b)
    (o0 : b ∉ outs0) (o1 : b ∉ outs1) (o2 : b ∉ outs2) (o3 : b ∉ outs3) (h0 : Proc.devRef .tc b ≠ bR0) (h3 : Proc.devRef .tc b ≠ bR1) :
    V11 (Proc.devRef .tc b) = m (d, Proc.devRef .tc b) :=
  (h.c4.2 _ n4).trans ((h.c3.2 _ n3).trans ((keeps_ops3 _ b o3).trans (V8_keeps h b n0 n1 n2 o0 o1 o2 h0 h3)))

/-- The arguments. -/
def argRefs : List (Ref sig .tc) :=
  [main_arg0, main_arg1, main_arg2, main_arg3, main_arg4, main_arg5, main_arg6, main_arg7, main_arg8, main_arg9, main_arg10, main_arg11, main_arg12, main_arg13]

theorem V8_arg (h : Chain m d V2 V7 V8 V10 V11) (b : Ref sig .tc) (hb : b ∈ argRefs) : V8 (Proc.devRef .tc b) = m (d, Proc.devRef .tc b) :=
  V8_keeps h b (by revert b; decide) (by revert b; decide) (by revert b; decide) (by revert b; decide) (by revert b; decide) (by revert b; decide)
    (by revert b; decide) (by revert b; decide)

theorem V11_arg (h : Chain m d V2 V7 V8 V10 V11) (b : Ref sig .tc) (hb : b ∈ argRefs) : V11 (Proc.devRef .tc b) = m (d, Proc.devRef .tc b) :=
  V11_keeps h b (by revert b; decide) (by revert b; decide) (by revert b; decide) (by revert b; decide) (by revert b; decide) (by revert b; decide) (by revert b; decide)
    (by revert b; decide) (by revert b; decide) (by revert b; decide) (by revert b; decide)

/-- A call leaves the arrays it only reads. -/
theorem in1 (h : Chain m d V2 V7 V8 V10 V11) (w : Fin 2) : V7 (arr 1 (w.castLE (by decide) : Fin 4)) = V6 V2 (arr 1 (w.castLE (by decide) : Fin 4)) := by
  have e := h.c1.1 (w.castLE (by decide) : Fin 4)
  match w with
  | 0 => rw [Pipeline.RDat.ArrAt_in _ _ (by rfl)] at e; exact e
  | 1 => rw [Pipeline.RDat.ArrAt_in _ _ (by rfl)] at e; exact e

theorem in2 (h : Chain m d V2 V7 V8 V10 V11) (w : Fin 2) : V8 (arr 2 (w.castLE (by decide) : Fin 4)) = V7 (arr 2 (w.castLE (by decide) : Fin 4)) := by
  have e := h.c2.1 (w.castLE (by decide) : Fin 4)
  match w with
  | 0 => rw [Pipeline.RDat.ArrAt_in _ _ (by rfl)] at e; exact e
  | 1 => rw [Pipeline.RDat.ArrAt_in _ _ (by rfl)] at e; exact e

theorem in3 (h : Chain m d V2 V7 V8 V10 V11) : V10 (arr 3 5) = after ops3 V8 (arr 3 5) := by
  have e := h.c3.1 5
  rw [Pipeline.RDat.ArrAt_in _ _ (by rfl)] at e
  exact e

theorem got0_self (W : Valuation τ sig (Elt F)) : got0 W bR0 = gath (F := F) (W bX) (W bI0) := by
  unfold got0; exact Function.update_self _ _ _
theorem got1_self (W : Valuation τ sig (Elt F)) : got1 W bR1 = gath (F := F) (W bX) (W bI1) := by
  unfold got1; exact Function.update_self _ _ _
theorem got1_ne {b : DevRef τ sig} (hb : b ≠ bR1) (W : Valuation τ sig (Elt F)) : got1 W b = W b := by
  unfold got1; exact Function.update_of_ne hb _ _

theorem V6_X (h : Chain m d V2 V7 V8 V10 V11) : V6 V2 bX = tabOf (F := F) (prods (F := F) (V1 m d)) :=
  (got1_ne (show bX ≠ bR1 by decide) _).trans (find_X' h.c0)

theorem V6_R0 (h : Chain m d V2 V7 V8 V10 V11) : V6 V2 bR0 = gath (F := F) (tabOf (F := F) (prods (F := F) (V1 m d))) (nums0 (m (d, bJ))) := by
  have e : V6 V2 bR0 = gath (F := F) (after ops1 V2 bX) (after ops1 V2 bI0) :=
    (got1_ne (show bR0 ≠ bR1 by decide) _).trans ((keeps_ops2 _ main_v14 (by decide)).trans (got0_self _))
  rw [e, find_X h.c0, find_I0 h.c0]
  rfl

theorem V6_R1 (h : Chain m d V2 V7 V8 V10 V11) : V6 V2 bR1 = gath (F := F) (tabOf (F := F) (prods (F := F) (V1 m d))) (nums1 (m (d, bJ))) := by
  have e : V6 V2 bR1 = gath (F := F) (after ops2 (got0 (after ops1 V2)) bX) (after ops2 (got0 (after ops1 V2)) bI1) := got1_self _
  rw [e, find_X' h.c0, find_I1 h.c0]
  rfl

end Kept

/-! ## The values -/

/-- The arguments as the program finds them. -/
def argsOf (m : (ℓ : Loc nD τ sig) → Buf (Elt Ideal) ℓ) (d : Dev nD) : Args where
  a0 := m (d, Proc.devRef .tc main_arg0)
  a1 := m (d, Proc.devRef .tc main_arg1)
  a2 := m (d, Proc.devRef .tc main_arg2)
  a3 := m (d, Proc.devRef .tc main_arg3)
  a4 := m (d, Proc.devRef .tc main_arg4)
  a5 := m (d, Proc.devRef .tc main_arg5)
  a6 := m (d, Proc.devRef .tc main_arg6)
  a7 := m (d, Proc.devRef .tc main_arg7)
  a8 := m (d, Proc.devRef .tc main_arg8)
  a9 := m (d, Proc.devRef .tc main_arg9)
  a10 := m (d, Proc.devRef .tc main_arg10)
  a11 := m (d, Proc.devRef .tc main_arg11)
  a12 := m (d, Proc.devRef .tc main_arg12)
  a13 := m (d, Proc.devRef .tc main_arg13)

variable {m : (ℓ : Loc nD τ sig) → Buf (Elt Ideal) ℓ} {d : Dev nD} {V2 V7 V8 V10 V11 : Valuation τ sig (Elt Ideal)} {I : In}
variable (H : Holds I (argsOf m d)) (h : Chain m d V2 V7 V8 V10 V11)

include H

theorem x_at (b : Fin 4) (i : Fin 2048) (c : Fin 64) : (V1 m d (arr 0 0) : Vec Ideal S4x2048x64 .f32) (ix3 b i c) = ((I.x (row b i) c : ℝ) : EReal) :=
  (ops0_x _ b i c).trans (H.x b c i)
theorem w1_at (c o : Fin 64) : (V1 m d (arr 0 1) : Vec Ideal S64x64 .f32) (ix2 c o) = ((I.W1 o c : ℝ) : EReal) := (ops0_w1 _ c o).trans (H.W1 o c)
theorem wv_at (c o : Fin 64) : (V1 m d (arr 0 2) : Vec Ideal S64x64 .f32) (ix2 c o) = ((I.Wv o c : ℝ) : EReal) := (ops0_wv _ c o).trans (H.Wv o c)

theorem tab_at (r : Fin 8192) (q : Fin 128) : tabOf (F := Ideal) (prods (F := Ideal) (V1 m d)) (ix2 r q) = ((I.tab r q : ℝ) : EReal) := by
  obtain ⟨b, n, rfl⟩ := exists_row r
  rw [tabOf_at]
  exact prods_at (x_at H) (w1_at H) (wv_at H) b n q

theorem gath_lo (k : Fin 8) (r : Fin 8192) (q : Fin 128) :
    gath (F := Ideal) (tabOf (F := Ideal) (prods (F := Ideal) (V1 m d))) (nums0 (m (d, bJ))) (ix2 (at8 k r) q) = ((I.tab (I.src (lo k) r) q : ℝ) : EReal) := by
  show tabOf (F := Ideal) (prods (F := Ideal) (V1 m d)) (ix2 (rowAt (nums0 (m (d, bJ)) (ix2 (0 : Fin 1) (at8 k r)))) q) = _
  rw [nums0_apply, rowAt_word (J := m (d, bJ)) H.inb H.src (lo k) r _ rfl]
  exact tab_at H _ q

theorem gath_hi (k : Fin 8) (r : Fin 8192) (q : Fin 128) :
    gath (F := Ideal) (tabOf (F := Ideal) (prods (F := Ideal) (V1 m d))) (nums1 (m (d, bJ))) (ix2 (at8 k r) q) = ((I.tab (I.src (hi k) r) q : ℝ) : EReal) := by
  show tabOf (F := Ideal) (prods (F := Ideal) (V1 m d)) (ix2 (rowAt (nums1 (m (d, bJ)) (ix2 (0 : Fin 1) (at8 k r)))) q) = _
  rw [nums1_apply, rowAt_word (J := m (d, bJ)) H.inb H.src (hi k) r _ (by show 65536 + (k.val * 8192 + r.val) = (8 + k.val) * 8192 + r.val; omega)]
  exact tab_at H _ q

include h

theorem ga1 (k : Fin 8) (r : Fin 8192) (q : Fin 128) : (V6 V2 (arr 1 0) : Vec Ideal S65536x128 .f32) (ix2 (at8 k r) q) = ((I.tab (I.src (lo k) r) q : ℝ) : EReal) :=
  (congrFun (V6_R0 h) _).trans (gath_lo H k r q)
theorem tab1 (r : Fin 8192) (q : Fin 128) : (V6 V2 (arr 1 1) : Vec Ideal S8192x128 .f32) (ix2 r q) = ((I.tab r q : ℝ) : EReal) :=
  (congrFun (V6_X h) _).trans (tab_at H r q)
theorem gb2 (k : Fin 8) (r : Fin 8192) (q : Fin 128) : (V7 (arr 2 0) : Vec Ideal S65536x128 .f32) (ix2 (at8 k r) q) = ((I.tab (I.src (hi k) r) q : ℝ) : EReal) :=
  (congrFun ((h.c1.2 bR1 (by decide)).trans (V6_R1 h)) _).trans (gath_hi H k r q)
theorem tab2 (r : Fin 8192) (q : Fin 128) : (V7 (arr 2 1) : Vec Ideal S8192x128 .f32) (ix2 r q) = ((I.tab r q : ℝ) : EReal) :=
  (congrFun (in1 h 1) _).trans (tab1 H h r q)

omit H in
/-- What is kept until the last two calls. -/
theorem kept8 (b : Ref sig .tc) (n2 : ∀ w, arr 2 w ≠ Proc.devRef .tc b) (o3 : b ∉ outs3) : after ops3 V8 (Proc.devRef .tc b) = V7 (Proc.devRef .tc b) :=
  (keeps_ops3 _ b o3).trans (h.c2.2 _ n2)

theorem found5 : Found5 I (after ops3 V8) where
  ga k r q := (congrFun ((kept8 h main_v14 (by decide) (by decide)).trans (in1 h 0)) _).trans (ga1 H h k r q)
  gb k r q := (congrFun ((keeps_ops3 _ main_v16 (by decide)).trans (in2 h 0)) _).trans (gb2 H h k r q)
  tab r q := (congrFun ((keeps_ops3 _ main_v4 (by decide)).trans (in2 h 1)) _).trans (tab2 H h r q)
  sa0 o := (congrFun (kept8 h main_v17_0 (by decide) (by decide)) _).trans (dsums0_a (ga1 H h) (tab1 H h) h.c1 o)
  sa1 o := (congrFun (kept8 h main_v17_0 (by decide) (by decide)) _).trans (dsums1_a (ga1 H h) (tab1 H h) h.c1 o)
  sb0 o := (congrFun (keeps_ops3 _ main_v18_0 (by decide)) _).trans (dsums0_b (gb2 H h) (tab2 H h) h.c2 o)
  sb1 o := (congrFun (keeps_ops3 _ main_v18_0 (by decide)) _).trans (dsums1_b (gb2 H h) (tab2 H h) h.c2 o)
  g1 o := by
    rw [ops3_params, params_at]
    refine (stacked_at _ _ _ _ _ _ _ (0 : Fin 6) o).trans ?_
    exact (congrFun (V8_arg h main_arg5 (by decide)) _).trans (H.g1 o)
  be1 o := by
    rw [ops3_params, params_at]
    refine (stacked_at _ _ _ _ _ _ _ (1 : Fin 6) o).trans ?_
    exact (congrFun (V8_arg h main_arg6 (by decide)) _).trans (H.be1 o)
  w2 c o := by
    refine (congrFun (ops3_w2 V8) _).trans ?_
    pointwise
    refine (padded_at _ c o).trans ?_
    exact (congrFun (V8_arg h main_arg7 (by decide)) _).trans (H.W2 o c)
  w2z q o hq := by
    refine (congrFun (ops3_w2 V8) _).trans ?_
    pointwise
    exact padded_zero _ q o hq

theorem found6 : Found6 I V10 where
  u k r o := u_out (found5 H h) h.c3 k r o
  va k r o := (congrFun ((h.c3.2 (Proc.devRef .tc main_v17_1) (by decide)).trans (kept8 h main_v17_1 (by decide) (by decide))) _).trans (half_a (ga1 H h) h.c1 k r o)
  vb k r o := (congrFun ((h.c3.2 (Proc.devRef .tc main_v18_1) (by decide)).trans (keeps_ops3 _ main_v18_1 (by decide))) _).trans (half_b (gb2 H h) h.c2 k r o)
  su0 o := ustat0 (found5 H h) h.c3 o
  su1 o := ustat1 (found5 H h) h.c3 o
  sv0 o := (congrFun ((h.c3.2 (Proc.devRef .tc main_v3_1) (by decide)).trans ((kept8 h main_v3_1 (by decide) (by decide)).trans
    ((h.c1.2 _ (by decide)).trans (V6_keeps V2 main_v3_1 (by decide) (by decide) (by decide) (by decide))))) _).trans (vstat0 (x_at H) (wv_at H) h.c0 o)
  sv1 o := (congrFun ((h.c3.2 (Proc.devRef .tc main_v3_1) (by decide)).trans ((kept8 h main_v3_1 (by decide) (by decide)).trans
    ((h.c1.2 _ (by decide)).trans (V6_keeps V2 main_v3_1 (by decide) (by decide) (by decide) (by decide))))) _).trans (vstat1 (x_at H) (wv_at H) h.c0 o)
  g2 o := by
    refine (congrFun (in3 h) _).trans ?_
    rw [ops3_params, params_at]
    refine (stacked_at _ _ _ _ _ _ _ (2 : Fin 6) o).trans ?_
    exact (congrFun (V8_arg h main_arg9 (by decide)) _).trans (H.g2 o)
  be2 o := by
    refine (congrFun (in3 h) _).trans ?_
    rw [ops3_params, params_at]
    refine (stacked_at _ _ _ _ _ _ _ (3 : Fin 6) o).trans ?_
    exact (congrFun (V8_arg h main_arg10 (by decide)) _).trans (H.be2 o)
  gv o := by
    refine (congrFun (in3 h) _).trans ?_
    rw [ops3_params, params_at]
    refine (stacked_at _ _ _ _ _ _ _ (4 : Fin 6) o).trans ?_
    exact (congrFun (V8_arg h main_arg12 (by decide)) _).trans (H.gv o)
  bev o := by
    refine (congrFun (in3 h) _).trans ?_
    rw [ops3_params, params_at]
    refine (stacked_at _ _ _ _ _ _ _ (5 : Fin 6) o).trans ?_
    exact (congrFun (V8_arg h main_arg13 (by decide)) _).trans (H.bev o)

/-- What the program leaves as its first result, and as its second. -/
theorem end_att (b : Fin 4) (o : Fin 64) (q : Fin 2048) :
    (V11 (Proc.devRef .tc main_v36_0) : Vec Ideal S4x64x2048 .f32) (ix3 b o q) = ((I.att (row b q) o : ℝ) : EReal) := att_out (found6 H h) h.c4 b o q
theorem end_gf (b : Fin 4) (o : Fin 64) (q : Fin 2048) :
    (V11 (Proc.devRef .tc main_v36_1) : Vec Ideal S4x64x2048 .f32) (ix3 b o q) = ((I.gf (row b q) o : ℝ) : EReal) := gf_out (found6 H h) h.c4 b o q

end Cert.Kernel.Value

end
-- ==== Proof.Reference.Take.lean ====
/-
  The reference's taking along an axis: from indices in their batch, the element of the point that the index names.
-/
module

public import proofs.«01_k».proof.Proof.Gen.ReferenceIdeal.Run
public import proofs.«01_k».proof.Proof.Value.Args
public import Idealize.ShloMosaic.Lib.Pointwise
public import Idealize.ShloMosaic.Lib.ReduceAll

@[expose] public section

noncomputable section

namespace Cert.ReferenceIdeal.Reals

open Cert.ReferenceIdeal Cert.ReferenceIdeal.Gen Cert.ReferenceIdeal.Value Cert.Maths
open Idealize.ShloMosaic Idealize.ShloMosaic.TcCoe Idealize.SL.Sem

/-! ## Words that are small -/

theorem slt_zero {w : BitVec 32} (hw : w.toNat < 2048) : IntOp.cmpi .slt w 0#32 = 0#1 := by
  have e : w.slt 0#32 = false := by
    rw [BitVec.slt_eq_decide, decide_eq_false_iff_not]
    have e0 : (0#32).toInt = 0 := rfl
    have := BitVec.toInt_eq_toNat_cond w
    rw [e0]
    split at this <;> omega
  unfold IntOp.cmpi
  rw [e]; rfl

theorem sge_zero {w : BitVec 32} (hw : w.toNat < 2048) : IntOp.cmpi .sge w 0#32 = 1#1 := by
  have e : (0#32).sle w = true := by
    rw [BitVec.sle_eq_decide, decide_eq_true_eq]
    have e0 : (0#32).toInt = 0 := rfl
    have := BitVec.toInt_eq_toNat_cond w
    rw [e0]
    split at this <;> omega
  unfold IntOp.cmpi
  rw [e]; rfl

theorem sle_last {w : BitVec 32} (hw : w.toNat < 2048) : IntOp.cmpi .sle w 2047#32 = 1#1 := by
  have e : w.sle 2047#32 = true := by
    rw [BitVec.sle_eq_decide, decide_eq_true_eq]
    have e0 : (2047#32).toInt = 2047 := rfl
    have := BitVec.toInt_eq_toNat_cond w
    rw [e0]
    split at this <;> omega
  unfold IntOp.cmpi
  rw [e]; rfl

theorem toInt_small {w : BitVec 32} (hw : w.toNat < 2048) : w.toInt.toNat = w.toNat := by
  have := BitVec.toInt_eq_toNat_cond w
  split at this <;> omega

/-! ## The index words -/

/-- The numbers of the taking. -/
abbrev dG : GatherDims S4x64x2048 S4x64x32768x1 S4x64x32768 := gather_S4x64x2048_S4x64x32768x1_S4x64x32768_n_2_01_01_2_3_111

variable (V : Valuation τ sig (Elt Ideal))

/-- The indices in this program. -/
abbrev ind : IVec S4x2048x16 32 := V (Proc.devRef .tc main_arg1)

theorem v1_at (b : Fin 4) (c : Fin 64) (f : Fin 32768) : (res_main_v1 V : IVec S4x64x32768 32) (ix3 b c f) = ind V (ix3 b ⟨f.val / 16, by omega⟩ ⟨f.val % 16, by omega⟩) := by
  unfold res_main_v1
  pointwise

theorem v59_at (b : Fin 4) (c : Fin 1) (f : Fin 32768) : (res_main_v59 V : IVec S4x1x32768 32) (ix3 b c f) = ind V (ix3 b ⟨f.val / 16, by omega⟩ ⟨f.val % 16, by omega⟩) := by
  unfold res_main_v59
  pointwise

variable {V} (h : InBatch (ind V))
include h

theorem call0_at (b : Fin 4) (c : Fin 64) (f : Fin 32768) (e : Fin 1) :
    (res_main_call0_v5 V : IVec S4x64x32768x1 32) (ix4 b c f e) = ind V (ix3 b ⟨f.val / 16, by omega⟩ ⟨f.val % 16, by omega⟩) := by
  unfold res_main_call0_v5
  pointwise [v1_at]
  rw [slt_zero (h _)]
  rfl

theorem call4_at (b : Fin 4) (f : Fin 32768) (e : Fin 1) :
    (res_main_call4_v5 V : IVec S4x32768x1 32) (ix3 b f e) = ind V (ix3 b ⟨f.val / 16, by omega⟩ ⟨f.val % 16, by omega⟩) := by
  unfold res_main_call4_v5
  pointwise [v59_at]
  rw [slt_zero (h _)]
  rfl

/-- Every index names a point. -/
theorem named0 (i : S4x64x32768.Idx) : Host.reduce IntOp.andi (andi (cmpi .sge (res_main_call0_v5 V) (broadcastInDim S4x64x32768x1 ![] bcast_S_S4x64x32768x1 (constantI S_ 32 0#32)))
    (cmpi .sle (res_main_call0_v5 V) (broadcastInDim S4x64x32768x1 ![0, 1, 2, 3] bcast_S1x1x1x1_S4x64x32768x1_0_1_2_3 (broadcastInDim S1x1x1x1 ![3] bcast_S1_S1x1x1x1_3 (constantI S1 32 2047#32)))))
    (constantI S_ 1 1#1) reducesTo_S4x64x32768x1_S4x64x32768_d3 h_S_ i = 1#1 := by
  refine Host.reduce_andi_one _ _ _ _ _ rfl fun k => ?_
  obtain ⟨b, c, f, e, rfl⟩ : ∃ (b : Fin 4) (c : Fin 64) (f : Fin 32768) (e : Fin 1), k = ix4 b c f e := ⟨k 0, k 1, k 2, k 3, (ix4_eta k).symm⟩
  show IntOp.andi (IntOp.cmpi .sge ((res_main_call0_v5 V : IVec S4x64x32768x1 32) (ix4 b c f e)) 0#32) (IntOp.cmpi .sle ((res_main_call0_v5 V : IVec S4x64x32768x1 32) (ix4 b c f e)) 2047#32) = 1#1
  rw [call0_at h, sge_zero (h _), sle_last (h _)]
  rfl

theorem named4 (i : S4x32768.Idx) : Host.reduce IntOp.andi (andi (cmpi .sge (res_main_call4_v5 V) (broadcastInDim S4x32768x1 ![] bcast_S_S4x32768x1 (constantI S_ 32 0#32)))
    (cmpi .sle (res_main_call4_v5 V) (broadcastInDim S4x32768x1 ![0, 1, 2] bcast_S1x1x1_S4x32768x1_0_1_2 (broadcastInDim S1x1x1 ![2] bcast_S1_S1x1x1_2 (constantI S1 32 2047#32)))))
    (constantI S_ 1 1#1) reducesTo_S4x32768x1_S4x32768_d2 h_S_ i = 1#1 := by
  refine Host.reduce_andi_one _ _ _ _ _ rfl fun k => ?_
  obtain ⟨b, f, e, rfl⟩ : ∃ (b : Fin 4) (f : Fin 32768) (e : Fin 1), k = ix3 b f e := ⟨k 0, k 1, k 2, (ix3_eta k).symm⟩
  show IntOp.andi (IntOp.cmpi .sge ((res_main_call4_v5 V : IVec S4x32768x1 32) (ix3 b f e)) 0#32) (IntOp.cmpi .sle ((res_main_call4_v5 V : IVec S4x32768x1 32) (ix3 b f e)) 2047#32) = 1#1
  rw [call4_at h, sge_zero (h _), sle_last (h _)]
  rfl

omit h in
/-- The place of the word that an element of the result reads. -/
theorem place (i : S4x64x32768.Idx) (c : Fin dG.startIndexMap.length) : dG.siIdx i c = ix4 (n0 := 4) (n1 := 64) (n2 := 32768) (n3 := 1) (i 0) (i 1) (i 2) 0 := by
  have hc : c.val = 0 := by have : c.val < 1 := c.isLt; omega
  funext b
  apply Fin.ext
  match b with
  | ⟨0, _⟩ => rfl
  | ⟨1, _⟩ => rfl
  | ⟨2, _⟩ => rfl
  | ⟨3, _⟩ => exact hc

theorem gathered (Y : FVec Ideal S4x64x2048 .f32) (b : Fin 4) (c : Fin 64) (f : Fin 32768) :
    Host.gather dG Y (res_main_call0_v5 V) (ix3 b c f) = Y (ix3 b c ⟨(ind V (ix3 b ⟨f.val / 16, by omega⟩ ⟨f.val % 16, by omega⟩)).toNat, h _⟩) := by
  have hl := h (ix3 b ⟨f.val / 16, by omega⟩ ⟨f.val % 16, by omega⟩)
  unfold Host.gather
  congr 1
  funext a
  apply Fin.ext
  show dG.start (ix3 b c f) (res_main_call0_v5 V) a + dG.batchCoord (ix3 b c f) a + dG.offCoord (ix3 b c f) a = _
  match a with
  | ⟨0, _⟩ =>
    have h0 : dG.start (ix3 b c f) (res_main_call0_v5 V) ⟨0, by decide⟩ = 0 := dG.start_batching _ _ _ (by decide)
    rw [h0, show dG.batchCoord (ix3 b c f) ⟨0, by decide⟩ = b.val from rfl, show dG.offCoord (ix3 b c f) ⟨0, by decide⟩ = 0 from rfl]
    exact Nat.zero_add _
  | ⟨1, _⟩ =>
    have h0 : dG.start (ix3 b c f) (res_main_call0_v5 V) ⟨1, by decide⟩ = 0 := dG.start_batching _ _ _ (by decide)
    rw [h0, show dG.batchCoord (ix3 b c f) ⟨1, by decide⟩ = c.val from rfl, show dG.offCoord (ix3 b c f) ⟨1, by decide⟩ = 0 from rfl]
    exact Nat.zero_add _
  | ⟨2, _⟩ =>
    have h0 : dG.start (ix3 b c f) (res_main_call0_v5 V) ⟨2, by decide⟩ = (ind V (ix3 b ⟨f.val / 16, by omega⟩ ⟨f.val % 16, by omega⟩)).toNat := by
      unfold GatherDims.start
      rw [dif_pos (show (⟨2, by decide⟩ : Fin 3) ∈ dG.startIndexMap by decide), place]
      refine (congrArg (fun w : BitVec 32 => min w.toInt.toNat _) (call0_at h b c f 0)).trans ?_
      rw [toInt_small hl]
      exact Nat.min_eq_left (show _ ≤ 2047 by omega)
    rw [h0, show dG.batchCoord (ix3 b c f) ⟨2, by decide⟩ = 0 from rfl, show dG.offCoord (ix3 b c f) ⟨2, by decide⟩ = 0 from rfl]
    rfl

/-- The neighbours' elements. -/
def take (V : Valuation τ sig (Elt Ideal)) (Y : FVec Ideal S4x64x2048 .f32) : FVec Ideal S4x64x2048x16 .f32 :=
  shapeCast _ (select (Host.reduce IntOp.andi (andi (cmpi .sge (res_main_call0_v5 V) (broadcastInDim S4x64x32768x1 ![] bcast_S_S4x64x32768x1 (constantI S_ 32 0#32)))
    (cmpi .sle (res_main_call0_v5 V) (broadcastInDim S4x64x32768x1 ![0, 1, 2, 3] bcast_S1x1x1x1_S4x64x32768x1_0_1_2_3 (broadcastInDim S1x1x1x1 ![3] bcast_S1_S1x1x1x1_3 (constantI S1 32 2047#32)))))
    (constantI S_ 1 1#1) reducesTo_S4x64x32768x1_S4x64x32768_d3 h_S_) (Host.gather dG Y (res_main_call0_v5 V)) (broadcastInDim S4x64x32768 ![] bcast_S_S4x64x32768 (constant S_ .f32 0x7FC00000#32)))
    shapeCasts_S4x64x32768_S4x64x2048x16

theorem take_at (Y : FVec Ideal S4x64x2048 .f32) (b : Fin 4) (c : Fin 64) (n : Fin 2048) (k : Fin 16) :
    take V Y (ix4 b c n k) = Y (ix3 b c ⟨(ind V (ix3 b n k)).toNat, h _⟩) := by
  unfold take
  pointwise [named0 h, gathered h]
  have hn : (n.val * 16 + k.val) / 16 = n.val := by omega
  have hk : (n.val * 16 + k.val) % 16 = k.val := by omega
  refine congrArg (fun p => Y (ix3 b c p)) (Fin.ext ?_)
  show (ind V (ix3 b _ _)).toNat = (ind V (ix3 b n k)).toNat
  exact congrArg (fun j => (ind V j).toNat) (congr (congrArg (ix3 b) (Fin.ext hn)) (Fin.ext hk))

/-- The mask at the neighbours, where all of it is set. -/
theorem v61_at (hm : ∀ j, (V (Proc.devRef .tc main_arg2) : IVec S4x1x2048 1) j = 1#1) (b : Fin 4) (c : Fin 1) (n : Fin 2048) (k : Fin 16) :
    ((res_main_v61 V : FVec Ideal S4x1x2048x16 .f32) (ix4 b c n k) : EReal) = ((1 : ℝ) : EReal) := by
  have e : (uitofp .f32 (V (Proc.devRef .tc main_arg2) : IVec S4x1x2048 1) : FVec Ideal S4x1x2048 .f32) = fun _ => ((1 : ℝ) : EReal) := by
    funext j
    show FloatOps.uitofp (F := Ideal) .f32 ((V (Proc.devRef .tc main_arg2) : IVec S4x1x2048 1) j) = _
    rw [hm j]
    norm_num [FloatOps.uitofp]
  unfold res_main_v61
  rw [e]
  pointwise [named4 h]
  rfl

end Cert.ReferenceIdeal.Reals

end
-- ==== Proof.Reference.Norm.lean ====
/-
  The reference's normalizing over the reals.
-/
module

public import proofs.«01_k».proof.Proof.Gen.ReferenceIdeal.Run
public import proofs.«01_k».proof.Proof.Value.Args
public import Idealize.ShloMosaic.Lib.Pointwise

@[expose] public section

noncomputable section

namespace Cert.ReferenceIdeal.Reals

open Cert.ReferenceIdeal Cert.ReferenceIdeal.Gen Cert.Maths
open Idealize.ShloMosaic Idealize.ShloMosaic.TcCoe Idealize.SL.Sem

/-! ## Sums over all but the channels -/

theorem drop4 (i : S4x64x2048x16.Idx) : (reducesTo_S4x64x2048x16_S64_d0_2_3.drop i 0).val = (i 1).val := rfl
theorem drop3 (i : S4x64x2048.Idx) : (reducesTo_S4x64x2048_S64_d0_2.drop i 0).val = (i 1).val := rfl

theorem back4 (i : S4x64x2048x16.Idx) (o : Fin 64) (ho : reducesTo_S4x64x2048x16_S64_d0_2_3.drop i = ix1 o) :
    (ix4 (batch (row (i 0) (i 2))) o (point (row (i 0) (i 2))) (i 3) : S4x64x2048x16.Idx) = i := by
  obtain ⟨b, o', n, k, rfl⟩ : ∃ (b : Fin 4) (o' : Fin 64) (n : Fin 2048) (k : Fin 16), i = ix4 b o' n k := ⟨i 0, i 1, i 2, i 3, (ix4_eta i).symm⟩
  obtain rfl : o' = o := Fin.ext ((drop4 (ix4 b o' n k)).symm.trans (congrArg (fun j : S64.Idx => (j 0).val) ho))
  show (ix4 (batch (row b n)) o' (point (row b n)) k : S4x64x2048x16.Idx) = ix4 b o' n k
  rw [batch_row, point_row]

theorem back3 (i : S4x64x2048.Idx) (o : Fin 64) (ho : reducesTo_S4x64x2048_S64_d0_2.drop i = ix1 o) :
    (ix3 (batch (row (i 0) (i 2))) o (point (row (i 0) (i 2))) : S4x64x2048.Idx) = i := by
  obtain ⟨b, o', n, rfl⟩ : ∃ (b : Fin 4) (o' : Fin 64) (n : Fin 2048), i = ix3 b o' n := ⟨i 0, i 1, i 2, (ix3_eta i).symm⟩
  obtain rfl : o' = o := Fin.ext ((drop3 (ix3 b o' n)).symm.trans (congrArg (fun j : S64.Idx => (j 0).val) ho))
  show (ix3 (batch (row b n)) o' (point (row b n)) : S4x64x2048.Idx) = ix3 b o' n
  rw [batch_row, point_row]

theorem sum4 (h : FVec Ideal S4x64x2048x16 .f32) (o : Fin 64) :
    Ideal.hostReduceAdd reducesTo_S4x64x2048x16_S64_d0_2_3 h 0 (ix1 o) = ∑ p : Pair, (h (ix4 (batch p.2) o (point p.2) p.1) : EReal) := by
  unfold Ideal.hostReduceAdd
  rw [zero_add]
  refine Finset.sum_bij' (fun i _ => ((i 3, row (i 0) (i 2)) : Pair)) (fun p _ => ix4 (batch p.2) o (point p.2) p.1)
    (fun i hi => Finset.mem_univ _) (fun p _ => ?_) (fun i hi => back4 i o (Finset.mem_filter.1 hi).2) (fun p _ => Prod.ext rfl (row_of p.2))
    (fun i hi => congrArg h (back4 i o (Finset.mem_filter.1 hi).2).symm)
  refine Finset.mem_filter.2 ⟨Finset.mem_univ _, funext fun a => ?_⟩
  obtain rfl : a = 0 := Subsingleton.elim (α := Fin 1) _ _
  exact Fin.ext (drop4 _)

theorem sum3 (h : FVec Ideal S4x64x2048 .f32) (o : Fin 64) :
    Ideal.hostReduceAdd reducesTo_S4x64x2048_S64_d0_2 h 0 (ix1 o) = ∑ r : Fin 8192, (h (ix3 (batch r) o (point r)) : EReal) := by
  unfold Ideal.hostReduceAdd
  rw [zero_add]
  refine Finset.sum_bij' (fun i _ => row (i 0) (i 2)) (fun r _ => ix3 (batch r) o (point r))
    (fun i hi => Finset.mem_univ _) (fun p _ => ?_) (fun i hi => back3 i o (Finset.mem_filter.1 hi).2) (fun r _ => row_of r)
    (fun i hi => congrArg h (back3 i o (Finset.mem_filter.1 hi).2).symm)
  refine Finset.mem_filter.2 ⟨Finset.mem_univ _, funext fun a => ?_⟩
  obtain rfl : a = 0 := Subsingleton.elim (α := Fin 1) _ _
  exact Fin.ext (drop3 _)

/-! ## Normalizing with two axes of points -/

section Pairs

variable (h : FVec Ideal S4x64x2048x16 .f32) (g be : FVec Ideal S64 .f32)

/-- The mean of each channel. -/
def mean4 : FVec Ideal S1x64x1x1 .f32 :=
  Host.divf (broadcastInDim S1x64x1x1 ![1] bcast_S64_S1x64x1x1_1 (Host.reduceAdd h (constant S_ .f32 0x00000000#32) reducesTo_S4x64x2048x16_S64_d0_2_3 h_S_)) (broadcastInDim S1x64x1x1 ![] bcast_S_S1x64x1x1 (constant S_ .f32 0x48000000#32))
/-- The elements less it. -/
def less4 : FVec Ideal S4x64x2048x16 .f32 := subf h (broadcastInDim S4x64x2048x16 ![0, 1, 2, 3] bcast_S1x64x1x1_S4x64x2048x16_0_1_2_3 (mean4 h))
/-- How many there are of each. -/
def count4 : FVec Ideal S_ .f32 := subf (constant S_ .f32 0x48000000#32) (sitofp .f32 (constantI S_ 32 0#32))
/-- The variance of each channel. -/
def var4 : FVec Ideal S1x64x1x1 .f32 :=
  select (broadcastInDim S1x64x1x1 ![] bcast_S_S1x64x1x1 (cmpf .ogt count4 (constant S_ .f32 0x00000000#32)))
    (Host.divf (broadcastInDim S1x64x1x1 ![1] bcast_S64_S1x64x1x1_1 (Host.reduceAdd (mulf (less4 h) (less4 h)) (constant S_ .f32 0x00000000#32) reducesTo_S4x64x2048x16_S64_d0_2_3 h_S_)) (broadcastInDim S1x64x1x1 ![] bcast_S_S1x64x1x1 count4))
    (broadcastInDim S1x64x1x1 ![] bcast_S_S1x64x1x1 (id (constant S_ .f32 0x7FC00000#32)))
/-- The elements normalized. -/
def norm4 : FVec Ideal S4x64x2048x16 .f32 :=
  addf (mulf (Host.divf (less4 h) (broadcastInDim S4x64x2048x16 ![0, 1, 2, 3] bcast_S1x64x1x1_S4x64x2048x16_0_1_2_3 (Host.sqrt (addf (var4 h) (broadcastInDim S1x64x1x1 ![] bcast_S_S1x64x1x1 (constant S_ .f32 0x3727C5AC#32))))))
    (broadcastInDim S4x64x2048x16 ![0, 1, 2, 3] bcast_S1x64x1x1_S4x64x2048x16_0_1_2_3 (shapeCast _ g shapeCasts_S64_S1x64x1x1))) (broadcastInDim S4x64x2048x16 ![0, 1, 2, 3] bcast_S1x64x1x1_S4x64x2048x16_0_1_2_3 (shapeCast _ be shapeCasts_S64_S1x64x1x1))

theorem count4_at (i : S_.Idx) : (count4 i : EReal) = ((131072 : ℝ) : EReal) := by
  unfold count4
  pointwise
  rw [bits_pairs, show FloatOps.sitofp (F := Ideal) .f32 0#32 = (((0 : ℝ)) : EReal) by norm_num [FloatOps.sitofp], ← EReal.coe_sub, sub_zero]

variable {h g be} {f : Pair → Fin 64 → ℝ} (hf : ∀ k b o n, h (ix4 b o n k) = ((f (k, row b n) o : ℝ) : EReal))
include hf

theorem mean4_at (a : Fin 1) (o : Fin 64) (c e : Fin 1) : (mean4 h (ix4 a o c e) : EReal) = ((mean nPairs (fun p => f p o) : ℝ) : EReal) := by
  unfold mean4
  pointwise
  rw [sum4, bits_pairs, Finset.sum_congr rfl fun p _ => (hf p.1 _ o _).trans (by rw [row_of]), ← coe_sum, div_coe _ _ (by norm_num)]
  rfl

theorem less4_at (k : Fin 16) (b : Fin 4) (o : Fin 64) (n : Fin 2048) :
    (less4 h (ix4 b o n k) : EReal) = ((f (k, row b n) o - mean nPairs (fun p => f p o) : ℝ) : EReal) := by
  unfold less4
  pointwise [mean4_at hf, hf]
  rw [← EReal.coe_sub]

theorem var4_at (a : Fin 1) (o : Fin 64) (c e : Fin 1) : (var4 h (ix4 a o c e) : EReal) = ((var nPairs (fun p => f p o) : ℝ) : EReal) := by
  unfold var4
  pointwise [count4_at]
  rw [if_pos (EReal.coe_pos.2 (by norm_num : (0 : ℝ) < 131072)), sum4,
    Finset.sum_congr rfl fun p _ => (congrArg₂ (fun a b : EReal => a * b) (less4_at hf p.1 (batch p.2) o (point p.2)) (less4_at hf p.1 (batch p.2) o (point p.2))).trans (by rw [row_of, ← EReal.coe_mul]),
    ← coe_sum, div_coe _ _ (by norm_num)]
  rfl

theorem norm4_at {g' be' : Fin 64 → ℝ} (hg : ∀ o, g (ix1 o) = ((g' o : ℝ) : EReal)) (hbe : ∀ o, be (ix1 o) = ((be' o : ℝ) : EReal)) (k : Fin 16) (b : Fin 4) (o : Fin 64) (n : Fin 2048) :
    (norm4 h g be (ix4 b o n k) : EReal) = ((norm nPairs (fun p => f p o) (g' o) (be' o) (k, row b n) : ℝ) : EReal) := by
  unfold norm4
  pointwise [less4_at hf, var4_at hf, hg, hbe]
  have hp : 0 < var nPairs (fun p => f p o) + eps := add_pos_of_nonneg_of_pos (var_nonneg _ pairs_pos _) eps_pos
  rw [bits_eps, ← EReal.coe_add, sqrt_coe _ hp.le, div_coe _ _ (Real.sqrt_ne_zero'.2 hp), ← EReal.coe_mul, ← EReal.coe_add]
  rfl

end Pairs

/-! ## Normalizing with one axis of points -/

section Points

variable (h : FVec Ideal S4x64x2048 .f32) (g be : FVec Ideal S64 .f32)

/-- The mean of each channel, the elements less it, their number, the variance, and the elements normalized. -/
def mean3 : FVec Ideal S1x64x1 .f32 :=
  Host.divf (broadcastInDim S1x64x1 ![1] bcast_S64_S1x64x1_1 (Host.reduceAdd h (constant S_ .f32 0x00000000#32) reducesTo_S4x64x2048_S64_d0_2 h_S_)) (broadcastInDim S1x64x1 ![] bcast_S_S1x64x1 (constant S_ .f32 0x46000000#32))
def less3 : FVec Ideal S4x64x2048 .f32 := subf h (broadcastInDim S4x64x2048 ![0, 1, 2] bcast_S1x64x1_S4x64x2048_0_1_2 (mean3 h))
def count3 : FVec Ideal S_ .f32 := subf (constant S_ .f32 0x46000000#32) (sitofp .f32 (constantI S_ 32 0#32))
def var3 : FVec Ideal S1x64x1 .f32 :=
  select (broadcastInDim S1x64x1 ![] bcast_S_S1x64x1 (cmpf .ogt count3 (constant S_ .f32 0x00000000#32)))
    (Host.divf (broadcastInDim S1x64x1 ![1] bcast_S64_S1x64x1_1 (Host.reduceAdd (mulf (less3 h) (less3 h)) (constant S_ .f32 0x00000000#32) reducesTo_S4x64x2048_S64_d0_2 h_S_)) (broadcastInDim S1x64x1 ![] bcast_S_S1x64x1 count3))
    (broadcastInDim S1x64x1 ![] bcast_S_S1x64x1 (id (constant S_ .f32 0x7FC00000#32)))
def norm3 : FVec Ideal S4x64x2048 .f32 :=
  addf (mulf (Host.divf (less3 h) (broadcastInDim S4x64x2048 ![0, 1, 2] bcast_S1x64x1_S4x64x2048_0_1_2 (Host.sqrt (addf (var3 h) (broadcastInDim S1x64x1 ![] bcast_S_S1x64x1 (constant S_ .f32 0x3727C5AC#32))))))
    (broadcastInDim S4x64x2048 ![0, 1, 2] bcast_S1x64x1_S4x64x2048_0_1_2 (shapeCast _ g shapeCasts_S64_S1x64x1))) (broadcastInDim S4x64x2048 ![0, 1, 2] bcast_S1x64x1_S4x64x2048_0_1_2 (shapeCast _ be shapeCasts_S64_S1x64x1))

theorem count3_at (i : S_.Idx) : (count3 i : EReal) = ((8192 : ℝ) : EReal) := by
  unfold count3
  pointwise
  rw [bits_points, show FloatOps.sitofp (F := Ideal) .f32 0#32 = (((0 : ℝ)) : EReal) by norm_num [FloatOps.sitofp], ← EReal.coe_sub, sub_zero]

variable {h g be} {f : Fin 8192 → Fin 64 → ℝ} (hf : ∀ b o n, h (ix3 b o n) = ((f (row b n) o : ℝ) : EReal))
include hf

theorem mean3_at (a : Fin 1) (o : Fin 64) (c : Fin 1) : (mean3 h (ix3 a o c) : EReal) = ((mean nPoints (fun r => f r o) : ℝ) : EReal) := by
  unfold mean3
  pointwise
  rw [sum3, bits_points, Finset.sum_congr rfl fun r _ => (hf _ o _).trans (by rw [row_of]), ← coe_sum, div_coe _ _ (by norm_num)]
  rfl

theorem less3_at (b : Fin 4) (o : Fin 64) (n : Fin 2048) :
    (less3 h (ix3 b o n) : EReal) = ((f (row b n) o - mean nPoints (fun r => f r o) : ℝ) : EReal) := by
  unfold less3
  pointwise [mean3_at hf, hf]
  rw [← EReal.coe_sub]

theorem var3_at (a : Fin 1) (o : Fin 64) (c : Fin 1) : (var3 h (ix3 a o c) : EReal) = ((var nPoints (fun r => f r o) : ℝ) : EReal) := by
  unfold var3
  pointwise [count3_at]
  have e : ∀ r : Fin 8192, (mulf (less3 h) (less3 h) (ix3 (batch r) o (point r)) : EReal) = (((f r o - mean nPoints fun r => f r o) * (f r o - mean nPoints fun r => f r o) : ℝ) : EReal) := fun r =>
    (congrArg₂ (fun a b : EReal => a * b) (less3_at hf (batch r) o (point r)) (less3_at hf (batch r) o (point r))).trans (by rw [row_of, ← EReal.coe_mul])
  rw [if_pos (EReal.coe_pos.2 (by norm_num : (0 : ℝ) < 8192)), sum3, Finset.sum_congr rfl fun r _ => e r,
    ← coe_sum, div_coe _ _ (by norm_num)]
  rfl

theorem norm3_at {g' be' : Fin 64 → ℝ} (hg : ∀ o, g (ix1 o) = ((g' o : ℝ) : EReal)) (hbe : ∀ o, be (ix1 o) = ((be' o : ℝ) : EReal)) (b : Fin 4) (o : Fin 64) (n : Fin 2048) :
    (norm3 h g be (ix3 b o n) : EReal) = ((norm nPoints (fun r => f r o) (g' o) (be' o) (row b n) : ℝ) : EReal) := by
  unfold norm3
  pointwise [less3_at hf, var3_at hf, hg, hbe]
  have hp : 0 < var nPoints (fun r => f r o) + eps := add_pos_of_nonneg_of_pos (var_nonneg _ points_pos _) eps_pos
  rw [bits_eps, ← EReal.coe_add, sqrt_coe _ hp.le, div_coe _ _ (Real.sqrt_ne_zero'.2 hp), ← EReal.coe_mul, ← EReal.coe_add]
  rfl

end Points

end Cert.ReferenceIdeal.Reals

end
-- ==== Proof.Reference.Stages.lean ====
/-
  The reference's stages between its normalizations, each on any arrays whose elements are real numbers.
-/
module

public import proofs.«01_k».proof.Proof.Gen.ReferenceIdeal.Run
public import proofs.«01_k».proof.Proof.Value.Args
public import Idealize.ShloMosaic.Lib.Pointwise

@[expose] public section

noncomputable section

namespace Cert.ReferenceIdeal.Reals

open Cert.ReferenceIdeal Cert.ReferenceIdeal.Gen Cert.Maths
open Idealize.ShloMosaic

/-- An array over the edges. -/
abbrev Edges : Type := FVec Ideal S4x64x2048x16 .f32

/-- An array over the points. -/
abbrev Points : Type := FVec Ideal S4x64x2048 .f32

/-- A linear map of the channels, and a constant. -/
def affine (x : Edges) (w : FVec Ideal S64x64 .f32) (c : FVec Ideal S64 .f32) : Edges :=
  addf (transpose S4x64x2048x16 [0, 3, 1, 2] (Host.dotGeneral dot_S4x64x2048x16_S64x64_S4x2048x16x64_1_1_023_0_n_n none x w) transposes_S4x2048x16x64_S4x64x2048x16_0_3_1_2)
    (broadcastInDim S4x64x2048x16 ![0, 1, 2, 3] bcast_S1x64x1x1_S4x64x2048x16_0_1_2_3 (broadcastInDim S1x64x1x1 ![1] bcast_S64_S1x64x1x1_1 c))

theorem affine_at {x : Edges} {w : FVec Ideal S64x64 .f32} {c : FVec Ideal S64 .f32} {f : Fin 64 → ℝ} {w' : Fin 64 → Fin 64 → ℝ} {c' : Fin 64 → ℝ}
    (b : Fin 4) (n : Fin 2048) (k : Fin 16) (o : Fin 64)
    (hx : ∀ o, x (ix4 b o n k) = ((f o : ℝ) : EReal)) (hw : ∀ o p, w (ix2 o p) = ((w' o p : ℝ) : EReal)) (hc : ∀ o, c (ix1 o) = ((c' o : ℝ) : EReal)) :
    (affine x w c (ix4 b o n k) : EReal) = (((∑ p, f p * w' o p) + c' o : ℝ) : EReal) := by
  unfold affine
  pointwise [hx, hw, hc]
  rw [EReal.coe_add, coe_sum]
  simp only [EReal.coe_mul]

/-- The same map over the points, without a constant. -/
def linear (x : Points) (w : FVec Ideal S64x64 .f32) : Points :=
  transpose S4x64x2048 [0, 2, 1] (Host.dotGeneral dot_S4x64x2048_S64x64_S4x2048x64_1_1_02_0_n_n none x w) transposes_S4x2048x64_S4x64x2048_0_2_1

theorem linear_at {x : Points} {w : FVec Ideal S64x64 .f32} {f : Fin 64 → ℝ} {w' : Fin 64 → Fin 64 → ℝ} (b : Fin 4) (n : Fin 2048) (o : Fin 64)
    (hx : ∀ o, x (ix3 b o n) = ((f o : ℝ) : EReal)) (hw : ∀ o p, w (ix2 o p) = ((w' o p : ℝ) : EReal)) :
    (linear x w (ix3 b o n) : EReal) = ((∑ p, f p * w' o p : ℝ) : EReal) := by
  unfold linear
  pointwise [hx, hw]
  rw [coe_sum]
  simp only [EReal.coe_mul]

/-- An edge's array less its point's. -/
def lessOwn (t : Edges) (x : Points) : Edges :=
  subf t (broadcastInDim S4x64x2048x16 ![0, 1, 2, 3] bcast_S4x64x2048x1_S4x64x2048x16_0_1_2_3 (broadcastInDim S4x64x2048x1 ![0, 1, 2] bcast_S4x64x2048_S4x64x2048x1_0_1_2 x))

theorem lessOwn_at {t : Edges} {x : Points} {u v : ℝ} (b : Fin 4) (c : Fin 64) (n : Fin 2048) (k : Fin 16) (ht : t (ix4 b c n k) = (u : EReal)) (hx : x (ix3 b c n) = (v : EReal)) :
    (lessOwn t x (ix4 b c n k) : EReal) = ((u - v : ℝ) : EReal) := by
  unfold lessOwn
  pointwise [ht, hx]
  rw [EReal.coe_sub]

/-- What is negative, scaled down. -/
def rect (y : Edges) : Edges :=
  select (cmpf .oge y (broadcastInDim S4x64x2048x16 ![] bcast_S_S4x64x2048x16 (constant S_ .f32 0x00000000#32))) y
    (mulf (broadcastInDim S4x64x2048x16 ![] bcast_S_S4x64x2048x16 (constant S_ .f32 0x3E4CCCCD#32)) y)

theorem rect_at {y : Edges} {v : ℝ} (b : Fin 4) (c : Fin 64) (n : Fin 2048) (k : Fin 16) (hy : y (ix4 b c n k) = (v : EReal)) :
    (rect y (ix4 b c n k) : EReal) = ((if 0 ≤ v then v else slope * v : ℝ) : EReal) := by
  unfold rect
  pointwise [hy]
  rw [bits_slope]
  by_cases h : 0 ≤ v
  · rw [if_pos h, if_pos (by exact_mod_cast h)]
  · rw [if_neg h, if_neg (by exact_mod_cast h), EReal.coe_mul]

/-- The logits, where the mask of the neighbour is on. -/
def masked (w : FVec Ideal S4x1x2048x16 .f32) (y : Edges) : Edges :=
  select (broadcastInDim S4x64x2048x16 ![0, 1, 2, 3] bcast_S4x1x2048x16_S4x64x2048x16_0_1_2_3 (cmpf .oeq w (broadcastInDim S4x1x2048x16 ![] bcast_S_S4x1x2048x16 (constant S_ .f32 0x00000000#32)))) (broadcastInDim S4x64x2048x16 ![] bcast_S_S4x64x2048x16 (id (constant S_ .f32 0xFF800000#32))) y

theorem masked_at {w : FVec Ideal S4x1x2048x16 .f32} (hw : ∀ b c n k, w (ix4 b c n k) = ((1 : ℝ) : EReal)) {y : Edges} (b : Fin 4) (c : Fin 64) (n : Fin 2048) (k : Fin 16) :
    (masked w y (ix4 b c n k) : EReal) = y (ix4 b c n k) := by
  unfold masked
  pointwise [hw]
  rw [if_neg]
  rw [EReal.coe_one]
  exact one_ne_zero

/-- The greatest over a point's neighbours. -/
def peak (z : Edges) : Points := Host.reduce FloatOps.maximumf z (constant S_ .f32 0xFF800000#32) reducesTo_S4x64x2048x16_S4x64x2048_d3 h_S_

theorem peak_at {z : Edges} {f : Fin 16 → ℝ} (b : Fin 4) (o : Fin 64) (n : Fin 2048) (hz : ∀ k, z (ix4 b o n k) = ((f k : ℝ) : EReal)) : (peak z (ix3 b o n) : EReal) = ((most f : ℝ) : EReal) := by
  unfold peak
  pointwise [hz]
  rw [bits_bot]
  exact fold_most f

/-- The exponentials of what is left of a number per point, or of none. -/
def expOf (z : Edges) (p : Points) : Edges :=
  Host.exp (subf z (broadcastInDim S4x64x2048x16 ![0, 1, 2, 3] bcast_S4x64x2048x1_S4x64x2048x16_0_1_2_3 (broadcastInDim S4x64x2048x1 ![0, 1, 2] bcast_S4x64x2048_S4x64x2048x1_0_1_2
    (maximumf (broadcastInDim S4x64x2048 ![] bcast_S_S4x64x2048 (constant S_ .f32 0xFF800000#32)) p))))

theorem expOf_at {z : Edges} {p : Points} {u v : ℝ} (b : Fin 4) (o : Fin 64) (n : Fin 2048) (k : Fin 16) (hz : z (ix4 b o n k) = (u : EReal)) (hp : p (ix3 b o n) = (v : EReal)) :
    (expOf z p (ix4 b o n k) : EReal) = ((Real.exp (u - v) : ℝ) : EReal) := by
  unfold expOf
  pointwise [hz, hp]
  rw [bits_bot, max_eq_right bot_le, ← EReal.coe_sub, exp_coe]

/-- Each one's part of their sum. -/
def share (e : Edges) : Edges :=
  Host.divf e (broadcastInDim S4x64x2048x16 ![0, 1, 2, 3] bcast_S4x64x2048x1_S4x64x2048x16_0_1_2_3 (broadcastInDim S4x64x2048x1 ![0, 1, 2] bcast_S4x64x2048_S4x64x2048x1_0_1_2
    (Host.reduceAdd e (constant S_ .f32 0x00000000#32) reducesTo_S4x64x2048x16_S4x64x2048_d3 h_S_)))

theorem share_at {e : Edges} {f : Fin 16 → ℝ} (b : Fin 4) (o : Fin 64) (n : Fin 2048) (he : ∀ k, e (ix4 b o n k) = ((f k : ℝ) : EReal)) (hs : (∑ j, f j) ≠ 0) (k : Fin 16) :
    (share e (ix4 b o n k) : EReal) = ((f k / ∑ j, f j : ℝ) : EReal) := by
  unfold share
  pointwise [he]
  rw [← coe_sum, div_coe _ _ hs]

/-- What is no number, made zero. -/
def noNan (w : Edges) : Edges := select (cmpf .une w w) (broadcastInDim S4x64x2048x16 ![] bcast_S_S4x64x2048x16 (id (constant S_ .f32 0x00000000#32))) w

/-- One value, made another. -/
def instead (a c : BitVec 32) (w : Edges) : Edges :=
  select (cmpf .oeq w (broadcastInDim S4x64x2048x16 ![] bcast_S_S4x64x2048x16 (constant S_ .f32 a))) (broadcastInDim S4x64x2048x16 ![] bcast_S_S4x64x2048x16 (constant S_ .f32 c)) w

theorem noNan_at {w : Edges} {v : ℝ} (b : Fin 4) (o : Fin 64) (n : Fin 2048) (k : Fin 16) (hw : w (ix4 b o n k) = (v : EReal)) : (noNan w (ix4 b o n k) : EReal) = (v : EReal) := by
  unfold noNan
  pointwise [hw]
  rw [if_neg (not_not.2 rfl)]

theorem instead_at {a c : BitVec 32} {w : Edges} {v : ℝ} (ha : (v : EReal) ≠ Ideal.ofBits .f32 a) (b : Fin 4) (o : Fin 64) (n : Fin 2048) (k : Fin 16) (hw : w (ix4 b o n k) = (v : EReal)) :
    (instead a c w (ix4 b o n k) : EReal) = (v : EReal) := by
  unfold instead
  pointwise [hw]
  rw [if_neg ha]

/-- The weighted sum over the neighbours, rectified and masked. -/
def pooled (w t : Edges) (m : FVec Ideal S4x1x2048 .f32) : Points :=
  mulf (maximumf (Host.reduceAdd (mulf w t) (constant S_ .f32 0x00000000#32) reducesTo_S4x64x2048x16_S4x64x2048_d3 h_S_) (broadcastInDim S4x64x2048 ![] bcast_S_S4x64x2048 (constant S_ .f32 0x00000000#32)))
    (broadcastInDim S4x64x2048 ![0, 1, 2] bcast_S4x1x2048_S4x64x2048_0_1_2 m)

theorem pooled_at {w t : Edges} {m : FVec Ideal S4x1x2048 .f32} {f g : Fin 16 → ℝ} (b : Fin 4) (o : Fin 64) (n : Fin 2048) (hw : ∀ k, w (ix4 b o n k) = ((f k : ℝ) : EReal))
    (ht : ∀ k, t (ix4 b o n k) = ((g k : ℝ) : EReal)) (hm : ∀ c, m (ix3 b c n) = ((1 : ℝ) : EReal)) :
    (pooled w t m (ix3 b o n) : EReal) = ((max (∑ k, f k * g k) 0 : ℝ) : EReal) := by
  unfold pooled
  pointwise [hw, ht, hm]
  rw [coe_max, coe_sum, EReal.coe_one, mul_one]
  simp only [EReal.coe_mul, EReal.coe_zero]

/-- The greatest, made zero if there is none, and masked. -/
def crest (p : Points) (m : FVec Ideal S4x1x2048 .f32) : Points :=
  mulf (select (cmpf .oeq p (broadcastInDim S4x64x2048 ![] bcast_S_S4x64x2048 (constant S_ .f32 0xFF800000#32))) (broadcastInDim S4x64x2048 ![] bcast_S_S4x64x2048 (id (constant S_ .f32 0x00000000#32))) p)
    (broadcastInDim S4x64x2048 ![0, 1, 2] bcast_S4x1x2048_S4x64x2048_0_1_2 m)

theorem crest_at {p : Points} {m : FVec Ideal S4x1x2048 .f32} {v : ℝ} (b : Fin 4) (o : Fin 64) (n : Fin 2048) (hp : p (ix3 b o n) = (v : EReal)) (hm : ∀ c, m (ix3 b c n) = ((1 : ℝ) : EReal)) :
    (crest p m (ix3 b o n) : EReal) = (v : EReal) := by
  unfold crest
  pointwise [hp, hm]
  rw [bits_bot, if_neg (EReal.coe_ne_bot v), EReal.coe_one, mul_one]

/-- The mask as numbers. -/
def asOne (m : IVec S4x1x2048 1) : FVec Ideal S4x1x2048 .f32 := uitofp .f32 m

theorem asOne_at {m : IVec S4x1x2048 1} (hm : ∀ i, m i = 1#1) (b : Fin 4) (c : Fin 1) (n : Fin 2048) : (asOne m (ix3 b c n) : EReal) = ((1 : ℝ) : EReal) := by
  unfold asOne
  show FloatOps.uitofp (F := Ideal) .f32 (m (ix3 b c n)) = _
  rw [hm]
  norm_num [FloatOps.uitofp]

end Cert.ReferenceIdeal.Reals

end
-- ==== Proof.Reference.Results.lean ====
/-
  The reference's stages over the reals, up to its two results.
-/
module

public import proofs.«01_k».proof.Proof.Reference.Take
public import proofs.«01_k».proof.Proof.Reference.Norm
public import proofs.«01_k».proof.Proof.Reference.Stages

@[expose] public section

noncomputable section

namespace Cert.ReferenceIdeal.Reals

open Cert.ReferenceIdeal Cert.ReferenceIdeal.Gen Cert.ReferenceIdeal.Value Cert.Maths
open Idealize.ShloMosaic Idealize.ShloMosaic.TcCoe Idealize.SL.Sem

/-- The arguments in this program. -/
def argsOf (V : Valuation τ sig (Elt Ideal)) : Args where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)

variable (V : Valuation τ sig (Elt Ideal))

/-- The greatest logit of a point. -/
def top : Points := peak (res_main_v64 V)

/-- The neighbours' values. -/
def near : Edges := take V (norm3 (res_main_v78 V) (V (Proc.devRef .tc main_arg12)) (V (Proc.devRef .tc main_arg13)))

/-- The first result. -/
def result1 : Points := pooled (instead 0xFF800000#32 0xFF7FFFFF#32 (res_main_call6_v5 V)) (near V) (res_main_v111 V)

/-- The second result. -/
def result2 : Points := crest (res_main_v107 V) (res_main_v111 V)

theorem v11_eq : res_main_v11 V = affine (lessOwn (take V (V (Proc.devRef .tc main_arg0))) (V (Proc.devRef .tc main_arg0))) (V (Proc.devRef .tc main_arg3)) (V (Proc.devRef .tc main_arg4)) := rfl
theorem v29_eq : res_main_v29 V = norm4 (res_main_v11 V) (V (Proc.devRef .tc main_arg5)) (V (Proc.devRef .tc main_arg6)) := rfl
theorem v39_eq : res_main_v39 V = affine (rect (res_main_v29 V)) (V (Proc.devRef .tc main_arg7)) (V (Proc.devRef .tc main_arg8)) := rfl
theorem v57_eq : res_main_v57 V = norm4 (res_main_v39 V) (V (Proc.devRef .tc main_arg9)) (V (Proc.devRef .tc main_arg10)) := rfl
theorem v64_eq : res_main_v64 V = masked (res_main_v61 V) (res_main_v57 V) := rfl
theorem v71_eq : res_main_v71 V = expOf (res_main_v64 V) (top V) := rfl
theorem v75_eq : res_main_v75 V = share (res_main_v71 V) := rfl
theorem call6_v2_eq : res_main_call6_v2 V = noNan (res_main_v75 V) := rfl
theorem call6_v5_eq : res_main_call6_v5 V = instead 0x7F800000#32 0x7F7FFFFF#32 (res_main_call6_v2 V) := rfl
theorem v78_eq : res_main_v78 V = linear (V (Proc.devRef .tc main_arg0)) (V (Proc.devRef .tc main_arg11)) := rfl
theorem v107_eq : res_main_v107 V = top V := rfl
theorem v111_eq : res_main_v111 V = asOne (V (Proc.devRef .tc main_arg2)) := rfl

variable {V} {I : In} (H : Holds I (argsOf V))
include H

/-- The row of a neighbour. -/
theorem src_row (b : Fin 4) (n : Fin 2048) (k : Fin 16) : row b ⟨(ind V (ix3 b n k)).toNat, H.inb _⟩ = I.src k (row b n) := by
  refine Fin.ext ?_
  rw [H.src]
  rfl

/-- The features. -/
theorem x_at (b : Fin 4) (c : Fin 64) (n : Fin 2048) : ((V (Proc.devRef .tc main_arg0) : Points) (ix3 b c n) : EReal) = ((I.x (row b n) c : ℝ) : EReal) := H.x b c n

theorem near_x (k : Fin 16) (b : Fin 4) (c : Fin 64) (n : Fin 2048) : (take V (V (Proc.devRef .tc main_arg0)) (ix4 b c n k) : EReal) = ((I.x (I.src k (row b n)) c : ℝ) : EReal) :=
  (take_at (V := V) H.inb _ b c n k).trans ((x_at H b c _).trans (by rw [src_row H]))

theorem h1_at (k : Fin 16) (b : Fin 4) (o : Fin 64) (n : Fin 2048) : ((res_main_v11 V : Edges) (ix4 b o n k) : EReal) = ((I.h1 (k, row b n) o : ℝ) : EReal) := by
  rw [v11_eq]
  exact affine_at b n k o (fun c => lessOwn_at b c n k (near_x H k b c n) (x_at H b c n)) H.W1 H.b1

theorem y1_at (k : Fin 16) (b : Fin 4) (o : Fin 64) (n : Fin 2048) : ((res_main_v29 V : Edges) (ix4 b o n k) : EReal) = ((I.y1 (k, row b n) o : ℝ) : EReal) := by
  rw [v29_eq]
  exact norm4_at (h1_at H) H.g1 H.be1 k b o n

theorem h2_at (k : Fin 16) (b : Fin 4) (o : Fin 64) (n : Fin 2048) : ((res_main_v39 V : Edges) (ix4 b o n k) : EReal) = ((I.h2 (k, row b n) o : ℝ) : EReal) := by
  rw [v39_eq]
  exact affine_at b n k o (fun c => rect_at b c n k (y1_at H k b c n)) H.W2 H.b2

theorem y2_at (k : Fin 16) (b : Fin 4) (o : Fin 64) (n : Fin 2048) : ((res_main_v57 V : Edges) (ix4 b o n k) : EReal) = ((I.y2 (k, row b n) o : ℝ) : EReal) := by
  rw [v57_eq]
  exact norm4_at (h2_at H) H.g2 H.be2 k b o n

theorem logit_at (k : Fin 16) (b : Fin 4) (o : Fin 64) (n : Fin 2048) : ((res_main_v64 V : Edges) (ix4 b o n k) : EReal) = ((I.y2 (k, row b n) o : ℝ) : EReal) := by
  rw [v64_eq]
  exact (masked_at (v61_at (V := V) H.inb H.mask) b o n k).trans (y2_at H k b o n)

theorem top_at (b : Fin 4) (o : Fin 64) (n : Fin 2048) : (top V (ix3 b o n) : EReal) = ((I.ymax (row b n) o : ℝ) : EReal) :=
  peak_at b o n fun k => logit_at H k b o n

theorem ey_at (k : Fin 16) (b : Fin 4) (o : Fin 64) (n : Fin 2048) : ((res_main_v71 V : Edges) (ix4 b o n k) : EReal) = ((I.ey k (row b n) o : ℝ) : EReal) := by
  rw [v71_eq]
  exact expOf_at b o n k (logit_at H k b o n) (top_at H b o n)

theorem weight_at (k : Fin 16) (b : Fin 4) (o : Fin 64) (n : Fin 2048) :
    ((res_main_v75 V : Edges) (ix4 b o n k) : EReal) = ((I.ey k (row b n) o / ∑ j, I.ey j (row b n) o : ℝ) : EReal) := by
  rw [v75_eq]
  exact share_at b o n (fun k => ey_at H k b o n) (I.sum_ey_pos _ _).ne' k

theorem cleaned_at (k : Fin 16) (b : Fin 4) (o : Fin 64) (n : Fin 2048) :
    ((res_main_call6_v5 V : Edges) (ix4 b o n k) : EReal) = ((I.ey k (row b n) o / ∑ j, I.ey j (row b n) o : ℝ) : EReal) := by
  rw [call6_v5_eq, call6_v2_eq]
  exact instead_at (by rw [bits_top]; exact EReal.coe_ne_top _) b o n k (noNan_at b o n k (weight_at H k b o n))

theorem mask_at (b : Fin 4) (c : Fin 1) (n : Fin 2048) : ((res_main_v111 V : FVec Ideal S4x1x2048 .f32) (ix3 b c n) : EReal) = ((1 : ℝ) : EReal) := by
  rw [v111_eq]
  exact asOne_at H.mask b c n

theorem fv_at (b : Fin 4) (o : Fin 64) (n : Fin 2048) : ((res_main_v78 V : Points) (ix3 b o n) : EReal) = ((I.fv (row b n) o : ℝ) : EReal) := by
  rw [v78_eq]
  exact linear_at b n o (fun c => x_at H b c n) H.Wv

theorem near_at (k : Fin 16) (b : Fin 4) (o : Fin 64) (n : Fin 2048) : (near V (ix4 b o n k) : EReal) = ((I.vals (I.src k (row b n)) o : ℝ) : EReal) :=
  (take_at (V := V) H.inb _ b o n k).trans ((norm3_at (fv_at H) H.gv H.bev b o _).trans (by rw [src_row H]; rfl))

theorem result1_at (b : Fin 4) (o : Fin 64) (n : Fin 2048) : (result1 V (ix3 b o n) : EReal) = ((I.refAtt (row b n) o : ℝ) : EReal) := by
  unfold result1
  exact pooled_at b o n (fun k => instead_at (by rw [bits_bot]; exact EReal.coe_ne_bot _) b o n k (cleaned_at H k b o n)) (fun k => near_at H k b o n) fun c => mask_at H b c n

theorem result2_at (b : Fin 4) (o : Fin 64) (n : Fin 2048) : (result2 V (ix3 b o n) : EReal) = ((I.ymax (row b n) o : ℝ) : EReal) := by
  unfold result2
  rw [v107_eq]
  exact crest_at b o n (top_at H b o n) fun c => mask_at H b c n

end Cert.ReferenceIdeal.Reals

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_idx_in_range
public import proofs.«01_k».proof.Proof.Gen.Pre_inputs_ok
public import proofs.«01_k».proof.Proof.Batch
public import proofs.«01_k».proof.Proof.Same
public import proofs.«01_k».proof.Proof.Value.Chain
public import proofs.«01_k».proof.Proof.Reference.Results

@[expose] public section

noncomputable section

namespace Cert.Proof

open Idealize.ShloMosaic Idealize.SL.Sem Cert.Maths
open Cert.Kernel.Gen Cert.KernelIdeal.Gen Cert.ReferenceIdeal.Gen Cert.Pre_idx_in_range.Gen Cert.Pre_inputs_ok.Gen

/-! ## The program -/

section Program

open Cert.Kernel Cert.Kernel.Gather Cert.Kernel.Value

variable {F : FTy → Type} [FloatOps F] (m : (ℓ : Loc nD τ sig) → Buf (Elt F) ℓ)

/-- An argument ends as it began. -/
theorem kept {r : PUnit × MemSt nD τ sig (Elt F)} (q : QC m r) (d : Dev nD) (b : Ref sig .tc) (hb : b ∈ argRefs) (hu : Proc.devRef (τ := τ) .tc b ∈ Pipeline.ucRefs τ sig) :
    r.2.mem (d, Proc.devRef .tc b) = m (d, Proc.devRef .tc b) := by
  obtain ⟨V2, V7, V8, V10, V11, h, e⟩ := q.1 d
  exact (e _ hu).trans (V11_arg h b hb)

/-- All of them. -/
theorem kept_all {r : PUnit × MemSt nD τ sig (Elt F)} (q : QC m r) (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6)
    ∧ r.2.mem ((d.tc : Thread nD τ).loc main_arg7) = m ((d.tc : Thread nD τ).loc main_arg7)
    ∧ r.2.mem ((d.tc : Thread nD τ).loc main_arg8) = m ((d.tc : Thread nD τ).loc main_arg8)
    ∧ r.2.mem ((d.tc : Thread nD τ).loc main_arg9) = m ((d.tc : Thread nD τ).loc main_arg9)
    ∧ r.2.mem ((d.tc : Thread nD τ).loc main_arg10) = m ((d.tc : Thread nD τ).loc main_arg10)
    ∧ r.2.mem ((d.tc : Thread nD τ).loc main_arg11) = m ((d.tc : Thread nD τ).loc main_arg11)
    ∧ r.2.mem ((d.tc : Thread nD τ).loc main_arg12) = m ((d.tc : Thread nD τ).loc main_arg12)
    ∧ r.2.mem ((d.tc : Thread nD τ).loc main_arg13) = m ((d.tc : Thread nD τ).loc main_arg13) := by
  refine ⟨?_, ?_, ?_, ?_, ?_, ?_, ?_, ?_, ?_, ?_, ?_, ?_, ?_, ?_⟩ <;> exact kept m q d _ (by decide) (by decide)

end Program

/-- The program as printed: it runs, keeps its arguments and ends with every semaphore at zero. -/
theorem frame_p : Cert.quiescent_Kernel := fun m ρ hpre =>
  (θ_run _ _ _).mono (fun _ q => ⟨kept_all (F := Bits) m q, q.2⟩)
    (Cert.Kernel.Gather.run_main (F := Bits) m ρ (Cert.Kernel.Value.inTable m fun c => Cert.Batch.inBatch _ _ _ _ _ _ _ _ _ _ _ _ _ _ (hpre c)))

/-- The idealization's run. -/
theorem run_i (m : (ℓ : Loc Cert.KernelIdeal.nD Cert.KernelIdeal.τ Cert.KernelIdeal.sig) → Buf (Elt Ideal) ℓ) (ρ : Dev Cert.KernelIdeal.nD → PrngReg)
    (h : ∀ c : Dev Cert.Kernel.nD, InBatch (m (c, Cert.Kernel.Gather.bJ))) :
    θ_run (Cert.KernelIdeal.defs (F := Ideal)) (Cert.KernelIdeal.threads (F := Ideal)) ⟨m, fun _ => 0, ρ⟩ (Cert.Kernel.Gather.QC (F := Ideal) m) :=
  (congrArg₂ (fun D T => θ_run (sig := Cert.Kernel.sig) D T ⟨m, fun _ => 0, ρ⟩ (Cert.Kernel.Gather.QC (F := Ideal) m)) Cert.Same.defs Cert.Same.threads).mpr
    (Cert.Kernel.Gather.run_main (F := Ideal) m ρ (Cert.Kernel.Value.inTable m h))

/-- The idealization's frame, under the first precondition. -/
theorem frame_i : Cert.quiescent_KernelIdeal := fun m ρ hpre =>
  (θ_run _ _ _).mono (fun _ q => ⟨kept_all (F := Ideal) m q, q.2⟩) (run_i m ρ fun c => Cert.Batch.inBatch _ _ _ _ _ _ _ _ _ _ _ _ _ _ (hpre c))

/-- What the second precondition says of the arguments. -/
theorem args_ok (m : (ℓ : Loc Cert.KernelIdeal.nD Cert.KernelIdeal.τ Cert.KernelIdeal.sig) → Buf (Elt Ideal) ℓ) (hpre : Cert.Pre_KernelIdeal_inputs_ok m) (c : Dev Cert.Kernel.nD) :
    (Cert.Kernel.Value.argsOf m c).Ok := Cert.Batch.ok _ (hpre c)

/-- The idealization's frame, under the second. -/
theorem frame_i' : Cert.quiescent_KernelIdeal_pre_inputs_ok := fun m ρ hpre =>
  (θ_run _ _ _).mono (fun _ q => ⟨kept_all (F := Ideal) m q, q.2⟩) (run_i m ρ fun c => (args_ok m hpre c).inb)

/-- The reference's frame. -/
theorem frame_r : Cert.quiescent_ReferenceIdeal := fun m ρ _ =>
  (θ_run _ _ _).mono (fun r h => ⟨fun c => (h c).2.2, sem_eq_zero_of_no_sems (by decide) r.2⟩) (Cert.ReferenceIdeal.Value.run (F := Ideal) m ρ)

/-! ## The results -/

theorem args_eq {A B : Args} (h0 : A.a0 = B.a0) (h1 : A.a1 = B.a1) (h2 : A.a2 = B.a2) (h3 : A.a3 = B.a3) (h4 : A.a4 = B.a4) (h5 : A.a5 = B.a5) (h6 : A.a6 = B.a6) (h7 : A.a7 = B.a7)
    (h8 : A.a8 = B.a8) (h9 : A.a9 = B.a9) (h10 : A.a10 = B.a10) (h11 : A.a11 = B.a11) (h12 : A.a12 = B.a12) (h13 : A.a13 = B.a13) : A = B := by
  cases A
  cases B
  simp only at h0 h1 h2 h3 h4 h5 h6 h7 h8 h9 h10 h11 h12 h13
  subst h0 h1 h2 h3 h4 h5 h6 h7 h8 h9 h10 h11 h12 h13
  rfl

section Results

open Cert.Kernel Cert.Kernel.Gather

variable (m : (ℓ : Loc nD τ sig) → Buf (Elt Ideal) ℓ) {V : Valuation Cert.ReferenceIdeal.τ Cert.ReferenceIdeal.sig (Elt Ideal)} {c : Dev nD}

/-- From equal arguments, the program leaves the reference's first result. -/
theorem same0 (ok : (Cert.Kernel.Value.argsOf m c).Ok) (e : Cert.ReferenceIdeal.Reals.argsOf V = Cert.Kernel.Value.argsOf m c) {V2 V7 V8 V10 V11 : Valuation τ sig (Elt Ideal)}
    (h : Chain m c V2 V7 V8 V10 V11) : V11 (Proc.devRef .tc main_v36_0) = Cert.ReferenceIdeal.Reals.result1 V := by
  obtain ⟨I, H⟩ := ok.holds
  funext j
  obtain ⟨b, o, n, rfl⟩ : ∃ (b : Fin 4) (o : Fin 64) (n : Fin 2048), j = ix3 b o n := ⟨j 0, j 1, j 2, (ix3_eta j).symm⟩
  exact (Cert.Kernel.Value.end_att H h b o n).trans (((Cert.ReferenceIdeal.Reals.result1_at (by rw [e]; exact H) b o n).trans (by rw [I.att_eq])).symm)

/-- And its second. -/
theorem same1 (ok : (Cert.Kernel.Value.argsOf m c).Ok) (e : Cert.ReferenceIdeal.Reals.argsOf V = Cert.Kernel.Value.argsOf m c) {V2 V7 V8 V10 V11 : Valuation τ sig (Elt Ideal)}
    (h : Chain m c V2 V7 V8 V10 V11) : V11 (Proc.devRef .tc main_v36_1) = Cert.ReferenceIdeal.Reals.result2 V := by
  obtain ⟨I, H⟩ := ok.holds
  funext j
  obtain ⟨b, o, n, rfl⟩ : ∃ (b : Fin 4) (o : Fin 64) (n : Fin 2048), j = ix3 b o n := ⟨j 0, j 1, j 2, (ix3_eta j).symm⟩
  exact (Cert.Kernel.Value.end_gf H h b o n).trans (((Cert.ReferenceIdeal.Reals.result2_at (by rw [e]; exact H) b o n).trans (by rw [I.gf_eq _ _ (H.pos o)])).symm)

end Results

/-- Both programs run and end with equal results. -/
theorem algebraic : Cert.algebraic_KernelIdeal_ReferenceIdeal_pre_inputs_ok := by
  intro m ρ m' ρ' hpre hag
  refine ⟨fun c => Cert.ReferenceIdeal.Reals.result1 (StableHlo.launchContents m' c), fun c => Cert.ReferenceIdeal.Reals.result2 (StableHlo.launchContents m' c),
    (θ_run _ _ _).mono (fun r q c => ?_) (run_i m ρ fun c => (args_ok m hpre c).inb), (θ_run _ _ _).mono (fun r q c => q c) (Cert.ReferenceIdeal.Value.run (F := Ideal) m' ρ')⟩
  obtain ⟨h0, h1, h2, h3, h4, h5, h6, h7, h8, h9, h10, h11, h12, h13⟩ := hag c
  have e : Cert.ReferenceIdeal.Reals.argsOf (StableHlo.launchContents m' c) = Cert.Kernel.Value.argsOf m c := args_eq h0 h1 h2 h3 h4 h5 h6 h7 h8 h9 h10 h11 h12 h13
  have ok := args_ok m hpre c
  obtain ⟨V2, V7, V8, V10, V11, h, k⟩ := q.1 c
  exact ⟨(k (Proc.devRef .tc Cert.Kernel.main_v36_0) (by decide)).trans (same0 m ok e h), (k (Proc.devRef .tc Cert.Kernel.main_v36_1) (by decide)).trans (same1 m ok e h), kept_all (F := Ideal) m q c⟩

theorem claim : Cert.Claim :=
  ⟨Cert.Kernel.Gen.facts, Cert.KernelIdeal.Gen.facts, Cert.ReferenceIdeal.Gen.facts, Cert.Pre_idx_in_range.Gen.facts, Cert.Pre_inputs_ok.Gen.facts,
    frame_p, frame_i, frame_i', frame_r, fun m ρ _ => frame_r m ρ trivial, trivial, algebraic⟩

end Cert.Proof

end
